-- ==== Defs.lean ====
def Pre_Kernel [hPre_plan_ok : Cert.Pre_plan_ok.Facts] (m : (ℓ : Loc Cert.Kernel.nD Cert.Kernel.τ Cert.Kernel.sig) → Buf (Elt Bits) ℓ) : Prop :=
  ∀ c : Dev Cert.Kernel.nD,
    (Cert.Pre_plan_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_plan_ok : Cert.Pre_plan_ok.Facts] (m : (ℓ : Loc Cert.KernelIdeal.nD Cert.KernelIdeal.τ Cert.KernelIdeal.sig) → Buf (Elt Ideal) ℓ) : Prop :=
  ∀ c : Dev Cert.KernelIdeal.nD,
    (Cert.Pre_plan_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_logits_ok [hPre_logits_ok : Cert.Pre_logits_ok.Facts] (m : (ℓ : Loc Cert.KernelIdeal.nD Cert.KernelIdeal.τ Cert.KernelIdeal.sig) → Buf (Elt Ideal) ℓ) : Prop :=
  ∀ c : Dev Cert.KernelIdeal.nD,
    (Cert.Pre_logits_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_ok [hPre_logits_ok : Cert.Pre_logits_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Cell (m : (ℓ : Loc Cert.Cell.nD Cert.Cell.τ Cert.Cell.sig) → Buf (Elt Bits) ℓ) : Prop :=
  True

def Pre_CellIdeal (m : (ℓ : Loc Cert.CellIdeal.nD Cert.CellIdeal.τ Cert.CellIdeal.sig) → Buf (Elt Ideal) ℓ) : Prop :=
  True

def Pre_CellReferenceIdeal (m : (ℓ : Loc Cert.CellReferenceIdeal.nD Cert.CellReferenceIdeal.τ Cert.CellReferenceIdeal.sig) → Buf (Elt Ideal) ℓ) : Prop :=
  True

def quiescent_Kernel [hKernel : Cert.Kernel.Facts] [hPre_plan_ok : Cert.Pre_plan_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_plan_ok : Cert.Pre_plan_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_logits_ok [hKernelIdeal : Cert.KernelIdeal.Facts] [hPre_logits_ok : Cert.Pre_logits_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_logits_ok [hReferenceIdeal : Cert.ReferenceIdeal.Facts] [hPre_logits_ok : Cert.Pre_logits_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_Cell [hCell : Cert.Cell.Facts] : Prop :=
  ∀ (m : (ℓ : Loc Cert.Cell.nD Cert.Cell.τ Cert.Cell.sig) → Buf (Elt Bits) ℓ) (g : Dev Cert.Cell.nD → PrngReg), Pre_Cell m →
    θ_run (Cert.Cell.defs (F := Bits)) (onTc (τ := Cert.Cell.τ) (Cert.Cell.main (F := Bits))) ⟨m, fun _ => 0, g⟩ (fun r => (∀ c : Dev Cert.Cell.nD,
      r.2.mem ((c.tc : Thread Cert.Cell.nD Cert.Cell.τ).loc Cert.Cell.main_arg0) = m ((c.tc : Thread Cert.Cell.nD Cert.Cell.τ).loc Cert.Cell.main_arg0)
      ∧ r.2.mem ((c.tc : Thread Cert.Cell.nD Cert.Cell.τ).loc Cert.Cell.main_arg1) = m ((c.tc : Thread Cert.Cell.nD Cert.Cell.τ).loc Cert.Cell.main_arg1)
      ∧ r.2.mem ((c.tc : Thread Cert.Cell.nD Cert.Cell.τ).loc Cert.Cell.main_arg2) = m ((c.tc : Thread Cert.Cell.nD Cert.Cell.τ).loc Cert.Cell.main_arg2)
      ∧ r.2.mem ((c.tc : Thread Cert.Cell.nD Cert.Cell.τ).loc Cert.Cell.main_arg3) = m ((c.tc : Thread Cert.Cell.nD Cert.Cell.τ).loc Cert.Cell.main_arg3)
      ∧ r.2.mem ((c.tc : Thread Cert.Cell.nD Cert.Cell.τ).loc Cert.Cell.main_arg4) = m ((c.tc : Thread Cert.Cell.nD Cert.Cell.τ).loc Cert.Cell.main_arg4)
      ∧ r.2.mem ((c.tc : Thread Cert.Cell.nD Cert.Cell.τ).loc Cert.Cell.main_arg5) = m ((c.tc : Thread Cert.Cell.nD Cert.Cell.τ).loc Cert.Cell.main_arg5)
      ∧ r.2.mem ((c.tc : Thread Cert.Cell.nD Cert.Cell.τ).loc Cert.Cell.main_arg6) = m ((c.tc : Thread Cert.Cell.nD Cert.Cell.τ).loc Cert.Cell.main_arg6))
      ∧ r.2.sem = fun _ => 0)

def quiescent_CellIdeal [hCellIdeal : Cert.CellIdeal.Facts] : Prop :=
  ∀ (m : (ℓ : Loc Cert.CellIdeal.nD Cert.CellIdeal.τ Cert.CellIdeal.sig) → Buf (Elt Ideal) ℓ) (g : Dev Cert.CellIdeal.nD → PrngReg), Pre_CellIdeal m →
    θ_run (Cert.CellIdeal.defs (F := Ideal)) (onTc (τ := Cert.CellIdeal.τ) (Cert.CellIdeal.main (F := Ideal))) ⟨m, fun _ => 0, g⟩ (fun r => (∀ c : Dev Cert.CellIdeal.nD,
      r.2.mem ((c.tc : Thread Cert.CellIdeal.nD Cert.CellIdeal.τ).loc Cert.CellIdeal.main_arg0) = m ((c.tc : Thread Cert.CellIdeal.nD Cert.CellIdeal.τ).loc Cert.CellIdeal.main_arg0)
      ∧ r.2.mem ((c.tc : Thread Cert.CellIdeal.nD Cert.CellIdeal.τ).loc Cert.CellIdeal.main_arg1) = m ((c.tc : Thread Cert.CellIdeal.nD Cert.CellIdeal.τ).loc Cert.CellIdeal.main_arg1)
      ∧ r.2.mem ((c.tc : Thread Cert.CellIdeal.nD Cert.CellIdeal.τ).loc Cert.CellIdeal.main_arg2) = m ((c.tc : Thread Cert.CellIdeal.nD Cert.CellIdeal.τ).loc Cert.CellIdeal.main_arg2)
      ∧ r.2.mem ((c.tc : Thread Cert.CellIdeal.nD Cert.CellIdeal.τ).loc Cert.CellIdeal.main_arg3) = m ((c.tc : Thread Cert.CellIdeal.nD Cert.CellIdeal.τ).loc Cert.CellIdeal.main_arg3)
      ∧ r.2.mem ((c.tc : Thread Cert.CellIdeal.nD Cert.CellIdeal.τ).loc Cert.CellIdeal.main_arg4) = m ((c.tc : Thread Cert.CellIdeal.nD Cert.CellIdeal.τ).loc Cert.CellIdeal.main_arg4)
      ∧ r.2.mem ((c.tc : Thread Cert.CellIdeal.nD Cert.CellIdeal.τ).loc Cert.CellIdeal.main_arg5) = m ((c.tc : Thread Cert.CellIdeal.nD Cert.CellIdeal.τ).loc Cert.CellIdeal.main_arg5)
      ∧ r.2.mem ((c.tc : Thread Cert.CellIdeal.nD Cert.CellIdeal.τ).loc Cert.CellIdeal.main_arg6) = m ((c.tc : Thread Cert.CellIdeal.nD Cert.CellIdeal.τ).loc Cert.CellIdeal.main_arg6))
      ∧ r.2.sem = fun _ => 0)

def quiescent_CellReferenceIdeal [hCellReferenceIdeal : Cert.CellReferenceIdeal.Facts] : Prop :=
  ∀ (m : (ℓ : Loc Cert.CellReferenceIdeal.nD Cert.CellReferenceIdeal.τ Cert.CellReferenceIdeal.sig) → Buf (Elt Ideal) ℓ) (g : Dev Cert.CellReferenceIdeal.nD → PrngReg), Pre_CellReferenceIdeal m →
    θ_run (Cert.CellReferenceIdeal.defs (F := Ideal)) (onTc (τ := Cert.CellReferenceIdeal.τ) (Cert.CellReferenceIdeal.main (F := Ideal))) ⟨m, fun _ => 0, g⟩ (fun r => (∀ c : Dev Cert.CellReferenceIdeal.nD,
      r.2.mem ((c.tc : Thread Cert.CellReferenceIdeal.nD Cert.CellReferenceIdeal.τ).loc Cert.CellReferenceIdeal.main_arg0) = m ((c.tc : Thread Cert.CellReferenceIdeal.nD Cert.CellReferenceIdeal.τ).loc Cert.CellReferenceIdeal.main_arg0)
      ∧ r.2.mem ((c.tc : Thread Cert.CellReferenceIdeal.nD Cert.CellReferenceIdeal.τ).loc Cert.CellReferenceIdeal.main_arg1) = m ((c.tc : Thread Cert.CellReferenceIdeal.nD Cert.CellReferenceIdeal.τ).loc Cert.CellReferenceIdeal.main_arg1)
      ∧ r.2.mem ((c.tc : Thread Cert.CellReferenceIdeal.nD Cert.CellReferenceIdeal.τ).loc Cert.CellReferenceIdeal.main_arg2) = m ((c.tc : Thread Cert.CellReferenceIdeal.nD Cert.CellReferenceIdeal.τ).loc Cert.CellReferenceIdeal.main_arg2)
      ∧ r.2.mem ((c.tc : Thread Cert.CellReferenceIdeal.nD Cert.CellReferenceIdeal.τ).loc Cert.CellReferenceIdeal.main_arg3) = m ((c.tc : Thread Cert.CellReferenceIdeal.nD Cert.CellReferenceIdeal.τ).loc Cert.CellReferenceIdeal.main_arg3)
      ∧ r.2.mem ((c.tc : Thread Cert.CellReferenceIdeal.nD Cert.CellReferenceIdeal.τ).loc Cert.CellReferenceIdeal.main_arg4) = m ((c.tc : Thread Cert.CellReferenceIdeal.nD Cert.CellReferenceIdeal.τ).loc Cert.CellReferenceIdeal.main_arg4)
      ∧ r.2.mem ((c.tc : Thread Cert.CellReferenceIdeal.nD Cert.CellReferenceIdeal.τ).loc Cert.CellReferenceIdeal.main_arg5) = m ((c.tc : Thread Cert.CellReferenceIdeal.nD Cert.CellReferenceIdeal.τ).loc Cert.CellReferenceIdeal.main_arg5)
      ∧ r.2.mem ((c.tc : Thread Cert.CellReferenceIdeal.nD Cert.CellReferenceIdeal.τ).loc Cert.CellReferenceIdeal.main_arg6) = m ((c.tc : Thread Cert.CellReferenceIdeal.nD Cert.CellReferenceIdeal.τ).loc Cert.CellReferenceIdeal.main_arg6))
      ∧ r.2.sem = fun _ => 0)

def preserves_Kernel_KernelIdeal : Prop :=
  True

def algebraic_KernelIdeal_ReferenceIdeal_pre_logits_ok [hKernelIdeal : Cert.KernelIdeal.Facts] [hReferenceIdeal : Cert.ReferenceIdeal.Facts] [hPre_logits_ok : Cert.Pre_logits_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v22) = v0 c
          ∧ r.2.mem ((c.tc : Thread Cert.InProjReferenceIdeal.nD Cert.InProjReferenceIdeal.τ).loc Cert.InProjReferenceIdeal.main_v23) = v1 c
          ∧ r.2.mem ((c.tc : Thread Cert.InProjReferenceIdeal.nD Cert.InProjReferenceIdeal.τ).loc Cert.InProjReferenceIdeal.main_v25) = v2 c
          ∧ r.2.mem ((c.tc : Thread Cert.InProjReferenceIdeal.nD Cert.InProjReferenceIdeal.τ).loc Cert.InProjReferenceIdeal.main_v35) = v3 c
          ∧ r.2.mem ((c.tc : Thread Cert.InProjReferenceIdeal.nD Cert.InProjReferenceIdeal.τ).loc Cert.InProjReferenceIdeal.main_v45) = v4 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v7) = v0 c
          ∧ r.2.mem ((c.tc : Thread Cert.OutProjReferenceIdeal.nD Cert.OutProjReferenceIdeal.τ).loc Cert.OutProjReferenceIdeal.main_v21) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v42) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8))

def preserves_Cell_CellIdeal : Prop :=
  True

def algebraic_CellIdeal_CellReferenceIdeal [hCellIdeal : Cert.CellIdeal.Facts] [hCellReferenceIdeal : Cert.CellReferenceIdeal.Facts] : Prop :=
  ∀ (m : (ℓ : Loc Cert.CellIdeal.nD Cert.CellIdeal.τ Cert.CellIdeal.sig) → Buf (Elt Ideal) ℓ) (g : Dev Cert.CellIdeal.nD → PrngReg)
    (m' : (ℓ : Loc Cert.CellReferenceIdeal.nD Cert.CellReferenceIdeal.τ Cert.CellReferenceIdeal.sig) → Buf (Elt Ideal) ℓ) (g' : Dev Cert.CellReferenceIdeal.nD → PrngReg), Pre_CellIdeal m →
    (∀ c : Dev Cert.CellIdeal.nD,
      m' ((c.tc : Thread Cert.CellReferenceIdeal.nD Cert.CellReferenceIdeal.τ).loc Cert.CellReferenceIdeal.main_arg0) = m ((c.tc : Thread Cert.CellIdeal.nD Cert.CellIdeal.τ).loc Cert.CellIdeal.main_arg0)
      ∧ m' ((c.tc : Thread Cert.CellReferenceIdeal.nD Cert.CellReferenceIdeal.τ).loc Cert.CellReferenceIdeal.main_arg1) = m ((c.tc : Thread Cert.CellIdeal.nD Cert.CellIdeal.τ).loc Cert.CellIdeal.main_arg1)
      ∧ m' ((c.tc : Thread Cert.CellReferenceIdeal.nD Cert.CellReferenceIdeal.τ).loc Cert.CellReferenceIdeal.main_arg2) = m ((c.tc : Thread Cert.CellIdeal.nD Cert.CellIdeal.τ).loc Cert.CellIdeal.main_arg2)
      ∧ m' ((c.tc : Thread Cert.CellReferenceIdeal.nD Cert.CellReferenceIdeal.τ).loc Cert.CellReferenceIdeal.main_arg3) = m ((c.tc : Thread Cert.CellIdeal.nD Cert.CellIdeal.τ).loc Cert.CellIdeal.main_arg3)
      ∧ m' ((c.tc : Thread Cert.CellReferenceIdeal.nD Cert.CellReferenceIdeal.τ).loc Cert.CellReferenceIdeal.main_arg4) = m ((c.tc : Thread Cert.CellIdeal.nD Cert.CellIdeal.τ).loc Cert.CellIdeal.main_arg4)
      ∧ m' ((c.tc : Thread Cert.CellReferenceIdeal.nD Cert.CellReferenceIdeal.τ).loc Cert.CellReferenceIdeal.main_arg5) = m ((c.tc : Thread Cert.CellIdeal.nD Cert.CellIdeal.τ).loc Cert.CellIdeal.main_arg5)
      ∧ m' ((c.tc : Thread Cert.CellReferenceIdeal.nD Cert.CellReferenceIdeal.τ).loc Cert.CellReferenceIdeal.main_arg6) = m ((c.tc : Thread Cert.CellIdeal.nD Cert.CellIdeal.τ).loc Cert.CellIdeal.main_arg6)) →
    ∃ (v0 : (c : Dev Cert.CellIdeal.nD) → Buf (Elt Ideal) ((c.tc : Thread Cert.CellIdeal.nD Cert.CellIdeal.τ).loc Cert.CellIdeal.main_v0)),
      θ_run (Cert.CellIdeal.defs (F := Ideal)) (onTc (τ := Cert.CellIdeal.τ) (Cert.CellIdeal.main (F := Ideal))) ⟨m, fun _ => 0, g⟩ (fun r => ∀ c : Dev Cert.CellIdeal.nD,
          r.2.mem ((c.tc : Thread Cert.CellIdeal.nD Cert.CellIdeal.τ).loc Cert.CellIdeal.main_v0) = v0 c
          ∧ r.2.mem ((c.tc : Thread Cert.CellIdeal.nD Cert.CellIdeal.τ).loc Cert.CellIdeal.main_arg0) = m ((c.tc : Thread Cert.CellIdeal.nD Cert.CellIdeal.τ).loc Cert.CellIdeal.main_arg0)
          ∧ r.2.mem ((c.tc : Thread Cert.CellIdeal.nD Cert.CellIdeal.τ).loc Cert.CellIdeal.main_arg1) = m ((c.tc : Thread Cert.CellIdeal.nD Cert.CellIdeal.τ).loc Cert.CellIdeal.main_arg1)
          ∧ r.2.mem ((c.tc : Thread Cert.CellIdeal.nD Cert.CellIdeal.τ).loc Cert.CellIdeal.main_arg2) = m ((c.tc : Thread Cert.CellIdeal.nD Cert.CellIdeal.τ).loc Cert.CellIdeal.main_arg2)
          ∧ r.2.mem ((c.tc : Thread Cert.CellIdeal.nD Cert.CellIdeal.τ).loc Cert.CellIdeal.main_arg3) = m ((c.tc : Thread Cert.CellIdeal.nD Cert.CellIdeal.τ).loc Cert.CellIdeal.main_arg3)
          ∧ r.2.mem ((c.tc : Thread Cert.CellIdeal.nD Cert.CellIdeal.τ).loc Cert.CellIdeal.main_arg4) = m ((c.tc : Thread Cert.CellIdeal.nD Cert.CellIdeal.τ).loc Cert.CellIdeal.main_arg4)
          ∧ r.2.mem ((c.tc : Thread Cert.CellIdeal.nD Cert.CellIdeal.τ).loc Cert.CellIdeal.main_arg5) = m ((c.tc : Thread Cert.CellIdeal.nD Cert.CellIdeal.τ).loc Cert.CellIdeal.main_arg5)
          ∧ r.2.mem ((c.tc : Thread Cert.CellIdeal.nD Cert.CellIdeal.τ).loc Cert.CellIdeal.main_arg6) = m ((c.tc : Thread Cert.CellIdeal.nD Cert.CellIdeal.τ).loc Cert.CellIdeal.main_arg6))
      ∧ θ_run (Cert.CellReferenceIdeal.defs (F := Ideal)) (onTc (τ := Cert.CellReferenceIdeal.τ) (Cert.CellReferenceIdeal.main (F := Ideal))) ⟨m', fun _ => 0, g'⟩ (fun r => ∀ c : Dev Cert.CellReferenceIdeal.nD,
          r.2.mem ((c.tc : Thread Cert.CellReferenceIdeal.nD Cert.CellReferenceIdeal.τ).loc Cert.CellReferenceIdeal.main_v103) = v0 c
          ∧ r.2.mem ((c.tc : Thread Cert.CellReferenceIdeal.nD Cert.CellReferenceIdeal.τ).loc Cert.CellReferenceIdeal.main_arg0) = m' ((c.tc : Thread Cert.CellReferenceIdeal.nD Cert.CellReferenceIdeal.τ).loc Cert.CellReferenceIdeal.main_arg0)
          ∧ r.2.mem ((c.tc : Thread Cert.CellReferenceIdeal.nD Cert.CellReferenceIdeal.τ).loc Cert.CellReferenceIdeal.main_arg1) = m' ((c.tc : Thread Cert.CellReferenceIdeal.nD Cert.CellReferenceIdeal.τ).loc Cert.CellReferenceIdeal.main_arg1)
          ∧ r.2.mem ((c.tc : Thread Cert.CellReferenceIdeal.nD Cert.CellReferenceIdeal.τ).loc Cert.CellReferenceIdeal.main_arg2) = m' ((c.tc : Thread Cert.CellReferenceIdeal.nD Cert.CellReferenceIdeal.τ).loc Cert.CellReferenceIdeal.main_arg2)
          ∧ r.2.mem ((c.tc : Thread Cert.CellReferenceIdeal.nD Cert.CellReferenceIdeal.τ).loc Cert.CellReferenceIdeal.main_arg3) = m' ((c.tc : Thread Cert.CellReferenceIdeal.nD Cert.CellReferenceIdeal.τ).loc Cert.CellReferenceIdeal.main_arg3)
          ∧ r.2.mem ((c.tc : Thread Cert.CellReferenceIdeal.nD Cert.CellReferenceIdeal.τ).loc Cert.CellReferenceIdeal.main_arg4) = m' ((c.tc : Thread Cert.CellReferenceIdeal.nD Cert.CellReferenceIdeal.τ).loc Cert.CellReferenceIdeal.main_arg4)
          ∧ r.2.mem ((c.tc : Thread Cert.CellReferenceIdeal.nD Cert.CellReferenceIdeal.τ).loc Cert.CellReferenceIdeal.main_arg5) = m' ((c.tc : Thread Cert.CellReferenceIdeal.nD Cert.CellReferenceIdeal.τ).loc Cert.CellReferenceIdeal.main_arg5)
          ∧ r.2.mem ((c.tc : Thread Cert.CellReferenceIdeal.nD Cert.CellReferenceIdeal.τ).loc Cert.CellReferenceIdeal.main_arg6) = m' ((c.tc : Thread Cert.CellReferenceIdeal.nD Cert.CellReferenceIdeal.τ).loc Cert.CellReferenceIdeal.main_arg6))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hExperts : Cert.Experts.Facts) (hExpertsIdeal : Cert.ExpertsIdeal.Facts) (hExpertsReferenceIdeal : Cert.ExpertsReferenceIdeal.Facts) (hCell : Cert.Cell.Facts) (hCellIdeal : Cert.CellIdeal.Facts) (hCellReferenceIdeal : Cert.CellReferenceIdeal.Facts) (hPre_plan_ok : Cert.Pre_plan_ok.Facts) (hPre_logits_ok : Cert.Pre_logits_ok.Facts),
    quiescent_Kernel (hKernel := hKernel) (hPre_plan_ok := hPre_plan_ok)
    ∧ quiescent_KernelIdeal (hKernelIdeal := hKernelIdeal) (hPre_plan_ok := hPre_plan_ok)
    ∧ quiescent_KernelIdeal_pre_logits_ok (hKernelIdeal := hKernelIdeal) (hPre_logits_ok := hPre_logits_ok)
    ∧ quiescent_ReferenceIdeal (hReferenceIdeal := hReferenceIdeal)
    ∧ quiescent_ReferenceIdeal_pre_logits_ok (hReferenceIdeal := hReferenceIdeal) (hPre_logits_ok := hPre_logits_ok)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Cell (hCell := hCell)
    ∧ quiescent_CellIdeal (hCellIdeal := hCellIdeal)
    ∧ quiescent_CellReferenceIdeal (hCellReferenceIdeal := hCellReferenceIdeal)
    ∧ preserves_Kernel_KernelIdeal
    ∧ algebraic_KernelIdeal_ReferenceIdeal_pre_logits_ok (hKernelIdeal := hKernelIdeal) (hReferenceIdeal := hReferenceIdeal) (hPre_logits_ok := hPre_logits_ok)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Cell_CellIdeal
    ∧ algebraic_CellIdeal_CellReferenceIdeal (hCellIdeal := hCellIdeal) (hCellReferenceIdeal := hCellReferenceIdeal)
-- ==== Pre_logits_ok.lean ====
abbrev S256 : Shape := ⟨1, ![256]⟩
abbrev S32768x5120 : Shape := ⟨2, ![32768, 5120]⟩
abbrev S32768x1024 : Shape := ⟨2, ![32768, 1024]⟩
abbrev S8x128 : Shape := ⟨2, ![8, 128]⟩
abbrev S_ : Shape := ⟨0, ![]⟩
abbrev S32768x2048 : Shape := ⟨2, ![32768, 2048]⟩
abbrev S32768x8x128 : Shape := ⟨3, ![32768, 8, 128]⟩
abbrev S32768x8x3 : Shape := ⟨3, ![32768, 8, 3]⟩

class Facts : Prop where
  bcast_S_S256 : S_.BroadcastsInDim S256 (![] : Fin 0 → Fin S256.rank)
  reducesTo_S256_S_d0 : S256.ReducesTo [0] S_
  h_S_ : 0 < S_.numel
  slices_S32768x5120_S32768x2048_0_0 : S32768x5120.Slices ![0, 0] S32768x2048
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  bcast_S_S32768x1024 : S_.BroadcastsInDim S32768x1024 (![] : Fin 0 → Fin S32768x1024.rank)
  reducesTo_S32768x1024_S_d0_1 : S32768x1024.ReducesTo [0, 1] S_
  shapeCasts_S32768x1024_S32768x8x128 : S32768x1024.ShapeCasts S32768x8x128
  slices_S32768x8x128_S32768x8x3_0_0_6 : S32768x8x128.Slices ![0, 0, 6] S32768x8x3
  bcast_S_S32768x8x3 : S_.BroadcastsInDim S32768x8x3 (![] : Fin 0 → Fin S32768x8x3.rank)
  reducesTo_S32768x8x3_S_d0_1_2 : S32768x8x3.ReducesTo [0, 1, 2] S_

variable [Facts]

def fn_part1 {F : FTy → Type} [FloatOps F] (main_arg4 : FVec F S32768x1024 .bf16) (main_v15 : IVec S_ 1) (main_v17 : FVec F S32768x1024 .f32) : IVec S_ 1 :=
  let main_cst_4 : FVec F S_ .f32 := constant S_ .f32 0x7F800000#32
  let main_v18 : FVec F S32768x1024 .f32 := broadcastInDim S32768x1024 ![] bcast_S_S32768x1024 main_cst_4
  let main_v19 : IVec S32768x1024 1 := cmpf .olt main_v17 main_v18
  let main_c_5 : IVec S_ 1 := constantI S_ 1 1#1
  let main_v20 : IVec S_ 1 := (fun x v => Host.reduce IntOp.andi x v reducesTo_S32768x1024_S_d0_1 h_S_) main_v19 main_c_5
  let main_v21 : IVec S_ 1 := andi main_v15 main_v20
  let main_v22 : FVec F S32768x1024 .f32 := (extf .f32 · bitsLt_bf16_f32) main_arg4
  let main_v23 : FVec F S32768x1024 .f32 := Host.absf main_v22
  let main_cst_6 : FVec F S_ .f32 := constant S_ .f32 0x7F800000#32
  let main_v24 : FVec F S32768x1024 .f32 := broadcastInDim S32768x1024 ![] bcast_S_S32768x1024 main_cst_6
  let main_v25 : IVec S32768x1024 1 := cmpf .olt main_v23 main_v24
  let main_c_7 : IVec S_ 1 := constantI S_ 1 1#1
  let main_v26 : IVec S_ 1 := (fun x v => Host.reduce IntOp.andi x v reducesTo_S32768x1024_S_d0_1 h_S_) main_v25 main_c_7
  let main_v27 : IVec S_ 1 := andi main_v21 main_v26
  let main_v28 : FVec F S32768x1024 .f32 := (extf .f32 · bitsLt_bf16_f32) main_arg4
  let main_v29 : FVec F S32768x8x128 .f32 := shapeCast S32768x8x128 main_v28 shapeCasts_S32768x1024_S32768x8x128
  let main_v30 : FVec F S32768x8x3 .f32 := (extractStridedSlice S32768x8x3 ![0, 0, 6] · slices_S32768x8x128_S32768x8x3_0_0_6) main_v29
  let main_cst_8 : FVec F S_ .f32 := constant S_ .f32 0x3F800000#32
  let main_v31 : FVec F S32768x8x3 .f32 := broadcastInDim S32768x8x3 ![] bcast_S_S32768x8x3 main_cst_8
  let main_v32 : IVec S32768x8x3 1 := cmpf .oeq main_v30 main_v31
  let main_c_9 : IVec S_ 1 := constantI S_ 1 1#1
  let main_v33 : IVec S_ 1 := (fun x v => Host.reduce IntOp.andi x v reducesTo_S32768x8x3_S_d0_1_2 h_S_) main_v32 main_c_9
  let main_v34 : IVec S_ 1 := andi main_v27 main_v33
  main_v34

def fn {F : FTy → Type} [FloatOps F] (main_arg0 : IVec S256 32) (main_arg1 : IVec S256 32) (main_arg2 : FVec F S32768x5120 .bf16) (main_arg3 : FVec F S32768x1024 .bf16) (main_arg4 : FVec F S32768x1024 .bf16) (main_arg5 : FVec F S8x128 .f32) : IVec S_ 1 :=
  let main_c : IVec S_ 32 := constantI S_ 32 0#32
  let main_v0 : IVec S256 32 := broadcastInDim S256 ![] bcast_S_S256 main_c
  let main_v1 : IVec S256 1 := cmpi .sge main_arg0 main_v0
  let main_c_0 : IVec S_ 32 := constantI S_ 32 0#32
  let main_v2 : IVec S256 32 := broadcastInDim S256 ![] bcast_S_S256 main_c_0
  let main_v3 : IVec S256 1 := cmpi .eq main_arg1 main_v2
  let main_c_1 : IVec S_ 32 := constantI S_ 32 1#32
  let main_v4 : IVec S256 32 := broadcastInDim S256 ![] bcast_S_S256 main_c_1
  let main_v5 : IVec S256 1 := cmpi .eq main_arg1 main_v4
  let main_v6 : IVec S256 1 := ori main_v3 main_v5
  let main_v7 : IVec S256 1 := andi main_v1 main_v6
  let main_c_2 : IVec S_ 1 := constantI S_ 1 1#1
  let main_v8 : IVec S_ 1 := (fun x v => Host.reduce IntOp.andi x v reducesTo_S256_S_d0 h_S_) main_v7 main_c_2
  let main_v9 : FVec F S32768x2048 .bf16 := (extractStridedSlice S32768x2048 ![0, 0] · slices_S32768x5120_S32768x2048_0_0) main_arg2
  let main_v10 : FVec F S32768x2048 .f32 := (extf .f32 · bitsLt_bf16_f32) main_v9
  let main_v11 : FVec F S32768x2048 .f32 := Host.absf main_v10
  let main_cst : FVec F S_ .f32 := constant S_ .f32 0x7F800000#32
  let main_v12 : FVec F S32768x2048 .f32 := broadcastInDim S32768x2048 ![] bcast_S_S32768x2048 main_cst
  let main_v13 : IVec S32768x2048 1 := cmpf .olt main_v11 main_v12
  let main_c_3 : IVec S_ 1 := constantI S_ 1 1#1
  let main_v14 : IVec S_ 1 := (fun x v => Host.reduce IntOp.andi x v reducesTo_S32768x2048_S_d0_1 h_S_) main_v13 main_c_3
  let main_v15 : IVec S_ 1 := andi main_v8 main_v14
  let main_v16 : FVec F S32768x1024 .f32 := (extf .f32 · bitsLt_bf16_f32) main_arg3
  let main_v17 : FVec F S32768x1024 .f32 := Host.absf main_v16
  fn_part1 (F := F) main_arg4 main_v15 main_v17
-- ==== Pre_plan_ok.lean ====
abbrev S256 : Shape := ⟨1, ![256]⟩
abbrev S32768x5120 : Shape := ⟨2, ![32768, 5120]⟩
abbrev S32768x1024 : Shape := ⟨2, ![32768, 1024]⟩
abbrev S8x128 : Shape := ⟨2, ![8, 128]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : IVec S256 32) (main_arg1 : IVec S256 32) (main_arg2 : FVec F S32768x5120 .bf16) (main_arg3 : FVec F S32768x1024 .bf16) (main_arg4 : FVec F S32768x1024 .bf16) (main_arg5 : FVec F S8x128 .f32) : IVec S_ 1 :=
  let main_c : IVec S_ 32 := constantI S_ 32 0#32
  let main_v0 : IVec S256 32 := broadcastInDim S256 ![] bcast_S_S256 main_c
  let main_v1 : IVec S256 1 := cmpi .sge main_arg0 main_v0
  let main_c_0 : IVec S_ 32 := constantI S_ 32 0#32
  let main_v2 : IVec S256 32 := broadcastInDim S256 ![] bcast_S_S256 main_c_0
  let main_v3 : IVec S256 1 := cmpi .eq main_arg1 main_v2
  let main_c_1 : IVec S_ 32 := constantI S_ 32 1#32
  let main_v4 : IVec S256 32 := broadcastInDim S256 ![] bcast_S_S256 main_c_1
  let main_v5 : IVec S256 1 := cmpi .eq main_arg1 main_v4
  let main_v6 : IVec S256 1 := ori main_v3 main_v5
  let main_v7 : IVec S256 1 := andi main_v1 main_v6
  let main_c_2 : IVec S_ 1 := constantI S_ 1 1#1
  let main_v8 : IVec S_ 1 := (fun x v => Host.reduce IntOp.andi x v reducesTo_S256_S_d0 h_S_) main_v7 main_c_2
  main_v8
-- ==== Kernel.lean ====
abbrev S256 : Shape := ⟨1, ![256]⟩
abbrev S32768x5120 : Shape := ⟨2, ![32768, 5120]⟩
abbrev S32768x1024 : Shape := ⟨2, ![32768, 1024]⟩
abbrev S8x128 : Shape := ⟨2, ![8, 128]⟩
abbrev S1024x128 : Shape := ⟨2, ![1024, 128]⟩
abbrev S16384x128 : Shape := ⟨2, ![16384, 128]⟩
abbrev S1 : Shape := ⟨1, ![1]⟩
abbrev S512x512 : Shape := ⟨2, ![512, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x128 : Shape := ⟨2, ![1, 128]⟩

abbrev nBuf : Space → Nat
  | .hbm => 5
  | .vmem => 13
  | .smem => 2
  | _ => 0

abbrev bufTy : (tb : Table) → Fin (tcTables nBuf tb) → BufTy
  | .hbm, ⟨0, _⟩ => ⟨S32768x5120, .bf16⟩
  | .hbm, ⟨1, _⟩ => ⟨S32768x1024, .bf16⟩
  | .hbm, ⟨2, _⟩ => ⟨S32768x1024, .bf16⟩
  | .hbm, ⟨3, _⟩ => ⟨S8x128, .f32⟩
  | .hbm, ⟨4, _⟩ => ⟨S32768x1024, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S16384x128, .bf16⟩
  | .local _ .vmem, ⟨9, _⟩ => ⟨S16384x128, .bf16⟩
  | .local _ .vmem, ⟨10, _⟩ => ⟨S8x128, .f32⟩
  | .local _ .vmem, ⟨11, _⟩ => ⟨S1024x128, .bf16⟩
  | .local _ .vmem, ⟨12, _⟩ => ⟨S1024x128, .bf16⟩
  | .local _ .smem, ⟨0, _⟩ => ⟨S256, .i32⟩
  | .local _ .smem, ⟨1, _⟩ => ⟨S256, .i32⟩
  | _, _ => ⟨S32768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 8, 16], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let v4 : Index := Scalar.indexCast v3
  ![v4.toNat]
@[reducible] def k0_t1_loop (i : grid0.Coords) (v5 : BitVec 32) : Scf.Loop 32 :=
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let arg2 : BitVec 32 := BitVec.ofNat 32 (i 2).val
  let v43 : BitVec 32 := Scalar.subi arg2 v42
  let c1_i32_15 : BitVec 32 := 1#32
  let v45 : BitVec 32 := Scalar.divsi v43 c1_i32_15
  let v46 : BitVec 32 := Scalar.muli v45 c1_i32_15
  let v47 : BitVec 32 := Scalar.addi v42 v46
  let c1_i32_16 : BitVec 32 := 1#32
  ⟨v42, v47, c1_i32_16⟩
def k0_cond1 (v9 : BitVec 32) : BitVec 1 :=
  let c1_i32 : BitVec 32 := 1#32
  let v10 : BitVec 1 := Scalar.cmpi .eq v9 c1_i32
  let v11 : BitVec 32 := Scalar.extui v10
  let c0_i32 : BitVec 32 := 0#32
  let v12 : BitVec 1 := Scalar.cmpi .ne v11 c0_i32
  v12

def k0_mult1 (i : grid0.Coords) (v5 : BitVec 32) (k0_t1 : Fin (k0_t1_loop i v5).trips) : BitVec 32 :=
  let c2_i32_53 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let c1_i32_16 : BitVec 32 := 1#32
  let arg12 : BitVec 32 := Scf.iv v42 c1_i32_16 k0_t1
  let v139 : BitVec 32 := Scalar.muli c2_i32_53 arg12
  let c512_i32_56 : BitVec 32 := 512#32
  let v142 : BitVec 32 := Scalar.muli v139 c512_i32_56
  v142
def k0_off2 (i : grid0.Coords) (v5 : BitVec 32) (k0_t1 : Fin (k0_t1_loop i v5).trips) : Fin 2 → Nat :=
  let c2_i32_53 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let c1_i32_16 : BitVec 32 := 1#32
  let arg12 : BitVec 32 := Scf.iv v42 c1_i32_16 k0_t1
  let v139 : BitVec 32 := Scalar.muli c2_i32_53 arg12
  let c512_i32_56 : BitVec 32 := 512#32
  let v142 : BitVec 32 := Scalar.muli v139 c512_i32_56
  let v143 : BitVec 32 := v142
  let v144 : Index := Scalar.indexCast v143
  let c0_57 : Index := 0#32
  ![v144.toNat, 0]
def k0_mult2 (i : grid0.Coords) (v5 : BitVec 32) (k0_t1 : Fin (k0_t1_loop i v5).trips) : BitVec 32 :=
  let c2_i32_53 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let c1_i32_16 : BitVec 32 := 1#32
  let arg12 : BitVec 32 := Scf.iv v42 c1_i32_16 k0_t1
  let v139 : BitVec 32 := Scalar.muli c2_i32_53 arg12
  let c512_i32_61 : BitVec 32 := 512#32
  let v154 : BitVec 32 := Scalar.muli v139 c512_i32_61
  v154
def k0_mult3 (i : grid0.Coords) (v5 : BitVec 32) (k0_t1 : Fin (k0_t1_loop i v5).trips) : BitVec 32 :=
  let c2_i32_54 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let c1_i32_16 : BitVec 32 := 1#32
  let arg12 : BitVec 32 := Scf.iv v42 c1_i32_16 k0_t1
  let v140 : BitVec 32 := Scalar.muli c2_i32_54 arg12
  let c1_i32_55 : BitVec 32 := 1#32
  let v141 : BitVec 32 := Scalar.addi v140 c1_i32_55
  let c512_i32_66 : BitVec 32 := 512#32
  let v166 : BitVec 32 := Scalar.muli v141 c512_i32_66
  v166
def k0_off3 (i : grid0.Coords) (v5 : BitVec 32) (k0_t1 : Fin (k0_t1_loop i v5).trips) : Fin 2 → Nat :=
  let c2_i32_54 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let c1_i32_16 : BitVec 32 := 1#32
  let arg12 : BitVec 32 := Scf.iv v42 c1_i32_16 k0_t1
  let v140 : BitVec 32 := Scalar.muli c2_i32_54 arg12
  let c1_i32_55 : BitVec 32 := 1#32
  let v141 : BitVec 32 := Scalar.addi v140 c1_i32_55
  let c512_i32_66 : BitVec 32 := 512#32
  let v166 : BitVec 32 := Scalar.muli v141 c512_i32_66
  let v167 : BitVec 32 := v166
  let v168 : Index := Scalar.indexCast v167
  let c0_67 : Index := 0#32
  ![v168.toNat, 0]
def k0_mult4 (i : grid0.Coords) (v5 : BitVec 32) (k0_t1 : Fin (k0_t1_loop i v5).trips) : BitVec 32 :=
  let c2_i32_54 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let c1_i32_16 : BitVec 32 := 1#32
  let arg12 : BitVec 32 := Scf.iv v42 c1_i32_16 k0_t1
  let v140 : BitVec 32 := Scalar.muli c2_i32_54 arg12
  let c1_i32_55 : BitVec 32 := 1#32
  let v141 : BitVec 32 := Scalar.addi v140 c1_i32_55
  let c512_i32_71 : BitVec 32 := 512#32
  let v178 : BitVec 32 := Scalar.muli v141 c512_i32_71
  v178
def k0_mult5 (i : grid0.Coords) (v5 : BitVec 32) (k0_t1 : Fin (k0_t1_loop i v5).trips) : BitVec 32 :=
  let c2_i32_53 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let c1_i32_16 : BitVec 32 := 1#32
  let arg12 : BitVec 32 := Scf.iv v42 c1_i32_16 k0_t1
  let v139 : BitVec 32 := Scalar.muli c2_i32_53 arg12
  let c512_i32_76 : BitVec 32 := 512#32
  let v190 : BitVec 32 := Scalar.muli v139 c512_i32_76
  v190
def k0_mult6 (i : grid0.Coords) (v5 : BitVec 32) (k0_t1 : Fin (k0_t1_loop i v5).trips) : BitVec 32 :=
  let c2_i32_54 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let c1_i32_16 : BitVec 32 := 1#32
  let arg12 : BitVec 32 := Scf.iv v42 c1_i32_16 k0_t1
  let v140 : BitVec 32 := Scalar.muli c2_i32_54 arg12
  let c1_i32_55 : BitVec 32 := 1#32
  let v141 : BitVec 32 := Scalar.addi v140 c1_i32_55
  let c512_i32_82 : BitVec 32 := 512#32
  let v204 : BitVec 32 := Scalar.muli v141 c512_i32_82
  v204
@[reducible] def k0_t2_loop (i : grid0.Coords) (v5 : BitVec 32) : Scf.Loop 32 :=
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let arg2 : BitVec 32 := BitVec.ofNat 32 (i 2).val
  let v43 : BitVec 32 := Scalar.subi arg2 v42
  let c1_i32_15 : BitVec 32 := 1#32
  let v45 : BitVec 32 := Scalar.divsi v43 c1_i32_15
  let v46 : BitVec 32 := Scalar.muli v45 c1_i32_15
  let v47 : BitVec 32 := Scalar.addi v42 v46
  let v44 : BitVec 32 := Scalar.addi v42 v43
  let c1_i32_17 : BitVec 32 := 1#32
  ⟨v47, v44, c1_i32_17⟩
def k0_mult7 (i : grid0.Coords) (v5 : BitVec 32) (k0_t2 : Fin (k0_t2_loop i v5).trips) : BitVec 32 :=
  let c2_i32_53 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let arg2 : BitVec 32 := BitVec.ofNat 32 (i 2).val
  let v43 : BitVec 32 := Scalar.subi arg2 v42
  let c1_i32_15 : BitVec 32 := 1#32
  let v45 : BitVec 32 := Scalar.divsi v43 c1_i32_15
  let v46 : BitVec 32 := Scalar.muli v45 c1_i32_15
  let v47 : BitVec 32 := Scalar.addi v42 v46
  let c1_i32_17 : BitVec 32 := 1#32
  let arg12 : BitVec 32 := Scf.iv v47 c1_i32_17 k0_t2
  let v139 : BitVec 32 := Scalar.muli c2_i32_53 arg12
  let c512_i32_56 : BitVec 32 := 512#32
  let v142 : BitVec 32 := Scalar.muli v139 c512_i32_56
  v142
def k0_off4 (i : grid0.Coords) (v5 : BitVec 32) (k0_t2 : Fin (k0_t2_loop i v5).trips) : Fin 2 → Nat :=
  let c2_i32_53 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let arg2 : BitVec 32 := BitVec.ofNat 32 (i 2).val
  let v43 : BitVec 32 := Scalar.subi arg2 v42
  let c1_i32_15 : BitVec 32 := 1#32
  let v45 : BitVec 32 := Scalar.divsi v43 c1_i32_15
  let v46 : BitVec 32 := Scalar.muli v45 c1_i32_15
  let v47 : BitVec 32 := Scalar.addi v42 v46
  let c1_i32_17 : BitVec 32 := 1#32
  let arg12 : BitVec 32 := Scf.iv v47 c1_i32_17 k0_t2
  let v139 : BitVec 32 := Scalar.muli c2_i32_53 arg12
  let c512_i32_56 : BitVec 32 := 512#32
  let v142 : BitVec 32 := Scalar.muli v139 c512_i32_56
  let v143 : BitVec 32 := v142
  let v144 : Index := Scalar.indexCast v143
  let c0_57 : Index := 0#32
  ![v144.toNat, 0]
def k0_mult8 (i : grid0.Coords) (v5 : BitVec 32) (k0_t2 : Fin (k0_t2_loop i v5).trips) : BitVec 32 :=
  let c2_i32_53 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let arg2 : BitVec 32 := BitVec.ofNat 32 (i 2).val
  let v43 : BitVec 32 := Scalar.subi arg2 v42
  let c1_i32_15 : BitVec 32 := 1#32
  let v45 : BitVec 32 := Scalar.divsi v43 c1_i32_15
  let v46 : BitVec 32 := Scalar.muli v45 c1_i32_15
  let v47 : BitVec 32 := Scalar.addi v42 v46
  let c1_i32_17 : BitVec 32 := 1#32
  let arg12 : BitVec 32 := Scf.iv v47 c1_i32_17 k0_t2
  let v139 : BitVec 32 := Scalar.muli c2_i32_53 arg12
  let c512_i32_61 : BitVec 32 := 512#32
  let v154 : BitVec 32 := Scalar.muli v139 c512_i32_61
  v154
def k0_mult9 (i : grid0.Coords) (v5 : BitVec 32) (k0_t2 : Fin (k0_t2_loop i v5).trips) : BitVec 32 :=
  let c2_i32_54 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let arg2 : BitVec 32 := BitVec.ofNat 32 (i 2).val
  let v43 : BitVec 32 := Scalar.subi arg2 v42
  let c1_i32_15 : BitVec 32 := 1#32
  let v45 : BitVec 32 := Scalar.divsi v43 c1_i32_15
  let v46 : BitVec 32 := Scalar.muli v45 c1_i32_15
  let v47 : BitVec 32 := Scalar.addi v42 v46
  let c1_i32_17 : BitVec 32 := 1#32
  let arg12 : BitVec 32 := Scf.iv v47 c1_i32_17 k0_t2
  let v140 : BitVec 32 := Scalar.muli c2_i32_54 arg12
  let c1_i32_55 : BitVec 32 := 1#32
  let v141 : BitVec 32 := Scalar.addi v140 c1_i32_55
  let c512_i32_66 : BitVec 32 := 512#32
  let v166 : BitVec 32 := Scalar.muli v141 c512_i32_66
  v166
def k0_off5 (i : grid0.Coords) (v5 : BitVec 32) (k0_t2 : Fin (k0_t2_loop i v5).trips) : Fin 2 → Nat :=
  let c2_i32_54 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let arg2 : BitVec 32 := BitVec.ofNat 32 (i 2).val
  let v43 : BitVec 32 := Scalar.subi arg2 v42
  let c1_i32_15 : BitVec 32 := 1#32
  let v45 : BitVec 32 := Scalar.divsi v43 c1_i32_15
  let v46 : BitVec 32 := Scalar.muli v45 c1_i32_15
  let v47 : BitVec 32 := Scalar.addi v42 v46
  let c1_i32_17 : BitVec 32 := 1#32
  let arg12 : BitVec 32 := Scf.iv v47 c1_i32_17 k0_t2
  let v140 : BitVec 32 := Scalar.muli c2_i32_54 arg12
  let c1_i32_55 : BitVec 32 := 1#32
  let v141 : BitVec 32 := Scalar.addi v140 c1_i32_55
  let c512_i32_66 : BitVec 32 := 512#32
  let v166 : BitVec 32 := Scalar.muli v141 c512_i32_66
  let v167 : BitVec 32 := v166
  let v168 : Index := Scalar.indexCast v167
  let c0_67 : Index := 0#32
  ![v168.toNat, 0]
def k0_mult10 (i : grid0.Coords) (v5 : BitVec 32) (k0_t2 : Fin (k0_t2_loop i v5).trips) : BitVec 32 :=
  let c2_i32_54 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let arg2 : BitVec 32 := BitVec.ofNat 32 (i 2).val
  let v43 : BitVec 32 := Scalar.subi arg2 v42
  let c1_i32_15 : BitVec 32 := 1#32
  let v45 : BitVec 32 := Scalar.divsi v43 c1_i32_15
  let v46 : BitVec 32 := Scalar.muli v45 c1_i32_15
  let v47 : BitVec 32 := Scalar.addi v42 v46
  let c1_i32_17 : BitVec 32 := 1#32
  let arg12 : BitVec 32 := Scf.iv v47 c1_i32_17 k0_t2
  let v140 : BitVec 32 := Scalar.muli c2_i32_54 arg12
  let c1_i32_55 : BitVec 32 := 1#32
  let v141 : BitVec 32 := Scalar.addi v140 c1_i32_55
  let c512_i32_71 : BitVec 32 := 512#32
  let v178 : BitVec 32 := Scalar.muli v141 c512_i32_71
  v178
def k0_mult11 (i : grid0.Coords) (v5 : BitVec 32) (k0_t2 : Fin (k0_t2_loop i v5).trips) : BitVec 32 :=
  let c2_i32_53 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let arg2 : BitVec 32 := BitVec.ofNat 32 (i 2).val
  let v43 : BitVec 32 := Scalar.subi arg2 v42
  let c1_i32_15 : BitVec 32 := 1#32
  let v45 : BitVec 32 := Scalar.divsi v43 c1_i32_15
  let v46 : BitVec 32 := Scalar.muli v45 c1_i32_15
  let v47 : BitVec 32 := Scalar.addi v42 v46
  let c1_i32_17 : BitVec 32 := 1#32
  let arg12 : BitVec 32 := Scf.iv v47 c1_i32_17 k0_t2
  let v139 : BitVec 32 := Scalar.muli c2_i32_53 arg12
  let c512_i32_76 : BitVec 32 := 512#32
  let v190 : BitVec 32 := Scalar.muli v139 c512_i32_76
  v190
def k0_mult12 (i : grid0.Coords) (v5 : BitVec 32) (k0_t2 : Fin (k0_t2_loop i v5).trips) : BitVec 32 :=
  let c2_i32_54 : BitVec 32 := 2#32
  let c0_i32_9 : BitVec 32 := 0#32
  let v27 : BitVec 1 := Scalar.cmpi .sgt v5 c0_i32_9
  let v28 : BitVec 32 := Scalar.extui v27
  let c0_i32_10 : BitVec 32 := 0#32
  let v29 : BitVec 1 := Scalar.cmpi .slt v5 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi v5 c2_i32
  let c0_i32_13 : BitVec 32 := 0#32
  let v39 : BitVec 1 := Scalar.cmpi .ne v38 c0_i32_13
  let v40 : BitVec 1 := Scalar.andi v37 v39
  let v26 : BitVec 32 := Scalar.divsi v5 c2_i32
  let c1_i32_14 : BitVec 32 := 1#32
  let v41 : BitVec 32 := Scalar.subi v26 c1_i32_14
  let v42 : BitVec 32 := Scalar.select v40 v41 v26
  let arg2 : BitVec 32 := BitVec.ofNat 32 (i 2).val
  let v43 : BitVec 32 := Scalar.subi arg2 v42
  let c1_i32_15 : BitVec 32 := 1#32
  let v45 : BitVec 32 := Scalar.divsi v43 c1_i32_15
  let v46 : BitVec 32 := Scalar.muli v45 c1_i32_15
  let v47 : BitVec 32 := Scalar.addi v42 v46
  let c1_i32_17 : BitVec 32 := 1#32
  let arg12 : BitVec 32 := Scf.iv v47 c1_i32_17 k0_t2
  let v140 : BitVec 32 := Scalar.muli c2_i32_54 arg12
  let c1_i32_55 : BitVec 32 := 1#32
  let v141 : BitVec 32 := Scalar.addi v140 c1_i32_55
  let c512_i32_82 : BitVec 32 := 512#32
  let v204 : BitVec 32 := Scalar.muli v141 c512_i32_82
  v204

def k0_chk1 (i : grid0.Coords) (v5 : BitVec 32) (v9 : BitVec 32) : Prop :=
  (∀ (k0_h1 : k0_cond1 v9 = 1#1), (k0_t1_loop i v5).OK) ∧
  (∀ k0_t1 : Fin (k0_t1_loop i v5).trips, ∀ (k0_h1 : k0_cond1 v9 = 1#1), 512 ∣ (k0_mult1 i v5 k0_t1).toNat) ∧
  (∀ k0_t1 : Fin (k0_t1_loop i v5).trips, ∀ (k0_h1 : k0_cond1 v9 = 1#1), ∀ a, (k0_off2 i v5 k0_t1) a + S512x128.size a ≤ S16384x128.size a) ∧
  (∀ k0_t1 : Fin (k0_t1_loop i v5).trips, ∀ (k0_h1 : k0_cond1 v9 = 1#1), 512 ∣ (k0_mult2 i v5 k0_t1).toNat) ∧
  (∀ k0_t1 : Fin (k0_t1_loop i v5).trips, ∀ (k0_h1 : k0_cond1 v9 = 1#1), 512 ∣ (k0_mult3 i v5 k0_t1).toNat) ∧
  (∀ k0_t1 : Fin (k0_t1_loop i v5).trips, ∀ (k0_h1 : k0_cond1 v9 = 1#1), ∀ a, (k0_off3 i v5 k0_t1) a + S512x128.size a ≤ S16384x128.size a) ∧
  (∀ k0_t1 : Fin (k0_t1_loop i v5).trips, ∀ (k0_h1 : k0_cond1 v9 = 1#1), 512 ∣ (k0_mult4 i v5 k0_t1).toNat) ∧
  (∀ k0_t1 : Fin (k0_t1_loop i v5).trips, ∀ (k0_h1 : k0_cond1 v9 = 1#1), 512 ∣ (k0_mult5 i v5 k0_t1).toNat) ∧
  (∀ k0_t1 : Fin (k0_t1_loop i v5).trips, ∀ (k0_h1 : k0_cond1 v9 = 1#1), 512 ∣ (k0_mult6 i v5 k0_t1).toNat) ∧
  (∀ (k0_h1 : k0_cond1 v9 = 1#1), (k0_t2_loop i v5).OK) ∧
  (∀ k0_t2 : Fin (k0_t2_loop i v5).trips, ∀ (k0_h1 : k0_cond1 v9 = 1#1), 512 ∣ (k0_mult7 i v5 k0_t2).toNat) ∧
  (∀ k0_t2 : Fin (k0_t2_loop i v5).trips, ∀ (k0_h1 : k0_cond1 v9 = 1#1), ∀ a, (k0_off4 i v5 k0_t2) a + S512x128.size a ≤ S16384x128.size a) ∧
  (∀ k0_t2 : Fin (k0_t2_loop i v5).trips, ∀ (k0_h1 : k0_cond1 v9 = 1#1), 512 ∣ (k0_mult8 i v5 k0_t2).toNat) ∧
  (∀ k0_t2 : Fin (k0_t2_loop i v5).trips, ∀ (k0_h1 : k0_cond1 v9 = 1#1), 512 ∣ (k0_mult9 i v5 k0_t2).toNat) ∧
  (∀ k0_t2 : Fin (k0_t2_loop i v5).trips, ∀ (k0_h1 : k0_cond1 v9 = 1#1), ∀ a, (k0_off5 i v5 k0_t2) a + S512x128.size a ≤ S16384x128.size a) ∧
  (∀ k0_t2 : Fin (k0_t2_loop i v5).trips, ∀ (k0_h1 : k0_cond1 v9 = 1#1), 512 ∣ (k0_mult10 i v5 k0_t2).toNat) ∧
  (∀ k0_t2 : Fin (k0_t2_loop i v5).trips, ∀ (k0_h1 : k0_cond1 v9 = 1#1), 512 ∣ (k0_mult11 i v5 k0_t2).toNat) ∧
  (∀ k0_t2 : Fin (k0_t2_loop i v5).trips, ∀ (k0_h1 : k0_cond1 v9 = 1#1), 512 ∣ (k0_mult12 i v5 k0_t2).toNat)
theorem k0_t1_ok : ∀ (i : grid0.Coords) (v5 : BitVec 32) (v9 : BitVec 32) (k0_hw1 : k0_chk1 i v5 v9), ∀ (k0_h1 : k0_cond1 v9 = 1#1), (k0_t1_loop i v5).OK := fun i v5 v9 k0_hw1 k0_h1 => k0_hw1.1 k0_h1
theorem k0_mult1_dvd : ∀ (i : grid0.Coords) (v5 : BitVec 32) (v9 : BitVec 32) (k0_hw1 : k0_chk1 i v5 v9) (k0_t1 : Fin (k0_t1_loop i v5).trips), ∀ (k0_h1 : k0_cond1 v9 = 1#1), 512 ∣ (k0_mult1 i v5 k0_t1).toNat := fun i v5 v9 k0_hw1 k0_t1 k0_h1 => k0_hw1.2.1 k0_t1 k0_h1
theorem k0_off2_inb : ∀ (i : grid0.Coords) (v5 : BitVec 32) (v9 : BitVec 32) (k0_hw1 : k0_chk1 i v5 v9) (k0_t1 : Fin (k0_t1_loop i v5).trips), ∀ (k0_h1 : k0_cond1 v9 = 1#1), ∀ a, (k0_off2 i v5 k0_t1) a + S512x128.size a ≤ S16384x128.size a := fun i v5 v9 k0_hw1 k0_t1 k0_h1 => k0_hw1.2.2.1 k0_t1 k0_h1
theorem k0_mult2_dvd : ∀ (i : grid0.Coords) (v5 : BitVec 32) (v9 : BitVec 32) (k0_hw1 : k0_chk1 i v5 v9) (k0_t1 : Fin (k0_t1_loop i v5).trips), ∀ (k0_h1 : k0_cond1 v9 = 1#1), 512 ∣ (k0_mult2 i v5 k0_t1).toNat := fun i v5 v9 k0_hw1 k0_t1 k0_h1 => k0_hw1.2.2.2.1 k0_t1 k0_h1
theorem k0_mult3_dvd : ∀ (i : grid0.Coords) (v5 : BitVec 32) (v9 : BitVec 32) (k0_hw1 : k0_chk1 i v5 v9) (k0_t1 : Fin (k0_t1_loop i v5).trips), ∀ (k0_h1 : k0_cond1 v9 = 1#1), 512 ∣ (k0_mult3 i v5 k0_t1).toNat := fun i v5 v9 k0_hw1 k0_t1 k0_h1 => k0_hw1.2.2.2.2.1 k0_t1 k0_h1
theorem k0_off3_inb : ∀ (i : grid0.Coords) (v5 : BitVec 32) (v9 : BitVec 32) (k0_hw1 : k0_chk1 i v5 v9) (k0_t1 : Fin (k0_t1_loop i v5).trips), ∀ (k0_h1 : k0_cond1 v9 = 1#1), ∀ a, (k0_off3 i v5 k0_t1) a + S512x128.size a ≤ S16384x128.size a := fun i v5 v9 k0_hw1 k0_t1 k0_h1 => k0_hw1.2.2.2.2.2.1 k0_t1 k0_h1
theorem k0_mult4_dvd : ∀ (i : grid0.Coords) (v5 : BitVec 32) (v9 : BitVec 32) (k0_hw1 : k0_chk1 i v5 v9) (k0_t1 : Fin (k0_t1_loop i v5).trips), ∀ (k0_h1 : k0_cond1 v9 = 1#1), 512 ∣ (k0_mult4 i v5 k0_t1).toNat := fun i v5 v9 k0_hw1 k0_t1 k0_h1 => k0_hw1.2.2.2.2.2.2.1 k0_t1 k0_h1
theorem k0_mult5_dvd : ∀ (i : grid0.Coords) (v5 : BitVec 32) (v9 : BitVec 32) (k0_hw1 : k0_chk1 i v5 v9) (k0_t1 : Fin (k0_t1_loop i v5).trips), ∀ (k0_h1 : k0_cond1 v9 = 1#1), 512 ∣ (k0_mult5 i v5 k0_t1).toNat := fun i v5 v9 k0_hw1 k0_t1 k0_h1 => k0_hw1.2.2.2.2.2.2.2.1 k0_t1 k0_h1
theorem k0_mult6_dvd : ∀ (i : grid0.Coords) (v5 : BitVec 32) (v9 : BitVec 32) (k0_hw1 : k0_chk1 i v5 v9) (k0_t1 : Fin (k0_t1_loop i v5).trips), ∀ (k0_h1 : k0_cond1 v9 = 1#1), 512 ∣ (k0_mult6 i v5 k0_t1).toNat := fun i v5 v9 k0_hw1 k0_t1 k0_h1 => k0_hw1.2.2.2.2.2.2.2.2.1 k0_t1 k0_h1
theorem k0_t2_ok : ∀ (i : grid0.Coords) (v5 : BitVec 32) (v9 : BitVec 32) (k0_hw1 : k0_chk1 i v5 v9), ∀ (k0_h1 : k0_cond1 v9 = 1#1), (k0_t2_loop i v5).OK := fun i v5 v9 k0_hw1 k0_h1 => k0_hw1.2.2.2.2.2.2.2.2.2.1 k0_h1
theorem k0_mult7_dvd : ∀ (i : grid0.Coords) (v5 : BitVec 32) (v9 : BitVec 32) (k0_hw1 : k0_chk1 i v5 v9) (k0_t2 : Fin (k0_t2_loop i v5).trips), ∀ (k0_h1 : k0_cond1 v9 = 1#1), 512 ∣ (k0_mult7 i v5 k0_t2).toNat := fun i v5 v9 k0_hw1 k0_t2 k0_h1 => k0_hw1.2.2.2.2.2.2.2.2.2.2.1 k0_t2 k0_h1
theorem k0_off4_inb : ∀ (i : grid0.Coords) (v5 : BitVec 32) (v9 : BitVec 32) (k0_hw1 : k0_chk1 i v5 v9) (k0_t2 : Fin (k0_t2_loop i v5).trips), ∀ (k0_h1 : k0_cond1 v9 = 1#1), ∀ a, (k0_off4 i v5 k0_t2) a + S512x128.size a ≤ S16384x128.size a := fun i v5 v9 k0_hw1 k0_t2 k0_h1 => k0_hw1.2.2.2.2.2.2.2.2.2.2.2.1 k0_t2 k0_h1
theorem k0_mult8_dvd : ∀ (i : grid0.Coords) (v5 : BitVec 32) (v9 : BitVec 32) (k0_hw1 : k0_chk1 i v5 v9) (k0_t2 : Fin (k0_t2_loop i v5).trips), ∀ (k0_h1 : k0_cond1 v9 = 1#1), 512 ∣ (k0_mult8 i v5 k0_t2).toNat := fun i v5 v9 k0_hw1 k0_t2 k0_h1 => k0_hw1.2.2.2.2.2.2.2.2.2.2.2.2.1 k0_t2 k0_h1
theorem k0_mult9_dvd : ∀ (i : grid0.Coords) (v5 : BitVec 32) (v9 : BitVec 32) (k0_hw1 : k0_chk1 i v5 v9) (k0_t2 : Fin (k0_t2_loop i v5).trips), ∀ (k0_h1 : k0_cond1 v9 = 1#1), 512 ∣ (k0_mult9 i v5 k0_t2).toNat := fun i v5 v9 k0_hw1 k0_t2 k0_h1 => k0_hw1.2.2.2.2.2.2.2.2.2.2.2.2.2.1 k0_t2 k0_h1
theorem k0_off5_inb : ∀ (i : grid0.Coords) (v5 : BitVec 32) (v9 : BitVec 32) (k0_hw1 : k0_chk1 i v5 v9) (k0_t2 : Fin (k0_t2_loop i v5).trips), ∀ (k0_h1 : k0_cond1 v9 = 1#1), ∀ a, (k0_off5 i v5 k0_t2) a + S512x128.size a ≤ S16384x128.size a := fun i v5 v9 k0_hw1 k0_t2 k0_h1 => k0_hw1.2.2.2.2.2.2.2.2.2.2.2.2.2.2.1 k0_t2 k0_h1
theorem k0_mult10_dvd : ∀ (i : grid0.Coords) (v5 : BitVec 32) (v9 : BitVec 32) (k0_hw1 : k0_chk1 i v5 v9) (k0_t2 : Fin (k0_t2_loop i v5).trips), ∀ (k0_h1 : k0_cond1 v9 = 1#1), 512 ∣ (k0_mult10 i v5 k0_t2).toNat := fun i v5 v9 k0_hw1 k0_t2 k0_h1 => k0_hw1.2.2.2.2.2.2.2.2.2.2.2.2.2.2.2.1 k0_t2 k0_h1
theorem k0_mult11_dvd : ∀ (i : grid0.Coords) (v5 : BitVec 32) (v9 : BitVec 32) (k0_hw1 : k0_chk1 i v5 v9) (k0_t2 : Fin (k0_t2_loop i v5).trips), ∀ (k0_h1 : k0_cond1 v9 = 1#1), 512 ∣ (k0_mult11 i v5 k0_t2).toNat := fun i v5 v9 k0_hw1 k0_t2 k0_h1 => k0_hw1.2.2.2.2.2.2.2.2.2.2.2.2.2.2.2.2.1 k0_t2 k0_h1
theorem k0_mult12_dvd : ∀ (i : grid0.Coords) (v5 : BitVec 32) (v9 : BitVec 32) (k0_hw1 : k0_chk1 i v5 v9) (k0_t2 : Fin (k0_t2_loop i v5).trips), ∀ (k0_h1 : k0_cond1 v9 = 1#1), 512 ∣ (k0_mult12 i v5 k0_t2).toNat := fun i v5 v9 k0_hw1 k0_t2 k0_h1 => k0_hw1.2.2.2.2.2.2.2.2.2.2.2.2.2.2.2.2.2 k0_t2 k0_h1

def k0_mult13 (i : grid0.Coords) : BitVec 32 :=
  let c2_i32_18 : BitVec 32 := 2#32
  let arg2 : BitVec 32 := BitVec.ofNat 32 (i 2).val
  let v50 : BitVec 32 := Scalar.muli c2_i32_18 arg2
  let c512_i32 : BitVec 32 := 512#32
  let v51 : BitVec 32 := Scalar.muli v50 c512_i32
  v51
def k0_off6 (i : grid0.Coords) : Fin 2 → Nat :=
  let c2_i32_18 : BitVec 32 := 2#32
  let arg2 : BitVec 32 := BitVec.ofNat 32 (i 2).val
  let v50 : BitVec 32 := Scalar.muli c2_i32_18 arg2
  let c512_i32 : BitVec 32 := 512#32
  let v51 : BitVec 32 := Scalar.muli v50 c512_i32
  let v52 : BitVec 32 := v51
  let v53 : Index := Scalar.indexCast v52
  let c0_19 : Index := 0#32
  ![v53.toNat, 0]
def k0_mult14 (i : grid0.Coords) : BitVec 32 :=
  let c2_i32_24 : BitVec 32 := 2#32
  let arg2 : BitVec 32 := BitVec.ofNat 32 (i 2).val
  let v67 : BitVec 32 := Scalar.muli c2_i32_24 arg2
  let c1_i32_25 : BitVec 32 := 1#32
  let v68 : BitVec 32 := Scalar.addi v67 c1_i32_25
  let c512_i32_26 : BitVec 32 := 512#32
  let v69 : BitVec 32 := Scalar.muli v68 c512_i32_26
  v69
def k0_off7 (i : grid0.Coords) : Fin 2 → Nat :=
  let c2_i32_24 : BitVec 32 := 2#32
  let arg2 : BitVec 32 := BitVec.ofNat 32 (i 2).val
  let v67 : BitVec 32 := Scalar.muli c2_i32_24 arg2
  let c1_i32_25 : BitVec 32 := 1#32
  let v68 : BitVec 32 := Scalar.addi v67 c1_i32_25
  let c512_i32_26 : BitVec 32 := 512#32
  let v69 : BitVec 32 := Scalar.muli v68 c512_i32_26
  let v70 : BitVec 32 := v69
  let v71 : Index := Scalar.indexCast v70
  let c0_27 : Index := 0#32
  ![v71.toNat, 0]
def k0_mult15 (i : grid0.Coords) : BitVec 32 :=
  let c2_i32_31 : BitVec 32 := 2#32
  let arg2 : BitVec 32 := BitVec.ofNat 32 (i 2).val
  let v82 : BitVec 32 := Scalar.muli c2_i32_31 arg2
  let c512_i32_32 : BitVec 32 := 512#32
  let v83 : BitVec 32 := Scalar.muli v82 c512_i32_32
  v83
def k0_mult16 (i : grid0.Coords) : BitVec 32 :=
  let c2_i32_36 : BitVec 32 := 2#32
  let arg2 : BitVec 32 := BitVec.ofNat 32 (i 2).val
  let v92 : BitVec 32 := Scalar.muli c2_i32_36 arg2
  let c1_i32_37 : BitVec 32 := 1#32
  let v93 : BitVec 32 := Scalar.addi v92 c1_i32_37
  let c512_i32_38 : BitVec 32 := 512#32
  let v94 : BitVec 32 := Scalar.muli v93 c512_i32_38
  v94
def k0_off8 (i : grid0.Coords) : Fin 2 → Nat :=
  let arg1 : BitVec 32 := BitVec.ofNat 32 (i 1).val
  let v114 : Index := Scalar.indexCast arg1
  let c0_44 : Index := 0#32
  ![v114.toNat, 0]
def k0_off9 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let v13 : Index := Scalar.indexCast v3
  ![v13.toNat]
@[reducible] def k0_t3_loop (i : grid0.Coords) (v5 : BitVec 32) : Scf.Loop 32 :=
  let c2_i32 : BitVec 32 := 2#32
  let arg2 : BitVec 32 := BitVec.ofNat 32 (i 2).val
  let v37 : BitVec 32 := Scalar.muli c2_i32 arg2
  let v38 : BitVec 32 := Scalar.subi v37 v5
  let c1_i32_12 : BitVec 32 := 1#32
  let v40 : BitVec 32 := Scalar.divsi v38 c1_i32_12
  let v41 : BitVec 32 := Scalar.muli v40 c1_i32_12
  let v42 : BitVec 32 := Scalar.addi v5 v41
  let c1_i32_13 : BitVec 32 := 1#32
  ⟨v5, v42, c1_i32_13⟩
def k0_cond2 (v14 : BitVec 32) : BitVec 1 :=
  let c0_i32_0 : BitVec 32 := 0#32
  let v15 : BitVec 1 := Scalar.cmpi .eq v14 c0_i32_0
  let v16 : BitVec 32 := Scalar.extui v15
  let c0_i32_1 : BitVec 32 := 0#32
  let v17 : BitVec 1 := Scalar.cmpi .ne v16 c0_i32_1
  v17

def k0_mult17 (i : grid0.Coords) (v5 : BitVec 32) (k0_t3 : Fin (k0_t3_loop i v5).trips) : BitVec 32 :=
  let c1_i32_13 : BitVec 32 := 1#32
  let arg12 : BitVec 32 := Scf.iv v5 c1_i32_13 k0_t3
  let c512_i32_50 : BitVec 32 := 512#32
  let v208 : BitVec 32 := Scalar.muli arg12 c512_i32_50
  v208
def k0_off10 (i : grid0.Coords) (v5 : BitVec 32) (k0_t3 : Fin (k0_t3_loop i v5).trips) : Fin 2 → Nat :=
  let c1_i32_13 : BitVec 32 := 1#32
  let arg12 : BitVec 32 := Scf.iv v5 c1_i32_13 k0_t3
  let c512_i32_50 : BitVec 32 := 512#32
  let v208 : BitVec 32 := Scalar.muli arg12 c512_i32_50
  let v209 : BitVec 32 := v208
  let v210 : Index := Scalar.indexCast v209
  let c0_51 : Index := 0#32
  ![v210.toNat, 0]
@[reducible] def k0_t4_loop (i : grid0.Coords) (v5 : BitVec 32) : Scf.Loop 32 :=
  let c2_i32 : BitVec 32 := 2#32
  let arg2 : BitVec 32 := BitVec.ofNat 32 (i 2).val
  let v37 : BitVec 32 := Scalar.muli c2_i32 arg2
  let v38 : BitVec 32 := Scalar.subi v37 v5
  let c1_i32_12 : BitVec 32 := 1#32
  let v40 : BitVec 32 := Scalar.divsi v38 c1_i32_12
  let v41 : BitVec 32 := Scalar.muli v40 c1_i32_12
  let v42 : BitVec 32 := Scalar.addi v5 v41
  let v39 : BitVec 32 := Scalar.addi v5 v38
  let c1_i32_14 : BitVec 32 := 1#32
  ⟨v42, v39, c1_i32_14⟩
def k0_mult18 (i : grid0.Coords) (v5 : BitVec 32) (k0_t4 : Fin (k0_t4_loop i v5).trips) : BitVec 32 :=
  let c2_i32 : BitVec 32 := 2#32
  let arg2 : BitVec 32 := BitVec.ofNat 32 (i 2).val
  let v37 : BitVec 32 := Scalar.muli c2_i32 arg2
  let v38 : BitVec 32 := Scalar.subi v37 v5
  let c1_i32_12 : BitVec 32 := 1#32
  let v40 : BitVec 32 := Scalar.divsi v38 c1_i32_12
  let v41 : BitVec 32 := Scalar.muli v40 c1_i32_12
  let v42 : BitVec 32 := Scalar.addi v5 v41
  let c1_i32_14 : BitVec 32 := 1#32
  let arg12 : BitVec 32 := Scf.iv v42 c1_i32_14 k0_t4
  let c512_i32_50 : BitVec 32 := 512#32
  let v208 : BitVec 32 := Scalar.muli arg12 c512_i32_50
  v208
def k0_off11 (i : grid0.Coords) (v5 : BitVec 32) (k0_t4 : Fin (k0_t4_loop i v5).trips) : Fin 2 → Nat :=
  let c2_i32 : BitVec 32 := 2#32
  let arg2 : BitVec 32 := BitVec.ofNat 32 (i 2).val
  let v37 : BitVec 32 := Scalar.muli c2_i32 arg2
  let v38 : BitVec 32 := Scalar.subi v37 v5
  let c1_i32_12 : BitVec 32 := 1#32
  let v40 : BitVec 32 := Scalar.divsi v38 c1_i32_12
  let v41 : BitVec 32 := Scalar.muli v40 c1_i32_12
  let v42 : BitVec 32 := Scalar.addi v5 v41
  let c1_i32_14 : BitVec 32 := 1#32
  let arg12 : BitVec 32 := Scf.iv v42 c1_i32_14 k0_t4
  let c512_i32_50 : BitVec 32 := 512#32
  let v208 : BitVec 32 := Scalar.muli arg12 c512_i32_50
  let v209 : BitVec 32 := v208
  let v210 : Index := Scalar.indexCast v209
  let c0_51 : Index := 0#32
  ![v210.toNat, 0]

def k0_chk2 (i : grid0.Coords) (v5 : BitVec 32) (v14 : BitVec 32) : Prop :=
  (∀ (k0_h2 : k0_cond2 v14 = 1#1), (k0_t3_loop i v5).OK) ∧
  (∀ k0_t3 : Fin (k0_t3_loop i v5).trips, ∀ (k0_h2 : k0_cond2 v14 = 1#1), 512 ∣ (k0_mult17 i v5 k0_t3).toNat) ∧
  (∀ k0_t3 : Fin (k0_t3_loop i v5).trips, ∀ (k0_h2 : k0_cond2 v14 = 1#1), ∀ a, (k0_off10 i v5 k0_t3) a + S512x128.size a ≤ S16384x128.size a) ∧
  (∀ (k0_h2 : k0_cond2 v14 = 1#1), (k0_t4_loop i v5).OK) ∧
  (∀ k0_t4 : Fin (k0_t4_loop i v5).trips, ∀ (k0_h2 : k0_cond2 v14 = 1#1), 512 ∣ (k0_mult18 i v5 k0_t4).toNat) ∧
  (∀ k0_t4 : Fin (k0_t4_loop i v5).trips, ∀ (k0_h2 : k0_cond2 v14 = 1#1), ∀ a, (k0_off11 i v5 k0_t4) a + S512x128.size a ≤ S16384x128.size a)
theorem k0_t3_ok : ∀ (i : grid0.Coords) (v5 : BitVec 32) (v14 : BitVec 32) (k0_hw2 : k0_chk2 i v5 v14), ∀ (k0_h2 : k0_cond2 v14 = 1#1), (k0_t3_loop i v5).OK := fun i v5 v14 k0_hw2 k0_h2 => k0_hw2.1 k0_h2
theorem k0_mult17_dvd : ∀ (i : grid0.Coords) (v5 : BitVec 32) (v14 : BitVec 32) (k0_hw2 : k0_chk2 i v5 v14) (k0_t3 : Fin (k0_t3_loop i v5).trips), ∀ (k0_h2 : k0_cond2 v14 = 1#1), 512 ∣ (k0_mult17 i v5 k0_t3).toNat := fun i v5 v14 k0_hw2 k0_t3 k0_h2 => k0_hw2.2.1 k0_t3 k0_h2
theorem k0_off10_inb : ∀ (i : grid0.Coords) (v5 : BitVec 32) (v14 : BitVec 32) (k0_hw2 : k0_chk2 i v5 v14) (k0_t3 : Fin (k0_t3_loop i v5).trips), ∀ (k0_h2 : k0_cond2 v14 = 1#1), ∀ a, (k0_off10 i v5 k0_t3) a + S512x128.size a ≤ S16384x128.size a := fun i v5 v14 k0_hw2 k0_t3 k0_h2 => k0_hw2.2.2.1 k0_t3 k0_h2
theorem k0_t4_ok : ∀ (i : grid0.Coords) (v5 : BitVec 32) (v14 : BitVec 32) (k0_hw2 : k0_chk2 i v5 v14), ∀ (k0_h2 : k0_cond2 v14 = 1#1), (k0_t4_loop i v5).OK := fun i v5 v14 k0_hw2 k0_h2 => k0_hw2.2.2.2.1 k0_h2
theorem k0_mult18_dvd : ∀ (i : grid0.Coords) (v5 : BitVec 32) (v14 : BitVec 32) (k0_hw2 : k0_chk2 i v5 v14) (k0_t4 : Fin (k0_t4_loop i v5).trips), ∀ (k0_h2 : k0_cond2 v14 = 1#1), 512 ∣ (k0_mult18 i v5 k0_t4).toNat := fun i v5 v14 k0_hw2 k0_t4 k0_h2 => k0_hw2.2.2.2.2.1 k0_t4 k0_h2
theorem k0_off11_inb : ∀ (i : grid0.Coords) (v5 : BitVec 32) (v14 : BitVec 32) (k0_hw2 : k0_chk2 i v5 v14) (k0_t4 : Fin (k0_t4_loop i v5).trips), ∀ (k0_h2 : k0_cond2 v14 = 1#1), ∀ a, (k0_off11 i v5 k0_t4) a + S512x128.size a ≤ S16384x128.size a := fun i v5 v14 k0_hw2 k0_t4 k0_h2 => k0_hw2.2.2.2.2.2 k0_t4 k0_h2

def k0_mult19 (i : grid0.Coords) : BitVec 32 :=
  let c2_i32_15 : BitVec 32 := 2#32
  let arg2 : BitVec 32 := BitVec.ofNat 32 (i 2).val
  let v45 : BitVec 32 := Scalar.muli c2_i32_15 arg2
  let c512_i32 : BitVec 32 := 512#32
  let v46 : BitVec 32 := Scalar.muli v45 c512_i32
  v46
def k0_off12 (i : grid0.Coords) : Fin 2 → Nat :=
  let c2_i32_15 : BitVec 32 := 2#32
  let arg2 : BitVec 32 := BitVec.ofNat 32 (i 2).val
  let v45 : BitVec 32 := Scalar.muli c2_i32_15 arg2
  let c512_i32 : BitVec 32 := 512#32
  let v46 : BitVec 32 := Scalar.muli v45 c512_i32
  let v47 : BitVec 32 := v46
  let v48 : Index := Scalar.indexCast v47
  let c0_16 : Index := 0#32
  ![v48.toNat, 0]
def k0_mult20 (i : grid0.Coords) : BitVec 32 :=
  let c2_i32_26 : BitVec 32 := 2#32
  let arg2 : BitVec 32 := BitVec.ofNat 32 (i 2).val
  let v122 : BitVec 32 := Scalar.muli c2_i32_26 arg2
  let c1_i32_27 : BitVec 32 := 1#32
  let v123 : BitVec 32 := Scalar.addi v122 c1_i32_27
  let c512_i32_28 : BitVec 32 := 512#32
  let v124 : BitVec 32 := Scalar.muli v123 c512_i32_28
  v124
def k0_off13 (i : grid0.Coords) : Fin 2 → Nat :=
  let c2_i32_26 : BitVec 32 := 2#32
  let arg2 : BitVec 32 := BitVec.ofNat 32 (i 2).val
  let v122 : BitVec 32 := Scalar.muli c2_i32_26 arg2
  let c1_i32_27 : BitVec 32 := 1#32
  let v123 : BitVec 32 := Scalar.addi v122 c1_i32_27
  let c512_i32_28 : BitVec 32 := 512#32
  let v124 : BitVec 32 := Scalar.muli v123 c512_i32_28
  let v125 : BitVec 32 := v124
  let v126 : Index := Scalar.indexCast v125
  let c0_29 : Index := 0#32
  ![v126.toNat, 0]
def k0_off14 (i : grid0.Coords) : Fin 2 → Nat :=
  let arg1 : BitVec 32 := BitVec.ofNat 32 (i 1).val
  let v182 : Index := Scalar.indexCast arg1
  let c0_40 : Index := 0#32
  ![v182.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S256 : Shape := ⟨1, ![256]⟩
abbrev S32768x5120 : Shape := ⟨2, ![32768, 5120]⟩
abbrev S32768x1024 : Shape := ⟨2, ![32768, 1024]⟩
abbrev S8x128 : Shape := ⟨2, ![8, 128]⟩
abbrev S2x16384x8x128 : Shape := ⟨4, ![2, 16384, 8, 128]⟩
abbrev S2x8x16384x128 : Shape := ⟨4, ![2, 8, 16384, 128]⟩
abbrev S2x8x16384x16384 : Shape := ⟨4, ![2, 8, 16384, 16384]⟩
abbrev S2x8x16 : Shape := ⟨3, ![2, 8, 16]⟩
abbrev S_ : Shape := ⟨0, ![]⟩
abbrev S16 : Shape := ⟨1, ![16]⟩
abbrev S1x1x16 : Shape := ⟨3, ![1, 1, 16]⟩
abbrev S2x8x16x1 : Shape := ⟨4, ![2, 8, 16, 1]⟩
abbrev S2x8x16x1024 : Shape := ⟨4, ![2, 8, 16, 1024]⟩
abbrev S2x8x16384 : Shape := ⟨3, ![2, 8, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x8x16384x1 : Shape := ⟨4, ![2, 8, 16384, 1]⟩
abbrev S1x1x1x16384 : Shape := ⟨4, ![1, 1, 1, 16384]⟩
abbrev S1x1x16384x16384 : Shape := ⟨4, ![1, 1, 16384, 16384]⟩
abbrev S2x16384x8 : Shape := ⟨3, ![2, 16384, 8]⟩
abbrev S2x16384x8x1 : Shape := ⟨4, ![2, 16384, 8, 1]⟩
abbrev S1x1x8x128 : Shape := ⟨4, ![1, 1, 8, 128]⟩

abbrev nBuf : Space → Nat
  | .hbm => 104
  | .vmem => 0
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S32768x5120, .bf16⟩
  | .hbm, ⟨3, _⟩ => ⟨S32768x1024, .bf16⟩
  | .hbm, ⟨4, _⟩ => ⟨S32768x1024, .bf16⟩
  | .hbm, ⟨5, _⟩ => ⟨S8x128, .f32⟩
  | .hbm, ⟨6, _⟩ => ⟨S32768x1024, .bf16⟩
  | .hbm, ⟨7, _⟩ => ⟨S32768x1024, .f32⟩
  | .hbm, ⟨8, _⟩ => ⟨S2x16384x8x128, .f32⟩
  | .hbm, ⟨9, _⟩ => ⟨S2x8x16384x128, .f32⟩
  | .hbm, ⟨10, _⟩ => ⟨S32768x1024, .bf16⟩
  | .hbm, ⟨11, _⟩ => ⟨S32768x1024, .f32⟩
  | .hbm, ⟨12, _⟩ => ⟨S2x16384x8x128, .f32⟩
  | .hbm, ⟨13, _⟩ => ⟨S2x8x16384x128, .f32⟩
  | .hbm, ⟨14, _⟩ => ⟨S32768x1024, .bf16⟩
  | .hbm, ⟨15, _⟩ => ⟨S32768x1024, .f32⟩
  | .hbm, ⟨16, _⟩ => ⟨S2x16384x8x128, .f32⟩
  | .hbm, ⟨17, _⟩ => ⟨S2x8x16384x128, .f32⟩
  | .hbm, ⟨18, _⟩ => ⟨S2x8x16384x16384, .f32⟩
  | .hbm, ⟨19, _⟩ => ⟨S32768x1024, .f32⟩
  | .hbm, ⟨20, _⟩ => ⟨S2x16384x8x128, .f32⟩
  | .hbm, ⟨21, _⟩ => ⟨S2x8x16384x128, .f32⟩
  | .hbm, ⟨22, _⟩ => ⟨S32768x1024, .f32⟩
  | .hbm, ⟨23, _⟩ => ⟨S2x16384x8x128, .f32⟩
  | .hbm, ⟨24, _⟩ => ⟨S2x8x16384x128, .f32⟩
  | .hbm, ⟨25, _⟩ => ⟨S2x8x16384x16384, .f32⟩
  | .hbm, ⟨26, _⟩ => ⟨S2x8x16384x16384, .f32⟩
  | .hbm, ⟨27, _⟩ => ⟨S2x8x16, .i32⟩
  | .hbm, ⟨28, _⟩ => ⟨S2x8x16, .i32⟩
  | .hbm, ⟨29, _⟩ => ⟨S_, .i32⟩
  | .hbm, ⟨30, _⟩ => ⟨S2x8x16, .i32⟩
  | .hbm, ⟨31, _⟩ => ⟨S2x8x16, .i1⟩
  | .hbm, ⟨32, _⟩ => ⟨S_, .i32⟩
  | .hbm, ⟨33, _⟩ => ⟨S2x8x16, .i32⟩
  | .hbm, ⟨34, _⟩ => ⟨S2x8x16, .i32⟩
  | .hbm, ⟨35, _⟩ => ⟨S_, .i32⟩
  | .hbm, ⟨36, _⟩ => ⟨S2x8x16, .i32⟩
  | .hbm, ⟨37, _⟩ => ⟨S2x8x16, .i32⟩
  | .hbm, ⟨38, _⟩ => ⟨S2x8x16, .i32⟩
  | .hbm, ⟨39, _⟩ => ⟨S16, .i32⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S1x1x16, .i32⟩
  | .hbm, ⟨44, _⟩ => ⟨S2x8x16, .i32⟩
  | .hbm, ⟨45, _⟩ => ⟨S2x8x16, .i32⟩
  | .hbm, ⟨46, _⟩ => ⟨S_, .i32⟩
  | .hbm, ⟨47, _⟩ => ⟨S2x8x16, .i32⟩
  | .hbm, ⟨48, _⟩ => ⟨S2x8x16, .i32⟩
  | .hbm, ⟨49, _⟩ => ⟨S2x8x16x1, .i32⟩
  | .hbm, ⟨50, _⟩ => ⟨S2x8x16x1024, .i32⟩
  | .hbm, ⟨51, _⟩ => ⟨S2x8x16384, .i32⟩
  | .hbm, ⟨52, _⟩ => ⟨S16384, .i32⟩
  | .hbm, ⟨53, _⟩ => ⟨S16384x1, .i32⟩
  | .hbm, ⟨54, _⟩ => ⟨S1x16384, .i32⟩
  | .hbm, ⟨55, _⟩ => ⟨S16384x16384, .i32⟩
  | .hbm, ⟨56, _⟩ => ⟨S16384x16384, .i32⟩
  | .hbm, ⟨57, _⟩ => ⟨S16384x16384, .i1⟩
  | .hbm, ⟨58, _⟩ => ⟨S1x16384, .i32⟩
  | .hbm, ⟨59, _⟩ => ⟨S2x8x16384x1, .i32⟩
  | .hbm, ⟨60, _⟩ => ⟨S1x1x1x16384, .i32⟩
  | .hbm, ⟨61, _⟩ => ⟨S2x8x16384x16384, .i32⟩
  | .hbm, ⟨62, _⟩ => ⟨S2x8x16384x16384, .i32⟩
  | .hbm, ⟨63, _⟩ => ⟨S2x8x16384x16384, .i1⟩
  | .hbm, ⟨64, _⟩ => ⟨S1x1x16384x16384, .i1⟩
  | .hbm, ⟨65, _⟩ => ⟨S2x8x16384x16384, .i1⟩
  | .hbm, ⟨66, _⟩ => ⟨S2x8x16384x16384, .i1⟩
  | .hbm, ⟨67, _⟩ => ⟨S_, .f32⟩
  | .hbm, ⟨68, _⟩ => ⟨S_, .f32⟩
  | .hbm, ⟨69, _⟩ => ⟨S2x8x16384x16384, .f32⟩
  | .hbm, ⟨70, _⟩ => ⟨S2x8x16384x16384, .f32⟩
  | .hbm, ⟨71, _⟩ => ⟨S_, .f32⟩
  | .hbm, ⟨72, _⟩ => ⟨S2x8x16384x16384, .f32⟩
  | .hbm, ⟨73, _⟩ => ⟨S_, .f32⟩
  | .hbm, ⟨74, _⟩ => ⟨S2x8x16384, .f32⟩
  | .hbm, ⟨75, _⟩ => ⟨S2x8x16384x1, .f32⟩
  | .hbm, ⟨76, _⟩ => ⟨S2x8x16384x16384, .f32⟩
  | .hbm, ⟨77, _⟩ => ⟨S2x8x16384x16384, .f32⟩
  | .hbm, ⟨78, _⟩ => ⟨S2x8x16384x16384, .f32⟩
  | .hbm, ⟨79, _⟩ => ⟨S_, .f32⟩
  | .hbm, ⟨80, _⟩ => ⟨S2x8x16384, .f32⟩
  | .hbm, ⟨81, _⟩ => ⟨S2x8x16384x1, .f32⟩
  | .hbm, ⟨82, _⟩ => ⟨S2x8x16384x16384, .f32⟩
  | .hbm, ⟨83, _⟩ => ⟨S2x8x16384x16384, .f32⟩
  | .hbm, ⟨84, _⟩ => ⟨S2x8x16384x128, .f32⟩
  | .hbm, ⟨85, _⟩ => ⟨S2x16384x8x128, .f32⟩
  | .hbm, ⟨86, _⟩ => ⟨S2x16384x8x128, .f32⟩
  | .hbm, ⟨87, _⟩ => ⟨S_, .f32⟩
  | .hbm, ⟨88, _⟩ => ⟨S2x16384x8, .f32⟩
  | .hbm, ⟨89, _⟩ => ⟨S2x16384x8x1, .f32⟩
  | .hbm, ⟨90, _⟩ => ⟨S_, .f32⟩
  | .hbm, ⟨91, _⟩ => ⟨S2x16384x8x1, .f32⟩
  | .hbm, ⟨92, _⟩ => ⟨S2x16384x8x1, .f32⟩
  | .hbm, ⟨93, _⟩ => ⟨S_, .f32⟩
  | .hbm, ⟨94, _⟩ => ⟨S2x16384x8x1, .f32⟩
  | .hbm, ⟨95, _⟩ => ⟨S2x16384x8x1, .f32⟩
  | .hbm, ⟨96, _⟩ => ⟨S2x16384x8x1, .f32⟩
  | .hbm, ⟨97, _⟩ => ⟨S2x16384x8x128, .f32⟩
  | .hbm, ⟨98, _⟩ => ⟨S2x16384x8x128, .f32⟩
  | .hbm, ⟨99, _⟩ => ⟨S1x1x8x128, .f32⟩
  | .hbm, ⟨100, _⟩ => ⟨S2x16384x8x128, .f32⟩
  | .hbm, ⟨101, _⟩ => ⟨S2x16384x8x128, .f32⟩
  | .hbm, ⟨102, _⟩ => ⟨S32768x1024, .f32⟩
  | .hbm, ⟨103, _⟩ => ⟨S32768x1024, .bf16⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_c_0 : Ref sig .tc := ⟨.hbm, 32, rfl⟩
abbrev main_v25 : Ref sig .tc := ⟨.hbm, 33, rfl⟩
abbrev main_v26 : Ref sig .tc := ⟨.hbm, 34, rfl⟩
abbrev main_c_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst : Ref sig .tc := ⟨.hbm, 67, rfl⟩
abbrev main_call1_v0 : Ref sig .tc := ⟨.hbm, 68, rfl⟩
abbrev main_call1_v1 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩

abbrev nD : Nat := 1
abbrev τ : Topo := Topo.v7x

variable {F : FTy → Type} [FloatOps F]
-- ==== InProj.lean ====
abbrev S32768x2048 : Shape := ⟨2, ![32768, 2048]⟩
abbrev S1x2048 : Shape := ⟨2, ![1, 2048]⟩
abbrev S2048x6144 : Shape := ⟨2, ![2048, 6144]⟩
abbrev S2048x128 : Shape := ⟨2, ![2048, 128]⟩
abbrev S1024x128 : Shape := ⟨2, ![1024, 128]⟩
abbrev S32768x5120 : Shape := ⟨2, ![32768, 5120]⟩
abbrev S32768x1024 : Shape := ⟨2, ![32768, 1024]⟩
abbrev S32768x128 : Shape := ⟨2, ![32768, 128]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 18
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x6144, .bf16⟩
  | .hbm, ⟨3, _⟩ => ⟨S2048x128, .bf16⟩
  | .hbm, ⟨4, _⟩ => ⟨S1024x128, .bf16⟩
  | .hbm, ⟨5, _⟩ => ⟨S32768x5120, .bf16⟩
  | .hbm, ⟨6, _⟩ => ⟨S32768x1024, .f32⟩
  | .hbm, ⟨7, _⟩ => ⟨S32768x128, .f32⟩
  | .hbm, ⟨8, _⟩ => ⟨S32768x128, .f32⟩
  | .hbm, ⟨9, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x128, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c5_i32 : BitVec 32 := 5#32
  let v6 : BitVec 1 := Scalar.cmpi .slt arg1 c5_i32
  let v7 : BitVec 32 := Scalar.extui v6
  let c0_i32_4 : BitVec 32 := 0#32
  let v8 : BitVec 1 := Scalar.cmpi .ne v7 c0_i32_4
  v8

def k0_cond5 (i : grid0.Coords) : BitVec 1 :=
  let arg1 : BitVec 32 := BitVec.ofNat 32 (i 1).val
  let c5_i32_5 : BitVec 32 := 5#32
  let v9 : BitVec 1 := Scalar.cmpi .sge arg1 c5_i32_5
  let v10 : BitVec 32 := Scalar.extui v9
  let c0_i32_6 : BitVec 32 := 0#32
  let v11 : BitVec 1 := Scalar.cmpi .ne v10 c0_i32_6
  v11

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c0_i32_11 : BitVec 32 := 0#32
  let v18 : BitVec 1 := Scalar.cmpi .eq arg1 c0_i32_11
  let v19 : BitVec 32 := Scalar.extui v18
  let c0_i32_12 : BitVec 32 := 0#32
  let v20 : BitVec 1 := Scalar.cmpi .ne v19 c0_i32_12
  v20

def k0_cond4 (i : grid0.Coords) : BitVec 1 :=
  let arg1 : BitVec 32 := BitVec.ofNat 32 (i 1).val
  let c1_i32_13 : BitVec 32 := 1#32
  let v21 : BitVec 1 := Scalar.cmpi .eq arg1 c1_i32_13
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InProjReferenceIdeal.lean ====
abbrev S32768x2048 : Shape := ⟨2, ![32768, 2048]⟩
abbrev S1x2048 : Shape := ⟨2, ![1, 2048]⟩
abbrev S2048x6144 : Shape := ⟨2, ![2048, 6144]⟩
abbrev S2048x128 : Shape := ⟨2, ![2048, 128]⟩
abbrev S1024x128 : Shape := ⟨2, ![1024, 128]⟩
abbrev S_ : Shape := ⟨0, ![]⟩
abbrev S32768 : Shape := ⟨1, ![32768]⟩
abbrev S32768x1 : Shape := ⟨2, ![32768, 1]⟩
abbrev S32768x6144 : Shape := ⟨2, ![32768, 6144]⟩
abbrev S32768x1024 : Shape := ⟨2, ![32768, 1024]⟩
abbrev S32768x4096 : Shape := ⟨2, ![32768, 4096]⟩
abbrev S32768x5120 : Shape := ⟨2, ![32768, 5120]⟩
abbrev S32768x128 : Shape := ⟨2, ![32768, 128]⟩

abbrev nBuf : Space → Nat
  | .hbm => 57
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x6144, .bf16⟩
  | .hbm, ⟨3, _⟩ => ⟨S2048x128, .bf16⟩
  | .hbm, ⟨4, _⟩ => ⟨S1024x128, .bf16⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .bf16⟩
  | .hbm, ⟨21, _⟩ => ⟨S32768x2048, .f32⟩
  | .hbm, ⟨22, _⟩ => ⟨S2048x6144, .f32⟩
  | .hbm, ⟨23, _⟩ => ⟨S32768x6144, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x1024, .bf16⟩
  | .hbm, ⟨29, _⟩ => ⟨S32768x4096, .f32⟩
  | .hbm, ⟨30, _⟩ => ⟨S32768x4096, .bf16⟩
  | .hbm, ⟨31, _⟩ => ⟨S32768x5120, .bf16⟩
  | .hbm, ⟨32, _⟩ => ⟨S32768x1024, .f32⟩
  | .hbm, ⟨33, _⟩ => ⟨S2048x128, .f32⟩
  | .hbm, ⟨34, _⟩ => ⟨S32768x128, .f32⟩
  | .hbm, ⟨35, _⟩ => ⟨S32768x1024, .bf16⟩
  | .hbm, ⟨36, _⟩ => ⟨S32768x1024, .f32⟩
  | .hbm, ⟨37, _⟩ => ⟨S32768x1024, .f32⟩
  | .hbm, ⟨38, _⟩ => ⟨S32768x1024, .bf16⟩
  | .hbm, ⟨39, _⟩ => ⟨S32768x1024, .f32⟩
  | .hbm, ⟨40, _⟩ => ⟨S1024x128, .f32⟩
  | .hbm, ⟨41, _⟩ => ⟨S32768x128, .f32⟩
  | .hbm, ⟨42, _⟩ => ⟨S32768x128, .f32⟩
  | .hbm, ⟨43, _⟩ => ⟨S_, .f32⟩
  | .hbm, ⟨44, _⟩ => ⟨S32768x128, .f32⟩
  | .hbm, ⟨45, _⟩ => ⟨S32768x128, .f32⟩
  | .hbm, ⟨46, _⟩ => ⟨S32768x1024, .bf16⟩
  | .hbm, ⟨47, _⟩ => ⟨S32768x1024, .f32⟩
  | .hbm, ⟨48, _⟩ => ⟨S32768x1024, .f32⟩
  | .hbm, ⟨49, _⟩ => ⟨S32768x1024, .bf16⟩
  | .hbm, ⟨50, _⟩ => ⟨S32768x1024, .f32⟩
  | .hbm, ⟨51, _⟩ => ⟨S1024x128, .f32⟩
  | .hbm, ⟨52, _⟩ => ⟨S32768x128, .f32⟩
  | .hbm, ⟨53, _⟩ => ⟨S32768x128, .f32⟩
  | .hbm, ⟨54, _⟩ => ⟨S_, .f32⟩
  | .hbm, ⟨55, _⟩ => ⟨S32768x128, .f32⟩
  | .hbm, ⟨56, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== OutProj.lean ====
abbrev S32768x1024 : Shape := ⟨2, ![32768, 1024]⟩
abbrev S32768x2048 : Shape := ⟨2, ![32768, 2048]⟩
abbrev S1024x2048 : Shape := ⟨2, ![1024, 2048]⟩
abbrev S1x2048 : Shape := ⟨2, ![1, 2048]⟩
abbrev S2048x32768 : Shape := ⟨2, ![2048, 32768]⟩
abbrev S512x1024 : Shape := ⟨2, ![512, 1024]⟩
abbrev S512x2048 : Shape := ⟨2, ![512, 2048]⟩
abbrev S2048x512 : Shape := ⟨2, ![2048, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S2048x256 : Shape := ⟨2, ![2048, 256]⟩

abbrev nBuf : Space → Nat
  | .hbm => 8
  | .vmem => 13
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .f32⟩
  | .hbm, ⟨3, _⟩ => ⟨S1024x2048, .bf16⟩
  | .hbm, ⟨4, _⟩ => ⟨S1024x2048, .bf16⟩
  | .hbm, ⟨5, _⟩ => ⟨S1x2048, .f32⟩
  | .hbm, ⟨6, _⟩ => ⟨S32768x2048, .f32⟩
  | .hbm, ⟨7, _⟩ => ⟨S2048x32768, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S2048x512, .bf16⟩
  | .local _ .vmem, ⟨12, _⟩ => ⟨S2048x512, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjReferenceIdeal.lean ====
abbrev S32768x1024 : Shape := ⟨2, ![32768, 1024]⟩
abbrev S32768x2048 : Shape := ⟨2, ![32768, 2048]⟩
abbrev S1024x2048 : Shape := ⟨2, ![1024, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S2048x32768 : Shape := ⟨2, ![2048, 32768]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .f32⟩
  | .hbm, ⟨3, _⟩ => ⟨S1024x2048, .bf16⟩
  | .hbm, ⟨4, _⟩ => ⟨S1024x2048, .bf16⟩
  | .hbm, ⟨5, _⟩ => ⟨S1x2048, .f32⟩
  | .hbm, ⟨6, _⟩ => ⟨S32768x1024, .f32⟩
  | .hbm, ⟨7, _⟩ => ⟨S1024x2048, .f32⟩
  | .hbm, ⟨8, _⟩ => ⟨S32768x2048, .f32⟩
  | .hbm, ⟨9, _⟩ => ⟨S32768x1024, .f32⟩
  | .hbm, ⟨10, _⟩ => ⟨S1024x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S2048x32768, .f32⟩
  | .hbm, ⟨30, _⟩ => ⟨S2048x32768, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Experts.lean ====
abbrev S16384x2048 : Shape := ⟨2, ![16384, 2048]⟩
abbrev S2048x16384 : Shape := ⟨2, ![2048, 16384]⟩
abbrev S2048x32768 : Shape := ⟨2, ![2048, 32768]⟩
abbrev S8x128x32768 : Shape := ⟨3, ![8, 128, 32768]⟩
abbrev S32768x2048 : Shape := ⟨2, ![32768, 2048]⟩
abbrev S1x2048 : Shape := ⟨2, ![1, 2048]⟩
abbrev S1024x2048 : Shape := ⟨2, ![1024, 2048]⟩
abbrev S2048x1024 : Shape := ⟨2, ![2048, 1024]⟩
abbrev S2048x512 : Shape := ⟨2, ![2048, 512]⟩
abbrev S8x128x512 : Shape := ⟨3, ![8, 128, 512]⟩
abbrev S8x8x512 : Shape := ⟨3, ![8, 8, 512]⟩
abbrev S512x2048 : Shape := ⟨2, ![512, 2048]⟩
abbrev S1024x512 : Shape := ⟨2, ![1024, 512]⟩
abbrev S128x512 : Shape := ⟨2, ![128, 512]⟩
abbrev S1x1x512 : Shape := ⟨3, ![1, 1, 512]⟩
abbrev S1x512 : Shape := ⟨2, ![1, 512]⟩
abbrev S16x512 : Shape := ⟨2, ![16, 512]⟩
abbrev S1x16x512 : Shape := ⟨3, ![1, 16, 512]⟩
abbrev S8x16x512 : Shape := ⟨3, ![8, 16, 512]⟩
abbrev S1x128x512 : Shape := ⟨3, ![1, 128, 512]⟩
abbrev S512 : Shape := ⟨1, ![512]⟩
abbrev S512x1 : Shape := ⟨2, ![512, 1]⟩

abbrev nBuf : Space → Nat
  | .hbm => 10
  | .vmem => 22
  | .smem => 0
  | _ => 0

abbrev bufTy : (tb : Table) → Fin (tcTables nBuf tb) → BufTy
  | .hbm, ⟨0, _⟩ => ⟨S16384x2048, .bf16⟩
  | .hbm, ⟨1, _⟩ => ⟨S2048x16384, .bf16⟩
  | .hbm, ⟨2, _⟩ => ⟨S2048x32768, .bf16⟩
  | .hbm, ⟨3, _⟩ => ⟨S8x128x32768, .bf16⟩
  | .hbm, ⟨4, _⟩ => ⟨S8x128x32768, .bf16⟩
  | .hbm, ⟨5, _⟩ => ⟨S8x128x32768, .f32⟩
  | .hbm, ⟨6, _⟩ => ⟨S8x128x32768, .f32⟩
  | .hbm, ⟨7, _⟩ => ⟨S32768x2048, .f32⟩
  | .hbm, ⟨8, _⟩ => ⟨S1x2048, .f32⟩
  | .hbm, ⟨9, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .bf16⟩
  | .local _ .vmem, ⟨9, _⟩ => ⟨S8x128x512, .bf16⟩
  | .local _ .vmem, ⟨10, _⟩ => ⟨S8x8x512, .f32⟩
  | .local _ .vmem, ⟨11, _⟩ => ⟨S8x8x512, .f32⟩
  | .local _ .vmem, ⟨12, _⟩ => ⟨S8x8x512, .f32⟩
  | .local _ .vmem, ⟨13, _⟩ => ⟨S8x8x512, .f32⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S2048x512, .f32⟩
  | .local _ .vmem, ⟨20, _⟩ => ⟨S1024x512, .f32⟩
  | .local _ .vmem, ⟨21, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![64, 17], ![false, false]⟩

def k0_cond4 (i : grid0.Coords) : BitVec 1 :=
  let arg1 : BitVec 32 := BitVec.ofNat 32 (i 1).val
  let c16_i32_18 : BitVec 32 := 16#32
  let v37 : BitVec 1 := Scalar.cmpi .eq arg1 c16_i32_18
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat, arg0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ExpertsReferenceIdeal.lean ====
abbrev S16384x2048 : Shape := ⟨2, ![16384, 2048]⟩
abbrev S2048x16384 : Shape := ⟨2, ![2048, 16384]⟩
abbrev S2048x32768 : Shape := ⟨2, ![2048, 32768]⟩
abbrev S8x128x32768 : Shape := ⟨3, ![8, 128, 32768]⟩
abbrev S32768x2048 : Shape := ⟨2, ![32768, 2048]⟩
abbrev S1x2048 : Shape := ⟨2, ![1, 2048]⟩
abbrev S16384x32768 : Shape := ⟨2, ![16384, 32768]⟩
abbrev S_ : Shape := ⟨0, ![]⟩
abbrev S8x1x128x32768 : Shape := ⟨4, ![8, 1, 128, 32768]⟩
abbrev S8x128x1x32768 : Shape := ⟨4, ![8, 128, 1, 32768]⟩
abbrev S8x128x128x32768 : Shape := ⟨4, ![8, 128, 128, 32768]⟩
abbrev S128x128x32768 : Shape := ⟨3, ![128, 128, 32768]⟩
abbrev S32768 : Shape := ⟨1, ![32768]⟩
abbrev S32768x1 : Shape := ⟨2, ![32768, 1]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x16384, .bf16⟩
  | .hbm, ⟨2, _⟩ => ⟨S2048x32768, .bf16⟩
  | .hbm, ⟨3, _⟩ => ⟨S8x128x32768, .bf16⟩
  | .hbm, ⟨4, _⟩ => ⟨S8x128x32768, .bf16⟩
  | .hbm, ⟨5, _⟩ => ⟨S8x128x32768, .f32⟩
  | .hbm, ⟨6, _⟩ => ⟨S8x128x32768, .f32⟩
  | .hbm, ⟨7, _⟩ => ⟨S32768x2048, .f32⟩
  | .hbm, ⟨8, _⟩ => ⟨S1x2048, .f32⟩
  | .hbm, ⟨9, _⟩ => ⟨S16384x2048, .f32⟩
  | .hbm, ⟨10, _⟩ => ⟨S2048x32768, .f32⟩
  | .hbm, ⟨11, _⟩ => ⟨S16384x32768, .f32⟩
  | .hbm, ⟨12, _⟩ => ⟨S_, .f32⟩
  | .hbm, ⟨13, _⟩ => ⟨S16384x32768, .f32⟩
  | .hbm, ⟨14, _⟩ => ⟨S16384x32768, .f32⟩
  | .hbm, ⟨15, _⟩ => ⟨S16384x32768, .f32⟩
  | .hbm, ⟨16, _⟩ => ⟨S_, .f32⟩
  | .hbm, ⟨17, _⟩ => ⟨S16384x32768, .f32⟩
  | .hbm, ⟨18, _⟩ => ⟨S16384x32768, .f32⟩
  | .hbm, ⟨19, _⟩ => ⟨S16384x32768, .f32⟩
  | .hbm, ⟨20, _⟩ => ⟨S8x128x32768, .f32⟩
  | .hbm, ⟨21, _⟩ => ⟨S8x1x128x32768, .f32⟩
  | .hbm, ⟨22, _⟩ => ⟨S8x128x1x32768, .f32⟩
  | .hbm, ⟨23, _⟩ => ⟨S8x128x128x32768, .f32⟩
  | .hbm, ⟨24, _⟩ => ⟨S8x128x128x32768, .f32⟩
  | .hbm, ⟨25, _⟩ => ⟨S8x128x128x32768, .i1⟩
  | .hbm, ⟨26, _⟩ => ⟨S8x128x32768, .f32⟩
  | .hbm, ⟨27, _⟩ => ⟨S8x1x128x32768, .f32⟩
  | .hbm, ⟨28, _⟩ => ⟨S8x128x1x32768, .f32⟩
  | .hbm, ⟨29, _⟩ => ⟨S8x128x128x32768, .f32⟩
  | .hbm, ⟨30, _⟩ => ⟨S8x128x128x32768, .f32⟩
  | .hbm, ⟨31, _⟩ => ⟨S8x128x128x32768, .f32⟩
  | .hbm, ⟨32, _⟩ => ⟨S_, .f32⟩
  | .hbm, ⟨33, _⟩ => ⟨S_, .f32⟩
  | .hbm, ⟨34, _⟩ => ⟨S8x128x128x32768, .f32⟩
  | .hbm, ⟨35, _⟩ => ⟨S8x128x128x32768, .f32⟩
  | .hbm, ⟨36, _⟩ => ⟨S_, .f32⟩
  | .hbm, ⟨37, _⟩ => ⟨S128x128x32768, .f32⟩
  | .hbm, ⟨38, _⟩ => ⟨S16384x32768, .f32⟩
  | .hbm, ⟨39, _⟩ => ⟨S16384x32768, .f32⟩
  | .hbm, ⟨40, _⟩ => ⟨S16384x32768, .bf16⟩
  | .hbm, ⟨41, _⟩ => ⟨S2048x16384, .f32⟩
  | .hbm, ⟨42, _⟩ => ⟨S16384x32768, .f32⟩
  | .hbm, ⟨43, _⟩ => ⟨S2048x32768, .f32⟩
  | .hbm, ⟨44, _⟩ => ⟨S32768x2048, .f32⟩
  | .hbm, ⟨45, _⟩ => ⟨S32768x2048, .f32⟩
  | .hbm, ⟨46, _⟩ => ⟨S32768x2048, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x2048, .f32⟩
  | .hbm, ⟨58, _⟩ => ⟨S32768x2048, .f32⟩
  | .hbm, ⟨59, _⟩ => ⟨S32768x2048, .f32⟩
  | .hbm, ⟨60, _⟩ => ⟨S32768x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Cell.lean ====
abbrev S32768x1024 : Shape := ⟨2, ![32768, 1024]⟩
abbrev S32768x5120 : Shape := ⟨2, ![32768, 5120]⟩
abbrev S32768x128 : Shape := ⟨2, ![32768, 128]⟩
abbrev S16x32768 : Shape := ⟨2, ![16, 32768]⟩
abbrev S4x1024 : Shape := ⟨2, ![4, 1024]⟩
abbrev S1x1024 : Shape := ⟨2, ![1, 1024]⟩
abbrev S128x1024 : Shape := ⟨2, ![128, 1024]⟩
abbrev S8x1024 : Shape := ⟨2, ![8, 1024]⟩
abbrev S128x128 : Shape := ⟨2, ![128, 128]⟩
abbrev S16x128 : Shape := ⟨2, ![16, 128]⟩
abbrev S136x1024 : Shape := ⟨2, ![136, 1024]⟩
abbrev S4x128x256 : Shape := ⟨3, ![4, 128, 256]⟩
abbrev S4x1x128 : Shape := ⟨3, ![4, 1, 128]⟩
abbrev S128x256 : Shape := ⟨2, ![128, 256]⟩
abbrev S128x1 : Shape := ⟨2, ![128, 1]⟩
abbrev S1x128 : Shape := ⟨2, ![1, 128]⟩
abbrev S1x1 : Shape := ⟨2, ![1, 1]⟩
abbrev S1x128x256 : Shape := ⟨3, ![1, 128, 256]⟩
abbrev S1x1x128 : Shape := ⟨3, ![1, 1, 128]⟩
abbrev S1 : Shape := ⟨1, ![1]⟩
abbrev S128 : Shape := ⟨1, ![128]⟩
abbrev S1x256 : Shape := ⟨2, ![1, 256]⟩

abbrev nBuf : Space → Nat
  | .hbm => 8
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x5120, .bf16⟩
  | .hbm, ⟨2, _⟩ => ⟨S32768x128, .f32⟩
  | .hbm, ⟨3, _⟩ => ⟨S16x32768, .f32⟩
  | .hbm, ⟨4, _⟩ => ⟨S4x1024, .f32⟩
  | .hbm, ⟨5, _⟩ => ⟨S1x1024, .f32⟩
  | .hbm, ⟨6, _⟩ => ⟨S1x1024, .f32⟩
  | .hbm, ⟨7, _⟩ => ⟨S32768x1024, .bf16⟩
  | .local _ .vmem, ⟨0, _⟩ => ⟨S128x1024, .f32⟩
  | .local _ .vmem, ⟨1, _⟩ => ⟨S128x1024, .f32⟩
  | .local _ .vmem, ⟨2, _⟩ => ⟨S8x1024, .f32⟩
  | .local _ .vmem, ⟨3, _⟩ => ⟨S8x1024, .f32⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x128, .f32⟩
  | .local _ .vmem, ⟨9, _⟩ => ⟨S128x128, .f32⟩
  | .local _ .vmem, ⟨10, _⟩ => ⟨S16x128, .f32⟩
  | .local _ .vmem, ⟨11, _⟩ => ⟨S16x128, .f32⟩
  | .local _ .vmem, ⟨12, _⟩ => ⟨S4x1024, .f32⟩
  | .local _ .vmem, ⟨13, _⟩ => ⟨S1x1024, .f32⟩
  | .local _ .vmem, ⟨14, _⟩ => ⟨S1x1024, .f32⟩
  | .local _ .vmem, ⟨15, _⟩ => ⟨S128x1024, .bf16⟩
  | .local _ .vmem, ⟨16, _⟩ => ⟨S128x1024, .bf16⟩
  | .local _ .vmem, ⟨17, _⟩ => ⟨S136x1024, .f32⟩
  | .local _ .vmem, ⟨18, _⟩ => ⟨S4x128x256, .f32⟩
  | .local _ .vmem, ⟨19, _⟩ => ⟨S4x1x128, .f32⟩
  | .local _ .vmem, ⟨20, _⟩ => ⟨S4x1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== CellReferenceIdeal.lean ====
abbrev S32768x1024 : Shape := ⟨2, ![32768, 1024]⟩
abbrev S32768x5120 : Shape := ⟨2, ![32768, 5120]⟩
abbrev S32768x128 : Shape := ⟨2, ![32768, 128]⟩
abbrev S16x32768 : Shape := ⟨2, ![16, 32768]⟩
abbrev S4x1024 : Shape := ⟨2, ![4, 1024]⟩
abbrev S1x1024 : Shape := ⟨2, ![1, 1024]⟩
abbrev S2x16384x1024 : Shape := ⟨3, ![2, 16384, 1024]⟩
abbrev S_ : Shape := ⟨0, ![]⟩
abbrev S2x16387x1024 : Shape := ⟨3, ![2, 16387, 1024]⟩
abbrev S1024 : Shape := ⟨1, ![1024]⟩
abbrev S1x1x1024 : Shape := ⟨3, ![1, 1, 1024]⟩
abbrev S2x128x128x2x4x128 : Shape := ⟨6, ![2, 128, 128, 2, 4, 128]⟩
abbrev S2x128x2x4x128x128 : Shape := ⟨6, ![2, 128, 2, 4, 128, 128]⟩
abbrev S2x128x128x4x256 : Shape := ⟨5, ![2, 128, 128, 4, 256]⟩
abbrev S128x2x4x128x256 : Shape := ⟨5, ![128, 2, 4, 128, 256]⟩
abbrev S32768x8 : Shape := ⟨2, ![32768, 8]⟩
abbrev S2x128x128x2x4 : Shape := ⟨5, ![2, 128, 128, 2, 4]⟩
abbrev S2x128x2x4x128 : Shape := ⟨5, ![2, 128, 2, 4, 128]⟩
abbrev S8x32768 : Shape := ⟨2, ![8, 32768]⟩
abbrev S2x4x2x128x128 : Shape := ⟨5, ![2, 4, 2, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x4x128x256 : Shape := ⟨4, ![2, 4, 128, 256]⟩
abbrev S2x4x128 : Shape := ⟨3, ![2, 4, 128]⟩
abbrev S2x4x1 : Shape := ⟨3, ![2, 4, 1]⟩
abbrev S1x128x2x4x128x128 : Shape := ⟨6, ![1, 128, 2, 4, 128, 128]⟩
abbrev S128x2x4x128x128 : Shape := ⟨5, ![128, 2, 4, 128, 128]⟩
abbrev S1x128x2x4x128 : Shape := ⟨5, ![1, 128, 2, 4, 128]⟩
abbrev S128x2x4x128 : Shape := ⟨4, ![128, 2, 4, 128]⟩
abbrev S1 : Shape := ⟨1, ![1]⟩
abbrev S1x2x4x128x128 : Shape := ⟨5, ![1, 2, 4, 128, 128]⟩
abbrev S2x4x128x128 : Shape := ⟨4, ![2, 4, 128, 128]⟩
abbrev S1x2x4x128x256 : Shape := ⟨5, ![1, 2, 4, 128, 256]⟩
abbrev S1x2x4x128 : Shape := ⟨4, ![1, 2, 4, 128]⟩
abbrev S2x4 : Shape := ⟨2, ![2, 4]⟩
abbrev S2x4x128x1 : Shape := ⟨4, ![2, 4, 128, 1]⟩
abbrev S2x4x1x128 : Shape := ⟨4, ![2, 4, 1, 128]⟩
abbrev S2x4x1x1 : Shape := ⟨4, ![2, 4, 1, 1]⟩
abbrev S128x1x1x1x1 : Shape := ⟨5, ![128, 1, 1, 1, 1]⟩
abbrev S32768x4x256 : Shape := ⟨3, ![32768, 4, 256]⟩
abbrev S32768x4 : Shape := ⟨2, ![32768, 4]⟩
abbrev S32768x4x1 : Shape := ⟨3, ![32768, 4, 1]⟩

abbrev nBuf : Space → Nat
  | .hbm => 276
  | .vmem => 0
  | .smem => 0
  | _ => 0

abbrev hbmTy0_0 (i : Nat) : BufTy := match i % 128 with
  | 0 => ⟨S32768x1024, .f32⟩
  | 1 => ⟨S32768x5120, .bf16⟩
  | 2 => ⟨S32768x128, .f32⟩
  | 3 => ⟨S16x32768, .f32⟩
  | 4 => ⟨S4x1024, .f32⟩
  | 5 => ⟨S1x1024, .f32⟩
  | 6 => ⟨S1x1024, .f32⟩
  | 7 => ⟨S2x16384x1024, .f32⟩
  | 8 => ⟨S_, .i32⟩
  | 9 => ⟨S_, .f32⟩
  | 10 => ⟨S2x16387x1024, .f32⟩
  | 11 => ⟨S1x1024, .f32⟩
  | 12 => ⟨S1024, .f32⟩
  | 13 => ⟨S2x16384x1024, .f32⟩
  | 14 => ⟨S1x1x1024, .f32⟩
  | 15 => ⟨S2x16384x1024, .f32⟩
  | 16 => ⟨S2x16384x1024, .f32⟩
  | 17 => ⟨S1x1x1024, .f32⟩
  | 18 => ⟨S2x16384x1024, .f32⟩
  | 19 => ⟨S2x16384x1024, .f32⟩
  | 20 => ⟨S1x1024, .f32⟩
  | 21 => ⟨S1024, .f32⟩
  | 22 => ⟨S2x16384x1024, .f32⟩
  | 23 => ⟨S1x1x1024, .f32⟩
  | 24 => ⟨S2x16384x1024, .f32⟩
  | 25 => ⟨S2x16384x1024, .f32⟩
  | 26 => ⟨S2x16384x1024, .f32⟩
  | 27 => ⟨S1x1024, .f32⟩
  | 28 => ⟨S1024, .f32⟩
  | 29 => ⟨S2x16384x1024, .f32⟩
  | 30 => ⟨S1x1x1024, .f32⟩
  | 31 => ⟨S2x16384x1024, .f32⟩
  | 32 => ⟨S2x16384x1024, .f32⟩
  | 33 => ⟨S2x16384x1024, .f32⟩
  | 34 => ⟨S1x1024, .f32⟩
  | 35 => ⟨S1024, .f32⟩
  | 36 => ⟨S2x16384x1024, .f32⟩
  | 37 => ⟨S1x1x1024, .f32⟩
  | 38 => ⟨S2x16384x1024, .f32⟩
  | 39 => ⟨S2x16384x1024, .f32⟩
  | 40 => ⟨S2x16384x1024, .f32⟩
  | 41 => ⟨S2x16384x1024, .f32⟩
  | 42 => ⟨S2x16384x1024, .f32⟩
  | 43 => ⟨S_, .f32⟩
  | 44 => ⟨S2x16384x1024, .f32⟩
  | 45 => ⟨S2x16384x1024, .f32⟩
  | 46 => ⟨S_, .f32⟩
  | 47 => ⟨S2x16384x1024, .f32⟩
  | 48 => ⟨S2x16384x1024, .f32⟩
  | 49 => ⟨S2x16384x1024, .f32⟩
  | 50 => ⟨S2x128x128x2x4x128, .f32⟩
  | 51 => ⟨S2x128x2x4x128x128, .f32⟩
  | 52 => ⟨S32768x1024, .bf16⟩
  | 53 => ⟨S2x128x128x4x256, .bf16⟩
  | 54 => ⟨S128x2x4x128x256, .bf16⟩
  | 55 => ⟨S128x2x4x128x256, .f32⟩
  | 56 => ⟨S32768x8, .f32⟩
  | 57 => ⟨S2x128x128x2x4, .f32⟩
  | 58 => ⟨S2x128x2x4x128, .f32⟩
  | 59 => ⟨S8x32768, .f32⟩
  | 60 => ⟨S2x4x2x128x128, .f32⟩
  | 61 => ⟨S2x128x2x4x128, .f32⟩
  | 62 => ⟨S128, .i32⟩
  | 63 => ⟨S128x1, .i32⟩
  | 64 => ⟨S128, .i32⟩
  | 65 => ⟨S1x128, .i32⟩
  | 66 => ⟨S128x128, .i32⟩
  | 67 => ⟨S128x128, .i32⟩
  | 68 => ⟨S128x128, .i1⟩
  | 69 => ⟨S_, .f32⟩
  | 70 => ⟨S2x4x128x256, .f32⟩
  | 71 => ⟨S_, .f32⟩
  | 72 => ⟨S2x4x128, .f32⟩
  | 73 => ⟨S_, .f32⟩
  | 74 => ⟨S2x4x1, .f32⟩
  | 75 => ⟨S_, .f32⟩
  | 76 => ⟨S128x2x4x128x256, .f32⟩
  | 77 => ⟨S128, .i32⟩
  | 78 => ⟨S1x128x2x4x128x128, .f32⟩
  | 79 => ⟨S128x2x4x128x128, .f32⟩
  | 80 => ⟨S1x128x2x4x128x128, .f32⟩
  | 81 => ⟨S128x2x4x128x128, .f32⟩
  | 82 => ⟨S_, .f32⟩
  | 83 => ⟨S128x2x4x128x128, .f32⟩
  | 84 => ⟨S128x2x4x128x128, .f32⟩
  | 85 => ⟨S1x128x2x4x128, .f32⟩
  | 86 => ⟨S128x2x4x128, .f32⟩
  | 87 => ⟨S1x128x2x4x128, .f32⟩
  | 88 => ⟨S128x2x4x128, .f32⟩
  | 89 => ⟨S1x128x2x4x128, .f32⟩
  | 90 => ⟨S128x2x4x128, .f32⟩
  | 91 => ⟨S1x128x2x4x128, .f32⟩
  | 92 => ⟨S128x2x4x128, .f32⟩
  | 93 => ⟨S_, .i32⟩
  | 94 => ⟨S128, .i32⟩
  | 95 => ⟨S128x2x4x128x128, .f32⟩
  | 96 => ⟨S128x2x4x128x128, .f32⟩
  | 97 => ⟨S128x2x4x128x256, .f32⟩
  | 98 => ⟨S128x2x4x128, .f32⟩
  | 99 => ⟨S128x2x4x128, .f32⟩
  | 100 => ⟨S128x2x4x128, .f32⟩
  | 101 => ⟨S128x2x4x128, .f32⟩
  | 102 => ⟨S128x128, .i1⟩
  | 103 => ⟨S_, .i32⟩
  | 104 => ⟨S2x4x128x256, .f32⟩
  | 105 => ⟨S2x4x128, .f32⟩
  | 106 => ⟨S2x4x1, .f32⟩
  | 107 => ⟨S128x2x4x128x256, .f32⟩
  | 108 => ⟨S_, .i32⟩
  | 109 => ⟨S_, .i1⟩
  | 110 => ⟨S1, .i32⟩
  | 111 => ⟨S_, .i32⟩
  | 112 => ⟨S_, .i32⟩
  | 113 => ⟨S_, .i32⟩
  | 114 => ⟨S_, .i32⟩
  | 115 => ⟨S_, .i32⟩
  | 116 => ⟨S1x2x4x128x128, .f32⟩
  | 117 => ⟨S2x4x128x128, .f32⟩
  | 118 => ⟨S_, .i32⟩
  | 119 => ⟨S_, .i32⟩
  | 120 => ⟨S_, .i32⟩
  | 121 => ⟨S_, .i32⟩
  | 122 => ⟨S1x2x4x128x128, .f32⟩
  | 123 => ⟨S2x4x128x128, .f32⟩
  | 124 => ⟨S_, .i32⟩
  | 125 => ⟨S_, .i32⟩
  | 126 => ⟨S_, .i32⟩
  | 127 => ⟨S_, .i32⟩
  | _ => ⟨S32768x1024, .f32⟩

abbrev hbmTy0_1 (i : Nat) : BufTy := match i % 128 with
  | 0 => ⟨S1x2x4x128x256, .f32⟩
  | 1 => ⟨S2x4x128x256, .f32⟩
  | 2 => ⟨S_, .i32⟩
  | 3 => ⟨S_, .i32⟩
  | 4 => ⟨S_, .i32⟩
  | 5 => ⟨S1x2x4x128, .f32⟩
  | 6 => ⟨S2x4x128, .f32⟩
  | 7 => ⟨S_, .i32⟩
  | 8 => ⟨S_, .i32⟩
  | 9 => ⟨S_, .i32⟩
  | 10 => ⟨S1x2x4x128, .f32⟩
  | 11 => ⟨S2x4x128, .f32⟩
  | 12 => ⟨S_, .i32⟩
  | 13 => ⟨S_, .i32⟩
  | 14 => ⟨S_, .i32⟩
  | 15 => ⟨S1x2x4x128, .f32⟩
  | 16 => ⟨S2x4x128, .f32⟩
  | 17 => ⟨S_, .i32⟩
  | 18 => ⟨S_, .i32⟩
  | 19 => ⟨S_, .i32⟩
  | 20 => ⟨S1x2x4x128, .f32⟩
  | 21 => ⟨S2x4x128, .f32⟩
  | 22 => ⟨S2x4x1, .f32⟩
  | 23 => ⟨S2x4x128, .f32⟩
  | 24 => ⟨S2x4x128, .f32⟩
  | 25 => ⟨S2x4x128, .f32⟩
  | 26 => ⟨S_, .f32⟩
  | 27 => ⟨S2x4, .f32⟩
  | 28 => ⟨S2x4x1, .f32⟩
  | 29 => ⟨S2x4x128, .f32⟩
  | 30 => ⟨S2x4x128, .f32⟩
  | 31 => ⟨S2x4x128, .f32⟩
  | 32 => ⟨S2x4x128, .f32⟩
  | 33 => ⟨S2x4x128, .f32⟩
  | 34 => ⟨S2x4x128, .f32⟩
  | 35 => ⟨S2x4x128x1, .f32⟩
  | 36 => ⟨S2x4x128x128, .f32⟩
  | 37 => ⟨S2x4x128x128, .f32⟩
  | 38 => ⟨S2x4x128, .f32⟩
  | 39 => ⟨S2x4x128, .f32⟩
  | 40 => ⟨S2x4x128x1, .f32⟩
  | 41 => ⟨S2x4x1x128, .f32⟩
  | 42 => ⟨S2x4x128x128, .f32⟩
  | 43 => ⟨S2x4x128x128, .f32⟩
  | 44 => ⟨S2x4x128x128, .f32⟩
  | 45 => ⟨S2x4x1x128, .f32⟩
  | 46 => ⟨S2x4x128x128, .f32⟩
  | 47 => ⟨S2x4x128x128, .f32⟩
  | 48 => ⟨S_, .f32⟩
  | 49 => ⟨S_, .f32⟩
  | 50 => ⟨S2x4x128x128, .i1⟩
  | 51 => ⟨S2x4x128x128, .f32⟩
  | 52 => ⟨S2x4x128x128, .f32⟩
  | 53 => ⟨S_, .f32⟩
  | 54 => ⟨S2x4x128, .f32⟩
  | 55 => ⟨S2x4x128, .f32⟩
  | 56 => ⟨S2x4x128x128, .f32⟩
  | 57 => ⟨S2x4x128x1, .f32⟩
  | 58 => ⟨S2x4x128x128, .f32⟩
  | 59 => ⟨S2x4x128x128, .f32⟩
  | 60 => ⟨S2x4x128x128, .f32⟩
  | 61 => ⟨S2x4x128x128, .f32⟩
  | 62 => ⟨S2x4x128, .f32⟩
  | 63 => ⟨S2x4x128, .f32⟩
  | 64 => ⟨S2x4x128x256, .f32⟩
  | 65 => ⟨S2x4x128x1, .f32⟩
  | 66 => ⟨S2x4x128x256, .f32⟩
  | 67 => ⟨S2x4x128x256, .f32⟩
  | 68 => ⟨S2x4x128x256, .f32⟩
  | 69 => ⟨S2x4x128x256, .f32⟩
  | 70 => ⟨S_, .f32⟩
  | 71 => ⟨S2x4x128, .f32⟩
  | 72 => ⟨S2x4x1x128, .f32⟩
  | 73 => ⟨S2x4x128x128, .f32⟩
  | 74 => ⟨S2x4x128x128, .f32⟩
  | 75 => ⟨S_, .f32⟩
  | 76 => ⟨S2x4x128, .f32⟩
  | 77 => ⟨S2x4x128, .f32⟩
  | 78 => ⟨S2x4x128, .f32⟩
  | 79 => ⟨S2x4x128, .f32⟩
  | 80 => ⟨S2x4x128, .f32⟩
  | 81 => ⟨S2x4x128, .f32⟩
  | 82 => ⟨S2x4x128, .f32⟩
  | 83 => ⟨S2x4x128x1, .f32⟩
  | 84 => ⟨S2x4x128x256, .f32⟩
  | 85 => ⟨S2x4x128x256, .f32⟩
  | 86 => ⟨S2x4x1, .f32⟩
  | 87 => ⟨S2x4x1, .f32⟩
  | 88 => ⟨S2x4x1, .f32⟩
  | 89 => ⟨S2x4x1, .f32⟩
  | 90 => ⟨S2x4x1, .f32⟩
  | 91 => ⟨S2x4x1, .f32⟩
  | 92 => ⟨S2x4x1, .f32⟩
  | 93 => ⟨S2x4x1x1, .f32⟩
  | 94 => ⟨S2x4x128x256, .f32⟩
  | 95 => ⟨S2x4x128x256, .f32⟩
  | 96 => ⟨S2x4x1x1, .f32⟩
  | 97 => ⟨S2x4x128x256, .f32⟩
  | 98 => ⟨S2x4x128x256, .f32⟩
  | 99 => ⟨S2x4x128x256, .f32⟩
  | 100 => ⟨S2x4x128x256, .f32⟩
  | 101 => ⟨S2x4x128, .f32⟩
  | 102 => ⟨S2x4x128, .f32⟩
  | 103 => ⟨S_, .f32⟩
  | 104 => ⟨S2x4x128, .f32⟩
  | 105 => ⟨S2x4x128, .f32⟩
  | 106 => ⟨S2x4x128, .f32⟩
  | 107 => ⟨S2x4x128, .f32⟩
  | 108 => ⟨S128, .i32⟩
  | 109 => ⟨S128x1x1x1x1, .i32⟩
  | 110 => ⟨S128x1x1x1x1, .i32⟩
  | 111 => ⟨S128x1x1x1x1, .i1⟩
  | 112 => ⟨S128x2x4x128x256, .i1⟩
  | 113 => ⟨S128x2x4x128x256, .f32⟩
  | 114 => ⟨S128x2x4x128x256, .f32⟩
  | 115 => ⟨S_, .i32⟩
  | 116 => ⟨S_, .i32⟩
  | 117 => ⟨S32768x1024, .bf16⟩
  | 118 => ⟨S32768x1024, .f32⟩
  | 119 => ⟨S32768x4x256, .f32⟩
  | 120 => ⟨S32768x4x256, .f32⟩
  | 121 => ⟨S32768x4x256, .f32⟩
  | 122 => ⟨S_, .f32⟩
  | 123 => ⟨S32768x4x256, .f32⟩
  | 124 => ⟨S32768x4x256, .f32⟩
  | 125 => ⟨S_, .f32⟩
  | 126 => ⟨S32768x4x256, .f32⟩
  | 127 => ⟨S32768x4x256, .f32⟩
  | _ => ⟨S32768x1024, .f32⟩

abbrev hbmTy0_2 (i : Nat) : BufTy := match i % 128 with
  | 0 => ⟨S2x128x128x4x256, .f32⟩
  | 1 => ⟨S32768x4x256, .f32⟩
  | 2 => ⟨S32768x4x256, .f32⟩
  | 3 => ⟨S32768x4x256, .f32⟩
  | 4 => ⟨S_, .f32⟩
  | 5 => ⟨S32768x4, .f32⟩
  | 6 => ⟨S32768x4x1, .f32⟩
  | 7 => ⟨S_, .f32⟩
  | 8 => ⟨S32768x4x1, .f32⟩
  | 9 => ⟨S32768x4x1, .f32⟩
  | 10 => ⟨S_, .f32⟩
  | 11 => ⟨S32768x4x1, .f32⟩
  | 12 => ⟨S32768x4x1, .f32⟩
  | 13 => ⟨S32768x4x1, .f32⟩
  | 14 => ⟨S32768x4x256, .f32⟩
  | 15 => ⟨S32768x4x256, .f32⟩
  | 16 => ⟨S32768x1024, .f32⟩
  | 17 => ⟨S32768x1024, .f32⟩
  | 18 => ⟨S32768x1024, .f32⟩
  | 19 => ⟨S32768x1024, .bf16⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_v34 : Ref sig .tc := ⟨.hbm, 44, rfl⟩
abbrev main_v35 : Ref sig .tc := ⟨.hbm, 45, rfl⟩
abbrev main_cst_0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_1 : Ref sig .tc := ⟨.hbm, 69, rfl⟩
abbrev main_v58 : Ref sig .tc := ⟨.hbm, 70, rfl⟩
abbrev main_cst_2 : Ref sig .tc := ⟨.hbm, 71, rfl⟩
abbrev main_v59 : Ref sig .tc := ⟨.hbm, 72, rfl⟩
abbrev main_cst_3 : Ref sig .tc := ⟨.hbm, 73, rfl⟩
abbrev main_v60 : Ref sig .tc := ⟨.hbm, 74, rfl⟩
abbrev main_cst_4 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_5 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_c_6 : Ref sig .tc := ⟨.hbm, 93, rfl⟩
abbrev main_v77_0 : Ref sig .tc := ⟨.hbm, 94, rfl⟩
abbrev main_v77_1 : Ref sig .tc := ⟨.hbm, 95, rfl⟩
abbrev main_v77_2 : Ref sig .tc := ⟨.hbm, 96, rfl⟩
abbrev main_v77_3 : Ref sig .tc := ⟨.hbm, 97, rfl⟩
abbrev main_v77_4 : Ref sig .tc := ⟨.hbm, 98, rfl⟩
abbrev main_v77_5 : Ref sig .tc := ⟨.hbm, 99, rfl⟩
abbrev main_v77_6 : Ref sig .tc := ⟨.hbm, 100, rfl⟩
abbrev main_v77_7 : Ref sig .tc := ⟨.hbm, 101, rfl⟩
abbrev main_v77_8 : Ref sig .tc := ⟨.hbm, 102, rfl⟩
abbrev main_v77_9 : Ref sig .tc := ⟨.hbm, 103, rfl⟩
abbrev main_v77_10 : Ref sig .tc := ⟨.hbm, 104, rfl⟩
abbrev main_v77_11 : Ref sig .tc := ⟨.hbm, 105, rfl⟩
abbrev main_v77_12 : Ref sig .tc := ⟨.hbm, 106, rfl⟩
abbrev main_v77_13 : Ref sig .tc := ⟨.hbm, 107, rfl⟩
abbrev main_while0c_c_25 : Ref sig .tc := ⟨.hbm, 108, rfl⟩
abbrev main_while0c_v104 : Ref sig .tc := ⟨.hbm, 109, rfl⟩
abbrev main_while0b_call1_v0 : Ref sig .tc := ⟨.hbm, 110, rfl⟩
abbrev main_while0b_v104 : Ref sig .tc := ⟨.hbm, 111, rfl⟩
abbrev main_while0b_call2_c : Ref sig .tc := ⟨.hbm, 112, rfl⟩
abbrev main_while0b_call2_c_0 : Ref sig .tc := ⟨.hbm, 113, rfl⟩
abbrev main_while0b_call2_c_1 : Ref sig .tc := ⟨.hbm, 114, rfl⟩
abbrev main_while0b_call2_c_2 : Ref sig .tc := ⟨.hbm, 115, rfl⟩
abbrev main_while0b_call2_v0 : Ref sig .tc := ⟨.hbm, 116, rfl⟩
abbrev main_while0b_v105 : Ref sig .tc := ⟨.hbm, 117, rfl⟩
abbrev main_while0b_call3_c : Ref sig .tc := ⟨.hbm, 118, rfl⟩
abbrev main_while0b_call3_c_0 : Ref sig .tc := ⟨.hbm, 119, rfl⟩
abbrev main_while0b_call3_c_1 : Ref sig .tc := ⟨.hbm, 120, rfl⟩
abbrev main_while0b_call3_c_2 : Ref sig .tc := ⟨.hbm, 121, rfl⟩
abbrev main_while0b_call3_v0 : Ref sig .tc := ⟨.hbm, 122, rfl⟩
abbrev main_while0b_v106 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_c_1 : Ref sig .tc := ⟨.hbm, 126, rfl⟩
abbrev main_while0b_call4_c_2 : Ref sig .tc := ⟨.hbm, 127, rfl⟩
abbrev main_while0b_call4_v0 : Ref sig .tc := ⟨.hbm, 128, rfl⟩
abbrev main_while0b_v107 : Ref sig .tc := ⟨.hbm, 129, rfl⟩
abbrev main_while0b_call5_c : Ref sig .tc := ⟨.hbm, 130, rfl⟩
abbrev main_while0b_call5_c_0 : Ref sig .tc := ⟨.hbm, 131, rfl⟩
abbrev main_while0b_call5_c_1 : Ref sig .tc := ⟨.hbm, 132, rfl⟩
abbrev main_while0b_call5_v0 : Ref sig .tc := ⟨.hbm, 133, rfl⟩
abbrev main_while0b_v108 : Ref sig .tc := ⟨.hbm, 134, rfl⟩
abbrev main_while0b_call6_c : Ref sig .tc := ⟨.hbm, 135, rfl⟩
abbrev main_while0b_call6_c_0 : Ref sig .tc := ⟨.hbm, 136, rfl⟩
abbrev main_while0b_call6_c_1 : Ref sig .tc := ⟨.hbm, 137, rfl⟩
abbrev main_while0b_call6_v0 : Ref sig .tc := ⟨.hbm, 138, rfl⟩
abbrev main_while0b_v109 : Ref sig .tc := ⟨.hbm, 139, rfl⟩
abbrev main_while0b_call7_c : Ref sig .tc := ⟨.hbm, 140, rfl⟩
abbrev main_while0b_call7_c_0 : Ref sig .tc := ⟨.hbm, 141, rfl⟩
abbrev main_while0b_call7_c_1 : Ref sig .tc := ⟨.hbm, 142, rfl⟩
abbrev main_while0b_call7_v0 : Ref sig .tc := ⟨.hbm, 143, rfl⟩
abbrev main_while0b_v110 : Ref sig .tc := ⟨.hbm, 144, rfl⟩
abbrev main_while0b_call8_c : Ref sig .tc := ⟨.hbm, 145, rfl⟩
abbrev main_while0b_call8_c_0 : Ref sig .tc := ⟨.hbm, 146, rfl⟩
abbrev main_while0b_call8_c_1 : Ref sig .tc := ⟨.hbm, 147, rfl⟩
abbrev main_while0b_call8_v0 : Ref sig .tc := ⟨.hbm, 148, rfl⟩
abbrev main_while0b_v111 : Ref sig .tc := ⟨.hbm, 149, rfl⟩
abbrev main_while0b_v112 : Ref sig .tc := ⟨.hbm, 150, rfl⟩
abbrev main_while0b_v113 : Ref sig .tc := ⟨.hbm, 151, rfl⟩
abbrev main_while0b_v114 : Ref sig .tc := ⟨.hbm, 152, rfl⟩
abbrev main_while0b_v115 : Ref sig .tc := ⟨.hbm, 153, rfl⟩
abbrev main_while0b_cst_25 : Ref sig .tc := ⟨.hbm, 154, rfl⟩
abbrev main_while0b_v116 : Ref sig .tc := ⟨.hbm, 155, rfl⟩
abbrev main_while0b_v117 : Ref sig .tc := ⟨.hbm, 156, rfl⟩
abbrev main_while0b_v118 : Ref sig .tc := ⟨.hbm, 157, rfl⟩
abbrev main_while0b_v119 : Ref sig .tc := ⟨.hbm, 158, rfl⟩
abbrev main_while0b_v120 : Ref sig .tc := ⟨.hbm, 159, rfl⟩
abbrev main_while0b_v121 : Ref sig .tc := ⟨.hbm, 160, rfl⟩
abbrev main_while0b_v122 : Ref sig .tc := ⟨.hbm, 161, rfl⟩
abbrev main_while0b_v123 : Ref sig .tc := ⟨.hbm, 162, rfl⟩
abbrev main_while0b_v124 : Ref sig .tc := ⟨.hbm, 163, rfl⟩
abbrev main_while0b_v125 : Ref sig .tc := ⟨.hbm, 164, rfl⟩
abbrev main_while0b_v126 : Ref sig .tc := ⟨.hbm, 165, rfl⟩
abbrev main_while0b_v127 : Ref sig .tc := ⟨.hbm, 166, rfl⟩
abbrev main_while0b_v128 : Ref sig .tc := ⟨.hbm, 167, rfl⟩
abbrev main_while0b_v129 : Ref sig .tc := ⟨.hbm, 168, rfl⟩
abbrev main_while0b_v130 : Ref sig .tc := ⟨.hbm, 169, rfl⟩
abbrev main_while0b_v131 : Ref sig .tc := ⟨.hbm, 170, rfl⟩
abbrev main_while0b_v132 : Ref sig .tc := ⟨.hbm, 171, rfl⟩
abbrev main_while0b_v133 : Ref sig .tc := ⟨.hbm, 172, rfl⟩
abbrev main_while0b_v134 : Ref sig .tc := ⟨.hbm, 173, rfl⟩
abbrev main_while0b_v135 : Ref sig .tc := ⟨.hbm, 174, rfl⟩
abbrev main_while0b_v136 : Ref sig .tc := ⟨.hbm, 175, rfl⟩
abbrev main_while0b_cst_26 : Ref sig .tc := ⟨.hbm, 176, rfl⟩
abbrev main_while0b_call9_v0 : Ref sig .tc := ⟨.hbm, 177, rfl⟩
abbrev main_while0b_call9_v1 : Ref sig .tc := ⟨.hbm, 178, rfl⟩
abbrev main_while0b_call9_v2 : Ref sig .tc := ⟨.hbm, 179, rfl⟩
abbrev main_while0b_v137 : Ref sig .tc := ⟨.hbm, 180, rfl⟩
abbrev main_while0b_cst_27 : Ref sig .tc := ⟨.hbm, 181, rfl⟩
abbrev main_while0b_v138 : Ref sig .tc := ⟨.hbm, 182, rfl⟩
abbrev main_while0b_v139 : Ref sig .tc := ⟨.hbm, 183, rfl⟩
abbrev main_while0b_v140 : Ref sig .tc := ⟨.hbm, 184, rfl⟩
abbrev main_while0b_v141 : Ref sig .tc := ⟨.hbm, 185, rfl⟩
abbrev main_while0b_v142 : Ref sig .tc := ⟨.hbm, 186, rfl⟩
abbrev main_while0b_v143 : Ref sig .tc := ⟨.hbm, 187, rfl⟩
abbrev main_while0b_v144 : Ref sig .tc := ⟨.hbm, 188, rfl⟩
abbrev main_while0b_v145 : Ref sig .tc := ⟨.hbm, 189, rfl⟩
abbrev main_while0b_v146 : Ref sig .tc := ⟨.hbm, 190, rfl⟩
abbrev main_while0b_v147 : Ref sig .tc := ⟨.hbm, 191, rfl⟩
abbrev main_while0b_v148 : Ref sig .tc := ⟨.hbm, 192, rfl⟩
abbrev main_while0b_v149 : Ref sig .tc := ⟨.hbm, 193, rfl⟩
abbrev main_while0b_v150 : Ref sig .tc := ⟨.hbm, 194, rfl⟩
abbrev main_while0b_v151 : Ref sig .tc := ⟨.hbm, 195, rfl⟩
abbrev main_while0b_v152 : Ref sig .tc := ⟨.hbm, 196, rfl⟩
abbrev main_while0b_v153 : Ref sig .tc := ⟨.hbm, 197, rfl⟩
abbrev main_while0b_cst_28 : Ref sig .tc := ⟨.hbm, 198, rfl⟩
abbrev main_while0b_v154 : Ref sig .tc := ⟨.hbm, 199, rfl⟩
abbrev main_while0b_v155 : Ref sig .tc := ⟨.hbm, 200, rfl⟩
abbrev main_while0b_v156 : Ref sig .tc := ⟨.hbm, 201, rfl⟩
abbrev main_while0b_v157 : Ref sig .tc := ⟨.hbm, 202, rfl⟩
abbrev main_while0b_cst_29 : Ref sig .tc := ⟨.hbm, 203, rfl⟩
abbrev main_while0b_v158 : Ref sig .tc := ⟨.hbm, 204, rfl⟩
abbrev main_while0b_v159 : Ref sig .tc := ⟨.hbm, 205, rfl⟩
abbrev main_while0b_v160 : Ref sig .tc := ⟨.hbm, 206, rfl⟩
abbrev main_while0b_v161 : Ref sig .tc := ⟨.hbm, 207, rfl⟩
abbrev main_while0b_v162 : Ref sig .tc := ⟨.hbm, 208, rfl⟩
abbrev main_while0b_v163 : Ref sig .tc := ⟨.hbm, 209, rfl⟩
abbrev main_while0b_v164 : Ref sig .tc := ⟨.hbm, 210, rfl⟩
abbrev main_while0b_v165 : Ref sig .tc := ⟨.hbm, 211, rfl⟩
abbrev main_while0b_v166 : Ref sig .tc := ⟨.hbm, 212, rfl⟩
abbrev main_while0b_v167 : Ref sig .tc := ⟨.hbm, 213, rfl⟩
abbrev main_while0b_v168 : Ref sig .tc := ⟨.hbm, 214, rfl⟩
abbrev main_while0b_v169 : Ref sig .tc := ⟨.hbm, 215, rfl⟩
abbrev main_while0b_v170 : Ref sig .tc := ⟨.hbm, 216, rfl⟩
abbrev main_while0b_v171 : Ref sig .tc := ⟨.hbm, 217, rfl⟩
abbrev main_while0b_v172 : Ref sig .tc := ⟨.hbm, 218, rfl⟩
abbrev main_while0b_v173 : Ref sig .tc := ⟨.hbm, 219, rfl⟩
abbrev main_while0b_v174 : Ref sig .tc := ⟨.hbm, 220, rfl⟩
abbrev main_while0b_v175 : Ref sig .tc := ⟨.hbm, 221, rfl⟩
abbrev main_while0b_v176 : Ref sig .tc := ⟨.hbm, 222, rfl⟩
abbrev main_while0b_v177 : Ref sig .tc := ⟨.hbm, 223, rfl⟩
abbrev main_while0b_v178 : Ref sig .tc := ⟨.hbm, 224, rfl⟩
abbrev main_while0b_v179 : Ref sig .tc := ⟨.hbm, 225, rfl⟩
abbrev main_while0b_v180 : Ref sig .tc := ⟨.hbm, 226, rfl⟩
abbrev main_while0b_v181 : Ref sig .tc := ⟨.hbm, 227, rfl⟩
abbrev main_while0b_v182 : Ref sig .tc := ⟨.hbm, 228, rfl⟩
abbrev main_while0b_v183 : Ref sig .tc := ⟨.hbm, 229, rfl⟩
abbrev main_while0b_v184 : Ref sig .tc := ⟨.hbm, 230, rfl⟩
abbrev main_while0b_cst_30 : Ref sig .tc := ⟨.hbm, 231, rfl⟩
abbrev main_while0b_v185 : Ref sig .tc := ⟨.hbm, 232, rfl⟩
abbrev main_while0b_v186 : Ref sig .tc := ⟨.hbm, 233, rfl⟩
abbrev main_while0b_v187 : Ref sig .tc := ⟨.hbm, 234, rfl⟩
abbrev main_while0b_v188 : Ref sig .tc := ⟨.hbm, 235, rfl⟩
abbrev main_while0b_v189 : Ref sig .tc := ⟨.hbm, 236, rfl⟩
abbrev main_while0b_v190 : Ref sig .tc := ⟨.hbm, 237, rfl⟩
abbrev main_while0b_v191 : Ref sig .tc := ⟨.hbm, 238, rfl⟩
abbrev main_while0b_v192 : Ref sig .tc := ⟨.hbm, 239, rfl⟩
abbrev main_while0b_call10_v0 : Ref sig .tc := ⟨.hbm, 240, rfl⟩
abbrev main_while0b_call10_v1 : Ref sig .tc := ⟨.hbm, 241, rfl⟩
abbrev main_while0b_v193 : Ref sig .tc := ⟨.hbm, 242, rfl⟩
abbrev main_while0b_c_31 : Ref sig .tc := ⟨.hbm, 243, rfl⟩
abbrev main_while0b_v194 : Ref sig .tc := ⟨.hbm, 244, rfl⟩
abbrev main_v78 : Ref sig .tc := ⟨.hbm, 245, rfl⟩
abbrev main_v79 : Ref sig .tc := ⟨.hbm, 246, rfl⟩
abbrev main_v80 : Ref sig .tc := ⟨.hbm, 247, rfl⟩
abbrev main_v81 : Ref sig .tc := ⟨.hbm, 248, rfl⟩
abbrev main_v82 : Ref sig .tc := ⟨.hbm, 249, rfl⟩
abbrev main_cst_7 : Ref sig .tc := ⟨.hbm, 250, rfl⟩
abbrev main_v83 : Ref sig .tc := ⟨.hbm, 251, rfl⟩
abbrev main_v84 : Ref sig .tc := ⟨.hbm, 252, rfl⟩
abbrev main_cst_8 : Ref sig .tc := ⟨.hbm, 253, rfl⟩
abbrev main_v85 : Ref sig .tc := ⟨.hbm, 254, rfl⟩
abbrev main_v86 : Ref sig .tc := ⟨.hbm, 255, rfl⟩
abbrev main_v87 : Ref sig .tc := ⟨.hbm, 256, rfl⟩
abbrev main_v88 : Ref sig .tc := ⟨.hbm, 257, rfl⟩
abbrev main_v89 : Ref sig .tc := ⟨.hbm, 258, rfl⟩
abbrev main_v90 : Ref sig .tc := ⟨.hbm, 259, rfl⟩
abbrev main_cst_9 : Ref sig .tc := ⟨.hbm, 260, rfl⟩
abbrev main_v91 : Ref sig .tc := ⟨.hbm, 261, rfl⟩
abbrev main_v92 : Ref sig .tc := ⟨.hbm, 262, rfl⟩
abbrev main_cst_10 : Ref sig .tc := ⟨.hbm, 263, rfl⟩
abbrev main_v93 : Ref sig .tc := ⟨.hbm, 264, rfl⟩
abbrev main_v94 : Ref sig .tc := ⟨.hbm, 265, rfl⟩
abbrev main_cst_11 : Ref sig .tc := ⟨.hbm, 266, rfl⟩
abbrev main_v95 : Ref sig .tc := ⟨.hbm, 267, rfl⟩
abbrev main_v96 : Ref sig .tc := ⟨.hbm, 268, rfl⟩
abbrev main_v97 : Ref sig .tc := ⟨.hbm, 269, rfl⟩
abbrev main_v98 : Ref sig .tc := ⟨.hbm, 270, rfl⟩
abbrev main_v99 : Ref sig .tc := ⟨.hbm, 271, rfl⟩
abbrev main_v100 : Ref sig .tc := ⟨.hbm, 272, rfl⟩
abbrev main_v101 : Ref sig .tc := ⟨.hbm, 273, rfl⟩
abbrev main_v102 : Ref sig .tc := ⟨.hbm, 274, rfl⟩
abbrev main_v103 : Ref sig .tc := ⟨.hbm, 275, rfl⟩

abbrev nD : Nat := 1
abbrev τ : Topo := Topo.v7x

variable {F : FTy → Type} [FloatOps F]

abbrev main_while0_count : Scf.Loop 32 := ⟨0#32, 128#32, 1#32⟩
-- ==== Proof.CellValue.Chunk.lean ====
/-
One chunk of one head of the matrix memory, as formulas on extended reals: what a chunk of 128 rows answers from the
state the chunks before it left, and the state it leaves. The state is a matrix, a vector and the number that scales
both; `top` is the largest exponent a row meets, subtracted from every exponent of that row.
-/
module

public import Idealize.ShloMosaic.Lib.Pointwise
public import Idealize.ShloMosaic.Lib.WordCmp

@[expose] public section

noncomputable section

namespace Cert.Cell

open Idealize.ShloMosaic

/-- Comparing a row's number with another's, both as 32-bit integers. -/
theorem mask_apply (t s : Fin 128) (a b : EReal) :
    Scalar.select (IntOp.cmpi CmpIPredicate.sge (BitVec.ofNat 32 t.val) (BitVec.ofNat 32 s.val)) a b
      = if s ≤ t then a else b := by
  rw [WordCmp.cmpi_sge_ofNat (by have := t.isLt; omega) (by have := s.isLt; omega)]
  by_cases h : s ≤ t
  · have h' : s.val ≤ t.val := h
    simp [Scalar.select, h, h']
  · have h' : ¬ s.val ≤ t.val := h
    simp [Scalar.select, h, h']

/-- A chunk's rows: queries, scaled keys, values, and each row's input gate and log decay since the chunk's start, once
as the row that reads (`ic`, `bc`) and once as the row that is read (`ir`, `br`). -/
@[ext] structure Rows where
  q : Fin 128 → Fin 128 → EReal
  k : Fin 128 → Fin 128 → EReal
  v : Fin 128 → Fin 256 → EReal
  ic : Fin 128 → EReal
  bc : Fin 128 → EReal
  ir : Fin 128 → EReal
  br : Fin 128 → EReal

/-- The state between two chunks. -/
@[ext] structure Mem where
  C : Fin 128 → Fin 256 → EReal
  n : Fin 128 → EReal
  m : EReal

/-- The state before the first chunk. -/
def Mem.empty : Mem := ⟨fun _ _ => 0, fun _ => 0, 0⟩

/-- The exponent of a row that is masked out. -/
def low : EReal := Ideal.ofBits .f32 0xFF800000#32

namespace Rows

variable (x : Rows) (μ : Mem)

/-- The largest exponent with which a row of the chunk enters the state. -/
def locMax : EReal := Finset.fold max low (fun s => x.br 127 - x.br s + x.ir s) Finset.univ

/-- The keys, weighted as they enter the state. -/
def kw (s d : Fin 128) : EReal := x.k s d * Ideal.exp (x.br 127 - x.bc s + x.ic s - x.locMax)

/-- The exponent with which row `t` reads row `s`. -/
def dec (t s : Fin 128) : EReal := if s ≤ t then x.bc t - x.br s + x.ir s else low

/-- The largest exponent row `t` meets. -/
def top (t : Fin 128) : EReal := max (x.bc t + μ.m) (Finset.fold max low (fun s => x.dec t s) Finset.univ)

/-- The weight of row `s` in row `t`'s answer. -/
def weight (t s : Fin 128) : EReal := (∑ d, x.q t d * x.k s d) * Ideal.exp (x.dec t s - x.top μ t)

/-- The weight of the state in row `t`'s answer. -/
def inter (t : Fin 128) : EReal := Ideal.exp (x.bc t + μ.m - x.top μ t)

/-- The answer's numerator. -/
def num (t : Fin 128) (e : Fin 256) : EReal :=
  ∑ s, x.weight μ t s * x.v s e + x.inter μ t * ∑ d, x.q t d * μ.C d e

/-- The answer's denominator before it is bounded from below. -/
def den (t : Fin 128) : EReal := ∑ s, x.weight μ t s + x.inter μ t * ∑ d, x.q t d * μ.n d

/-- Row `t`'s answer. -/
def ans (t : Fin 128) (e : Fin 256) : EReal :=
  Ideal.div (x.num μ t e) (max (FloatOps.absf (F := Ideal) (φ := .f32) (x.den μ t)) (Ideal.exp (-x.top μ t)))

/-- The scale's exponent after the chunk. -/
def mNew : EReal := max (x.br 127 + μ.m) x.locMax

/-- The state after the chunk. -/
def step : Mem where
  C d e := Ideal.exp (x.br 127 + μ.m - x.mNew μ) * μ.C d e + Ideal.exp (x.locMax - x.mNew μ) * ∑ s, x.kw s d * x.v s e
  n d := Ideal.exp (x.br 127 + μ.m - x.mNew μ) * μ.n d + Ideal.exp (x.locMax - x.mNew μ) * ∑ s, x.kw s d
  m := x.mNew μ

end Rows

/-- Entry `e` of a head's answers `f` of one row, gated by `o`, normed over the row's 256 entries and weighted. -/
def gated (f o : Fin 256 → EReal) (w : EReal) (e : Fin 256) : EReal :=
  Ideal.logistic (o e) * f e
    * Ideal.rsqrt (Ideal.div (∑ x, Ideal.logistic (o x) * f x * (Ideal.logistic (o x) * f x)) (Ideal.ofBits FTy.f32 1132462080#32)
      + Ideal.ofBits FTy.f32 897988541#32) * w

end Cert.Cell

end
-- ==== Proof.CellValue.Head.lean ====
/-
One head of the kernel's body on one chunk: its blocks' values, each entry that of the formulas on extended reals.
-/
module

public import proofs.«01_k».proof.Proof.Gen.CellIdeal.Frame
public import proofs.«01_k».proof.Proof.CellValue.Chunk
public import Idealize.ShloMosaic.Lib.Pointwise
public import Idealize.ShloMosaic.Lib.Pipeline.ValueKit

@[expose] public section

set_option maxRecDepth 16384

noncomputable section

namespace Cert.CellIdeal.Value

open Idealize.ShloMosaic Idealize.ShloMosaic.TcCoe Idealize.ShloMosaic.Tactic Cert.CellIdeal Cert.CellIdeal.Gen Cert.Cell

/-- The blocks one head computes from. -/
structure Blocks where
  q : FVec Ideal S128x128 .f32
  k : FVec Ideal S128x128 .f32
  v : FVec Ideal S128x256 .bf16
  ic : FVec Ideal S128x1 .f32
  bc : FVec Ideal S128x1 .f32
  ir : FVec Ideal S1x128 .f32
  br : FVec Ideal S1x128 .f32
  C : FVec Ideal S128x256 .f32
  n : FVec Ideal S1x128 .f32
  m : FVec Ideal S1x1 .f32

namespace Blocks

variable (B : Blocks)

/-- Their entries, as a chunk's rows. -/
def rows : Rows where
  q t d := B.q (ix2 t d)
  k t d := B.k (ix2 t d)
  v t e := B.v (ix2 t e)
  ic t := B.ic (ix2 t (0 : Fin 1))
  bc t := B.bc (ix2 t (0 : Fin 1))
  ir t := B.ir (ix2 (0 : Fin 1) t)
  br t := B.br (ix2 (0 : Fin 1) t)

/-- And as the state before the chunk. -/
def mem : Mem where
  C d e := B.C (ix2 d e)
  n d := B.n (ix2 (0 : Fin 1) d)
  m := B.m (ix2 (0 : Fin 1) (0 : Fin 1))

def last : FVec Ideal S1x1 .f32 := extractStridedSlice S1x1 ![0, 127] B.br slices_S1x128_o0_127_S1x1
def loc : FVec Ideal S1x1 .f32 := k0_pay56 B.ir B.br B.last
def keys : FVec Ideal S128x128 .f32 := k0_pay60 B.k B.ic B.bc B.ir B.br B.last
def decays : FVec Ideal S128x128 .f32 := k0_pay69 k0_pay14 B.bc B.ir B.br
def most : FVec Ideal S128x1 .f32 := k0_pay73 k0_pay14 B.bc B.ir B.br B.m
def powers : FVec Ideal S128x128 .f32 := k0_pay77 B.decays B.most
def carry : FVec Ideal S128x1 .f32 := k0_pay81 (k0_pay65 B.bc B.m) B.most
def scores : FVec Ideal S128x128 .f32 := k0_pay89 B.q B.k
def read : FVec Ideal S128x256 .f32 := k0_pay93 B.q B.C
def write : FVec Ideal S128x256 .f32 := k0_pay98 B.v (k0_pay97 B.keys)
def intra : FVec Ideal S128x256 .f32 := k0_pay106 B.v B.powers B.scores
def denom : FVec Ideal S128x1 .f32 := k0_pay110 B.q B.n B.powers B.carry B.scores
/-- The head's part of the result. -/
def out (o : FVec Ideal S128x256 .bf16) (nw : FVec Ideal S1x256 .f32) : FVec Ideal S128x256 .bf16 :=
  k0_pay115 B.most B.carry B.read B.intra B.denom o nw
/-- The head's matrix, vector and scale after the chunk. -/
def C' : FVec Ideal S1x128x256 .f32 := k0_pay125 (k0_pay124 B.last B.C B.m B.loc B.write)
def n' : FVec Ideal S1x1x128 .f32 := k0_pay126 B.n B.keys (k0_pay122 B.last B.m B.loc) (k0_pay123 B.last B.m B.loc)
def m' : FVec Ideal S1x1x128 .f32 := k0_pay127 (k0_pay121 B.last B.m B.loc)

theorem last_apply : B.last (ix2 (0 : Fin 1) (0 : Fin 1)) = B.rows.br 127 := by
  pointwise [last]
  rfl

theorem loc_apply : B.loc (ix2 (0 : Fin 1) (0 : Fin 1)) = B.rows.locMax := by
  pointwise [loc, k0_pay56, last_apply]
  rfl

theorem keys_apply (s d : Fin 128) : B.keys (ix2 s d) = B.rows.kw s d := by
  have h := B.loc_apply
  unfold loc at h
  pointwise [keys, k0_pay60, last_apply, h]
  rfl

theorem decays_apply (t s : Fin 128) : B.decays (ix2 t s) = B.rows.dec t s := by
  pointwise [decays, k0_pay69, k0_pay14]
  rw [mask_apply]
  rfl

theorem most_apply (t : Fin 128) : B.most (ix2 t (0 : Fin 1)) = B.rows.top B.mem t := by
  have h : ∀ s, k0_pay69 k0_pay14 B.bc B.ir B.br (ix2 t s) = B.rows.dec t s := B.decays_apply t
  pointwise [most, k0_pay73, k0_pay65]
  simp only [h]
  rfl

theorem carry_apply (t : Fin 128) : B.carry (ix2 t (0 : Fin 1)) = B.rows.inter B.mem t := by
  pointwise [carry, k0_pay81, k0_pay65, most_apply]
  rfl

theorem weight_apply (t s : Fin 128) : B.scores (ix2 t s) * B.powers (ix2 t s) = B.rows.weight B.mem t s := by
  pointwise [scores, powers, k0_pay89, k0_pay85, k0_pay77, decays_apply, most_apply]
  rfl

theorem read_apply (t : Fin 128) (e : Fin 256) : B.read (ix2 t e) = ∑ d, B.rows.q t d * B.mem.C d e := by
  pointwise [read, k0_pay93, k0_pay85]
  rfl

theorem write_apply (d : Fin 128) (e : Fin 256) : B.write (ix2 d e) = ∑ s, B.rows.kw s d * B.rows.v s e := by
  pointwise [write, k0_pay98, k0_pay97, keys_apply]
  rfl

theorem intra_apply (t : Fin 128) (e : Fin 256) : B.intra (ix2 t e) = ∑ s, B.rows.weight B.mem t s * B.rows.v s e := by
  pointwise [intra, k0_pay106, k0_pay102, weight_apply]
  rfl

theorem denom_apply (t : Fin 128) : B.denom (ix2 t (0 : Fin 1)) = B.rows.den B.mem t := by
  pointwise [denom, k0_pay110, k0_pay102, weight_apply, carry_apply]
  rfl

/-- A row of answers, normed over its 256 entries. -/
theorem out_apply (o : FVec Ideal S128x256 .bf16) (nw : FVec Ideal S1x256 .f32) (t : Fin 128) (e : Fin 256) :
    B.out o nw (ix2 t e) = Cert.Cell.gated (fun e => B.rows.ans B.mem t e) (fun e => o (ix2 t e)) (nw (ix2 (0 : Fin 1) e)) e := by
  pointwise [out, k0_pay115, most_apply, carry_apply, read_apply, intra_apply, denom_apply, zero_sub]
  rfl

theorem C'_apply (d : Fin 128) (e : Fin 256) : B.C' (ix3 (0 : Fin 1) d e) = (B.rows.step B.mem).C d e := by
  pointwise [C', k0_pay125, k0_pay124, k0_pay121, k0_pay122, k0_pay123, last_apply, loc_apply, write_apply]
  rfl

theorem n'_apply (d : Fin 128) : B.n' (ix3 (0 : Fin 1) (0 : Fin 1) d) = (B.rows.step B.mem).n d := by
  pointwise [n', k0_pay126, k0_pay121, k0_pay122, k0_pay123, last_apply, loc_apply, keys_apply]
  rfl

theorem m'_apply (d : Fin 128) : B.m' (ix3 (0 : Fin 1) (0 : Fin 1) d) = (B.rows.step B.mem).m := by
  pointwise [m', k0_pay127, k0_pay121, last_apply, loc_apply]
  rfl

end Blocks

end Cert.CellIdeal.Value

end
-- ==== Proof.CellValue.Point.lean ====
/-
What the kernel's body leaves at one grid point: its result block and its three carried buffers, head by head, of the
blocks it reads and of what the point before left in those buffers.
-/
module

public import proofs.«01_k».proof.Proof.CellValue.Head

@[expose] public section

set_option maxRecDepth 16384

noncomputable section

namespace Cert.CellIdeal.Value

open Idealize.ShloMosaic Idealize.ShloMosaic.TcCoe Idealize.ShloMosaic.Tactic Cert.CellIdeal Cert.CellIdeal.Gen Cert.Cell

/-- The convolution's window: the last eight rows of the block before, then the block's own rows. -/
def window (i : grid0.Coords) (x0 : Vec Ideal S128x1024 .f32) (x1 : Vec Ideal S8x1024 .f32) : Vec Ideal S136x1024 .f32 :=
  View.ld (View.canon [⟨Rect.unit (s := S136x1024) ![8, 0] ![128, 1024] (by decide), k0_pay10 (View.ld x0 (Rect.unit (s := S128x1024) ![0, 0] ![128, 1024] (by decide)))⟩,
    ⟨Rect.unit (s := S136x1024) ![0, 0] ![8, 1024] (by decide), k0_pay9 i (View.ld x1 (Rect.unit (s := S8x1024) ![0, 0] ![8, 1024] (by decide)))⟩])
    (Rect.unit (s := S136x1024) ![0, 0] ![136, 1024] (by decide))

/-- A block, read whole. -/
def all4 (x4 : Vec Ideal S128x128 .f32) : Vec Ideal S128x128 .f32 := View.ld x4 (Rect.unit (s := S128x128) ![0, 0] ![128, 128] (by decide))
def all5 (x5 : Vec Ideal S16x128 .f32) : Vec Ideal S16x128 .f32 := View.ld x5 (Rect.unit (s := S16x128) ![0, 0] ![16, 128] (by decide))

section
variable (w : Vec Ideal S136x1024 .f32) (x2 : Vec Ideal S128x1024 .bf16) (x4 : Vec Ideal S128x128 .f32)
  (x5 : Vec Ideal S16x128 .f32) (x6 : Vec Ideal S4x1024 .f32) (x7 : Vec Ideal S1x1024 .f32)
  (C : Vec Ideal S4x128x256 .f32) (n : Vec Ideal S4x1x128 .f32) (m : Vec Ideal S4x1x128 .f32)

/-- The convolution's first two terms, with the bias. -/
def older : Vec Ideal S128x1024 .f32 := k0_pay11 w (View.ld x7 (Rect.unit (s := S1x1024) ![0, 0] ![1, 1024] (by decide)))
  (View.ld x6 (Rect.unit (s := S4x1024) ![0, 0] ![1, 1024] (by decide))) (View.ld x6 (Rect.unit (s := S4x1024) ![1, 0] ![1, 1024] (by decide)))
def tap2 : Vec Ideal S1x1024 .f32 := View.ld x6 (Rect.unit (s := S4x1024) ![2, 0] ![1, 1024] (by decide))
def tap3 : Vec Ideal S1x1024 .f32 := View.ld x6 (Rect.unit (s := S4x1024) ![3, 0] ![1, 1024] (by decide))

/-- Head 0's blocks. -/
def head0 : Blocks where
  q := k0_pay15 w (older w x6 x7) (k0_pay12 w) (tap2 x6) (tap3 x6)
  k := k0_pay19 w (older w x6 x7) (k0_pay12 w) (tap2 x6) (tap3 x6)
  v := View.ld x2 (Rect.unit (s := S128x1024) ![0, 0] ![128, 256] (by decide))
  ic := k0_pay23 x4
  bc := k0_pay27 x4
  ir := k0_pay31 x5
  br := k0_pay35 x5
  C := k0_pay43 (View.ld C (Rect.unit (s := S4x128x256) ![0, 0, 0] ![1, 128, 256] (by decide)))
  n := k0_pay47 (View.ld n (Rect.unit (s := S4x1x128) ![0, 0, 0] ![1, 1, 128] (by decide)))
  m := k0_pay52 (k0_pay51 (View.ld m (Rect.unit (s := S4x1x128) ![0, 0, 0] ![1, 1, 128] (by decide))))

/-- Head 1's blocks. -/
def head1 : Blocks where
  q := k0_pay16 w (older w x6 x7) (k0_pay12 w) (tap2 x6) (tap3 x6)
  k := k0_pay20 w (older w x6 x7) (k0_pay12 w) (tap2 x6) (tap3 x6)
  v := View.ld x2 (Rect.unit (s := S128x1024) ![0, 256] ![128, 256] (by decide))
  ic := k0_pay24 x4
  bc := k0_pay28 x4
  ir := k0_pay32 x5
  br := k0_pay36 x5
  C := k0_pay44 (View.ld C (Rect.unit (s := S4x128x256) ![1, 0, 0] ![1, 128, 256] (by decide)))
  n := k0_pay48 (View.ld n (Rect.unit (s := S4x1x128) ![1, 0, 0] ![1, 1, 128] (by decide)))
  m := k0_pay53 (View.ld m (Rect.unit (s := S4x1x128) ![1, 0, 0] ![1, 1, 128] (by decide)))

/-- Head 2's blocks. -/
def head2 : Blocks where
  q := k0_pay17 w (older w x6 x7) (k0_pay12 w) (tap2 x6) (tap3 x6)
  k := k0_pay21 w (older w x6 x7) (k0_pay12 w) (tap2 x6) (tap3 x6)
  v := View.ld x2 (Rect.unit (s := S128x1024) ![0, 512] ![128, 256] (by decide))
  ic := k0_pay25 x4
  bc := k0_pay29 x4
  ir := k0_pay33 x5
  br := k0_pay37 x5
  C := k0_pay45 (View.ld C (Rect.unit (s := S4x128x256) ![2, 0, 0] ![1, 128, 256] (by decide)))
  n := k0_pay49 (View.ld n (Rect.unit (s := S4x1x128) ![2, 0, 0] ![1, 1, 128] (by decide)))
  m := k0_pay54 (View.ld m (Rect.unit (s := S4x1x128) ![2, 0, 0] ![1, 1, 128] (by decide)))

/-- Head 3's blocks. -/
def head3 : Blocks where
  q := k0_pay18 w (older w x6 x7) (k0_pay12 w) (tap2 x6) (tap3 x6)
  k := k0_pay22 w (older w x6 x7) (k0_pay12 w) (tap2 x6) (tap3 x6)
  v := View.ld x2 (Rect.unit (s := S128x1024) ![0, 768] ![128, 256] (by decide))
  ic := k0_pay26 x4
  bc := k0_pay30 x4
  ir := k0_pay34 x5
  br := k0_pay38 x5
  C := k0_pay46 (View.ld C (Rect.unit (s := S4x128x256) ![3, 0, 0] ![1, 128, 256] (by decide)))
  n := k0_pay50 (View.ld n (Rect.unit (s := S4x1x128) ![3, 0, 0] ![1, 1, 128] (by decide)))
  m := k0_pay55 (View.ld m (Rect.unit (s := S4x1x128) ![3, 0, 0] ![1, 1, 128] (by decide)))

/-- The result block, from the gates `x3` and the norm's weights `x8`. -/
def outOf (x3 : Vec Ideal S128x1024 .bf16) (x8 : Vec Ideal S1x1024 .f32) : Vec Ideal S128x1024 .bf16 :=
  View.canon [⟨Rect.unit (s := S128x1024) ![0, 768] ![128, 256] (by decide), (head3 w x2 x4 x5 x6 x7 C n m).out (View.ld x3 (Rect.unit (s := S128x1024) ![0, 768] ![128, 256] (by decide))) (View.ld x8 (Rect.unit (s := S1x1024) ![0, 768] ![1, 256] (by decide)))⟩,
    ⟨Rect.unit (s := S128x1024) ![0, 512] ![128, 256] (by decide), (head2 w x2 x4 x5 x6 x7 C n m).out (View.ld x3 (Rect.unit (s := S128x1024) ![0, 512] ![128, 256] (by decide))) (View.ld x8 (Rect.unit (s := S1x1024) ![0, 512] ![1, 256] (by decide)))⟩,
    ⟨Rect.unit (s := S128x1024) ![0, 256] ![128, 256] (by decide), (head1 w x2 x4 x5 x6 x7 C n m).out (View.ld x3 (Rect.unit (s := S128x1024) ![0, 256] ![128, 256] (by decide))) (View.ld x8 (Rect.unit (s := S1x1024) ![0, 256] ![1, 256] (by decide)))⟩,
    ⟨Rect.unit (s := S128x1024) ![0, 0] ![128, 256] (by decide), (head0 w x2 x4 x5 x6 x7 C n m).out (View.ld x3 (Rect.unit (s := S128x1024) ![0, 0] ![128, 256] (by decide))) (View.ld x8 (Rect.unit (s := S1x1024) ![0, 0] ![1, 256] (by decide)))⟩]

/-- The carried matrices after the point. -/
def COf (L : List (View.Piece (Elt Ideal) S4x128x256 .f32)) : Vec Ideal S4x128x256 .f32 :=
  View.canon (⟨Rect.unit (s := S4x128x256) ![3, 0, 0] ![1, 128, 256] (by decide), (head3 w x2 x4 x5 x6 x7 C n m).C'⟩ ::
    ⟨Rect.unit (s := S4x128x256) ![2, 0, 0] ![1, 128, 256] (by decide), (head2 w x2 x4 x5 x6 x7 C n m).C'⟩ ::
    ⟨Rect.unit (s := S4x128x256) ![1, 0, 0] ![1, 128, 256] (by decide), (head1 w x2 x4 x5 x6 x7 C n m).C'⟩ ::
    ⟨Rect.unit (s := S4x128x256) ![0, 0, 0] ![1, 128, 256] (by decide), (head0 w x2 x4 x5 x6 x7 C n m).C'⟩ :: L)

/-- The carried vectors after the point. -/
def nOf (L : List (View.Piece (Elt Ideal) S4x1x128 .f32)) : Vec Ideal S4x1x128 .f32 :=
  View.canon (⟨Rect.unit (s := S4x1x128) ![3, 0, 0] ![1, 1, 128] (by decide), (head3 w x2 x4 x5 x6 x7 C n m).n'⟩ ::
    ⟨Rect.unit (s := S4x1x128) ![2, 0, 0] ![1, 1, 128] (by decide), (head2 w x2 x4 x5 x6 x7 C n m).n'⟩ ::
    ⟨Rect.unit (s := S4x1x128) ![1, 0, 0] ![1, 1, 128] (by decide), (head1 w x2 x4 x5 x6 x7 C n m).n'⟩ ::
    ⟨Rect.unit (s := S4x1x128) ![0, 0, 0] ![1, 1, 128] (by decide), (head0 w x2 x4 x5 x6 x7 C n m).n'⟩ :: L)

/-- The carried scales after the point. -/
def mOf (L : List (View.Piece (Elt Ideal) S4x1x128 .f32)) : Vec Ideal S4x1x128 .f32 :=
  View.canon (⟨Rect.unit (s := S4x1x128) ![3, 0, 0] ![1, 1, 128] (by decide), (head3 w x2 x4 x5 x6 x7 C n m).m'⟩ ::
    ⟨Rect.unit (s := S4x1x128) ![2, 0, 0] ![1, 1, 128] (by decide), (head2 w x2 x4 x5 x6 x7 C n m).m'⟩ ::
    ⟨Rect.unit (s := S4x1x128) ![1, 0, 0] ![1, 1, 128] (by decide), (head1 w x2 x4 x5 x6 x7 C n m).m'⟩ ::
    ⟨Rect.unit (s := S4x1x128) ![0, 0, 0] ![1, 1, 128] (by decide), (head0 w x2 x4 x5 x6 x7 C n m).m'⟩ :: L)

end

variable (c : Dev nD) (i : grid0.Coords) (arg2 : Memref sig .tc .vmem S128x1024 .f32) (harg2 : arg2.IsWhole) (arg3 : Memref sig .tc .vmem S8x1024 .f32) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x128 .f32) (harg6 : arg6.IsWhole) (arg7 : Memref sig .tc .vmem S16x128 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S136x1024 .f32) (harg12 : arg12.IsWhole) (arg13 : Memref sig .tc .vmem S4x128x256 .f32) (harg13 : arg13.IsWhole) (arg14 : Memref sig .tc .vmem S4x1x128 .f32) (harg14 : arg14.IsWhole) (arg15 : Memref sig .tc .vmem S4x1x128 .f32) (harg15 : arg15.IsWhole)
  (x0 : Vec Ideal S128x1024 .f32) (x1 : Vec Ideal S8x1024 .f32) (x2 : Vec Ideal S128x1024 .bf16) (x3 : Vec Ideal S128x1024 .bf16) (x4 : Vec Ideal S128x128 .f32) (x5 : Vec Ideal S16x128 .f32) (x6 : Vec Ideal S4x1024 .f32) (x7 : Vec Ideal S1x1024 .f32) (x8 : Vec Ideal S1x1024 .f32) (xs1 : Vec Ideal S4x128x256 .f32) (xs2 : Vec Ideal S4x1x128 .f32) (xs3 : Vec Ideal S4x1x128 .f32)

theorem out0_B_9_eq (hc : ¬cond0_0 i) : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs1 xs2 xs3 = outOf (window i x0 x1) x2 (all4 x4) (all5 x5) x6 x7 xs1 xs2 xs3 x3 x8 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg13.read_unread, harg14.read_unread, harg15.read_unread, View.readCov_eq_canon']
  rfl

theorem sout0_B_1_eq (hc : ¬cond0_0 i) : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs1 xs2 xs3 = COf (window i x0 x1) x2 (all4 x4) (all5 x5) x6 x7 xs1 xs2 xs3 [] := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg13.read_unread, harg14.read_unread, harg15.read_unread, View.readCov_eq_canon']
  rfl

theorem sout0_B_2_eq (hc : ¬cond0_0 i) : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs1 xs2 xs3 = nOf (window i x0 x1) x2 (all4 x4) (all5 x5) x6 x7 xs1 xs2 xs3 [] := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg13.read_unread, harg14.read_unread, harg15.read_unread, View.readCov_eq_canon']
  rfl

theorem sout0_B_3_eq (hc : ¬cond0_0 i) : sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs1 xs2 xs3 = mOf (window i x0 x1) x2 (all4 x4) (all5 x5) x6 x7 xs1 xs2 xs3 [] := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg13.read_unread, harg14.read_unread, harg15.read_unread, View.readCov_eq_canon']
  rfl

/-- The carried buffers as the first chunk of a batch finds them. -/
def storeC : View.Piece (Elt Ideal) S4x128x256 .f32 := ⟨Rect.unit (s := S4x128x256) ![0, 0, 0] ![4, 128, 256] (by decide), k0_pay6 (F := Ideal)⟩
def storeN : View.Piece (Elt Ideal) S4x1x128 .f32 := ⟨Rect.unit (s := S4x1x128) ![0, 0, 0] ![4, 1, 128] (by decide), k0_pay7 (F := Ideal)⟩
def storeM : View.Piece (Elt Ideal) S4x1x128 .f32 := ⟨Rect.unit (s := S4x1x128) ![0, 0, 0] ![4, 1, 128] (by decide), k0_pay8 (F := Ideal)⟩
def zeroC : Vec Ideal S4x128x256 .f32 := View.canon [storeC]
def zeroN : Vec Ideal S4x1x128 .f32 := View.canon [storeN]
def zeroM : Vec Ideal S4x1x128 .f32 := View.canon [storeM]

theorem out0_A_9_eq (hc : cond0_0 i) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8  = outOf (window i x0 x1) x2 (all4 x4) (all5 x5) x6 x7 zeroC zeroN zeroM x3 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 )]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg13.read_unread, harg14.read_unread, harg15.read_unread, View.readCov_eq_canon']
  rfl

theorem sout0_A_1_eq (hc : cond0_0 i) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8  = COf (window i x0 x1) x2 (all4 x4) (all5 x5) x6 x7 zeroC zeroN zeroM [storeC] := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 )]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg13.read_unread, harg14.read_unread, harg15.read_unread, View.readCov_eq_canon']
  rfl

theorem sout0_A_2_eq (hc : cond0_0 i) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8  = nOf (window i x0 x1) x2 (all4 x4) (all5 x5) x6 x7 zeroC zeroN zeroM [storeN] := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 )]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg13.read_unread, harg14.read_unread, harg15.read_unread, View.readCov_eq_canon']
  rfl

theorem sout0_A_3_eq (hc : cond0_0 i) : sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8  = mOf (window i x0 x1) x2 (all4 x4) (all5 x5) x6 x7 zeroC zeroN zeroM [storeM] := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 )]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg13.read_unread, harg14.read_unread, harg15.read_unread, View.readCov_eq_canon']
  rfl

end Cert.CellIdeal.Value

end
-- ==== Proof.CellValue.Source.lean ====
/-
The whole call as formulas on its arguments' entries: the causal convolution and its silu, each chunk's rows, the state
chunk after chunk, and the result.
-/
module

public import proofs.«01_k».proof.Proof.CellValue.Chunk

@[expose] public section

noncomputable section

namespace Cert.Cell

open Idealize.ShloMosaic

/-- The call's arguments, entry by entry: the convolved columns, the projection (values at 3072, output gates at 4096),
the gates as columns and as rows, the convolution's taps and bias, and the norm's weights. -/
structure Source where
  zc : Fin 32768 → Fin 1024 → EReal
  z : Fin 32768 → Fin 5120 → EReal
  gc : Fin 32768 → Fin 128 → EReal
  gr : Fin 16 → Fin 32768 → EReal
  tap : Fin 4 → Fin 1024 → EReal
  bias : Fin 1024 → EReal
  norm : Fin 1024 → EReal

/-- Row `t` of chunk `j` of batch `b`. -/
def row (b : Fin 2) (j t : Fin 128) : Fin 32768 := ⟨b.val * 16384 + j.val * 128 + t.val, by omega⟩

/-- Column `d` of head `h`, of the queries, the keys and the values. -/
def qcol (h : Fin 4) (d : Fin 128) : Fin 1024 := ⟨h.val * 128 + d.val, by omega⟩
def kcol (h : Fin 4) (d : Fin 128) : Fin 1024 := ⟨512 + h.val * 128 + d.val, by omega⟩
def vcol (h : Fin 4) (e : Fin 256) : Fin 1024 := ⟨h.val * 256 + e.val, by omega⟩

namespace Source

variable (S : Source)

/-- Row `r` of batch `b`'s columns under three rows of zeros. -/
def padded (b : Fin 2) (r : ℕ) (e : Fin 1024) : EReal :=
  if h : 3 ≤ r ∧ r - 3 < 16384 then S.zc ⟨b.val * 16384 + (r - 3), by omega⟩ e else 0

/-- The convolution, and its silu. -/
def conv (b : Fin 2) (r : ℕ) (e : Fin 1024) : EReal :=
  S.bias e + S.tap 0 e * S.padded b r e + S.tap 1 e * S.padded b (1 + r) e + S.tap 2 e * S.padded b (2 + r) e
    + S.tap 3 e * S.padded b (3 + r) e
def act (b : Fin 2) (r : ℕ) (e : Fin 1024) : EReal := S.conv b r e * Ideal.logistic (S.conv b r e)

/-- The rows of head `h` in chunk `j` of batch `b`. -/
def rows (b : Fin 2) (h : Fin 4) (j : Fin 128) : Rows where
  q t d := S.act b (j.val * 128 + t.val) (qcol h d)
  k t d := S.act b (j.val * 128 + t.val) (kcol h d) * Ideal.ofBits FTy.f32 1035273459#32
  v t e := S.z (row b j t) ⟨3072 + (vcol h e).val, by omega⟩
  ic t := S.gc (row b j t) ⟨8 + h.val, by omega⟩
  bc t := S.gc (row b j t) ⟨12 + h.val, by omega⟩
  ir t := S.gr ⟨8 + h.val, by omega⟩ (row b j t)
  br t := S.gr ⟨12 + h.val, by omega⟩ (row b j t)

/-- The state of head `h` of batch `b` before chunk `j`. -/
def mem (b : Fin 2) (h : Fin 4) : ℕ → Mem
  | 0 => Mem.empty
  | j + 1 => if hj : j < 128 then (S.rows b h ⟨j, hj⟩).step (mem b h j) else mem b h j

theorem mem_succ (b : Fin 2) (h : Fin 4) (j : Fin 128) : S.mem b h (j.val + 1) = (S.rows b h j).step (S.mem b h j.val) := by
  rw [mem, dif_pos j.isLt]

/-- The answers of head `h` in chunk `j` of batch `b`, before gate and norm. -/
def ans (b : Fin 2) (h : Fin 4) (j t : Fin 128) (e : Fin 256) : EReal := (S.rows b h j).ans (S.mem b h j.val) t e

/-- The result, entry by entry. -/
def result (b : Fin 2) (h : Fin 4) (j t : Fin 128) (e : Fin 256) : EReal :=
  gated (fun e => S.ans b h j t e) (fun e => S.z (row b j t) ⟨4096 + (vcol h e).val, by omega⟩) (S.norm (vcol h e)) e

end Source

end Cert.Cell

end
-- ==== Proof.CellValue.Entries.lean ====
/-
A grid point's blocks, head by head, are a chunk of the call's arguments; so the result block holds the chunk's answers
and the carried buffers go on by the chunk's step.
-/
module

public import proofs.«01_k».proof.Proof.CellValue.Point
public import proofs.«01_k».proof.Proof.CellValue.Source

@[expose] public section

set_option maxRecDepth 16384

noncomputable section

namespace Cert.CellIdeal.Value

open Idealize.ShloMosaic Idealize.ShloMosaic.TcCoe Idealize.ShloMosaic.Tactic Cert.CellIdeal Cert.CellIdeal.Gen Cert.Cell

/-- Four stores to disjoint places, and others before them, read back at one of the four. -/
theorem canon_four {Val : EltTy → Type} [∀ e, Nonempty (Val e)] {S : Shape} {e : EltTy} (r : Fin 4 → Rect S)
    (p : ∀ k, (r k).shape.Idx → Val e) (L : List (View.Piece Val S e)) (h : Fin 4) (x : (r h).shape.Idx) (y : S.Idx)
    (hy : (r h).emb x = y) (hd : ∀ k, k ≠ h → y ∉ (r k).set) :
    View.canon (⟨r 3, p 3⟩ :: ⟨r 2, p 2⟩ :: ⟨r 1, p 1⟩ :: ⟨r 0, p 0⟩ :: L) y = p h x := by
  subst hy
  rcases (by decide : ∀ h : Fin 4, h = 0 ∨ h = 1 ∨ h = 2 ∨ h = 3) h with rfl | rfl | rfl | rfl
  · have h3 := hd 3 (by decide)
    have h2 := hd 2 (by decide)
    have h1 := hd 1 (by decide)
    exact (View.canon_cons_of_not_mem ⟨r 3, p 3⟩ _ h3).trans ((View.canon_cons_of_not_mem ⟨r 2, p 2⟩ _ h2).trans
      ((View.canon_cons_of_not_mem ⟨r 1, p 1⟩ _ h1).trans (View.canon_cons_emb _ _ _ _)))
  · have h3 := hd 3 (by decide)
    have h2 := hd 2 (by decide)
    exact (View.canon_cons_of_not_mem ⟨r 3, p 3⟩ _ h3).trans ((View.canon_cons_of_not_mem ⟨r 2, p 2⟩ _ h2).trans
      (View.canon_cons_emb _ _ _ _))
  · have h3 := hd 3 (by decide)
    exact (View.canon_cons_of_not_mem ⟨r 3, p 3⟩ _ h3).trans (View.canon_cons_emb _ _ _ _)
  · exact View.canon_cons_emb _ _ _ _

/-- Two stores to disjoint places, read back at the earlier one's. -/
theorem canon_under {Val : EltTy → Type} [∀ e, Nonempty (Val e)] {S : Shape} {e : EltTy} (r r' : Rect S)
    (p : r.shape.Idx → Val e) (p' : r'.shape.Idx → Val e) (x : r'.shape.Idx) (y : S.Idx) (hy : r'.emb x = y) (hd : y ∉ r.set) :
    View.canon [⟨r, p⟩, ⟨r', p'⟩] y = p' x := by
  subst hy
  exact (View.canon_cons_of_not_mem ⟨r, p⟩ _ hd).trans (View.canon_cons_emb _ _ _ _)

variable (S : Source) (b : Fin 2) (j : Fin 128) (i : grid0.Coords)
  (x0 : Vec Ideal S128x1024 .f32) (x1 : Vec Ideal S8x1024 .f32) (x2 x3 : Vec Ideal S128x1024 .bf16)
  (x4 : Vec Ideal S128x128 .f32) (x5 : Vec Ideal S16x128 .f32) (x6 : Vec Ideal S4x1024 .f32) (x7 x8 : Vec Ideal S1x1024 .f32)
  (C : Vec Ideal S4x128x256 .f32) (n m : Vec Ideal S4x1x128 .f32)

/-- The blocks a point reads are chunk `j` of batch `b`. -/
structure Reads : Prop where
  at_i : (i 1).val = j.val
  h0 : ∀ (t : Fin 128) (e : Fin 1024), x0 (ix2 t e) = S.zc (row b j t) e
  h1 : ∀ (r : Fin 8) (e : Fin 1024) (R : Fin 32768), j.val ≠ 0 → R.val + 8 = b.val * 16384 + j.val * 128 + r.val → x1 (ix2 r e) = S.zc R e
  h2 : ∀ (t : Fin 128) (e : Fin 1024), x2 (ix2 t e) = S.z (row b j t) ⟨3072 + e.val, by omega⟩
  h3 : ∀ (t : Fin 128) (e : Fin 1024), x3 (ix2 t e) = S.z (row b j t) ⟨4096 + e.val, by omega⟩
  h4 : ∀ (t e : Fin 128), x4 (ix2 t e) = S.gc (row b j t) e
  h5 : ∀ (e : Fin 16) (t : Fin 128), x5 (ix2 e t) = S.gr e (row b j t)
  h6 : ∀ (k : Fin 4) (e : Fin 1024), x6 (ix2 k e) = S.tap k e
  h7 : ∀ e : Fin 1024, x7 (ix2 (0 : Fin 1) e) = S.bias e
  h8 : ∀ e : Fin 1024, x8 (ix2 (0 : Fin 1) e) = S.norm e

/-- The carried buffers hold the state before chunk `j`. -/
structure Holds (k : ℕ) : Prop where
  hC : ∀ (h : Fin 4) (d : Fin 128) (e : Fin 256), C (ix3 h d e) = (S.mem b h k).C d e
  hn : ∀ (h : Fin 4) (d : Fin 128), n (ix3 h (0 : Fin 1) d) = (S.mem b h k).n d
  hm : ∀ (h : Fin 4) (d : Fin 128), m (ix3 h (0 : Fin 1) d) = (S.mem b h k).m

theorem window_new (r : Fin 136) (e : Fin 1024) (h : 8 ≤ r.val) :
    window i x0 x1 (ix2 r e) = x0 (ix2 ⟨r.val - 8, by omega⟩ e) := by
  pointwise [window, k0_pay9, k0_pay10]
  have hy : ix2 r e = (Rect.unit (s := S136x1024) ![8, 0] ![128, 1024] (by decide)).emb (ix2 (⟨r.val - 8, by omega⟩ : Fin 128) e) := by
    funext a
    apply Fin.ext
    match a with
    | 0 => show r.val = 8 + 1 * (r.val - 8); omega
    | 1 => show e.val = 0 + 1 * e.val; omega
  rw [hy, View.canon_cons_emb]
  pointwise []

theorem window_old (r : Fin 136) (e : Fin 1024) (h : r.val < 8) :
    window i x0 x1 (ix2 r e) = if (i 1).val = 0 then 0 else x1 (ix2 ⟨r.val, h⟩ e) := by
  pointwise [window, k0_pay9, k0_pay10]
  have hy : ix2 r e = (Rect.unit (s := S136x1024) ![0, 0] ![8, 1024] (by decide)).emb (ix2 (⟨r.val, h⟩ : Fin 8) e) := by
    funext a
    apply Fin.ext
    match a with
    | 0 => show r.val = 0 + 1 * r.val; omega
    | 1 => show e.val = 0 + 1 * e.val; omega
  have hn : ix2 r e ∉ (Rect.unit (s := S136x1024) ![8, 0] ![128, 1024] (by decide)).set := by
    rw [Rect.mem_set_unit]
    intro hh
    have h8 : 8 ≤ r.val := (hh 0).1
    omega
  refine (canon_under (Val := Elt Ideal) (e := .f32) _ _ _ _ (ix2 (⟨r.val, h⟩ : Fin 8) e) _ hy.symm hn).trans ?_
  have hi : (i 1).val < 128 := (i 1).isLt
  have hc : Scalar.cmpi CmpIPredicate.eq (BitVec.ofNat 32 (i 1).val) 0#32 = BitVec.ofBool (decide ((i 1).val = 0)) :=
    WordCmp.cmpi_eq_ofNat (w := 32) (a := (i 1).val) (b := 0) (by omega) (by omega)
  rw [hc]
  by_cases h0 : (i 1).val = 0
  · rw [if_pos h0, WordCmp.select_ofBool, if_pos (decide_eq_true h0)]
    rfl
  · rw [if_neg h0, WordCmp.select_ofBool, if_neg (by simpa using h0)]
    pointwise []

section
variable {S b j i x0 x1 x2 x3 x4 x5 x6 x7 x8 C n m}
variable (H : Reads S b j i x0 x1 x2 x3 x4 x5 x6 x7 x8)
include H

/-- The window's rows, from the fifth on, are the padded columns' rows. -/
theorem window_apply (r : Fin 136) (e : Fin 1024) (k : ℕ) (hk : r.val + j.val * 128 = k + 5) :
    window i x0 x1 (ix2 r e) = S.padded b k e := by
  have hj := j.isLt
  have hr := r.isLt
  by_cases h : 8 ≤ r.val
  · rw [window_new i x0 x1 r e h, H.h0, Source.padded, dif_pos (by omega)]
    refine congrArg (S.zc · e) (Fin.ext ?_)
    show b.val * 16384 + j.val * 128 + (r.val - 8) = b.val * 16384 + (k - 3)
    omega
  · rw [window_old i x0 x1 r e (by omega), H.at_i]
    by_cases h0 : j.val = 0
    · rw [if_pos h0, Source.padded, dif_neg (by omega)]
    · rw [if_neg h0, Source.padded, dif_pos (by omega)]
      refine H.h1 _ _ _ h0 ?_
      show b.val * 16384 + (k - 3) + 8 = b.val * 16384 + j.val * 128 + r.val
      omega

theorem act_apply (t : Fin 128) (e : Fin 1024) :
    k0_pay13 (window i x0 x1) (older (window i x0 x1) x6 x7) (k0_pay12 (window i x0 x1)) (tap2 x6) (tap3 x6) (ix2 t e)
      = S.act b (j.val * 128 + t.val) e := by
  have ht := t.isLt
  pointwise [older, tap2, tap3, k0_pay13, k0_pay12, k0_pay11]
  rw [window_apply H _ e (j.val * 128 + t.val) (by show (8 + t.val + 136 - 3) % 136 + _ = _; omega),
    window_apply H _ e (1 + (j.val * 128 + t.val)) (by show (8 + t.val + 136 - 2) % 136 + _ = _; omega),
    window_apply H _ e (2 + (j.val * 128 + t.val)) (by show (8 + t.val + 136 - 1) % 136 + _ = _; omega),
    window_apply H _ e (3 + (j.val * 128 + t.val)) (by show 8 + t.val + _ = _; omega),
    H.h6, H.h6, H.h6, H.h6, H.h7]
  rfl

theorem all4_apply (t e : Fin 128) : all4 x4 (ix2 t e) = S.gc (row b j t) e := by
  pointwise [all4]
  exact H.h4 t e

theorem all5_apply (e : Fin 16) (t : Fin 128) : all5 x5 (ix2 e t) = S.gr e (row b j t) := by
  pointwise [all5]
  exact H.h5 e t

theorem rows_head0 : (head0 (window i x0 x1) x2 (all4 x4) (all5 x5) x6 x7 C n m).rows = S.rows b 0 j := by
  apply Rows.ext
  · funext t d
    pointwise [Blocks.rows, head0, k0_pay15]
    rw [act_apply H]
    exact congrArg (S.act b _) (Fin.ext (by simp [qcol]))
  · funext t d
    pointwise [Blocks.rows, head0, k0_pay19]
    rw [act_apply H]
    exact congrArg (fun e => S.act b _ e * _) (Fin.ext (by simp [kcol]))
  · funext t e
    pointwise [Blocks.rows, head0]
    rw [H.h2]
    exact congrArg (S.z _) (Fin.ext (by simp [vcol]))
  · funext t
    pointwise [Blocks.rows, head0, k0_pay23]
    exact all4_apply H t _
  · funext t
    pointwise [Blocks.rows, head0, k0_pay27]
    exact all4_apply H t _
  · funext t
    pointwise [Blocks.rows, head0, k0_pay31]
    exact all5_apply H _ t
  · funext t
    pointwise [Blocks.rows, head0, k0_pay35]
    exact all5_apply H _ t

theorem rows_head1 : (head1 (window i x0 x1) x2 (all4 x4) (all5 x5) x6 x7 C n m).rows = S.rows b 1 j := by
  apply Rows.ext
  · funext t d
    pointwise [Blocks.rows, head1, k0_pay16]
    rw [act_apply H]
    exact congrArg (S.act b _) (Fin.ext (by simp [qcol]))
  · funext t d
    pointwise [Blocks.rows, head1, k0_pay20]
    rw [act_apply H]
    exact congrArg (fun e => S.act b _ e * _) (Fin.ext (by simp [kcol]))
  · funext t e
    pointwise [Blocks.rows, head1]
    rw [H.h2]
    exact congrArg (S.z _) (Fin.ext (by simp [vcol]))
  · funext t
    pointwise [Blocks.rows, head1, k0_pay24]
    exact all4_apply H t _
  · funext t
    pointwise [Blocks.rows, head1, k0_pay28]
    exact all4_apply H t _
  · funext t
    pointwise [Blocks.rows, head1, k0_pay32]
    exact all5_apply H _ t
  · funext t
    pointwise [Blocks.rows, head1, k0_pay36]
    exact all5_apply H _ t

theorem rows_head2 : (head2 (window i x0 x1) x2 (all4 x4) (all5 x5) x6 x7 C n m).rows = S.rows b 2 j := by
  apply Rows.ext
  · funext t d
    pointwise [Blocks.rows, head2, k0_pay17]
    rw [act_apply H]
    exact congrArg (S.act b _) (Fin.ext (by simp [qcol]))
  · funext t d
    pointwise [Blocks.rows, head2, k0_pay21]
    rw [act_apply H]
    exact congrArg (fun e => S.act b _ e * _) (Fin.ext (by simp [kcol]))
  · funext t e
    pointwise [Blocks.rows, head2]
    rw [H.h2]
    exact congrArg (S.z _) (Fin.ext (by simp [vcol]))
  · funext t
    pointwise [Blocks.rows, head2, k0_pay25]
    exact all4_apply H t _
  · funext t
    pointwise [Blocks.rows, head2, k0_pay29]
    exact all4_apply H t _
  · funext t
    pointwise [Blocks.rows, head2, k0_pay33]
    exact all5_apply H _ t
  · funext t
    pointwise [Blocks.rows, head2, k0_pay37]
    exact all5_apply H _ t

theorem rows_head3 : (head3 (window i x0 x1) x2 (all4 x4) (all5 x5) x6 x7 C n m).rows = S.rows b 3 j := by
  apply Rows.ext
  · funext t d
    pointwise [Blocks.rows, head3, k0_pay18]
    rw [act_apply H]
    exact congrArg (S.act b _) (Fin.ext (by simp [qcol]))
  · funext t d
    pointwise [Blocks.rows, head3, k0_pay22]
    rw [act_apply H]
    exact congrArg (fun e => S.act b _ e * _) (Fin.ext (by simp [kcol]))
  · funext t e
    pointwise [Blocks.rows, head3]
    rw [H.h2]
    exact congrArg (S.z _) (Fin.ext (by simp [vcol]))
  · funext t
    pointwise [Blocks.rows, head3, k0_pay26]
    exact all4_apply H t _
  · funext t
    pointwise [Blocks.rows, head3, k0_pay30]
    exact all4_apply H t _
  · funext t
    pointwise [Blocks.rows, head3, k0_pay34]
    exact all5_apply H _ t
  · funext t
    pointwise [Blocks.rows, head3, k0_pay38]
    exact all5_apply H _ t

end

/-- Head `h`'s blocks. -/
def headOf (w : Vec Ideal S136x1024 .f32) : Fin 4 → Blocks
  | 0 => head0 w x2 x4 x5 x6 x7 C n m
  | 1 => head1 w x2 x4 x5 x6 x7 C n m
  | 2 => head2 w x2 x4 x5 x6 x7 C n m
  | 3 => head3 w x2 x4 x5 x6 x7 C n m

section
variable {S b j i x0 x1 x2 x3 x4 x5 x6 x7 x8 C n m}

theorem mem_headOf (w : Vec Ideal S136x1024 .f32) {k : ℕ} (M : Holds S b C n m k) : ∀ h, (headOf x2 x4 x5 x6 x7 C n m w h).mem = S.mem b h k
  | 0 => by
    show (head0 w x2 x4 x5 x6 x7 C n m).mem = _
    apply Mem.ext
    · funext d e
      pointwise [Blocks.mem, head0, k0_pay43]
      exact M.hC _ d e
    · funext d
      pointwise [Blocks.mem, head0, k0_pay47]
      exact M.hn _ d
    · pointwise [Blocks.mem, head0, k0_pay52, k0_pay51]
      exact M.hm _ _
  | 1 => by
    show (head1 w x2 x4 x5 x6 x7 C n m).mem = _
    apply Mem.ext
    · funext d e
      pointwise [Blocks.mem, head1, k0_pay44]
      exact M.hC _ d e
    · funext d
      pointwise [Blocks.mem, head1, k0_pay48]
      exact M.hn _ d
    · pointwise [Blocks.mem, head1, k0_pay53]
      exact M.hm _ _
  | 2 => by
    show (head2 w x2 x4 x5 x6 x7 C n m).mem = _
    apply Mem.ext
    · funext d e
      pointwise [Blocks.mem, head2, k0_pay45]
      exact M.hC _ d e
    · funext d
      pointwise [Blocks.mem, head2, k0_pay49]
      exact M.hn _ d
    · pointwise [Blocks.mem, head2, k0_pay54]
      exact M.hm _ _
  | 3 => by
    show (head3 w x2 x4 x5 x6 x7 C n m).mem = _
    apply Mem.ext
    · funext d e
      pointwise [Blocks.mem, head3, k0_pay46]
      exact M.hC _ d e
    · funext d
      pointwise [Blocks.mem, head3, k0_pay50]
      exact M.hn _ d
    · pointwise [Blocks.mem, head3, k0_pay55]
      exact M.hm _ _

variable (H : Reads S b j i x0 x1 x2 x3 x4 x5 x6 x7 x8) (M : Holds S b C n m j.val)
include H

theorem rows_headOf : ∀ h, (headOf x2 (all4 x4) (all5 x5) x6 x7 C n m (window i x0 x1) h).rows = S.rows b h j
  | 0 => rows_head0 H
  | 1 => rows_head1 H
  | 2 => rows_head2 H
  | 3 => rows_head3 H

include M

/-- The result block. -/
theorem outOf_apply (h : Fin 4) (t : Fin 128) (e : Fin 256) :
    outOf (window i x0 x1) x2 (all4 x4) (all5 x5) x6 x7 C n m x3 x8 (ix2 t (vcol h e)) = S.result b h j t e := by
  have hb : ∀ (k : Fin 4) (a : Fin 2), (![0, 256 * k.val] : Fin 2 → ℕ) a + (![128, 256] : Fin 2 → ℕ) a ≤ S128x1024.size a := by decide
  have hw : ∀ (k : Fin 4) (a : Fin 2), (![0, 256 * k.val] : Fin 2 → ℕ) a + (![1, 256] : Fin 2 → ℕ) a ≤ S1x1024.size a := by decide
  refine (canon_four (Val := Elt Ideal) (e := .bf16) (fun k => Rect.unit (s := S128x1024) ![0, 256 * k.val] ![128, 256] (hb k))
    (fun k => (headOf x2 (all4 x4) (all5 x5) x6 x7 C n m (window i x0 x1) k).out (View.ld x3 (Rect.unit (s := S128x1024) ![0, 256 * k.val] ![128, 256] (hb k)))
      (View.ld x8 (Rect.unit (s := S1x1024) ![0, 256 * k.val] ![1, 256] (hw k)))) [] h (ix2 t e) _ ?_ ?_).trans ?_
  · funext a
    apply Fin.ext
    match a with
    | 0 => show 0 + 1 * t.val = t.val; omega
    | 1 => show 256 * h.val + 1 * e.val = h.val * 256 + e.val; omega
  · intro k hk
    rw [Rect.mem_set_unit]
    intro hh
    have h1 : 256 * k.val ≤ h.val * 256 + e.val := (hh 1).1
    have h2 : h.val * 256 + e.val < 256 * k.val + 256 := (hh 1).2
    exact hk (Fin.ext (by omega))
  · refine (Blocks.out_apply _ _ _ t e).trans ?_
    rw [rows_headOf H, mem_headOf _ M]
    have e3 : ∀ x : Fin 256, View.ld x3 (Rect.unit (s := S128x1024) ![0, 256 * h.val] ![128, 256] (hb h)) (ix2 t x)
        = S.z (row b j t) ⟨4096 + (vcol h x).val, by omega⟩ := fun x => by
      rw [← H.h3]
      refine congrArg x3 (funext fun a => Fin.ext ?_)
      match a with
      | 0 => show 0 + 1 * t.val = t.val; omega
      | 1 => show 256 * h.val + 1 * x.val = h.val * 256 + x.val; omega
    have e8 : View.ld x8 (Rect.unit (s := S1x1024) ![0, 256 * h.val] ![1, 256] (hw h)) (ix2 (0 : Fin 1) e) = S.norm (vcol h e) := by
      rw [← H.h8]
      refine congrArg x8 (funext fun a => Fin.ext ?_)
      match a with
      | 0 => rfl
      | 1 => show 256 * h.val + 1 * e.val = h.val * 256 + e.val; omega
    rw [e8]
    simp only [e3]
    rfl

/-- The carried matrices. -/
theorem COf_apply (L : List (View.Piece (Elt Ideal) S4x128x256 .f32)) (h : Fin 4) (d : Fin 128) (e : Fin 256) :
    COf (window i x0 x1) x2 (all4 x4) (all5 x5) x6 x7 C n m L (ix3 h d e) = (S.mem b h (j.val + 1)).C d e := by
  have hb : ∀ (k : Fin 4) (a : Fin 3), (![k.val, 0, 0] : Fin 3 → ℕ) a + (![1, 128, 256] : Fin 3 → ℕ) a ≤ S4x128x256.size a := by decide
  refine (canon_four (Val := Elt Ideal) (e := .f32) (fun k => Rect.unit (s := S4x128x256) ![k.val, 0, 0] ![1, 128, 256] (hb k))
    (fun k => (headOf x2 (all4 x4) (all5 x5) x6 x7 C n m (window i x0 x1) k).C') L h (ix3 (0 : Fin 1) d e) _ ?_ ?_).trans ?_
  · funext a
    apply Fin.ext
    match a with
    | 0 => show h.val + 1 * 0 = h.val; omega
    | 1 => show 0 + 1 * d.val = d.val; omega
    | 2 => show 0 + 1 * e.val = e.val; omega
  · intro k hk
    rw [Rect.mem_set_unit]
    intro hh
    have h1 : k.val ≤ h.val := (hh 0).1
    have h2 : h.val < k.val + 1 := (hh 0).2
    exact hk (Fin.ext (by omega))
  · refine (Blocks.C'_apply _ d e).trans ?_
    rw [rows_headOf H, mem_headOf _ M, Source.mem_succ]

/-- The carried vectors. -/
theorem nOf_apply (L : List (View.Piece (Elt Ideal) S4x1x128 .f32)) (h : Fin 4) (d : Fin 128) :
    nOf (window i x0 x1) x2 (all4 x4) (all5 x5) x6 x7 C n m L (ix3 h (0 : Fin 1) d) = (S.mem b h (j.val + 1)).n d := by
  have hb : ∀ (k : Fin 4) (a : Fin 3), (![k.val, 0, 0] : Fin 3 → ℕ) a + (![1, 1, 128] : Fin 3 → ℕ) a ≤ S4x1x128.size a := by decide
  refine (canon_four (Val := Elt Ideal) (e := .f32) (fun k => Rect.unit (s := S4x1x128) ![k.val, 0, 0] ![1, 1, 128] (hb k))
    (fun k => (headOf x2 (all4 x4) (all5 x5) x6 x7 C n m (window i x0 x1) k).n') L h (ix3 (0 : Fin 1) (0 : Fin 1) d) _ ?_ ?_).trans ?_
  · funext a
    apply Fin.ext
    match a with
    | 0 => show h.val + 1 * 0 = h.val; omega
    | 1 => rfl
    | 2 => show 0 + 1 * d.val = d.val; omega
  · intro k hk
    rw [Rect.mem_set_unit]
    intro hh
    have h1 : k.val ≤ h.val := (hh 0).1
    have h2 : h.val < k.val + 1 := (hh 0).2
    exact hk (Fin.ext (by omega))
  · refine (Blocks.n'_apply _ d).trans ?_
    rw [rows_headOf H, mem_headOf _ M, Source.mem_succ]

/-- The carried scales. -/
theorem mOf_apply (L : List (View.Piece (Elt Ideal) S4x1x128 .f32)) (h : Fin 4) (d : Fin 128) :
    mOf (window i x0 x1) x2 (all4 x4) (all5 x5) x6 x7 C n m L (ix3 h (0 : Fin 1) d) = (S.mem b h (j.val + 1)).m := by
  have hb : ∀ (k : Fin 4) (a : Fin 3), (![k.val, 0, 0] : Fin 3 → ℕ) a + (![1, 1, 128] : Fin 3 → ℕ) a ≤ S4x1x128.size a := by decide
  refine (canon_four (Val := Elt Ideal) (e := .f32) (fun k => Rect.unit (s := S4x1x128) ![k.val, 0, 0] ![1, 1, 128] (hb k))
    (fun k => (headOf x2 (all4 x4) (all5 x5) x6 x7 C n m (window i x0 x1) k).m') L h (ix3 (0 : Fin 1) (0 : Fin 1) d) _ ?_ ?_).trans ?_
  · funext a
    apply Fin.ext
    match a with
    | 0 => show h.val + 1 * 0 = h.val; omega
    | 1 => rfl
    | 2 => show 0 + 1 * d.val = d.val; omega
  · intro k hk
    rw [Rect.mem_set_unit]
    intro hh
    have h1 : k.val ≤ h.val := (hh 0).1
    have h2 : h.val < k.val + 1 := (hh 0).2
    exact hk (Fin.ext (by omega))
  · refine (Blocks.m'_apply _ d).trans ?_
    rw [rows_headOf H, mem_headOf _ M, Source.mem_succ]

end

end Cert.CellIdeal.Value

end
-- ==== Proof.CellValue.RefChunk.lean ====
/-
One trip of the reference's scan, head by head: each entry that of the formulas on extended reals.
-/
module

public import proofs.«01_k».proof.Proof.Gen.CellReferenceIdeal.Step
public import proofs.«01_k».proof.Proof.CellValue.Chunk
public import Idealize.ShloMosaic.Lib.Pointwise
public import Idealize.ShloMosaic.Lib.Pipeline.ValueKit

@[expose] public section

set_option maxRecDepth 16384

noncomputable section

namespace Cert.CellReferenceIdeal.Value

open Idealize.ShloMosaic Idealize.ShloMosaic.TcCoe Idealize.ShloMosaic.Tactic Cert.CellReferenceIdeal Cert.CellReferenceIdeal.Gen Cert.CellReferenceIdeal.Step Cert.Cell

variable (j : ℕ) (s : State Ideal) (b : Fin 2) (h : Fin 4)

/-- What a trip reads of its chunk. -/
def rows : Rows where
  q t d := b7 j s (ix4 b h t d)
  k t d := b13 j s (ix4 b h t d)
  v t e := b19 j s (ix4 b h t e)
  ic t := b24 j s (ix3 b h t)
  bc t := b29 j s (ix3 b h t)
  ir t := b34 j s (ix3 b h t)
  br t := b39 j s (ix3 b h t)

/-- A head's part of the state. -/
def mem : Mem where
  C d e := s.main_v77_10 (ix4 b h d e)
  n d := s.main_v77_11 (ix3 b h d)
  m := s.main_v77_12 (ix3 b h (0 : Fin 1))

theorem last_apply : b40 j s (ix3 b h (0 : Fin 1)) = (rows j s b h).br 127 := by
  pointwise [b40]
  rfl

theorem loc_apply : b46 j s (ix3 b h (0 : Fin 1)) = (rows j s b h).locMax := by
  pointwise [b46, b45, b44, b43, b42, b41, last_apply]
  rfl

theorem keys_apply (t d : Fin 128) : b55 j s (ix4 b h t d) = (rows j s b h).kw t d := by
  pointwise [b55, b54, b53, b52, b51, b50, b49, b48, b47, last_apply, loc_apply]
  rfl

theorem decays_apply (t r : Fin 128) : b70 j s (ix4 b h t r) = (rows j s b h).dec t r := by
  pointwise [b70, b69, b68, b67, b66, b65, b64, b63, b62, b61, b60, b59, b58, K_main_v57, K_main_v56, K_main_v55, K_main_v54, K_main_v53, K_main_v52, K_main_v51]
  rw [mask_apply]
  rfl

theorem most_apply (t : Fin 128) : b73 j s (ix3 b h t) = (rows j s b h).top (mem s b h) t := by
  pointwise [b73, b72, b71, b57, b56, decays_apply]
  rfl

theorem weight_apply (t r : Fin 128) : b79 j s (ix4 b h t r) = (rows j s b h).weight (mem s b h) t r := by
  pointwise [b79, b78, b77, b76, b75, b74, decays_apply, most_apply]
  rfl

theorem inter_apply (t : Fin 128) : b81 j s (ix3 b h t) = (rows j s b h).inter (mem s b h) t := by
  pointwise [b81, b80, b57, b56, most_apply]
  rfl

theorem num_apply (t : Fin 128) (e : Fin 256) : b87 j s (ix4 b h t e) = (rows j s b h).num (mem s b h) t e := by
  pointwise [b87, b86, b85, b84, b83, b82, weight_apply, inter_apply]
  rfl

theorem den_apply (t : Fin 128) : b96 j s (ix3 b h t) = (rows j s b h).den (mem s b h) t := by
  pointwise [b96, b95, b94, b93, b92, b91, b90, b89, b88, weight_apply, inter_apply]
  rfl

theorem ans_apply (t : Fin 128) (e : Fin 256) : b103 j s (ix4 b h t e) = (rows j s b h).ans (mem s b h) t e := by
  pointwise [b103, b102, b101, b100, b99, b98, b97, num_apply, den_apply, most_apply]
  rfl

theorem mNew_apply : b105 j s (ix3 b h (0 : Fin 1)) = (rows j s b h).mNew (mem s b h) := by
  pointwise [b105, b104, last_apply, loc_apply]
  rfl

theorem C_apply (d : Fin 128) (e : Fin 256) : b118 j s (ix4 b h d e) = ((rows j s b h).step (mem s b h)).C d e := by
  pointwise [b118, b117, b116, b115, b114, b113, b112, b111, b110, b109, b108, b107, b106, last_apply, loc_apply, mNew_apply, keys_apply]
  rfl

theorem n_apply (d : Fin 128) : b125 j s (ix3 b h d) = ((rows j s b h).step (mem s b h)).n d := by
  pointwise [b125, b124, b123, b122, b121, b120, b119, b110, b109, b108, b107, b106, last_apply, loc_apply, mNew_apply, keys_apply]
  rfl

/-- A trip takes every head's state one step. -/
theorem mem_step : mem (step j s) b h = (rows j s b h).step (mem s b h) := by
  apply Mem.ext
  · funext d e; exact C_apply j s b h d e
  · funext d; exact n_apply j s b h d
  · exact mNew_apply j s b h

end Cert.CellReferenceIdeal.Value

end
-- ==== Proof.CellValue.RefRows.lean ====
/-
The reference, run to its end: each trip reads its chunk of the constants, the constants are the arguments' entries, so
the states are the formulas', trip after trip, and the result is theirs.
-/
module

public import proofs.«01_k».proof.Proof.CellValue.RefChunk
public import proofs.«01_k».proof.Proof.CellValue.Source

@[expose] public section

set_option maxRecDepth 16384

noncomputable section

namespace Cert.CellReferenceIdeal.Value

open Idealize.ShloMosaic Idealize.ShloMosaic.TcCoe Idealize.ShloMosaic.Tactic Cert.CellReferenceIdeal Cert.CellReferenceIdeal.Gen Cert.CellReferenceIdeal.Step Cert.Cell

/-- Where trip `j`'s slice starts, clamped into the array. -/
def start (j : ℕ) : ℕ := (min (max (BitVec.ofNat 32 j).toInt 0) ((128 - 1 : Nat) : Int)).toNat

theorem start_eq : ∀ j : Fin 128, start j.val = j.val := by decide

section
variable (s : State Ideal) (j : Fin 128) (b : Fin 2) (h : Fin 4)

theorem q_apply (t d : Fin 128) : b7 j.val s (ix4 b h t d) = s.main_v77_1 (ix5 j b h t d) := by
  pointwise [b7, b6, b5, b4, b3, b2]
  show s.main_v77_1 (ix5 ⟨start j.val, _⟩ ⟨0 + b.val, _⟩ ⟨0 + h.val, _⟩ ⟨0 + t.val, _⟩ ⟨0 + d.val, _⟩) = _
  simp only [start_eq, Nat.zero_add]

theorem k_apply (t d : Fin 128) : b13 j.val s (ix4 b h t d) = s.main_v77_2 (ix5 j b h t d) := by
  pointwise [b13, b12, b11, b10, b9, b8]
  show s.main_v77_2 (ix5 ⟨start j.val, _⟩ ⟨0 + b.val, _⟩ ⟨0 + h.val, _⟩ ⟨0 + t.val, _⟩ ⟨0 + d.val, _⟩) = _
  simp only [start_eq, Nat.zero_add]

theorem v_apply (t : Fin 128) (e : Fin 256) : b19 j.val s (ix4 b h t e) = s.main_v77_3 (ix5 j b h t e) := by
  pointwise [b19, b18, b17, b16, b15, b14]
  show s.main_v77_3 (ix5 ⟨start j.val, _⟩ ⟨0 + b.val, _⟩ ⟨0 + h.val, _⟩ ⟨0 + t.val, _⟩ ⟨0 + e.val, _⟩) = _
  simp only [start_eq, Nat.zero_add]

theorem ic_apply (t : Fin 128) : b24 j.val s (ix3 b h t) = s.main_v77_4 (ix4 j b h t) := by
  pointwise [b24, b23, b22, b21, b20]
  show s.main_v77_4 (ix4 ⟨start j.val, _⟩ ⟨0 + b.val, _⟩ ⟨0 + h.val, _⟩ ⟨0 + t.val, _⟩) = _
  simp only [start_eq, Nat.zero_add]

theorem bc_apply (t : Fin 128) : b29 j.val s (ix3 b h t) = s.main_v77_5 (ix4 j b h t) := by
  pointwise [b29, b28, b27, b26, b25]
  show s.main_v77_5 (ix4 ⟨start j.val, _⟩ ⟨0 + b.val, _⟩ ⟨0 + h.val, _⟩ ⟨0 + t.val, _⟩) = _
  simp only [start_eq, Nat.zero_add]

theorem ir_apply (t : Fin 128) : b34 j.val s (ix3 b h t) = s.main_v77_6 (ix4 j b h t) := by
  pointwise [b34, b33, b32, b31, b30]
  show s.main_v77_6 (ix4 ⟨start j.val, _⟩ ⟨0 + b.val, _⟩ ⟨0 + h.val, _⟩ ⟨0 + t.val, _⟩) = _
  simp only [start_eq, Nat.zero_add]

theorem br_apply (t : Fin 128) : b39 j.val s (ix3 b h t) = s.main_v77_7 (ix4 j b h t) := by
  pointwise [b39, b38, b37, b36, b35]
  show s.main_v77_7 (ix4 ⟨start j.val, _⟩ ⟨0 + b.val, _⟩ ⟨0 + h.val, _⟩ ⟨0 + t.val, _⟩) = _
  simp only [start_eq, Nat.zero_add]

/-- A trip puts its answers at its own place and leaves the other chunks'. -/
theorem answers_apply (c : Fin 128) (t : Fin 128) (e : Fin 256) :
    b132 j.val s (ix5 c b h t e) = if c = j then b103 j.val s (ix4 b h t e) else s.main_v77_13 (ix5 c b h t e) := by
  pointwise [b132, b131, b130, b129, b128, b127, b126, b1, b0, K_main_v62]
  show Scalar.select (IntOp.cmpi CmpIPredicate.eq (BitVec.ofNat 32 c.val) (BitVec.ofNat 32 (start j.val))) _ _ = _
  rw [start_eq, WordCmp.cmpi_eq_ofNat (by have := c.isLt; omega) (by have := j.isLt; omega)]
  by_cases hc : c = j
  · simp [Scalar.select, hc]
  · have h' : ¬ c.val = j.val := fun h => hc (Fin.ext h)
    simp [Scalar.select, hc, h']

end

section
variable (a0 : FVec Ideal S32768x1024 .f32) (a1 : FVec Ideal S32768x5120 .bf16) (a2 : FVec Ideal S32768x128 .f32)
  (a3 : FVec Ideal S16x32768 .f32) (a4 : FVec Ideal S4x1024 .f32) (a5 : FVec Ideal S1x1024 .f32) (a6 : FVec Ideal S1x1024 .f32)

/-- The arguments' entries. -/
def source : Source where
  zc r e := a0 (ix2 r e)
  z r e := a1 (ix2 r e)
  gc r e := a2 (ix2 r e)
  gr e r := a3 (ix2 e r)
  tap i e := a4 (ix2 i e)
  bias e := a5 (ix2 (0 : Fin 1) e)
  norm e := a6 (ix2 (0 : Fin 1) e)

theorem padded_apply (b : Fin 2) (r : Fin 16387) (e : Fin 1024) :
    A_main_v1 (F := Ideal) a0 a1 a2 a3 a4 a5 (ix3 b r e) = (source a0 a1 a2 a3 a4 a5 a6).padded b r.val e := by
  have hz : FloatOps.sitofp (F := Ideal) FTy.f32 0#32 = 0 := by
    simp [FloatOps.sitofp]
  pointwise [A_main_v1, A_main_v0, K_main_call0_v0, K_main_c]
  rw [hz]
  rfl

theorem conv_apply (b : Fin 2) (r : Fin 16384) (e : Fin 1024) :
    A_main_v31 (F := Ideal) a0 a1 a2 a3 a4 a5 (ix3 b r e) = (source a0 a1 a2 a3 a4 a5 a6).conv b r.val e := by
  pointwise [A_main_v31, A_main_v30, A_main_v29, A_main_v28, A_main_v27, A_main_v26, A_main_v25, A_main_v24, A_main_v23,
    A_main_v22, A_main_v21, A_main_v20, A_main_v19, A_main_v18, A_main_v17, A_main_v16, A_main_v15, A_main_v14, A_main_v13,
    A_main_v12, A_main_v11, A_main_v10, A_main_v9, A_main_v8, A_main_v7, A_main_v6, A_main_v5, A_main_v4, A_main_v3, A_main_v2]
  simp only [padded_apply a0 a1 a2 a3 a4 a5 a6]
  rfl

theorem act_apply (b : Fin 2) (r : Fin 16384) (e : Fin 1024) :
    A_main_v38 (F := Ideal) a0 a1 a2 a3 a4 a5 (ix3 b r e) = (source a0 a1 a2 a3 a4 a5 a6).act b r.val e := by
  pointwise [A_main_v38, A_main_v37, A_main_v35, A_main_v33, A_main_v32, K_main_v34, K_main_v36, K_main_cst, K_main_cst_0]
  rw [conv_apply a0 a1 a2 a3 a4 a5 a6]
  rfl

/-- The states, trip after trip. -/
def states : ℕ → State Ideal
  | 0 => init a0 a1 a2 a3 a4 a5
  | n + 1 => step n (states n)

theorem states_1 : ∀ n, (states a0 a1 a2 a3 a4 a5 n).main_v77_1 = A_main_v64 a0 a1 a2 a3 a4 a5
  | 0 => rfl
  | n + 1 => states_1 n
theorem states_2 : ∀ n, (states a0 a1 a2 a3 a4 a5 n).main_v77_2 = A_main_v68 a0 a1 a2 a3 a4 a5
  | 0 => rfl
  | n + 1 => states_2 n
theorem states_3 : ∀ n, (states a0 a1 a2 a3 a4 a5 n).main_v77_3 = A_main_v44 a0 a1 a2 a3 a4 a5
  | 0 => rfl
  | n + 1 => states_3 n
theorem states_4 : ∀ n, (states a0 a1 a2 a3 a4 a5 n).main_v77_4 = A_main_v70 a0 a1 a2 a3 a4 a5
  | 0 => rfl
  | n + 1 => states_4 n
theorem states_5 : ∀ n, (states a0 a1 a2 a3 a4 a5 n).main_v77_5 = A_main_v72 a0 a1 a2 a3 a4 a5
  | 0 => rfl
  | n + 1 => states_5 n
theorem states_6 : ∀ n, (states a0 a1 a2 a3 a4 a5 n).main_v77_6 = A_main_v74 a0 a1 a2 a3 a4 a5
  | 0 => rfl
  | n + 1 => states_6 n
theorem states_7 : ∀ n, (states a0 a1 a2 a3 a4 a5 n).main_v77_7 = A_main_v76 a0 a1 a2 a3 a4 a5
  | 0 => rfl
  | n + 1 => states_7 n

/-- What trip `j` reads is chunk `j` of the arguments. -/
theorem rows_eq (n : ℕ) (j : Fin 128) (b : Fin 2) (h : Fin 4) :
    rows j.val (states a0 a1 a2 a3 a4 a5 n) b h = (source a0 a1 a2 a3 a4 a5 a6).rows b h j := by
  apply Rows.ext
  · funext t d
    refine (q_apply _ j b h t d).trans ?_
    rw [states_1]
    pointwise [A_main_v64, A_main_v63, A_main_v40, A_main_v39]
    rw [act_apply a0 a1 a2 a3 a4 a5 a6]
    rfl
  · funext t d
    refine (k_apply _ j b h t d).trans ?_
    rw [states_2]
    pointwise [A_main_v68, A_main_v66, A_main_v65, K_main_v67, K_main_cst_5, A_main_v40, A_main_v39]
    rw [act_apply a0 a1 a2 a3 a4 a5 a6]
    rfl
  · funext t e
    refine (v_apply _ j b h t e).trans ?_
    rw [states_3]
    pointwise [A_main_v44, A_main_v43, A_main_v42, A_main_v41]
    rfl
  · funext t
    refine (ic_apply _ j b h t).trans ?_
    rw [states_4]
    pointwise [A_main_v70, A_main_v69, A_main_v47, A_main_v46, A_main_v45]
    rfl
  · funext t
    refine (bc_apply _ j b h t).trans ?_
    rw [states_5]
    pointwise [A_main_v72, A_main_v71, A_main_v47, A_main_v46, A_main_v45]
    refine congrArg (fun i => a2 (ix2 _ i)) (Fin.ext ?_)
    show 8 + (4 + h.val) = 12 + h.val
    omega
  · funext t
    refine (ir_apply _ j b h t).trans ?_
    rw [states_6]
    pointwise [A_main_v74, A_main_v73, A_main_v50, A_main_v49, A_main_v48]
    rfl
  · funext t
    refine (br_apply _ j b h t).trans ?_
    rw [states_7]
    pointwise [A_main_v76, A_main_v75, A_main_v50, A_main_v49, A_main_v48]
    refine congrArg (fun i => a3 (ix2 i _)) (Fin.ext ?_)
    show 8 + (4 + h.val) = 12 + h.val
    omega

/-- Every state's memory. -/
theorem mem_eq (b : Fin 2) (h : Fin 4) : ∀ n, n ≤ 128 →
    mem (states a0 a1 a2 a3 a4 a5 n) b h = (source a0 a1 a2 a3 a4 a5 a6).mem b h n
  | 0, _ => by
    apply Mem.ext
    · funext d e
      show K_main_v58 (F := Ideal) (ix4 b h d e) = 0
      pointwise [K_main_v58, K_main_cst_1]
    · funext d
      show K_main_v59 (F := Ideal) (ix3 b h d) = 0
      pointwise [K_main_v59, K_main_cst_2]
    · show K_main_v60 (F := Ideal) (ix3 b h (0 : Fin 1)) = 0
      pointwise [K_main_v60, K_main_cst_3]
  | n + 1, hn => by
    have hj : n < 128 := hn
    show mem (step n (states a0 a1 a2 a3 a4 a5 n)) b h = _
    rw [mem_step, mem_eq b h n (by omega), rows_eq a0 a1 a2 a3 a4 a5 a6 n ⟨n, hj⟩ b h, Source.mem, dif_pos hj]

/-- The answers of the chunks gone by. -/
theorem ans_eq (b : Fin 2) (h : Fin 4) (c t : Fin 128) (e : Fin 256) : ∀ n, n ≤ 128 → c.val < n →
    (states a0 a1 a2 a3 a4 a5 n).main_v77_13 (ix5 c b h t e) = (source a0 a1 a2 a3 a4 a5 a6).ans b h c t e
  | 0, _, hc => absurd hc (Nat.not_lt_zero _)
  | n + 1, hn, hc => by
    have hj : n < 128 := hn
    show b132 n (states a0 a1 a2 a3 a4 a5 n) (ix5 c b h t e) = _
    rw [answers_apply _ ⟨n, hj⟩]
    by_cases he : c = ⟨n, hj⟩
    · rw [if_pos he, ans_apply, rows_eq a0 a1 a2 a3 a4 a5 a6 n ⟨n, hj⟩ b h, mem_eq a0 a1 a2 a3 a4 a5 a6 b h n (by omega), he]
      rfl
    · rw [if_neg he]
      exact ans_eq b h c t e n (by omega) (by
        have : c.val ≠ n := fun h => he (Fin.ext h)
        omega)

/-- The result. -/
theorem result_eq (b : Fin 2) (h : Fin 4) (j t : Fin 128) (e : Fin 256) :
    R_main_v103 (F := Ideal) (states a0 a1 a2 a3 a4 a5 128) a1 a6 (ix2 (row b j t) (vcol h e))
      = (source a0 a1 a2 a3 a4 a5 a6).result b h j t e := by
  unfold row vcol
  pointwise [R_main_v103]
  simp only [fun x => ans_eq a0 a1 a2 a3 a4 a5 a6 b h j t x 128 (le_refl _) j.isLt]
  rfl

end

end Cert.CellReferenceIdeal.Value

end
-- ==== Proof.CellValue.Output.lean ====
/-
The matrix memory over the extended reals: point after point the carried buffers hold the formulas' states, so every
result block holds its chunk's answers, and after the grid the result array is the formulas' result.
-/
module

public import proofs.«01_k».proof.Proof.CellValue.Entries
public import proofs.«01_k».proof.Proof.CellValue.RefRows
public import Idealize.ShloMosaic.Lib.Claim

@[expose] public section

set_option maxRecDepth 16384

noncomputable section

namespace Cert.CellIdeal.Value

open Idealize.ShloMosaic Idealize.ShloMosaic.TcCoe Idealize.ShloMosaic.Tactic Cert.CellIdeal Cert.CellIdeal.Gen Cert.Cell
open Idealize.ShloMosaic.Pipeline (Dat Cfg Window)

variable (m : (ℓ : Loc nD τ sig) → Buf (Elt Ideal) ℓ) (c : Dev nD)

/-- One device's arguments. -/
def source : Source :=
  Cert.CellReferenceIdeal.Value.source (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Where each window's block lies at a grid point. -/
theorem idx : ∀ t : Fin cfg0.N, win0_0.index t = ![t.val, 0] ∧ (t.val % 128 ≠ 0 → win0_1.index t = ![16 * t.val - 1, 0]) ∧ win0_2.index t = ![t.val, 3]
    ∧ win0_3.index t = ![t.val, 4] ∧ win0_4.index t = ![t.val, 0] ∧ win0_5.index t = ![0, t.val] ∧ win0_6.index t = ![0, 0]
    ∧ win0_7.index t = ![0, 0] ∧ win0_8.index t = ![0, 0] ∧ win0_9.index t = ![t.val, 0]
    ∧ (grid0.coords t 1).val = t.val % 128 ∧ t.val < 256 :=
  (by decide +kernel : ∀ t : Fin grid0.N, _)

/-- A grid point reads its chunk. -/
theorem reads (b : Fin 2) (j : Fin 128) (t : Fin cfg0.N) (ht : t.val = b.val * 128 + j.val) :
    Reads (source m c) b j (grid0.coords t) (iblk m c 0 t) (iblk m c 1 t) (iblk m c 2 t) (iblk m c 3 t) (iblk m c 4 t)
      (iblk m c 5 t) (iblk m c 6 t) (iblk m c 7 t) (iblk m c 8 t) := by
  have hj := j.isLt
  obtain ⟨i0, i1, i2, i3, i4, i5, i6, i7, i8, i9, ic, _⟩ := idx t
  constructor
  · rw [ic]; omega
  · intro r e
    blk_point [iblk, V, i0, source, Cert.CellReferenceIdeal.Value.source, row, ht]
  · intro r e R h0 hR
    have i1 := i1 (by omega)
    blk_point [iblk, V, i1, source, Cert.CellReferenceIdeal.Value.source, row, ht]
  · intro r e
    blk_point [iblk, V, i2, source, Cert.CellReferenceIdeal.Value.source, row, ht]
  · intro r e
    blk_point [iblk, V, i3, source, Cert.CellReferenceIdeal.Value.source, row, ht]
  · intro r e
    blk_point [iblk, V, i4, source, Cert.CellReferenceIdeal.Value.source, row, ht]
  · intro r e
    blk_point [iblk, V, i5, source, Cert.CellReferenceIdeal.Value.source, row, ht]
  · intro r e
    blk_point [iblk, V, i6, source, Cert.CellReferenceIdeal.Value.source, row, ht]
  · intro e
    blk_point [iblk, V, i7, source, Cert.CellReferenceIdeal.Value.source, row, ht]
  · intro e
    blk_point [iblk, V, i8, source, Cert.CellReferenceIdeal.Value.source, row, ht]

/-- The buffers a batch's first chunk finds. -/
theorem holds_zero (b : Fin 2) : Holds (source m c) b zeroC zeroN zeroM 0 := by
  constructor
  · intro h d e
    refine (congrFun (View.canon_unit_zero (Val := Elt Ideal) (S := S4x128x256) (e := .f32) (off := ![0, 0, 0]) (funext (by decide)) (by decide) (k0_pay6 (F := Ideal))) (ix3 h d e)).trans ?_
    show k0_pay6 (F := Ideal) (ix3 h d e) = 0
    pointwise [k0_pay6]
  · intro h d
    refine (congrFun (View.canon_unit_zero (Val := Elt Ideal) (S := S4x1x128) (e := .f32) (off := ![0, 0, 0]) (funext (by decide)) (by decide) (k0_pay7 (F := Ideal))) (ix3 h (0 : Fin 1) d)).trans ?_
    show k0_pay7 (F := Ideal) (ix3 h (0 : Fin 1) d) = 0
    pointwise [k0_pay7]
  · intro h d
    refine (congrFun (View.canon_unit_zero (Val := Elt Ideal) (S := S4x1x128) (e := .f32) (off := ![0, 0, 0]) (funext (by decide)) (by decide) (k0_pay8 (F := Ideal))) (ix3 h (0 : Fin 1) d)).trans ?_
    show k0_pay8 (F := Ideal) (ix3 h (0 : Fin 1) d) = 0
    pointwise [k0_pay8]

/-- After each point the carried buffers hold the next state, and its result block the chunk's answers. -/
theorem point (b : Fin 2) : ∀ (k : ℕ) (hk : k < 128) (t : Fin cfg0.N), t.val = b.val * 128 + k →
    Holds (source m c) b (outsAt0 m c t.val t.isLt).2.1 (outsAt0 m c t.val t.isLt).2.2.1 (outsAt0 m c t.val t.isLt).2.2.2 (k + 1)
    ∧ ∀ (h : Fin 4) (r : Fin 128) (e : Fin 256), (outsAt0 m c t.val t.isLt).1 (ix2 r (vcol h e)) = (source m c).result b h ⟨k, hk⟩ r e
  | 0, hk, t, ht => by
    have H := reads m c b ⟨0, hk⟩ t ht
    have M := holds_zero m c b
    rw [outsAt0_A m c t (by omega)]
    dsimp only
    rw [out0_A_9_eq, sout0_A_1_eq, sout0_A_2_eq, sout0_A_3_eq]
    exact ⟨⟨COf_apply H M _, nOf_apply H M _, mOf_apply H M _⟩, outOf_apply H M⟩
  | k + 1, hk, t, ht => by
    have H := reads m c b ⟨k + 1, hk⟩ t ht
    have M := (point b k (by omega) ⟨t.val - 1, by omega⟩ (by show t.val - 1 = _; omega)).1
    rw [outsAt0_B m c t (by omega)]
    dsimp only
    rw [out0_B_9_eq, sout0_B_1_eq, sout0_B_2_eq, sout0_B_3_eq]
    exact ⟨⟨COf_apply H M _, nOf_apply H M _, mOf_apply H M _⟩, outOf_apply H M⟩

/-- The result array, of the arguments' entries. -/
def resultOf (S : Source) : FVec Ideal S32768x1024 .bf16 := fun y =>
  S.result ⟨(y 0).val / 16384, by have := (y 0).isLt; simp at this; omega⟩ ⟨(y 1).val / 256, by have := (y 1).isLt; simp at this; omega⟩
    ⟨(y 0).val / 128 % 128, by omega⟩ ⟨(y 0).val % 128, by omega⟩ ⟨(y 1).val % 256, by omega⟩

theorem resultOf_apply (S : Source) (b : Fin 2) (j t : Fin 128) (h : Fin 4) (e : Fin 256) :
    resultOf S (ix2 (row b j t) (vcol h e)) = S.result b h j t e := by
  have hb : (b.val * 16384 + j.val * 128 + t.val) / 16384 = b.val := by omega
  have hj : (b.val * 16384 + j.val * 128 + t.val) / 128 % 128 = j.val := by omega
  have ht : (b.val * 16384 + j.val * 128 + t.val) % 128 = t.val := by omega
  have hh : (h.val * 256 + e.val) / 256 = h.val := by omega
  have he : (h.val * 256 + e.val) % 256 = e.val := by omega
  show S.result ⟨(b.val * 16384 + j.val * 128 + t.val) / 16384, _⟩ ⟨(h.val * 256 + e.val) / 256, _⟩
    ⟨(b.val * 16384 + j.val * 128 + t.val) / 128 % 128, _⟩ ⟨(b.val * 16384 + j.val * 128 + t.val) % 128, _⟩ ⟨(h.val * 256 + e.val) % 256, _⟩ = _
  simp only [hb, hj, ht, hh, he]

/-- Every entry's place. -/
theorem exists_place (y : S32768x1024.Idx) : ∃ (b : Fin 2) (j t : Fin 128) (h : Fin 4) (e : Fin 256), y = ix2 (row b j t) (vcol h e) := by
  have h0 : (y 0).val < 32768 := (y 0).isLt
  have h1 : (y 1).val < 1024 := (y 1).isLt
  refine ⟨⟨(y 0).val / 16384, by omega⟩, ⟨(y 0).val / 128 % 128, by omega⟩, ⟨(y 0).val % 128, by omega⟩,
    ⟨(y 1).val / 256, by omega⟩, ⟨(y 1).val % 256, by omega⟩, ?_⟩
  funext a
  apply Fin.ext
  match a with
  | 0 => show (y 0).val = (y 0).val / 16384 * 16384 + (y 0).val / 128 % 128 * 128 + (y 0).val % 128; omega
  | 1 => show (y 1).val = (y 1).val / 256 * 256 + (y 1).val % 256; omega

/-- After the grid the array holds the result. -/
theorem final : (dats m 0 c).arrAt 9 (cfgs 0).N = resultOf (source m c) := by
  refine (dats m 0 c).arrAt_eq_of_covers 9 _ (by decide +kernel) fun t _ y => ?_
  blk_simp
  rw [after0_9]
  obtain ⟨i0, i1, i2, i3, i4, i5, i6, i7, i8, i9, ic, hN⟩ := idx t
  have hy0 : (y 0).val < 128 := (y 0).isLt
  have hy1 : (y 1).val < 1024 := (y 1).isLt
  have hp := (point m c ⟨t.val / 128, by omega⟩ (t.val % 128) (by omega) t (by show t.val = t.val / 128 * 128 + t.val % 128; omega)).2
    ⟨(y 1).val / 256, by omega⟩ ⟨(y 0).val, hy0⟩ ⟨(y 1).val % 256, by omega⟩
  have hl : y = ix2 (⟨(y 0).val, hy0⟩ : Fin 128) (vcol ⟨(y 1).val / 256, by omega⟩ ⟨(y 1).val % 256, by omega⟩) := by
    funext a
    apply Fin.ext
    match a with
    | 0 => rfl
    | 1 => show (y 1).val = (y 1).val / 256 * 256 + (y 1).val % 256; omega
  have hr : ((cfg0.win 9).blk t).view.emb y
      = ix2 (row ⟨t.val / 128, by omega⟩ ⟨t.val % 128, by omega⟩ ⟨(y 0).val, hy0⟩) (vcol ⟨(y 1).val / 256, by omega⟩ ⟨(y 1).val % 256, by omega⟩) := by
    blk_ext [i9]
    · show t.val * 128 + (y 0).val = t.val / 128 * 16384 + t.val % 128 * 128 + (y 0).val
      omega
    · show (y 1).val = (y 1).val / 256 * 256 + (y 1).val % 256
      omega
  rw [hr, resultOf_apply, ← hp]
  exact congrArg _ hl

/-- The reference's result. -/
theorem reference_result (a0 : FVec Ideal S32768x1024 .f32) (a1 : FVec Ideal S32768x5120 .bf16) (a2 : FVec Ideal S32768x128 .f32)
    (a3 : FVec Ideal S16x32768 .f32) (a4 : FVec Ideal S4x1024 .f32) (a5 : FVec Ideal S1x1024 .f32) (a6 : FVec Ideal S1x1024 .f32) :
    Cert.CellReferenceIdeal.Step.R_main_v103 (F := Ideal) (Cert.CellReferenceIdeal.Value.states a0 a1 a2 a3 a4 a5 128) a1 a6
      = resultOf (Cert.CellReferenceIdeal.Value.source a0 a1 a2 a3 a4 a5 a6) := by
  funext y
  obtain ⟨b, j, t, h, e, rfl⟩ := exists_place y
  exact (Cert.CellReferenceIdeal.Value.result_eq a0 a1 a2 a3 a4 a5 a6 b h j t e).trans (resultOf_apply _ b j t h e).symm

end Cert.CellIdeal.Value

end
-- ==== Proof.IdealRun.Setup.lean ====
/- The attention call before its body runs: the buffers the pipeline finds, the two tables it reads first, the blocks
   its windows stage, and the frame claim read off the pipeline's own final state. The tables are `start`
   (`main_arg0`: the first key block of each query block) and `kind` (`main_arg1`: one of two ways to sum). -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.FrameBody
public import Idealize.ShloMosaic.Lib.Pipeline.Frame
public import Idealize.ShloMosaic.Lib.Pipeline.Regions
public import Idealize.ShloMosaic.Lib.Tactic
public import Idealize.ShloMosaic.Lib.Claim

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the pipeline finds -/

/-- Core `c`'s buffers when the pipeline starts are those at launch: nothing runs before it. -/
abbrev found (c : Dev nD) (b : Ref sig .tc) : Buf (Elt F) ((c : Thread nD τ).loc b) := m ((c : Thread nD τ).loc b)

set_option maxHeartbeats 800000 in
/-- The program is that one pipeline. -/
theorem main_region (𝒱₀ : Variants) : Pipeline.HMainP (Ix := Unit) (Name := ℕ) (U := UR sig nD τ) (Lvl := ℕ) pcfgs 0 defs₀ 𝒱₀ m (main (F := F)) (found m) :=
  Pipeline.hmainP_region pcfgs 0 defs₀ 𝒱₀ m main fun c => (main_chain c).trans rfl

/-- The two tables' contents, on the one device. -/
def tables : pre0.Contents (Elt F) := fun j => found m (0 : Dev nD) (pre0.ref j)

theorem tables_eq (c : Dev nD) (j : Fin 2) : found m c (pre0.ref j) = tables m j := by
  obtain rfl : c = 0 := Subsingleton.elim _ _
  rfl

/-- No window's index map reads a table, so any contents are admissible. -/
abbrev adm : (pcfg0 (F := F)).Adm := ⟨tables m, (trivial : ok0 (F := F) (tables m))⟩
/-- The pipeline at these tables. -/
abbrev pipe : Pipeline.Cfg sig Λ₀ := cfg0 (adm m)

abbrev startM : Memref sig .tc .smem S256 .i32 := Memref.whole main_arg0
abbrev startM_whole : startM.IsWhole := Memref.isWhole_whole _
abbrev kindM : Memref sig .tc .smem S256 .i32 := Memref.whole main_arg1
abbrev kindM_whole : kindM.IsWhole := Memref.isWhole_whole _

/-- A table's contents on core `c`, and the half share of it that the body holds. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

theorem tabs_eq (c : Dev nD) : (Pipeline.ΦT pre0 (tables m) c : sProp 𝕄) = iprop(tabPt c startM (tables m 0) ∗ tabPt c kindM (tables m 1)) := by
  unfold Pipeline.ΦT Pipeline.prefHeld
  rw [show (Finset.univ : Finset (Fin 2)) = insert (0 : Fin 2) {(1 : Fin 2)} from by decide,
    bigSep_insert (by decide), bigSep_singleton]
  rfl

/-! ## The words the body reads -/

/-- The first word of the one-word rectangle. -/
abbrev oneWord : S1.Idx := Shape.Idx.first (numel1_S1.symm ▸ Nat.one_pos)

/-- The word of `start` at point `i`. -/
abbrev startWord {c : Dev nD} (i : grid0.Coords) (x : TabBuf (F := F) c startM) : BitVec 32 :=
  startM.view.readAt (Elt F) (Rect.unit (s := S256) (k0_off1 i) S1.size (k0_off1_inb i)).toLoadRect x (Shape.Idx.first (numel1_S1.symm ▸ Nat.one_pos))
/-- The word of `kind` at point `i`, as the first test reads it, -/
abbrev kindWord {c : Dev nD} (i : grid0.Coords) (x : TabBuf (F := F) c kindM) : BitVec 32 :=
  kindM.view.readAt (Elt F) (Rect.unit (s := S256) (k0_off1 i) S1.size (k0_off1_inb i)).toLoadRect x (Shape.Idx.first (numel1_S1.symm ▸ Nat.one_pos))
/-- and as the second reads it. -/
abbrev kindWord' {c : Dev nD} (i : grid0.Coords) (x : TabBuf (F := F) c kindM) : BitVec 32 :=
  kindM.view.readAt (Elt F) (Rect.unit (s := S256) (k0_off9 i) S1.size (k0_off9_inb i)).toLoadRect x (Shape.Idx.first (numel1_S1.symm ▸ Nat.one_pos))

/-- What the frame needs of the tables at every point: exactly one of the two tests is met, and the offsets
    computed from the words stay inside the key blocks. -/
structure Words (m : (ℓ : Loc nD τ sig) → Buf (Elt F) ℓ) : Prop where
  one : ∀ t : Fin grid0.N, (k0_cond1 (kindWord (c := 0) (grid0.coords t) (tables m 1)) = 1#1 ∧ ¬k0_cond2 (kindWord' (c := 0) (grid0.coords t) (tables m 1)) = 1#1)
    ∨ (¬k0_cond1 (kindWord (c := 0) (grid0.coords t) (tables m 1)) = 1#1 ∧ k0_cond2 (kindWord' (c := 0) (grid0.coords t) (tables m 1)) = 1#1)
  chk1 : ∀ t : Fin grid0.N, k0_chk1 (grid0.coords t) (startWord (c := 0) (grid0.coords t) (tables m 0)) (kindWord (c := 0) (grid0.coords t) (tables m 1))
  chk2 : ∀ t : Fin grid0.N, k0_chk2 (grid0.coords t) (startWord (c := 0) (grid0.coords t) (tables m 0)) (kindWord' (c := 0) (grid0.coords t) (tables m 1))

/-! ## The windows' blocks -/

/-- Window `w`'s block at point `t`, read off its array. -/
def block (c : Dev nD) (w : Fin (pipe m).W) (t : Fin (pipe m).N) : (((pipe m).win w).xblock ((pipe m).grid.coords t)).Idx → Elt F ((pipe m).win w).elt :=
  (((pipe m).win w).blk t).view.read (Elt F) (found m c (Pipeline.arrRef spec0 w))

theorem before_0 {c : Dev nD} (dat : Dat τ (Elt F) Unit ℕ (UR sig nD τ) ℕ (pipe m) c) (hA : dat.A 0 = found m c (Pipeline.arrRef spec0 0))
    (hafter : ∀ t, dat.after 0 t = block m c 0 t) (t : Fin (pipe m).N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
theorem before_1 {c : Dev nD} (dat : Dat τ (Elt F) Unit ℕ (UR sig nD τ) ℕ (pipe m) c) (hA : dat.A 1 = found m c (Pipeline.arrRef spec0 1))
    (hafter : ∀ t, dat.after 1 t = block m c 1 t) (t : Fin (pipe m).N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
theorem before_2 {c : Dev nD} (dat : Dat τ (Elt F) Unit ℕ (UR sig nD τ) ℕ (pipe m) c) (hA : dat.A 2 = found m c (Pipeline.arrRef spec0 2))
    (hafter : ∀ t, dat.after 2 t = block m c 2 t) (t : Fin (pipe m).N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
theorem before_3 {c : Dev nD} (dat : Dat τ (Elt F) Unit ℕ (UR sig nD τ) ℕ (pipe m) c) (hA : dat.A 3 = found m c (Pipeline.arrRef spec0 3))
    (hafter : ∀ t, dat.after 3 t = block m c 3 t) (t : Fin (pipe m).N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
theorem before_4 {c : Dev nD} (dat : Dat τ (Elt F) Unit ℕ (UR sig nD τ) ℕ (pipe m) c) (hA : dat.A 4 = found m c (Pipeline.arrRef spec0 4))
    (hafter : ∀ t, dat.after 4 t = block m c 4 t) (t : Fin (pipe m).N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)
theorem before_5 {c : Dev nD} (dat : Dat τ (Elt F) Unit ℕ (UR sig nD τ) ℕ (pipe m) c) (hA : dat.A 5 = found m c (Pipeline.arrRef spec0 5))
    (hafter : ∀ t, dat.after 5 t = block m c 5 t) (t : Fin (pipe m).N) (d) : dat.before 5 t d = block m c 5 t :=
  (dat.before_in_eq_fetched 5 rfl (fun _ => rfl) (fun _ _ _ => rfl) (fun t => by rw [hafter]; unfold Dat.blockOf block; rw [hA]; try rfl) t d).trans
    (by unfold Dat.fetched Dat.blockOf block; rw [hA]; try rfl)

/-- The output's block changes at every point, so every point writes its block back. -/
theorem flush_out (a : (pcfg0 (F := F)).Adm) : ∀ t : Fin (cfg0 a).N, ((cfg0 a).win 6).flush t = true :=
  (by decide +kernel : ∀ t : Fin grid0.N, Pipeline.Window.flushOf grid0 true cc0_transform_6 t = true)

/-! ## The staging buffers at a point -/

abbrev stg0 (t : Fin (pipe m).N) : Memref sig .tc .vmem S1024x128 .bf16 := spec0_0.stage ((pipe m).slots t 0)
abbrev stg0_whole (t : Fin (pipe m).N) : (stg0 m t).IsWhole := hstage0_0 (((pipe m).slots t 0).cast nbuf0_0)
abbrev stg1 (t : Fin (pipe m).N) : Memref sig .tc .vmem S1024x128 .bf16 := spec0_1.stage ((pipe m).slots t 1)
abbrev stg1_whole (t : Fin (pipe m).N) : (stg1 m t).IsWhole := hstage0_1 (((pipe m).slots t 1).cast nbuf0_1)
abbrev stg2 (t : Fin (pipe m).N) : Memref sig .tc .vmem S16384x128 .bf16 := spec0_2.stage ((pipe m).slots t 2)
abbrev stg2_whole (t : Fin (pipe m).N) : (stg2 m t).IsWhole := hstage0_2 (((pipe m).slots t 2).cast nbuf0_2)
abbrev stg3 (t : Fin (pipe m).N) : Memref sig .tc .vmem S16384x128 .bf16 := spec0_3.stage ((pipe m).slots t 3)
abbrev stg3_whole (t : Fin (pipe m).N) : (stg3 m t).IsWhole := hstage0_3 (((pipe m).slots t 3).cast nbuf0_3)
abbrev stg4 (t : Fin (pipe m).N) : Memref sig .tc .vmem S16384x128 .bf16 := spec0_4.stage ((pipe m).slots t 4)
abbrev stg4_whole (t : Fin (pipe m).N) : (stg4 m t).IsWhole := hstage0_4 (((pipe m).slots t 4).cast nbuf0_4)
abbrev stg5 (t : Fin (pipe m).N) : Memref sig .tc .vmem S8x128 .f32 := spec0_5.stage ((pipe m).slots t 5)
abbrev stg5_whole (t : Fin (pipe m).N) : (stg5 m t).IsWhole := hstage0_5 (((pipe m).slots t 5).cast nbuf0_5)
abbrev stg6 (t : Fin (pipe m).N) : Memref sig .tc .vmem S1024x128 .bf16 := spec0_6.stage ((pipe m).slots t 6)
abbrev stg6_whole (t : Fin (pipe m).N) : (stg6 m t).IsWhole := hstage0_6 (((pipe m).slots t 6).cast nbuf0_6)

/-- The body at point `t`, on the tables and that point's staging buffers. -/
abbrev bodyAt (t : Fin (pipe m).N) : Prog (TpuEff nD τ sig (Elt F) Λ₀ .tc) PUnit :=
  cc0_fox (grid0.coords t) (Memref.whole main_arg0) (Memref.isWhole_whole _) (Memref.whole main_arg1) (Memref.isWhole_whole _) (stg0 m t) (stg0_whole m t) (stg1 m t) (stg1_whole m t) (stg2 m t) (stg2_whole m t) (stg3 m t) (stg3_whole m t) (stg4 m t) (stg4_whole m t) (stg5 m t) (stg5_whole m t) (stg6 m t) (stg6_whole m t)

/-- One staging buffer of the output: its contents are stated through it. -/
abbrev outV : View sig .tc .vmem S1024x128 .bf16 := (Memref.whole cc0_stg6_0 : Memref sig .tc .vmem S1024x128 .bf16).view

/-! ## The arguments are unchanged -/

/-- A run that ends in the pipeline's final state leaves every argument as it was. -/
theorem unchanged_of (dats : (p : Fin 1) → (c : Dev nD) → Dat τ (Elt F) Unit ℕ (UR sig nD τ) ℕ ((Pipeline.pin pcfgs fun _ => adm m) p) c)
    (hA : ∀ c w, (dats 0 c).A w = found m c (Pipeline.arrRef spec0 w))
    (r : PUnit × MemSt nD τ sig (Elt F)) (h : Pipeline.FramePost (Pipeline.pin pcfgs fun _ => adm m) dats 0 (found m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (by decide : main_arg0 ∈ Pipeline.restRefs sig spec0)),
    ((h c).2 main_arg1 (by decide : main_arg1 ∈ Pipeline.restRefs sig spec0)),
    ((h c).1 4).trans (((dats 0 c).arrAt_in 4 rfl _).trans (hA c 4)),
    ((h c).1 1).trans (((dats 0 c).arrAt_in 1 rfl _).trans (hA c 1)),
    ((h c).1 3).trans (((dats 0 c).arrAt_in 3 rfl _).trans (hA c 3)),
    ((h c).1 5).trans (((dats 0 c).arrAt_in 5 rfl _).trans (hA c 5))⟩

end Cert.KernelIdeal.Fox

end
-- ==== Proof.IdealRun.RunDirect.lean ====
/- One point whose word of `kind` is 1: the weights are summed as they are. -/
module

public import proofs.«01_k».proof.Proof.IdealRun.Setup
public import Idealize.ShloMosaic.Lib.Ring

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores where the first test is met and the second is not. The list of what is stored, last first, comes with the proof that
    the body runs, keeps its inputs and tables, and leaves the output's buffer with these stores written. -/
noncomputable def runDirect (c : Dev nD) (i : grid0.Coords) (a0 : Memref sig .tc .vmem S1024x128 .bf16) (h0 : a0.IsWhole) (a1 : Memref sig .tc .vmem S1024x128 .bf16) (h1 : a1.IsWhole) (a2 : Memref sig .tc .vmem S16384x128 .bf16) (h2 : a2.IsWhole) (a3 : Memref sig .tc .vmem S16384x128 .bf16) (h3 : a3.IsWhole) (a4 : Memref sig .tc .vmem S16384x128 .bf16) (h4 : a4.IsWhole) (a5 : Memref sig .tc .vmem S8x128 .f32) (h5 : a5.IsWhole) (a6 : Memref sig .tc .vmem S1024x128 .bf16) (h6 : a6.IsWhole)
    (x0 : Vec F S1024x128 .bf16) (x1 : Vec F S1024x128 .bf16) (x2 : Vec F S16384x128 .bf16) (x3 : Vec F S16384x128 .bf16) (x4 : Vec F S16384x128 .bf16) (x5 : Vec F S8x128 .f32)
    (lo : TabBuf (F := F) c startM) (kd : TabBuf (F := F) c kindM)
    (hc1 : k0_cond1 (kindWord i kd) = 1#1) (hc2 : ¬k0_cond2 (kindWord' i kd) = 1#1)
    (hw1 : k0_chk1 i (startWord i lo) (kindWord i kd)) (hw2 : k0_chk2 i (startWord i lo) (kindWord' i kd)) :
    { L : List (View.Piece (Elt F) S1024x128 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ tabPt c startM lo ∗ tabPt c kindM kd
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, a6.view.loc (c : Thread nD τ) ↦[a6.view.set]{fullShare} a6.view.writes (Elt F) f L) ∗ tabPt c startM lo ∗ tabPt c kindM kd) -∗ K ⟨⟩))
          ⊢ wp frame (wpE (defs₀ (F := F)) Variants.none c none) E (cc0_fox i startM startM_whole kindM kindM_whole a0 h0 a1 h1 a2 h2 a3 h3 a4 h4 a5 h5 a6 h6) K } := by
  refine ⟨?_, fun E K => ?run⟩
  case run =>
    simp only [cc0_fox_eq_skeleton]; unfold cc0_fox_skel
    simp only [k0_part5_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT0, HT1, Hk⟩
    obtain rfl := h0.eq_unread hf0; obtain rfl := h1.eq_unread hf1; obtain rfl := h2.eq_unread hf2; obtain rfl := h3.eq_unread hf3; obtain rfl := h4.eq_unread hf4; obtain rfl := h5.eq_unread hf5
    sl_exec (disch := first | sl_exact hc1 | sl_exact hc2 | sl_exact hw1 | sl_exact hw2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [HT0]; · iexact HT0
    iexact HT1

end Cert.KernelIdeal.Fox

end
-- ==== Proof.IdealRun.RunOnline.lean ====
/- One point whose word of `kind` is 0: the weights are summed under a running maximum. -/
module

public import proofs.«01_k».proof.Proof.IdealRun.RunDirect

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores where the second test is met and the first is not. The list of what is stored, last first, comes with the proof that
    the body runs, keeps its inputs and tables, and leaves the output's buffer with these stores written. -/
noncomputable def runOnline (c : Dev nD) (i : grid0.Coords) (a0 : Memref sig .tc .vmem S1024x128 .bf16) (h0 : a0.IsWhole) (a1 : Memref sig .tc .vmem S1024x128 .bf16) (h1 : a1.IsWhole) (a2 : Memref sig .tc .vmem S16384x128 .bf16) (h2 : a2.IsWhole) (a3 : Memref sig .tc .vmem S16384x128 .bf16) (h3 : a3.IsWhole) (a4 : Memref sig .tc .vmem S16384x128 .bf16) (h4 : a4.IsWhole) (a5 : Memref sig .tc .vmem S8x128 .f32) (h5 : a5.IsWhole) (a6 : Memref sig .tc .vmem S1024x128 .bf16) (h6 : a6.IsWhole)
    (x0 : Vec F S1024x128 .bf16) (x1 : Vec F S1024x128 .bf16) (x2 : Vec F S16384x128 .bf16) (x3 : Vec F S16384x128 .bf16) (x4 : Vec F S16384x128 .bf16) (x5 : Vec F S8x128 .f32)
    (lo : TabBuf (F := F) c startM) (kd : TabBuf (F := F) c kindM)
    (hc1 : ¬k0_cond1 (kindWord i kd) = 1#1) (hc2 : k0_cond2 (kindWord' i kd) = 1#1)
    (hw1 : k0_chk1 i (startWord i lo) (kindWord i kd)) (hw2 : k0_chk2 i (startWord i lo) (kindWord' i kd)) :
    { L : List (View.Piece (Elt F) S1024x128 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ tabPt c startM lo ∗ tabPt c kindM kd
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, a6.view.loc (c : Thread nD τ) ↦[a6.view.set]{fullShare} a6.view.writes (Elt F) f L) ∗ tabPt c startM lo ∗ tabPt c kindM kd) -∗ K ⟨⟩))
          ⊢ wp frame (wpE (defs₀ (F := F)) Variants.none c none) E (cc0_fox i startM startM_whole kindM kindM_whole a0 h0 a1 h1 a2 h2 a3 h3 a4 h4 a5 h5 a6 h6) K } := by
  refine ⟨?_, fun E K => ?run⟩
  case run =>
    simp only [cc0_fox_eq_skeleton]; unfold cc0_fox_skel
    simp only [k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT0, HT1, Hk⟩
    obtain rfl := h0.eq_unread hf0; obtain rfl := h1.eq_unread hf1; obtain rfl := h2.eq_unread hf2; obtain rfl := h3.eq_unread hf3; obtain rfl := h4.eq_unread hf4; obtain rfl := h5.eq_unread hf5
    sl_exec (disch := first | sl_exact hc1 | sl_exact hc2 | sl_exact hw1 | sl_exact hw2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [HT0]; · iexact HT0
    iexact HT1

end Cert.KernelIdeal.Fox

end
-- ==== Proof.IdealRun.Frame.lean ====
/- The frame of the attention call: at every point one of the two runs applies, so the pipeline ends with every
   argument unchanged, every counter at zero and the output array at the blocks the points left. -/
module

public import proofs.«01_k».proof.Proof.IdealRun.RunOnline
public import Idealize.ShloMosaic.Lib.Claim

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two stores, of 512 rows each, fill the output's block. -/
theorem coverDirect (c : Dev nD) (i : grid0.Coords) (a0 : Memref sig .tc .vmem S1024x128 .bf16) (h0 : a0.IsWhole) (a1 : Memref sig .tc .vmem S1024x128 .bf16) (h1 : a1.IsWhole) (a2 : Memref sig .tc .vmem S16384x128 .bf16) (h2 : a2.IsWhole) (a3 : Memref sig .tc .vmem S16384x128 .bf16) (h3 : a3.IsWhole) (a4 : Memref sig .tc .vmem S16384x128 .bf16) (h4 : a4.IsWhole) (a5 : Memref sig .tc .vmem S8x128 .f32) (h5 : a5.IsWhole) (a6 : Memref sig .tc .vmem S1024x128 .bf16) (h6 : a6.IsWhole)
    (x0 : Vec F S1024x128 .bf16) (x1 : Vec F S1024x128 .bf16) (x2 : Vec F S16384x128 .bf16) (x3 : Vec F S16384x128 .bf16) (x4 : Vec F S16384x128 .bf16) (x5 : Vec F S8x128 .f32)
    (lo : TabBuf (F := F) c startM) (kd : TabBuf (F := F) c kindM)
    (hc1 : k0_cond1 (kindWord i kd) = 1#1) (hc2 : ¬k0_cond2 (kindWord' i kd) = 1#1)
    (hw1 : k0_chk1 i (startWord i lo) (kindWord i kd)) (hw2 : k0_chk2 i (startWord i lo) (kindWord' i kd)) (y : S1024x128.Idx) :
    ∃ pc ∈ (runDirect c i a0 h0 a1 h1 a2 h2 a3 h3 a4 h4 a5 h5 a6 h6 x0 x1 x2 x3 x4 x5 lo kd hc1 hc2 hw1 hw2).1, y ∈ pc.1.set :=
  View.cover_of_tiledBy (runDirect c i a0 h0 a1 h1 a2 h2 a3 h3 a4 h4 a5 h5 a6 h6 x0 x1 x2 x3 x4 x5 lo kd hc1 hc2 hw1 hw2).1 ![512, 128] (by sl_kernel_rfl) y

/-- The block they leave. -/
def leftDirect (c : Dev nD) (i : grid0.Coords) (a0 : Memref sig .tc .vmem S1024x128 .bf16) (h0 : a0.IsWhole) (a1 : Memref sig .tc .vmem S1024x128 .bf16) (h1 : a1.IsWhole) (a2 : Memref sig .tc .vmem S16384x128 .bf16) (h2 : a2.IsWhole) (a3 : Memref sig .tc .vmem S16384x128 .bf16) (h3 : a3.IsWhole) (a4 : Memref sig .tc .vmem S16384x128 .bf16) (h4 : a4.IsWhole) (a5 : Memref sig .tc .vmem S8x128 .f32) (h5 : a5.IsWhole) (a6 : Memref sig .tc .vmem S1024x128 .bf16) (h6 : a6.IsWhole)
    (x0 : Vec F S1024x128 .bf16) (x1 : Vec F S1024x128 .bf16) (x2 : Vec F S16384x128 .bf16) (x3 : Vec F S16384x128 .bf16) (x4 : Vec F S16384x128 .bf16) (x5 : Vec F S8x128 .f32)
    (lo : TabBuf (F := F) c startM) (kd : TabBuf (F := F) c kindM)
    (hc1 : k0_cond1 (kindWord i kd) = 1#1) (hc2 : ¬k0_cond2 (kindWord' i kd) = 1#1)
    (hw1 : k0_chk1 i (startWord i lo) (kindWord i kd)) (hw2 : k0_chk2 i (startWord i lo) (kindWord' i kd)) : Vec F S1024x128 .bf16 :=
  outV.read (Elt F) (outV.writes (Elt F) outV.junk (runDirect c i a0 h0 a1 h1 a2 h2 a3 h3 a4 h4 a5 h5 a6 h6 x0 x1 x2 x3 x4 x5 lo kd hc1 hc2 hw1 hw2).1)

/-- The two stores, of 512 rows each, fill the output's block. -/
theorem coverOnline (c : Dev nD) (i : grid0.Coords) (a0 : Memref sig .tc .vmem S1024x128 .bf16) (h0 : a0.IsWhole) (a1 : Memref sig .tc .vmem S1024x128 .bf16) (h1 : a1.IsWhole) (a2 : Memref sig .tc .vmem S16384x128 .bf16) (h2 : a2.IsWhole) (a3 : Memref sig .tc .vmem S16384x128 .bf16) (h3 : a3.IsWhole) (a4 : Memref sig .tc .vmem S16384x128 .bf16) (h4 : a4.IsWhole) (a5 : Memref sig .tc .vmem S8x128 .f32) (h5 : a5.IsWhole) (a6 : Memref sig .tc .vmem S1024x128 .bf16) (h6 : a6.IsWhole)
    (x0 : Vec F S1024x128 .bf16) (x1 : Vec F S1024x128 .bf16) (x2 : Vec F S16384x128 .bf16) (x3 : Vec F S16384x128 .bf16) (x4 : Vec F S16384x128 .bf16) (x5 : Vec F S8x128 .f32)
    (lo : TabBuf (F := F) c startM) (kd : TabBuf (F := F) c kindM)
    (hc1 : ¬k0_cond1 (kindWord i kd) = 1#1) (hc2 : k0_cond2 (kindWord' i kd) = 1#1)
    (hw1 : k0_chk1 i (startWord i lo) (kindWord i kd)) (hw2 : k0_chk2 i (startWord i lo) (kindWord' i kd)) (y : S1024x128.Idx) :
    ∃ pc ∈ (runOnline c i a0 h0 a1 h1 a2 h2 a3 h3 a4 h4 a5 h5 a6 h6 x0 x1 x2 x3 x4 x5 lo kd hc1 hc2 hw1 hw2).1, y ∈ pc.1.set :=
  View.cover_of_tiledBy (runOnline c i a0 h0 a1 h1 a2 h2 a3 h3 a4 h4 a5 h5 a6 h6 x0 x1 x2 x3 x4 x5 lo kd hc1 hc2 hw1 hw2).1 ![512, 128] (by sl_kernel_rfl) y

/-- The block they leave. -/
def leftOnline (c : Dev nD) (i : grid0.Coords) (a0 : Memref sig .tc .vmem S1024x128 .bf16) (h0 : a0.IsWhole) (a1 : Memref sig .tc .vmem S1024x128 .bf16) (h1 : a1.IsWhole) (a2 : Memref sig .tc .vmem S16384x128 .bf16) (h2 : a2.IsWhole) (a3 : Memref sig .tc .vmem S16384x128 .bf16) (h3 : a3.IsWhole) (a4 : Memref sig .tc .vmem S16384x128 .bf16) (h4 : a4.IsWhole) (a5 : Memref sig .tc .vmem S8x128 .f32) (h5 : a5.IsWhole) (a6 : Memref sig .tc .vmem S1024x128 .bf16) (h6 : a6.IsWhole)
    (x0 : Vec F S1024x128 .bf16) (x1 : Vec F S1024x128 .bf16) (x2 : Vec F S16384x128 .bf16) (x3 : Vec F S16384x128 .bf16) (x4 : Vec F S16384x128 .bf16) (x5 : Vec F S8x128 .f32)
    (lo : TabBuf (F := F) c startM) (kd : TabBuf (F := F) c kindM)
    (hc1 : ¬k0_cond1 (kindWord i kd) = 1#1) (hc2 : k0_cond2 (kindWord' i kd) = 1#1)
    (hw1 : k0_chk1 i (startWord i lo) (kindWord i kd)) (hw2 : k0_chk2 i (startWord i lo) (kindWord' i kd)) : Vec F S1024x128 .bf16 :=
  outV.read (Elt F) (outV.writes (Elt F) outV.junk (runOnline c i a0 h0 a1 h1 a2 h2 a3 h3 a4 h4 a5 h5 a6 h6 x0 x1 x2 x3 x4 x5 lo kd hc1 hc2 hw1 hw2).1)

/-! ## The output, point by point -/

variable {m} in
theorem Words.c1 (hW : Words m) (c : Dev nD) (t : Fin (pipe m).N) :
    k0_chk1 (grid0.coords t) (startWord (c := c) (grid0.coords t) (tables m 0)) (kindWord (c := c) (grid0.coords t) (tables m 1)) := by
  obtain rfl : c = 0 := Subsingleton.elim _ _
  exact hW.chk1 t
variable {m} in
theorem Words.c2 (hW : Words m) (c : Dev nD) (t : Fin (pipe m).N) :
    k0_chk2 (grid0.coords t) (startWord (c := c) (grid0.coords t) (tables m 0)) (kindWord' (c := c) (grid0.coords t) (tables m 1)) := by
  obtain rfl : c = 0 := Subsingleton.elim _ _
  exact hW.chk2 t
variable {m} in
theorem Words.not2 (hW : Words m) (c : Dev nD) (t : Fin (pipe m).N) (h : k0_cond1 (kindWord (c := c) (grid0.coords t) (tables m 1)) = 1#1) : ¬k0_cond2 (kindWord' (c := c) (grid0.coords t) (tables m 1)) = 1#1 := by
  obtain rfl : c = 0 := Subsingleton.elim _ _
  rcases hW.one t with h' | h'
  · exact h'.2
  · exact absurd h h'.1
variable {m} in
theorem Words.yes2 (hW : Words m) (c : Dev nD) (t : Fin (pipe m).N) (h : ¬k0_cond1 (kindWord (c := c) (grid0.coords t) (tables m 1)) = 1#1) : k0_cond2 (kindWord' (c := c) (grid0.coords t) (tables m 1)) = 1#1 := by
  obtain rfl : c = 0 := Subsingleton.elim _ _
  rcases hW.one t with h' | h'
  · exact absurd h'.1 h
  · exact h'.2

/-- What point `t` leaves in the output's staging buffer. -/
def outAt (hW : Words m) (c : Dev nD) (t : Fin (pipe m).N) : Vec F S1024x128 .bf16 :=
  if h : k0_cond1 (kindWord (c := c) (grid0.coords t) (tables m 1)) = 1#1 then
    leftDirect c (grid0.coords t) (stg0 m t) (stg0_whole m t) (stg1 m t) (stg1_whole m t) (stg2 m t) (stg2_whole m t) (stg3 m t) (stg3_whole m t) (stg4 m t) (stg4_whole m t) (stg5 m t) (stg5_whole m t) (stg6 m t) (stg6_whole m t) (block m c 0 t) (block m c 1 t) (block m c 2 t) (block m c 3 t) (block m c 4 t) (block m c 5 t) (tables m 0) (tables m 1) h (hW.not2 c t h) (hW.c1 c t) (hW.c2 c t)
  else
    leftOnline c (grid0.coords t) (stg0 m t) (stg0_whole m t) (stg1 m t) (stg1_whole m t) (stg2 m t) (stg2_whole m t) (stg3 m t) (stg3_whole m t) (stg4 m t) (stg4_whole m t) (stg5 m t) (stg5_whole m t) (stg6 m t) (stg6_whole m t) (block m c 0 t) (block m c 1 t) (block m c 2 t) (block m c 3 t) (block m c 4 t) (block m c 5 t) (tables m 0) (tables m 1) h (hW.yes2 c t h) (hW.c1 c t) (hW.c2 c t)

theorem outAt_direct (hW : Words m) (c : Dev nD) (t : Fin (pipe m).N) (h : k0_cond1 (kindWord (c := c) (grid0.coords t) (tables m 1)) = 1#1) :
    outAt m hW c t = leftDirect c (grid0.coords t) (stg0 m t) (stg0_whole m t) (stg1 m t) (stg1_whole m t) (stg2 m t) (stg2_whole m t) (stg3 m t) (stg3_whole m t) (stg4 m t) (stg4_whole m t) (stg5 m t) (stg5_whole m t) (stg6 m t) (stg6_whole m t) (block m c 0 t) (block m c 1 t) (block m c 2 t) (block m c 3 t) (block m c 4 t) (block m c 5 t) (tables m 0) (tables m 1) h (hW.not2 c t h) (hW.c1 c t) (hW.c2 c t) := by
  unfold outAt; exact (dif_pos h).trans rfl

theorem outAt_online (hW : Words m) (c : Dev nD) (t : Fin (pipe m).N) (h : ¬k0_cond1 (kindWord (c := c) (grid0.coords t) (tables m 1)) = 1#1) :
    outAt m hW c t = leftOnline c (grid0.coords t) (stg0 m t) (stg0_whole m t) (stg1 m t) (stg1_whole m t) (stg2 m t) (stg2_whole m t) (stg3 m t) (stg3_whole m t) (stg4 m t) (stg4_whole m t) (stg5 m t) (stg5_whole m t) (stg6 m t) (stg6_whole m t) (block m c 0 t) (block m c 1 t) (block m c 2 t) (block m c 3 t) (block m c 4 t) (block m c 5 t) (tables m 0) (tables m 1) h (hW.yes2 c t h) (hW.c1 c t) (hW.c2 c t) := by
  unfold outAt; exact (dif_neg h).trans rfl

/-- What the pipeline's proof is about: the arrays as found, each input's buffer at its block, the output's at
    `outAt`, the tables' halves kept, nothing owed, shared arrays dealt among their windows. -/
def dats (hW : Words m) (_ : Fin 1) (c : Dev nD) : Dat τ (Elt F) Unit ℕ (UR sig nD τ) ℕ (pipe m) c where
  A w := found m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => block m c 5 t
    | ⟨6, _⟩ => (outAt m hW c t)
  Φ _ := iprop(Pipeline.ΦA spec0 c ∗ Pipeline.ΦT pre0 (tables m) c)
  q w := Pipeline.shareOf spec0 w
  owed _ := 0

theorem dats_A (hW : Words m) (c : Dev nD) (w : Fin (pipe m).W) : (dats m hW 0 c).A w = found m c (Pipeline.arrRef spec0 w) := by
  dsimp only [dats]
theorem after_0 (hW : Words m) (c : Dev nD) (t : Fin (pipe m).N) : (dats m hW 0 c).after 0 t = block m c 0 t := by dsimp only [dats]; try rfl
theorem after_1 (hW : Words m) (c : Dev nD) (t : Fin (pipe m).N) : (dats m hW 0 c).after 1 t = block m c 1 t := by dsimp only [dats]; try rfl
theorem after_2 (hW : Words m) (c : Dev nD) (t : Fin (pipe m).N) : (dats m hW 0 c).after 2 t = block m c 2 t := by dsimp only [dats]; try rfl
theorem after_3 (hW : Words m) (c : Dev nD) (t : Fin (pipe m).N) : (dats m hW 0 c).after 3 t = block m c 3 t := by dsimp only [dats]; try rfl
theorem after_4 (hW : Words m) (c : Dev nD) (t : Fin (pipe m).N) : (dats m hW 0 c).after 4 t = block m c 4 t := by dsimp only [dats]; try rfl
theorem after_5 (hW : Words m) (c : Dev nD) (t : Fin (pipe m).N) : (dats m hW 0 c).after 5 t = block m c 5 t := by dsimp only [dats]; try rfl
theorem after_6 (hW : Words m) (c : Dev nD) (t : Fin (pipe m).N) : (dats m hW 0 c).after 6 t = outAt m hW c t := by dsimp only [dats]; try rfl
theorem held_0 (hW : Words m) (c : Dev nD) (t : Fin (pipe m).N) (d) : (dats m hW 0 c).before 0 t d = block m c 0 t := before_0 m (dats m hW 0 c) (dats_A m hW c 0) (after_0 m hW c) t d
theorem held_1 (hW : Words m) (c : Dev nD) (t : Fin (pipe m).N) (d) : (dats m hW 0 c).before 1 t d = block m c 1 t := before_1 m (dats m hW 0 c) (dats_A m hW c 1) (after_1 m hW c) t d
theorem held_2 (hW : Words m) (c : Dev nD) (t : Fin (pipe m).N) (d) : (dats m hW 0 c).before 2 t d = block m c 2 t := before_2 m (dats m hW 0 c) (dats_A m hW c 2) (after_2 m hW c) t d
theorem held_3 (hW : Words m) (c : Dev nD) (t : Fin (pipe m).N) (d) : (dats m hW 0 c).before 3 t d = block m c 3 t := before_3 m (dats m hW 0 c) (dats_A m hW c 3) (after_3 m hW c) t d
theorem held_4 (hW : Words m) (c : Dev nD) (t : Fin (pipe m).N) (d) : (dats m hW 0 c).before 4 t d = block m c 4 t := before_4 m (dats m hW 0 c) (dats_A m hW c 4) (after_4 m hW c) t d
theorem held_5 (hW : Words m) (c : Dev nD) (t : Fin (pipe m).N) (d) : (dats m hW 0 c).before 5 t d = block m c 5 t := before_5 m (dats m hW 0 c) (dats_A m hW c 5) (after_5 m hW c) t d

/-! ## The body at a point -/

/-- What the body is handed at point `t`, -/
def handed (hW : Words m) (c : Dev nD) (t : Fin (pipe m).N) : sProp 𝕄 :=
  iprop((dats m hW 0 c).Φ t.castSucc ∗ (dats m hW 0 c).owesAt () t.castSucc
    ∗ (∃ d, owns (c : Thread nD τ) (stg0 m t) fullShare ((dats m hW 0 c).before 0 t d))
    ∗ (∃ d, owns (c : Thread nD τ) (stg1 m t) fullShare ((dats m hW 0 c).before 1 t d))
    ∗ (∃ d, owns (c : Thread nD τ) (stg2 m t) fullShare ((dats m hW 0 c).before 2 t d))
    ∗ (∃ d, owns (c : Thread nD τ) (stg3 m t) fullShare ((dats m hW 0 c).before 3 t d))
    ∗ (∃ d, owns (c : Thread nD τ) (stg4 m t) fullShare ((dats m hW 0 c).before 4 t d))
    ∗ (∃ d, owns (c : Thread nD τ) (stg5 m t) fullShare ((dats m hW 0 c).before 5 t d))
    ∗ (∃ d, owns (c : Thread nD τ) (stg6 m t) fullShare ((dats m hW 0 c).before 6 t d)))

/-- and what it hands back. -/
def returned (hW : Words m) (c : Dev nD) (t : Fin (pipe m).N) : sProp 𝕄 :=
  iprop((dats m hW 0 c).Φ t.succ ∗ (dats m hW 0 c).owesAt () t.succ
    ∗ owns (c : Thread nD τ) (stg0 m t) fullShare ((dats m hW 0 c).after 0 t)
    ∗ owns (c : Thread nD τ) (stg1 m t) fullShare ((dats m hW 0 c).after 1 t)
    ∗ owns (c : Thread nD τ) (stg2 m t) fullShare ((dats m hW 0 c).after 2 t)
    ∗ owns (c : Thread nD τ) (stg3 m t) fullShare ((dats m hW 0 c).after 3 t)
    ∗ owns (c : Thread nD τ) (stg4 m t) fullShare ((dats m hW 0 c).after 4 t)
    ∗ owns (c : Thread nD τ) (stg5 m t) fullShare ((dats m hW 0 c).after 5 t)
    ∗ owns (c : Thread nD τ) (stg6 m t) fullShare ((dats m hW 0 c).after 6 t))

set_option maxHeartbeats 1600000 in
/-- The body runs at every point: the run of the test that is met applies. -/
theorem body_runs (hW : Words m) (c : Dev nD) (t : Fin (pipe m).N) :
    handed m hW c t ⊢ wp frame (wpE (defs₀ (F := F)) Variants.none c none) Set.univ (bodyAt m t) (fun _ => returned m hW c t) := by
  unfold handed returned bodyAt
  simp only [held_0, held_1, held_2, held_3, held_4, held_5]
  rw [show (dats m hW 0 c).Φ t.succ = (dats m hW 0 c).Φ t.castSucc from rfl,
    show (dats m hW 0 c).owesAt () t.succ = (dats m hW 0 c).owesAt () t.castSucc from rfl,
    after_0, after_1, after_2, after_3, after_4, after_5, after_6]
  rw [show (dats m hW 0 c).Φ t.castSucc = iprop(Pipeline.ΦA spec0 c ∗ Pipeline.ΦT pre0 (tables m) c) from rfl, tabs_eq]
  by_cases h : k0_cond1 (kindWord (c := c) (grid0.coords t) (tables m 1)) = 1#1
  · rw [outAt_direct m hW c t h]
    unfold leftDirect
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply ((runDirect c (grid0.coords t) _ _ _ _ _ _ _ _ _ _ _ _ _ _ (block m c 0 t) (block m c 1 t) (block m c 2 t) (block m c 3 t) (block m c 4 t) (block m c 5 t) (tables m 0) (tables m 1) h (hW.not2 c t h) (hW.c1 c t) (hW.c2 c t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HT0]; · iexact HT0
    isplitl [HT1]; · iexact HT1
    iintro ⟨H0, H1, H2, H3, H4, H5, ⟨%e6, H6⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverDirect c _ _ _ _ _ _ _ _ _ _ _ _ _ _ _ _ _ _ _ _ _ _ _ _ _ _ _)
  · rw [outAt_online m hW c t h]
    unfold leftOnline
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply ((runOnline c (grid0.coords t) _ _ _ _ _ _ _ _ _ _ _ _ _ _ (block m c 0 t) (block m c 1 t) (block m c 2 t) (block m c 3 t) (block m c 4 t) (block m c 5 t) (tables m 0) (tables m 1) h (hW.yes2 c t h) (hW.c1 c t) (hW.c2 c t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HT0]; · iexact HT0
    isplitl [HT1]; · iexact HT1
    iintro ⟨H0, H1, H2, H3, H4, H5, ⟨%e6, H6⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverOnline c _ _ _ _ _ _ _ _ _ _ _ _ _ _ _ _ _ _ _ _ _ _ _ _ _ _ _)

theorem defs₀_row (t : Fin (pipe m).N) :
    defs₀ (F := F) .tc (pipe m).body ((pipe m).bodyArgs t ((pipe m).slots t)) = bodyAt m t := by
  unfold defs₀; rw [Defs.onTc_tc]

/-- The output's window is handed back at `outAt` whether or not the point counts as idle for it, since every
    point writes its block back. -/
theorem returned_out (hW : Words m) (c : Dev nD) (t : Fin (pipe m).N) :
    owns (c : Thread nD τ) (stg6 m t) fullShare ((dats m hW 0 c).after 6 t) ⊢ ((dats m hW 0 c).leavesExact 6 t : sProp 𝕄) := by
  unfold Dat.leavesExact
  rw [flush_out]
  split
  · exact .rfl
  · exact .rfl

/-- The body's obligation, at every point. -/
theorem body_obligation (hW : Words m) (c : Dev nD) : BodyObligation (dats (F := F) m hW 0 c) (defs₀ (F := F)) Variants.none () Set.univ := fun t => by
  rw [bigSep_W0, bigSep_W0, defs₀_row m]
  exact triple_restated (body_runs m hW c t) rfl .rfl fun _ =>
    sep_mono .rfl (sep_mono .rfl (sep_mono .rfl (sep_mono .rfl (sep_mono .rfl (sep_mono .rfl (sep_mono .rfl (sep_mono .rfl (returned_out m hW c t))))))))

set_option backward.isDefEq.respectTransparency.types false in
/-- The launch: every execution ends, in the pipeline's final state and with every counter at zero. -/
theorem launch (hW : Words m) : θ_run defs (onTc (τ := τ) (main (F := F))) (s₀ m ρ) (fun r => (Pipeline.FramePost (Pipeline.pin pcfgs fun _ => adm m) (dats m hW) 0 (found m)) r ∧ r.2.sem = fun _ => 0) :=
  Pipeline.θ_run_frameP_shared (Q' := _) pcfgs (fun _ => adm m) (dats m hW) (0 : Fin 1) launch₀0 defs₀ Variants.none m ρ main
    (hbody := fun c => (body_obligation m hW c).loose) (hq := fun _ _ _ => rfl)
    (howed := fun _ _ => rfl) (V := found m) (hmain := main_region m Variants.none) (hA := dats_A m hW) (hpf := tables_eq m)
    (hΦ := fun _ _ => rfl)

/-- The frame claim, given what it needs of the tables. -/
theorem quiescent (hW : Words m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => unchanged_of m (dats m hW) (dats_A m hW) r h.1 c, h.2⟩) (launch m ρ hW)

end Cert.KernelIdeal.Fox

end
-- ==== Proof.IdealRun.Words.lean ====
/- The two tables under the stated range: the first key block of a query block is not negative, and the kind is 0 or 1.
   The loops then run over the whole blocks of keys from that first block up to the query block's own, every offset they
   compute is a whole number of blocks inside the keys, and the loop left over after each of them makes no trip. -/
module

public import proofs.«01_k».proof.Proof.IdealRun.Frame
public import proofs.«01_k».proof.Pre_plan_ok
public import Idealize.ShloMosaic.Lib.LoopRemainder
public import Idealize.ShloMosaic.Lib.ReduceAll
public import Idealize.ShloMosaic.Lib.StableHlo.Predicate

@[expose] public section

set_option maxRecDepth 16384

noncomputable section

namespace Cert.KernelIdeal.Fox

open Cert.KernelIdeal.Gen
open Idealize.ShloMosaic Idealize.ShloMosaic.TcCoe
open Idealize.SL Idealize.SL.Sem

/-! ## The counted loops -/

/-- A query block's number along the grid's last axis is below 16. -/
theorem row_lt (i : grid0.Coords) : (i 2).val < 16 := (i 2).isLt

/-- Half of the first block, rounded down, is the first pair. -/
theorem pairs_lb (i : grid0.Coords) (w : BitVec 32) (hw : w.toNat < 2 ^ 31) : (k0_t1_loop i w).lb = BitVec.ofNat 32 (w.toNat / 2) := by
  have hd : Scalar.divsi w 2#32 = BitVec.ofNat 32 (w.toNat / 2) := by
    apply BitVec.eq_of_toNat_eq
    rw [BitVec.toNat_ofNat, Nat.mod_eq_of_lt (by omega)]
    exact StableHlo.Predicate.divsi_two .scalar w hw
  by_cases h0 : w = 0#32
  · subst h0
    rfl
  · have hpos : 0 < w.toNat := by
      rcases Nat.eq_zero_or_pos w.toNat with h | h
      · exact absurd (BitVec.eq_of_toNat_eq (by simpa using h)) h0
      · exact h
    have hg : Scalar.cmpi .sgt w 0#32 = 1#1 := (StableHlo.Predicate.sgt_iff_toNat hw (by decide)).2 hpos
    have hl : Scalar.cmpi .slt w 0#32 = 0#1 := by
      have : ¬ Scalar.cmpi .slt w 0#32 = 1#1 := fun h => absurd ((StableHlo.Predicate.slt_iff_toNat hw (by decide)).1 h) (by simp)
      revert this
      generalize Scalar.cmpi .slt w 0#32 = b
      revert b
      decide
    show Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 2#32 0#32)) (Scalar.extui (Scalar.cmpi .slt 2#32 0#32))))
      (Scalar.cmpi .ne (Scalar.remsi w 2#32) 0#32)) (Scalar.subi (Scalar.divsi w 2#32) 1#32) (Scalar.divsi w 2#32) = _
    rw [hg, hl, hd]
    have hz : ∀ b : BitVec 1, Scalar.andi (Scalar.cmpi .ne (Scalar.subi (Scalar.extui 1#1) (Scalar.extui 0#1))
      (Scalar.subi (Scalar.extui (Scalar.cmpi .sgt 2#32 0#32)) (Scalar.extui (Scalar.cmpi .slt 2#32 0#32)))) b = 0#1 := by decide
    rw [hz]
    rfl

/-- The loop over pairs ends at the query block's own number. -/
theorem pairs_ub (i : grid0.Coords) (w : BitVec 32) : (k0_t1_loop i w).ub = BitVec.ofNat 32 (i 2).val := by
  show Scalar.addi (k0_t1_loop i w).lb (Scalar.muli (Scalar.divsi (Scalar.subi (BitVec.ofNat 32 (i 2).val) (k0_t1_loop i w).lb) 1#32) 1#32) = _
  rw [Scalar.muli_divsi_one]
  generalize (k0_t1_loop i w).lb = a
  show a + (BitVec.ofNat 32 (i 2).val - a) = _
  rw [BitVec.add_comm, BitVec.sub_add_cancel]

/-- Its trips: the pairs from the first to the query block's own, that one left out. -/
theorem pairs_trips (i : grid0.Coords) (w : BitVec 32) (hw : w.toNat < 2 ^ 31) : (k0_t1_loop i w).trips = (i 2).val - w.toNat / 2 := by
  have hi := row_lt i
  show ((((k0_t1_loop i w).ub.toInt - (k0_t1_loop i w).lb.toInt + (1#32 : BitVec 32).toInt - 1) / (1#32 : BitVec 32).toInt).toNat) = _
  rw [pairs_ub, pairs_lb i w hw, StableHlo.Predicate.toInt_ofNat_small _ (by omega), StableHlo.Predicate.toInt_ofNat_small _ (by omega),
    show (1#32 : BitVec 32).toInt = 1 from by decide]
  omega

theorem pairs_ok (i : grid0.Coords) (w : BitVec 32) (hw : w.toNat < 2 ^ 31) : (k0_t1_loop i w).OK := by
  have hi := row_lt i
  have ht := pairs_trips i w hw
  refine ⟨(by decide : 0 < (1#32 : BitVec 32).toInt), ?_⟩
  show (k0_t1_loop i w).lb.toInt + ((k0_t1_loop i w).trips : ℤ) * (1#32 : BitVec 32).toInt < 2 ^ (32 - 1)
  rw [ht, pairs_lb i w hw, StableHlo.Predicate.toInt_ofNat_small _ (by omega), show (1#32 : BitVec 32).toInt = 1 from by decide]
  omega

/-- The first block of the pair at trip `k`, in keys. -/
theorem pair_first (i : grid0.Coords) (w : BitVec 32) (hw : w.toNat < 2 ^ 31) (k : Fin (k0_t1_loop i w).trips) :
    (Scalar.muli (Scalar.muli 2#32 (Scf.iv (k0_t1_loop i w).lb 1#32 k.val)) 512#32).toNat = 512 * (2 * (w.toNat / 2 + k.val))
      ∧ w.toNat / 2 + k.val < (i 2).val := by
  have hi := row_lt i
  have ht := pairs_trips i w hw
  have hk := k.isLt
  rw [pairs_lb i w hw]
  refine ⟨?_, by omega⟩
  show ((2#32 * (BitVec.ofNat 32 (w.toNat / 2) + BitVec.ofNat 32 k.val * 1#32)) * 512#32).toNat = _
  simp only [BitVec.toNat_mul, BitVec.toNat_add, BitVec.toNat_ofNat]
  omega

/-- The second block of the pair at trip `k`, in keys. -/
theorem pair_second (i : grid0.Coords) (w : BitVec 32) (hw : w.toNat < 2 ^ 31) (k : Fin (k0_t1_loop i w).trips) :
    (Scalar.muli (Scalar.addi (Scalar.muli 2#32 (Scf.iv (k0_t1_loop i w).lb 1#32 k.val)) 1#32) 512#32).toNat = 512 * (2 * (w.toNat / 2 + k.val) + 1)
      ∧ w.toNat / 2 + k.val < (i 2).val := by
  have hi := row_lt i
  have ht := pairs_trips i w hw
  have hk := k.isLt
  rw [pairs_lb i w hw]
  refine ⟨?_, by omega⟩
  show (((2#32 * (BitVec.ofNat 32 (w.toNat / 2) + BitVec.ofNat 32 k.val * 1#32)) + 1#32) * 512#32).toNat = _
  simp only [BitVec.toNat_mul, BitVec.toNat_add, BitVec.toNat_ofNat]
  omega

theorem off2_eq (i : grid0.Coords) (w : BitVec 32) (hw : w.toNat < 2 ^ 31) (k : Fin (k0_t1_loop i w).trips) :
    k0_off2 i w k = ![512 * (2 * (w.toNat / 2 + k.val)), 0] :=
  congrArg (fun a : ℕ => (![a, 0] : Fin 2 → ℕ)) (pair_first i w hw k).1
theorem off3_eq (i : grid0.Coords) (w : BitVec 32) (hw : w.toNat < 2 ^ 31) (k : Fin (k0_t1_loop i w).trips) :
    k0_off3 i w k = ![512 * (2 * (w.toNat / 2 + k.val) + 1), 0] :=
  congrArg (fun a : ℕ => (![a, 0] : Fin 2 → ℕ)) (pair_second i w hw k).1

/-- The loop left over makes no trip. -/
theorem pairs_left (i : grid0.Coords) (w : BitVec 32) : (k0_t2_loop i w).trips = 0 := Scf.rem_trips _ _
theorem pairs_left_ok (i : grid0.Coords) (w : BitVec 32) : (k0_t2_loop i w).OK := Scf.rem_ok _ _

/-- The loop over single blocks ends at the first of the query block's own two. -/
theorem singles_ub (i : grid0.Coords) (w : BitVec 32) : (k0_t3_loop i w).ub = BitVec.ofNat 32 (2 * (i 2).val) := by
  show Scalar.addi w (Scalar.muli (Scalar.divsi (Scalar.subi (Scalar.muli 2#32 (BitVec.ofNat 32 (i 2).val)) w) 1#32) 1#32) = _
  rw [Scalar.muli_divsi_one]
  show w + (2#32 * BitVec.ofNat 32 (i 2).val - w) = _
  rw [BitVec.add_comm, BitVec.sub_add_cancel]
  have hi := row_lt i
  apply BitVec.eq_of_toNat_eq
  simp only [BitVec.toNat_mul, BitVec.toNat_ofNat]
  omega

theorem singles_trips (i : grid0.Coords) (w : BitVec 32) (hw : w.toNat < 2 ^ 31) : (k0_t3_loop i w).trips = 2 * (i 2).val - w.toNat := by
  have hi := row_lt i
  show ((((k0_t3_loop i w).ub.toInt - w.toInt + (1#32 : BitVec 32).toInt - 1) / (1#32 : BitVec 32).toInt).toNat) = _
  rw [singles_ub, StableHlo.Predicate.toInt_ofNat_small _ (by omega), StableHlo.Predicate.toInt_eq_toNat_of_lt hw,
    show (1#32 : BitVec 32).toInt = 1 from by decide]
  omega

theorem singles_ok (i : grid0.Coords) (w : BitVec 32) (hw : w.toNat < 2 ^ 31) : (k0_t3_loop i w).OK := by
  have hi := row_lt i
  have ht := singles_trips i w hw
  refine ⟨(by decide : 0 < (1#32 : BitVec 32).toInt), ?_⟩
  show w.toInt + ((k0_t3_loop i w).trips : ℤ) * (1#32 : BitVec 32).toInt < 2 ^ (32 - 1)
  rw [ht, StableHlo.Predicate.toInt_eq_toNat_of_lt hw, show (1#32 : BitVec 32).toInt = 1 from by decide]
  omega

/-- The block at trip `k`, in keys. -/
theorem single_at (i : grid0.Coords) (w : BitVec 32) (hw : w.toNat < 2 ^ 31) (k : Fin (k0_t3_loop i w).trips) :
    (Scalar.muli (Scf.iv w 1#32 k.val) 512#32).toNat = 512 * (w.toNat + k.val) ∧ w.toNat + k.val < 2 * (i 2).val := by
  have hi := row_lt i
  have ht := singles_trips i w hw
  have hk := k.isLt
  refine ⟨?_, by omega⟩
  show ((w + BitVec.ofNat 32 k.val * 1#32) * 512#32).toNat = _
  simp only [BitVec.toNat_mul, BitVec.toNat_add, BitVec.toNat_ofNat]
  omega

theorem off10_eq (i : grid0.Coords) (w : BitVec 32) (hw : w.toNat < 2 ^ 31) (k : Fin (k0_t3_loop i w).trips) :
    k0_off10 i w k = ![512 * (w.toNat + k.val), 0] :=
  congrArg (fun a : ℕ => (![a, 0] : Fin 2 → ℕ)) (single_at i w hw k).1

theorem singles_left (i : grid0.Coords) (w : BitVec 32) : (k0_t4_loop i w).trips = 0 := Scf.rem_trips _ _
theorem singles_left_ok (i : grid0.Coords) (w : BitVec 32) : (k0_t4_loop i w).OK := Scf.rem_ok _ _

/-! ## The two tests' side conditions -/

/-- A block of 512 rows at a whole number of blocks below 32 lies inside the keys. -/
theorem block_inb (b : ℕ) (hb : b < 32) : ∀ a : Fin 2, (![512 * b, 0] : Fin 2 → ℕ) a + S512x128.size a ≤ S16384x128.size a := by
  intro a
  fin_cases a
  · show 512 * b + 512 ≤ 16384
    omega
  · show 0 + 128 ≤ 128
    omega

theorem chk1_of (i : grid0.Coords) (w v : BitVec 32) (hw : w.toNat < 2 ^ 31) : k0_chk1 i w v := by
  have hi := row_lt i
  have e1 : ∀ k : Fin (k0_t1_loop i w).trips, 512 ∣ (Scalar.muli (Scalar.muli 2#32 (Scf.iv (k0_t1_loop i w).lb 1#32 k.val)) 512#32).toNat :=
    fun k => by rw [(pair_first i w hw k).1]; exact Dvd.intro _ rfl
  have e2 : ∀ k : Fin (k0_t1_loop i w).trips, 512 ∣ (Scalar.muli (Scalar.addi (Scalar.muli 2#32 (Scf.iv (k0_t1_loop i w).lb 1#32 k.val)) 1#32) 512#32).toNat :=
    fun k => by rw [(pair_second i w hw k).1]; exact Dvd.intro _ rfl
  have no : ∀ k : Fin (k0_t2_loop i w).trips, False := fun k => Nat.not_lt_zero _ (lt_of_lt_of_eq k.isLt (pairs_left i w))
  refine ⟨fun _ => pairs_ok i w hw, fun k _ => e1 k, fun k _ => ?_, fun k _ => e1 k, fun k _ => e2 k, fun k _ => ?_, fun k _ => e2 k, fun k _ => e1 k, fun k _ => e2 k,
    fun _ => pairs_left_ok i w, fun k _ => (no k).elim, fun k _ => (no k).elim, fun k _ => (no k).elim, fun k _ => (no k).elim, fun k _ => (no k).elim,
    fun k _ => (no k).elim, fun k _ => (no k).elim, fun k _ => (no k).elim⟩
  · rw [off2_eq i w hw k]
    have := (pair_first i w hw k).2
    exact block_inb _ (by omega)
  · rw [off3_eq i w hw k]
    have := (pair_second i w hw k).2
    exact block_inb _ (by omega)

theorem chk2_of (i : grid0.Coords) (w v : BitVec 32) (hw : w.toNat < 2 ^ 31) : k0_chk2 i w v := by
  have hi := row_lt i
  have no : ∀ k : Fin (k0_t4_loop i w).trips, False := fun k => Nat.not_lt_zero _ (lt_of_lt_of_eq k.isLt (singles_left i w))
  refine ⟨fun _ => singles_ok i w hw, fun k _ => ?_, fun k _ => ?_, fun _ => singles_left_ok i w, fun k _ => (no k).elim, fun k _ => (no k).elim⟩
  · have e := (single_at i w hw k).1
    exact Dvd.intro _ e.symm
  · rw [off10_eq i w hw k]
    have := (single_at i w hw k).2
    exact block_inb _ (by omega)

/-- The first test is met by the kind 1 alone, -/
theorem cond1_iff (v : BitVec 32) : k0_cond1 v = 1#1 ↔ v = 1#32 := by
  unfold k0_cond1
  show Scalar.cmpi .ne (Scalar.extui (Scalar.cmpi .eq v 1#32)) 0#32 = 1#1 ↔ _
  rw [← StableHlo.Predicate.cmpi_eq_iff (a := v) (b := 1#32)]
  change _ ↔ Scalar.cmpi .eq v 1#32 = 1#1
  generalize Scalar.cmpi .eq v 1#32 = b
  revert b
  decide
/-- the second by the kind 0. -/
theorem cond2_iff (v : BitVec 32) : k0_cond2 v = 1#1 ↔ v = 0#32 := by
  unfold k0_cond2
  show Scalar.cmpi .ne (Scalar.extui (Scalar.cmpi .eq v 0#32)) 0#32 = 1#1 ↔ _
  rw [← StableHlo.Predicate.cmpi_eq_iff (a := v) (b := 0#32)]
  change _ ↔ Scalar.cmpi .eq v 0#32 = 1#1
  generalize Scalar.cmpi .eq v 0#32 = b
  revert b
  decide

/-! ## The words of the tables -/

variable {F : FTy → Type} [FloatOps F]

/-- The element of a table that point `i` reads: batch, head, query block, row major. -/
def wordIdx (i : grid0.Coords) : S256.Idx := (Rect.unit (s := S256) (k0_off1 i) S1.size (k0_off1_inb i)).toLoadRect.idx (Shape.Idx.first (numel1_S1.symm ▸ Nat.one_pos))

theorem startWord_eq {c : Dev nD} (i : grid0.Coords) (x : TabBuf (F := F) c startM) : startWord i x = x (wordIdx i) := rfl
theorem kindWord_eq {c : Dev nD} (i : grid0.Coords) (x : TabBuf (F := F) c kindM) : kindWord i x = x (wordIdx i) := rfl
theorem kindWord'_eq {c : Dev nD} (i : grid0.Coords) (x : TabBuf (F := F) c kindM) : kindWord' i x = x (wordIdx i) := rfl

/-- The tables' stated range: no negative first block, and a kind that is 0 or 1. -/
def Plan (start kind : S256.Idx → BitVec 32) : Prop := ∀ j, (start j).toNat < 2 ^ 31 ∧ (kind j = 0#32 ∨ kind j = 1#32)

theorem tests_of (v : BitVec 32) (h : v = 0#32 ∨ v = 1#32) : (k0_cond1 v = 1#1 ∧ ¬k0_cond2 v = 1#1) ∨ (¬k0_cond1 v = 1#1 ∧ k0_cond2 v = 1#1) := by
  rcases h with rfl | rfl <;> decide

theorem words_of (m : (ℓ : Loc nD τ sig) → Buf (Elt F) ℓ) (h : Plan (tables m 0) (tables m 1)) : Words m := by
  refine ⟨fun t => ?_, fun t => ?_, fun t => ?_⟩
  · exact tests_of _ (h (wordIdx (grid0.coords t))).2
  · exact chk1_of _ _ _ (h (wordIdx (grid0.coords t))).1
  · exact chk2_of _ _ _ (h (wordIdx (grid0.coords t))).1

/-! ## The stated range, read off the predicate -/

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide

theorem plan_of_elem (start kind : S256.Idx → BitVec 32)
    (h : ∀ j, IntOp.andi (IntOp.cmpi .sge (start j) 0#32) (IntOp.ori (IntOp.cmpi .eq (kind j) 0#32) (IntOp.cmpi .eq (kind j) 1#32)) = 1#1) :
    Plan start kind := by
  intro j
  have e := h j
  rw [and_one, or_one, StableHlo.Predicate.cmpi_eq_iff, StableHlo.Predicate.cmpi_eq_iff] at e
  refine ⟨?_, e.2⟩
  have e1 : (0#32 : BitVec 32).sle (start j) = true := (StableHlo.Predicate.ofBool_eq_one_iff _).1 e.1
  simp only [BitVec.sle, decide_eq_true_eq, BitVec.toInt, BitVec.toNat_ofNat] at e1
  have := (start j).isLt
  omega

instance : Subsingleton (Cert.Pre_plan_ok.S_).Idx := inferInstanceAs (Subsingleton ((a : Fin 0) → _))

theorem plan_of_pre [Cert.Pre_plan_ok.Facts] (a0 a1 : IVec Cert.Pre_plan_ok.S256 32) (a2 a3 a4 a5)
    (h : Cert.Pre_plan_ok.fn (F := F) a0 a1 a2 a3 a4 a5 = fun _ => 1#1) : Plan a0 a1 := by
  refine plan_of_elem a0 a1 fun j => ?_
  have e := congrFun h (Shape.Idx.first Cert.Pre_plan_ok.Facts.h_S_)
  exact Host.reduce_andi_all _ _ Cert.Pre_plan_ok.Facts.reducesTo_S256_S_d0 Cert.Pre_plan_ok.Facts.h_S_ _ e j

end Cert.KernelIdeal.Fox

end
-- ==== Proof.Value.Tiles.lean ====
/- What one grid point stores, with its loads read: the two halves of the query block against blocks of 512 keys. -/
module

public import proofs.«01_k».proof.Proof.IdealRun.Words
public import Idealize.ShloMosaic.Lib.Pointwise
public import Mathlib.Tactic.IntervalCases
public import Idealize.ShloMosaic.Lib.WritesUnit

@[expose] public section

set_option maxRecDepth 16384

noncomputable section

namespace Cert.KernelIdeal.Fox

open Cert.KernelIdeal.Gen
open Idealize.ShloMosaic Idealize.ShloMosaic.TcCoe

variable {F : FTy → Type} [FloatOps F]

/-! ## Loads -/

/-- Half `u` of the query block's 1024 rows. -/
def half (x : Vec F S1024x128 .bf16) (u : Fin 2) : Vec F S512x128 .bf16 := fun j =>
  x (ix2 ⟨512 * u.val + (j 0).val, by have h : (j 0).val < 512 := (j 0).isLt; have := u.isLt; omega⟩ (j 1))

/-- Block `b` of 512 rows of the keys (or values); its number counts modulo 32. -/
def keys (x : Vec F S16384x128 .bf16) (b : ℕ) : Vec F S512x128 .bf16 := fun j =>
  x (ix2 ⟨(512 * b + (j 0).val) % 16384, Nat.mod_lt _ (by decide)⟩ (j 1))

/-- One head's row of the norm's weights. -/
def headRow (x : Vec F S8x128 .f32) (h : Fin 8) : Vec F S1x128 .f32 := fun j => x (ix2 h (j 1))

theorem load_half (a : Memref sig .tc .vmem S1024x128 .bf16) (ha : a.IsWhole) (x : Vec F S1024x128 .bf16) (off : Fin 2 → ℕ)
    (inb : ∀ k, off k + S512x128.size k ≤ S1024x128.size k) (u : Fin 2) (e : off = ![512 * u.val, 0]) :
    View.readAt (Elt F) a.view (Rect.unit (s := S1024x128) off S512x128.size inb).toLoadRect (ha.unread x) = half x u := by
  subst e
  funext j
  rw [View.readAt_apply, ha.read_unread]
  refine congrArg x (funext fun k => Fin.ext ?_)
  fin_cases k
  · show 512 * u.val + 1 * (j 0).val = _
    rw [one_mul]; rfl
  · show 0 + 1 * (j 1).val = _
    rw [one_mul, zero_add]; rfl

theorem load_keys (a : Memref sig .tc .vmem S16384x128 .bf16) (ha : a.IsWhole) (x : Vec F S16384x128 .bf16) (off : Fin 2 → ℕ)
    (inb : ∀ k, off k + S512x128.size k ≤ S16384x128.size k) (b : ℕ) (e : off = ![512 * b, 0]) :
    View.readAt (Elt F) a.view (Rect.unit (s := S16384x128) off S512x128.size inb).toLoadRect (ha.unread x) = keys x b := by
  subst e
  funext j
  rw [View.readAt_apply, ha.read_unread]
  refine congrArg x (funext fun k => Fin.ext ?_)
  fin_cases k
  · have h0 : 512 * b + 512 ≤ 16384 := inb 0
    have hj : (j 0).val < 512 := (j 0).isLt
    show 512 * b + 1 * (j 0).val = (512 * b + (j 0).val) % 16384
    rw [one_mul, Nat.mod_eq_of_lt (by omega)]
  · show 0 + 1 * (j 1).val = _
    rw [one_mul, zero_add]; rfl

theorem load_row (a : Memref sig .tc .vmem S8x128 .f32) (ha : a.IsWhole) (x : Vec F S8x128 .f32) (off : Fin 2 → ℕ)
    (inb : ∀ k, off k + S1x128.size k ≤ S8x128.size k) (h : Fin 8) (e : off = ![h.val, 0]) :
    View.readAt (Elt F) a.view (Rect.unit (s := S8x128) off S1x128.size inb).toLoadRect (ha.unread x) = headRow x h := by
  subst e
  funext j
  rw [View.readAt_apply, ha.read_unread]
  refine congrArg x (funext fun k => Fin.ext ?_)
  fin_cases k
  · have hj : (j 0).val < 1 := (j 0).isLt
    show h.val + 1 * (j 0).val = h.val
    omega
  · show 0 + 1 * (j 1).val = _
    rw [one_mul, zero_add]; rfl

/-! ## The offsets of the query block's own keys -/

theorem own_first (n : ℕ) (h : n < 16) : (Scalar.muli (Scalar.muli 2#32 (BitVec.ofNat 32 n)) 512#32).toNat = 512 * (2 * n) := by
  interval_cases n <;> rfl
theorem own_second (n : ℕ) (h : n < 16) :
    (Scalar.muli (Scalar.addi (Scalar.muli 2#32 (BitVec.ofNat 32 n)) 1#32) 512#32).toNat = 512 * (2 * n + 1) := by
  interval_cases n <;> rfl
theorem off6_eq (i : grid0.Coords) : k0_off6 i = ![512 * (2 * (i 2).val), 0] :=
  congrArg (fun a : ℕ => (![a, 0] : Fin 2 → ℕ)) (own_first _ (row_lt i))
theorem off7_eq (i : grid0.Coords) : k0_off7 i = ![512 * (2 * (i 2).val + 1), 0] :=
  congrArg (fun a : ℕ => (![a, 0] : Fin 2 → ℕ)) (own_second _ (row_lt i))
theorem off12_eq (i : grid0.Coords) : k0_off12 i = ![512 * (2 * (i 2).val), 0] :=
  congrArg (fun a : ℕ => (![a, 0] : Fin 2 → ℕ)) (own_first _ (row_lt i))
theorem off13_eq (i : grid0.Coords) : k0_off13 i = ![512 * (2 * (i 2).val + 1), 0] :=
  congrArg (fun a : ℕ => (![a, 0] : Fin 2 → ℕ)) (own_second _ (row_lt i))
/-- The head of a grid point. -/
def headOf (i : grid0.Coords) : Fin 8 := i 1
theorem head_word (n : ℕ) (h : n < 8) : (BitVec.ofNat 32 n).toNat = n := by interval_cases n <;> rfl
theorem off8_eq (i : grid0.Coords) : k0_off8 i = ![(headOf i).val, 0] :=
  congrArg (fun a : ℕ => (![a, 0] : Fin 2 → ℕ)) (head_word _ (headOf i).isLt)
theorem off14_eq (i : grid0.Coords) : k0_off14 i = ![(headOf i).val, 0] :=
  congrArg (fun a : ℕ => (![a, 0] : Fin 2 → ℕ)) (head_word _ (headOf i).isLt)

/-! ## The two stores -/

theorem stores_low (w1 w2 : Vec F S512x128 .bf16) (inb1 : ∀ k, (![0, 0] : Fin 2 → ℕ) k + (![512, 128] : Fin 2 → ℕ) k ≤ S1024x128.size k)
    (inb2 : ∀ k, (![512, 0] : Fin 2 → ℕ) k + (![512, 128] : Fin 2 → ℕ) k ≤ S1024x128.size k) (r : Fin 512) (l : Fin 128) :
    View.read (Elt F) outV (outV.writes (Elt F) outV.junk [⟨Rect.unit (s := S1024x128) ![512, 0] ![512, 128] inb2, w2⟩,
      ⟨Rect.unit (s := S1024x128) ![0, 0] ![512, 128] inb1, w1⟩]) (ix2 ⟨r.val, by omega⟩ l) = w1 (ix2 r l) :=
  (View.read_writes_cons_rows_of_not_mem (o := 512) (W := 512) outV _ inb2 w2 _ (ix2 ⟨r.val, by omega⟩ l) rfl rfl (.inl r.isLt)).trans
    (View.read_writes_cons_rows_of_mem (o := 0) outV _ inb1 w1 _ (ix2 ⟨r.val, by omega⟩ l) (ix2 r l) rfl (Nat.zero_add _).symm rfl)

theorem stores_high (w1 w2 : Vec F S512x128 .bf16) (inb1 : ∀ k, (![0, 0] : Fin 2 → ℕ) k + (![512, 128] : Fin 2 → ℕ) k ≤ S1024x128.size k)
    (inb2 : ∀ k, (![512, 0] : Fin 2 → ℕ) k + (![512, 128] : Fin 2 → ℕ) k ≤ S1024x128.size k) (r : Fin 512) (l : Fin 128) :
    View.read (Elt F) outV (outV.writes (Elt F) outV.junk [⟨Rect.unit (s := S1024x128) ![512, 0] ![512, 128] inb2, w2⟩,
      ⟨Rect.unit (s := S1024x128) ![0, 0] ![512, 128] inb1, w1⟩]) (ix2 ⟨512 + r.val, by omega⟩ l) = w2 (ix2 r l) :=
  View.read_writes_cons_rows_of_mem (o := 512) outV _ inb2 w2 _ (ix2 ⟨512 + r.val, by omega⟩ l) (ix2 r l) rfl rfl rfl

/-! ## The loop over pairs of blocks -/

section Direct

variable (x0 x1 : Vec F S1024x128 .bf16) (x2 x3 x4 : Vec F S16384x128 .bf16) (x5 : Vec F S8x128 .f32)

/-- One pair of blocks, `2 b` and `2 b + 1`, added to both halves' sums. -/
def pairStep (b : ℕ) (acc : FVec F S512x256 .f32 × FVec F S512x256 .f32) : FVec F S512x256 .f32 × FVec F S512x256 .f32 :=
  (k0_pay14 acc.1 (k0_pay2 (k0_pay8 (half x0 0) (half x1 0)) (keys x2 (2 * b)) (keys x3 (2 * b)))
      (k0_pay4 (k0_pay8 (half x0 0) (half x1 0)) (keys x2 (2 * b + 1)) (keys x3 (2 * b + 1))) (keys x4 (2 * b)) (keys x4 (2 * b + 1)),
    k0_pay15 (half x0 1) (half x1 1) acc.2 (k0_pay3 (k0_pay9 (half x0 1) (half x1 1)) (keys x2 (2 * b)) (keys x3 (2 * b)))
      (keys x2 (2 * b + 1)) (keys x3 (2 * b + 1)) (keys x4 (2 * b)) (keys x4 (2 * b + 1)))

/-- The sums after `n` pairs from pair `b` on. -/
def pairSums (b : ℕ) : ℕ → FVec F S512x256 .f32 × FVec F S512x256 .f32
  | 0 => (k0_pay11, k0_pay11)
  | n + 1 => pairStep x0 x1 x2 x3 x4 (b + n) (pairSums b n)

/-- The loop's state is these sums. -/
theorem pairs_state (𝒱 : Variants) (c : Dev nD) (bd : Option 𝒱.V) (i : grid0.Coords) (s : Memref sig .tc .smem S256 .i32) (hs : s.IsWhole)
    (kd : Memref sig .tc .smem S256 .i32) (hkd : kd.IsWhole)
    (a0 : Memref sig .tc .vmem S1024x128 .bf16) (h0 : a0.IsWhole) (a1 : Memref sig .tc .vmem S1024x128 .bf16) (h1 : a1.IsWhole)
    (a2 : Memref sig .tc .vmem S16384x128 .bf16) (h2 : a2.IsWhole) (a3 : Memref sig .tc .vmem S16384x128 .bf16) (h3 : a3.IsWhole)
    (a4 : Memref sig .tc .vmem S16384x128 .bf16) (h4 : a4.IsWhole) (a5 : Memref sig .tc .vmem S8x128 .f32) (h5 : a5.IsWhole)
    (a6 : Memref sig .tc .vmem S1024x128 .bf16) (h6 : a6.IsWhole) (arg2 : BitVec 32) (w v : BitVec 32) (hw1 : k0_chk1 i w v)
    (hc1 : k0_cond1 v = 1#1) (v42 : BitVec 32) (hw : w.toNat < 2 ^ 31) :
    ∀ n, n ≤ (k0_t1_loop i w).trips →
      st_k0_t1 (F := F) 𝒱 c bd i s hs kd hkd a0 h0 a1 h1 a2 h2 a3 h3 a4 h4 a5 h5 a6 h6 arg2 w v hw1 hc1 (half x0 0) (half x1 0)
          (half x0 1) (half x1 1) v42 (h2.unread x2) (h3.unread x3) (h4.unread x4) (k0_pay11, k0_pay11) n
        = pairSums x0 x1 x2 x3 x4 (w.toNat / 2) n
  | 0, _ => rfl
  | n + 1, h => by
    have ih := pairs_state 𝒱 c bd i s hs kd hkd a0 h0 a1 h1 a2 h2 a3 h3 a4 h4 a5 h5 a6 h6 arg2 w v hw1 hc1 v42 hw n (Nat.le_of_succ_le h)
    have e := st_k0_t1_succ (F := F) 𝒱 c bd i s hs kd hkd a0 h0 a1 h1 a2 h2 a3 h3 a4 h4 a5 h5 a6 h6 arg2 w v hw1 hc1 (half x0 0) (half x1 0)
      (half x0 1) (half x1 1) v42 (h2.unread x2) (h3.unread x3) (h4.unread x4) (k0_pay11, k0_pay11) ⟨n, h⟩
    refine e.trans ?_
    rw [ih]
    unfold tripR_k0_t1 trip_k0_t1
    dsimp only
    unfold trip_k0_t1.sl.r trip_k0_t1.sl.r_1 trip_k0_t1.sl.r_2
    have o2 := off2_eq i w hw ⟨n, h⟩
    have o3 := off3_eq i w hw ⟨n, h⟩
    rw [load_keys a2 h2 x2 _ _ _ o2, load_keys a2 h2 x2 _ _ _ o3, load_keys a3 h3 x3 _ _ _ o2, load_keys a3 h3 x3 _ _ _ o3,
      load_keys a4 h4 x4 _ _ _ o2, load_keys a4 h4 x4 _ _ _ o3]
    rfl

/-- The query's and the key's positions within their blocks of 512. -/
abbrev qPos : IVec S512x512 32 := iota .tc S512x512 32 [0] iota_S512x512_d0_w32
abbrev kPos : IVec S512x512 32 := iota .tc S512x512 32 [1] iota_S512x512_d1_w32

/-- What the first half's rows are: `p` pairs from pair `b`, then the first of the query block's own two blocks, masked. -/
def directLow (qi : ℕ) (b p : ℕ) (h : Fin 8) : Vec F S512x128 .bf16 :=
  k0_pay25 (k0_pay23 qPos kPos (k0_pay8 (half x0 0) (half x1 0)) k0_pay10 (pairSums x0 x1 x2 x3 x4 b p).1
    (keys x2 (2 * qi)) (keys x3 (2 * qi)) (keys x4 (2 * qi))) (headRow x5 h)

/-- What the second half's rows are: the same pairs, the first of the query block's own two blocks, and the second, masked. -/
def directHigh (qi : ℕ) (b p : ℕ) (h : Fin 8) : Vec F S512x128 .bf16 :=
  k0_pay26 k0_pay10 (k0_pay21 qPos kPos (k0_pay9 (half x0 1) (half x1 1)) (keys x2 (2 * qi + 1)) (keys x3 (2 * qi + 1)))
    (k0_pay24 (k0_pay9 (half x0 1) (half x1 1)) k0_pay10 (pairSums x0 x1 x2 x3 x4 b p).2
      (keys x2 (2 * qi)) (keys x3 (2 * qi)) (keys x4 (2 * qi)))
    (keys x4 (2 * qi + 1)) (headRow x5 h)

theorem leftDirect_low (c : Dev nD) (i : grid0.Coords) (a0 : Memref sig .tc .vmem S1024x128 .bf16) (h0 : a0.IsWhole)
    (a1 : Memref sig .tc .vmem S1024x128 .bf16) (h1 : a1.IsWhole) (a2 : Memref sig .tc .vmem S16384x128 .bf16) (h2 : a2.IsWhole)
    (a3 : Memref sig .tc .vmem S16384x128 .bf16) (h3 : a3.IsWhole) (a4 : Memref sig .tc .vmem S16384x128 .bf16) (h4 : a4.IsWhole)
    (a5 : Memref sig .tc .vmem S8x128 .f32) (h5 : a5.IsWhole) (a6 : Memref sig .tc .vmem S1024x128 .bf16) (h6 : a6.IsWhole)
    (lo : TabBuf (F := F) c startM) (kd : TabBuf (F := F) c kindM)
    (hc1 : k0_cond1 (kindWord i kd) = 1#1) (hc2 : ¬k0_cond2 (kindWord' i kd) = 1#1)
    (hw1 : k0_chk1 i (startWord i lo) (kindWord i kd)) (hw2 : k0_chk2 i (startWord i lo) (kindWord' i kd))
    (hw : (startWord i lo).toNat < 2 ^ 31)
    (r : Fin 512) (l : Fin 128) :
    leftDirect c i a0 h0 a1 h1 a2 h2 a3 h3 a4 h4 a5 h5 a6 h6 x0 x1 x2 x3 x4 x5 lo kd hc1 hc2 hw1 hw2 (ix2 ⟨r.val, by omega⟩ l)
      = directLow x0 x1 x2 x3 x4 x5 (i 2).val ((startWord i lo).toNat / 2) ((i 2).val - (startWord i lo).toNat / 2) (headOf i) (ix2 r l) := by
  have e := pairs_state x0 x1 x2 x3 x4 Variants.none c none i startM startM_whole kindM kindM_whole a0 h0 a1 h1 a2 h2 a3 h3 a4 h4 a5 h5 a6 h6
    (BitVec.ofNat 32 (i 2).val) (startWord i lo) (kindWord i kd) hw1 hc1 (runDirect.sl.v42 c i lo) hw _ le_rfl
  have z : Scf.trips (k0_t2_loop i (runDirect.sl.r c i lo)).lb (k0_t2_loop i (runDirect.sl.r c i lo)).ub
    (k0_t2_loop i (runDirect.sl.r c i lo)).st = 0 := pairs_left i _
  unfold leftDirect runDirect
  dsimp only
  refine (stores_low _ _ _ _ r l).trans ?_
  unfold runDirect.sl.r_8 runDirect.sl.r_2 runDirect.sl.r_4 runDirect.sl.r_6
  rw [load_half a0 h0 x0 ![0, 0] _ 0 rfl, load_half a1 h1 x1 ![0, 0] _ 0 rfl, load_half a0 h0 x0 ![512, 0] _ 1 rfl,
    load_half a1 h1 x1 ![512, 0] _ 1 rfl, load_keys a2 h2 x2 _ _ _ (off6_eq i), load_keys a3 h3 x3 _ _ _ (off6_eq i),
    load_keys a4 h4 x4 _ _ _ (off6_eq i), load_row a5 h5 x5 _ _ _ (off8_eq i), z]
  unfold directLow
  rw [← pairs_trips i (startWord i lo) hw, ← e]
  rfl

theorem leftDirect_high (c : Dev nD) (i : grid0.Coords) (a0 : Memref sig .tc .vmem S1024x128 .bf16) (h0 : a0.IsWhole)
    (a1 : Memref sig .tc .vmem S1024x128 .bf16) (h1 : a1.IsWhole) (a2 : Memref sig .tc .vmem S16384x128 .bf16) (h2 : a2.IsWhole)
    (a3 : Memref sig .tc .vmem S16384x128 .bf16) (h3 : a3.IsWhole) (a4 : Memref sig .tc .vmem S16384x128 .bf16) (h4 : a4.IsWhole)
    (a5 : Memref sig .tc .vmem S8x128 .f32) (h5 : a5.IsWhole) (a6 : Memref sig .tc .vmem S1024x128 .bf16) (h6 : a6.IsWhole)
    (lo : TabBuf (F := F) c startM) (kd : TabBuf (F := F) c kindM)
    (hc1 : k0_cond1 (kindWord i kd) = 1#1) (hc2 : ¬k0_cond2 (kindWord' i kd) = 1#1)
    (hw1 : k0_chk1 i (startWord i lo) (kindWord i kd)) (hw2 : k0_chk2 i (startWord i lo) (kindWord' i kd))
    (hw : (startWord i lo).toNat < 2 ^ 31)
    (r : Fin 512) (l : Fin 128) :
    leftDirect c i a0 h0 a1 h1 a2 h2 a3 h3 a4 h4 a5 h5 a6 h6 x0 x1 x2 x3 x4 x5 lo kd hc1 hc2 hw1 hw2 (ix2 ⟨512 + r.val, by omega⟩ l)
      = directHigh x0 x1 x2 x3 x4 x5 (i 2).val ((startWord i lo).toNat / 2) ((i 2).val - (startWord i lo).toNat / 2) (headOf i) (ix2 r l) := by
  have e := pairs_state x0 x1 x2 x3 x4 Variants.none c none i startM startM_whole kindM kindM_whole a0 h0 a1 h1 a2 h2 a3 h3 a4 h4 a5 h5 a6 h6
    (BitVec.ofNat 32 (i 2).val) (startWord i lo) (kindWord i kd) hw1 hc1 (runDirect.sl.v42 c i lo) hw _ le_rfl
  have z : Scf.trips (k0_t2_loop i (runDirect.sl.r c i lo)).lb (k0_t2_loop i (runDirect.sl.r c i lo)).ub
    (k0_t2_loop i (runDirect.sl.r c i lo)).st = 0 := pairs_left i _
  unfold leftDirect runDirect
  dsimp only
  refine (stores_high _ _ _ _ r l).trans ?_
  unfold runDirect.sl.r_10 runDirect.sl.r_7 runDirect.sl.r_9 runDirect.sl.r_3 runDirect.sl.r_5 runDirect.sl.r_6
  rw [load_half a0 h0 x0 ![0, 0] _ 0 rfl, load_half a1 h1 x1 ![0, 0] _ 0 rfl, load_half a0 h0 x0 ![512, 0] _ 1 rfl,
    load_half a1 h1 x1 ![512, 0] _ 1 rfl, load_keys a2 h2 x2 _ _ _ (off6_eq i), load_keys a3 h3 x3 _ _ _ (off6_eq i),
    load_keys a4 h4 x4 _ _ _ (off6_eq i), load_row a5 h5 x5 _ _ _ (off8_eq i), load_keys a2 h2 x2 _ _ _ (off7_eq i), load_keys a3 h3 x3 _ _ _ (off7_eq i), load_keys a4 h4 x4 _ _ _ (off7_eq i), z]
  unfold directHigh
  rw [← pairs_trips i (startWord i lo) hw, ← e]
  rfl

end Direct

/-! ## The loop over single blocks -/

section Online

variable (x0 x1 : Vec F S1024x128 .bf16) (x2 x3 x4 : Vec F S16384x128 .bf16) (x5 : Vec F S8x128 .f32)

/-- What the loop carries: for each half the maximum, the partial sums of the weights and the weighted sums of the values. -/
abbrev Six (F : FTy → Type) [FloatOps F] : Type := FVec F S512x128 .f32 × FVec F S512x128 .f32 × FVec F S512x128 .f32 × FVec F S512x128 .f32 × FVec F S512x128 .f32 × FVec F S512x128 .f32

/-- The first half's queries with the stabiliser's lanes cleared, and the second's. -/
abbrev lowQ : FVec F S512x256 .bf16 := k0_pay70 (half x0 0) (half x1 0)
abbrev highQ : FVec F S512x256 .bf16 := k0_pay71 (half x0 1) (half x1 1)

/-- Block `b` added to both halves. -/
def singleStep (b : ℕ) (acc : Six F) : Six F :=
  (k0_pay34 (lowQ x0 x1) acc.1 (keys x2 b) (keys x3 b),
    k0_pay40 (lowQ x0 x1) acc.1 acc.2.1 (keys x2 b) (keys x3 b),
    k0_pay81 (keys x4 b) (k0_pay41 (lowQ x0 x1) acc.1 acc.2.2.1 (keys x2 b) (keys x3 b)) (k0_pay42 (lowQ x0 x1) acc.1 (keys x2 b) (keys x3 b)),
    k0_pay47 (highQ x0 x1) acc.2.2.2.1 (keys x2 b) (keys x3 b),
    k0_pay80 acc.2.2.2.1 acc.2.2.2.2.1 (k0_pay43 (highQ x0 x1) (keys x2 b) (keys x3 b)) (k0_pay44 (highQ x0 x1) (keys x2 b) (keys x3 b))
      (k0_pay45 (highQ x0 x1) (keys x2 b) (keys x3 b)) (k0_pay46 (highQ x0 x1) (keys x2 b) (keys x3 b))
      (k0_pay47 (highQ x0 x1) acc.2.2.2.1 (keys x2 b) (keys x3 b)),
    k0_pay82 acc.2.2.2.1 acc.2.2.2.2.2 (keys x4 b) (k0_pay43 (highQ x0 x1) (keys x2 b) (keys x3 b))
      (k0_pay44 (highQ x0 x1) (keys x2 b) (keys x3 b)) (k0_pay45 (highQ x0 x1) (keys x2 b) (keys x3 b))
      (k0_pay46 (highQ x0 x1) (keys x2 b) (keys x3 b)) (k0_pay47 (highQ x0 x1) acc.2.2.2.1 (keys x2 b) (keys x3 b)))

/-- What is carried after `n` blocks from block `b` on. -/
def singleSums (b : ℕ) : ℕ → Six F
  | 0 => (k0_pay72, k0_pay73, k0_pay74, k0_pay72, k0_pay73, k0_pay74)
  | n + 1 => singleStep x0 x1 x2 x3 x4 (b + n) (singleSums b n)

/-- The loop's state is this. -/
theorem singles_state (𝒱 : Variants) (c : Dev nD) (bd : Option 𝒱.V) (i : grid0.Coords) (s : Memref sig .tc .smem S256 .i32) (hs : s.IsWhole)
    (kd : Memref sig .tc .smem S256 .i32) (hkd : kd.IsWhole)
    (a0 : Memref sig .tc .vmem S1024x128 .bf16) (h0 : a0.IsWhole) (a1 : Memref sig .tc .vmem S1024x128 .bf16) (h1 : a1.IsWhole)
    (a2 : Memref sig .tc .vmem S16384x128 .bf16) (h2 : a2.IsWhole) (a3 : Memref sig .tc .vmem S16384x128 .bf16) (h3 : a3.IsWhole)
    (a4 : Memref sig .tc .vmem S16384x128 .bf16) (h4 : a4.IsWhole) (a5 : Memref sig .tc .vmem S8x128 .f32) (h5 : a5.IsWhole)
    (a6 : Memref sig .tc .vmem S1024x128 .bf16) (h6 : a6.IsWhole) (arg2 : BitVec 32) (w v : BitVec 32) (hw2 : k0_chk2 i w v)
    (hc2 : k0_cond2 v = 1#1) (hw : w.toNat < 2 ^ 31) :
    ∀ n, n ≤ (k0_t3_loop i w).trips →
      st_k0_t3 (F := F) 𝒱 c bd i s hs kd hkd a0 h0 a1 h1 a2 h2 a3 h3 a4 h4 a5 h5 a6 h6 arg2 w v hw2 hc2 (half x0 0) (half x1 0)
          (half x0 1) (half x1 1) (h2.unread x2) (h3.unread x3) (h4.unread x4)
          (k0_pay72, k0_pay73, k0_pay74, k0_pay72, k0_pay73, k0_pay74) n
        = singleSums x0 x1 x2 x3 x4 w.toNat n
  | 0, _ => rfl
  | n + 1, h => by
    have ih := singles_state 𝒱 c bd i s hs kd hkd a0 h0 a1 h1 a2 h2 a3 h3 a4 h4 a5 h5 a6 h6 arg2 w v hw2 hc2 hw n (Nat.le_of_succ_le h)
    have e := st_k0_t3_succ (F := F) 𝒱 c bd i s hs kd hkd a0 h0 a1 h1 a2 h2 a3 h3 a4 h4 a5 h5 a6 h6 arg2 w v hw2 hc2 (half x0 0) (half x1 0)
      (half x0 1) (half x1 1) (h2.unread x2) (h3.unread x3) (h4.unread x4)
      (k0_pay72, k0_pay73, k0_pay74, k0_pay72, k0_pay73, k0_pay74) ⟨n, h⟩
    refine e.trans ?_
    rw [ih]
    unfold tripR_k0_t3 trip_k0_t3
    dsimp only
    unfold trip_k0_t3.sl.r trip_k0_t3.sl.r_1 trip_k0_t3.sl.r_2 trip_k0_t3.sl.r_3 trip_k0_t3.sl.r_4 trip_k0_t3.sl.r_5 trip_k0_t3.sl.r_6
      trip_k0_t3.sl.r_7 trip_k0_t3.sl.r_8 trip_k0_t3.sl.r_9
    have o := off10_eq i w hw ⟨n, h⟩
    rw [load_keys a2 h2 x2 _ _ _ o, load_keys a3 h3 x3 _ _ _ o, load_keys a4 h4 x4 _ _ _ o]
    rfl

/-- The keys' side of a block of logits: keys and decay lanes side by side. -/
abbrev ownKeys (b : ℕ) : FVec F S512x256 .bf16 := k0_pay91 (keys x2 b) (keys x3 b)

/-- What the first half's rows are: `n` blocks from block `b`, then the first of the query block's own two blocks, masked. -/
def onlineLow (qi : ℕ) (b n : ℕ) (h : Fin 8) : Vec F S512x128 .bf16 :=
  k0_pay129
    (k0_pay103 qPos kPos (lowQ x0 x1) (singleSums x0 x1 x2 x3 x4 b n).1 (singleSums x0 x1 x2 x3 x4 b n).2.1 (ownKeys x2 x3 (2 * qi)))
    (k0_pay104 qPos kPos (lowQ x0 x1) (singleSums x0 x1 x2 x3 x4 b n).1 (singleSums x0 x1 x2 x3 x4 b n).2.2.1 (ownKeys x2 x3 (2 * qi))
      (keys x4 (2 * qi)))
    (headRow x5 h)

/-- The second half after the first of the query block's own two blocks: maximum, partial sums, weighted sums. -/
def highTop (S : Six F) (b : ℕ) : FVec F S512x128 .f32 := k0_pay110 (highQ x0 x1) S.2.2.2.1 (ownKeys x2 x3 b)
def highLane (S : Six F) (b : ℕ) : FVec F S512x128 .f32 :=
  k0_pay116 S.2.2.2.2.1 (k0_pay108 (highQ x0 x1) (ownKeys x2 x3 b)) (k0_pay109 (highQ x0 x1) (ownKeys x2 x3 b))
    (k0_pay110 (highQ x0 x1) S.2.2.2.1 (ownKeys x2 x3 b)) (k0_pay111 (highQ x0 x1) S.2.2.2.1 (ownKeys x2 x3 b))
    (k0_pay112 (highQ x0 x1) S.2.2.2.1 (ownKeys x2 x3 b)) (k0_pay113 (highQ x0 x1) S.2.2.2.1 (ownKeys x2 x3 b))
def highAcc (S : Six F) (b : ℕ) : FVec F S512x128 .f32 :=
  k0_pay117 S.2.2.2.2.2 (keys x4 b) (k0_pay108 (highQ x0 x1) (ownKeys x2 x3 b)) (k0_pay109 (highQ x0 x1) (ownKeys x2 x3 b))
    (k0_pay110 (highQ x0 x1) S.2.2.2.1 (ownKeys x2 x3 b)) (k0_pay111 (highQ x0 x1) S.2.2.2.1 (ownKeys x2 x3 b))
    (k0_pay112 (highQ x0 x1) S.2.2.2.1 (ownKeys x2 x3 b)) (k0_pay113 (highQ x0 x1) S.2.2.2.1 (ownKeys x2 x3 b))

/-- What the second half's rows are from the sums after the first own block: the second own block, masked, and the norm. -/
def highEnd (m l a : FVec F S512x128 .f32) (b : ℕ) (h : Fin 8) : Vec F S512x128 .bf16 :=
  k0_pay1 (k0_pay130 l a (keys x4 b)
    (k0_pay124 qPos kPos (highQ x0 x1) m (keys x2 b) (keys x3 b)) (k0_pay125 qPos kPos (highQ x0 x1) m (keys x2 b) (keys x3 b))
    (k0_pay126 qPos kPos (highQ x0 x1) m (keys x2 b) (keys x3 b)) (k0_pay127 qPos kPos (highQ x0 x1) m (keys x2 b) (keys x3 b))
    (k0_pay128 qPos kPos (highQ x0 x1) m (keys x2 b) (keys x3 b))) (headRow x5 h)

/-- What the second half's rows are: the same `n` blocks and the query block's own two. -/
def onlineHigh (qi : ℕ) (b n : ℕ) (h : Fin 8) : Vec F S512x128 .bf16 :=
  highEnd x0 x1 x2 x3 x4 x5 (highTop x0 x1 x2 x3 (singleSums x0 x1 x2 x3 x4 b n) (2 * qi))
    (highLane x0 x1 x2 x3 (singleSums x0 x1 x2 x3 x4 b n) (2 * qi)) (highAcc x0 x1 x2 x3 x4 (singleSums x0 x1 x2 x3 x4 b n) (2 * qi))
    (2 * qi + 1) h

theorem leftOnline_low (c : Dev nD) (i : grid0.Coords) (a0 : Memref sig .tc .vmem S1024x128 .bf16) (h0 : a0.IsWhole)
    (a1 : Memref sig .tc .vmem S1024x128 .bf16) (h1 : a1.IsWhole) (a2 : Memref sig .tc .vmem S16384x128 .bf16) (h2 : a2.IsWhole)
    (a3 : Memref sig .tc .vmem S16384x128 .bf16) (h3 : a3.IsWhole) (a4 : Memref sig .tc .vmem S16384x128 .bf16) (h4 : a4.IsWhole)
    (a5 : Memref sig .tc .vmem S8x128 .f32) (h5 : a5.IsWhole) (a6 : Memref sig .tc .vmem S1024x128 .bf16) (h6 : a6.IsWhole)
    (lo : TabBuf (F := F) c startM) (kd : TabBuf (F := F) c kindM)
    (hc1 : ¬k0_cond1 (kindWord i kd) = 1#1) (hc2 : k0_cond2 (kindWord' i kd) = 1#1)
    (hw1 : k0_chk1 i (startWord i lo) (kindWord i kd)) (hw2 : k0_chk2 i (startWord i lo) (kindWord' i kd))
    (hw : (startWord i lo).toNat < 2 ^ 31)
    (r : Fin 512) (l : Fin 128) :
    leftOnline c i a0 h0 a1 h1 a2 h2 a3 h3 a4 h4 a5 h5 a6 h6 x0 x1 x2 x3 x4 x5 lo kd hc1 hc2 hw1 hw2 (ix2 ⟨r.val, by omega⟩ l)
      = onlineLow x0 x1 x2 x3 x4 x5 (i 2).val (startWord i lo).toNat (2 * (i 2).val - (startWord i lo).toNat) (headOf i) (ix2 r l) := by
  have e := singles_state x0 x1 x2 x3 x4 Variants.none c none i startM startM_whole kindM kindM_whole a0 h0 a1 h1 a2 h2 a3 h3 a4 h4 a5 h5 a6 h6
    (BitVec.ofNat 32 (i 2).val) (startWord i lo) (kindWord' i kd) hw2 hc2 hw _ le_rfl
  have z : Scf.trips (k0_t4_loop i (runOnline.sl.r c i lo)).lb (k0_t4_loop i (runOnline.sl.r c i lo)).ub
    (k0_t4_loop i (runOnline.sl.r c i lo)).st = 0 := singles_left i _
  unfold leftOnline runOnline
  dsimp only
  refine (stores_low _ _ _ _ r l).trans ?_
  unfold runOnline.sl.r_13 runOnline.sl.r_14 runOnline.sl.r_3 runOnline.sl.r_5 runOnline.sl.r_6 runOnline.sl.r_7 runOnline.sl.r_11
  rw [load_half a0 h0 x0 ![0, 0] _ 0 rfl, load_half a1 h1 x1 ![0, 0] _ 0 rfl, load_half a0 h0 x0 ![512, 0] _ 1 rfl,
    load_half a1 h1 x1 ![512, 0] _ 1 rfl, load_keys a2 h2 x2 _ _ _ (off12_eq i), load_keys a3 h3 x3 _ _ _ (off12_eq i),
    load_keys a4 h4 x4 _ _ _ (off12_eq i), load_row a5 h5 x5 _ _ _ (off14_eq i), z]
  unfold onlineLow
  rw [← singles_trips i (startWord i lo) hw, ← e]
  rfl

theorem leftOnline_high (c : Dev nD) (i : grid0.Coords) (a0 : Memref sig .tc .vmem S1024x128 .bf16) (h0 : a0.IsWhole)
    (a1 : Memref sig .tc .vmem S1024x128 .bf16) (h1 : a1.IsWhole) (a2 : Memref sig .tc .vmem S16384x128 .bf16) (h2 : a2.IsWhole)
    (a3 : Memref sig .tc .vmem S16384x128 .bf16) (h3 : a3.IsWhole) (a4 : Memref sig .tc .vmem S16384x128 .bf16) (h4 : a4.IsWhole)
    (a5 : Memref sig .tc .vmem S8x128 .f32) (h5 : a5.IsWhole) (a6 : Memref sig .tc .vmem S1024x128 .bf16) (h6 : a6.IsWhole)
    (lo : TabBuf (F := F) c startM) (kd : TabBuf (F := F) c kindM)
    (hc1 : ¬k0_cond1 (kindWord i kd) = 1#1) (hc2 : k0_cond2 (kindWord' i kd) = 1#1)
    (hw1 : k0_chk1 i (startWord i lo) (kindWord i kd)) (hw2 : k0_chk2 i (startWord i lo) (kindWord' i kd))
    (hw : (startWord i lo).toNat < 2 ^ 31)
    (r : Fin 512) (l : Fin 128) :
    leftOnline c i a0 h0 a1 h1 a2 h2 a3 h3 a4 h4 a5 h5 a6 h6 x0 x1 x2 x3 x4 x5 lo kd hc1 hc2 hw1 hw2 (ix2 ⟨512 + r.val, by omega⟩ l)
      = onlineHigh x0 x1 x2 x3 x4 x5 (i 2).val (startWord i lo).toNat (2 * (i 2).val - (startWord i lo).toNat) (headOf i) (ix2 r l) := by
  have e := singles_state x0 x1 x2 x3 x4 Variants.none c none i startM startM_whole kindM kindM_whole a0 h0 a1 h1 a2 h2 a3 h3 a4 h4 a5 h5 a6 h6
    (BitVec.ofNat 32 (i 2).val) (startWord i lo) (kindWord' i kd) hw2 hc2 hw _ le_rfl
  have z : Scf.trips (k0_t4_loop i (runOnline.sl.r c i lo)).lb (k0_t4_loop i (runOnline.sl.r c i lo)).ub
    (k0_t4_loop i (runOnline.sl.r c i lo)).st = 0 := singles_left i _
  have e4 : runOnline.sl.r_4 c a0 h0 a1 h1 x0 x1 = highQ x0 x1 := by
    unfold runOnline.sl.r_4
    rw [load_half a0 h0 x0 ![512, 0] _ 1 rfl, load_half a1 h1 x1 ![512, 0] _ 1 rfl]
  have e11 : runOnline.sl.r_11 i a2 h2 a3 h3 x2 x3 = ownKeys x2 x3 (2 * (i 2).val) := by
    unfold runOnline.sl.r_11
    rw [load_keys a2 h2 x2 _ _ _ (off12_eq i), load_keys a3 h3 x3 _ _ _ (off12_eq i)]
  have e12 : runOnline.sl.r_12 i a4 h4 x4 = keys x4 (2 * (i 2).val) := load_keys a4 h4 x4 _ _ _ (off12_eq i)
  have e23 : runOnline.sl.r_23 i a4 h4 x4 = keys x4 (2 * (i 2).val + 1) := load_keys a4 h4 x4 _ _ _ (off13_eq i)
  have e8 : runOnline.sl.r_8 c i a0 h0 a1 h1 a2 h2 a3 h3 a4 h4 a5 h5 a6 h6 x0 x1 x2 x3 x4 lo kd hc2 hw2 = (singleSums x0 x1 x2 x3 x4 (startWord i lo).toNat (2 * (i 2).val - (startWord i lo).toNat)).2.2.2.1 := by
    unfold runOnline.sl.r_8
    rw [load_half a0 h0 x0 ![0, 0] _ 0 rfl, load_half a1 h1 x1 ![0, 0] _ 0 rfl, load_half a0 h0 x0 ![512, 0] _ 1 rfl,
      load_half a1 h1 x1 ![512, 0] _ 1 rfl, z, ← singles_trips i (startWord i lo) hw, ← e]
    rfl
  have e9 : runOnline.sl.r_9 c i a0 h0 a1 h1 a2 h2 a3 h3 a4 h4 a5 h5 a6 h6 x0 x1 x2 x3 x4 lo kd hc2 hw2 = (singleSums x0 x1 x2 x3 x4 (startWord i lo).toNat (2 * (i 2).val - (startWord i lo).toNat)).2.2.2.2.1 := by
    unfold runOnline.sl.r_9
    rw [load_half a0 h0 x0 ![0, 0] _ 0 rfl, load_half a1 h1 x1 ![0, 0] _ 0 rfl, load_half a0 h0 x0 ![512, 0] _ 1 rfl,
      load_half a1 h1 x1 ![512, 0] _ 1 rfl, z, ← singles_trips i (startWord i lo) hw, ← e]
    rfl
  have e10 : runOnline.sl.r_10 c i a0 h0 a1 h1 a2 h2 a3 h3 a4 h4 a5 h5 a6 h6 x0 x1 x2 x3 x4 lo kd hc2 hw2 = (singleSums x0 x1 x2 x3 x4 (startWord i lo).toNat (2 * (i 2).val - (startWord i lo).toNat)).2.2.2.2.2 := by
    unfold runOnline.sl.r_10
    rw [load_half a0 h0 x0 ![0, 0] _ 0 rfl, load_half a1 h1 x1 ![0, 0] _ 0 rfl, load_half a0 h0 x0 ![512, 0] _ 1 rfl,
      load_half a1 h1 x1 ![512, 0] _ 1 rfl, z, ← singles_trips i (startWord i lo) hw, ← e]
    rfl
  have e17 : runOnline.sl.r_17 c i a0 h0 a1 h1 a2 h2 a3 h3 a4 h4 a5 h5 a6 h6 x0 x1 x2 x3 x4 lo kd hc2 hw2 = highTop x0 x1 x2 x3 (singleSums x0 x1 x2 x3 x4 (startWord i lo).toNat (2 * (i 2).val - (startWord i lo).toNat)) (2 * (i 2).val) := by
    unfold runOnline.sl.r_17 highTop
    rw [e4, e8, e11]
  have e21 : runOnline.sl.r_21 c i a0 h0 a1 h1 a2 h2 a3 h3 a4 h4 a5 h5 a6 h6 x0 x1 x2 x3 x4 lo kd hc2 hw2 = highLane x0 x1 x2 x3 (singleSums x0 x1 x2 x3 x4 (startWord i lo).toNat (2 * (i 2).val - (startWord i lo).toNat)) (2 * (i 2).val) := by
    unfold runOnline.sl.r_21 runOnline.sl.r_15 runOnline.sl.r_16 runOnline.sl.r_17 runOnline.sl.r_18 runOnline.sl.r_19 runOnline.sl.r_20 highLane
    rw [e4, e8, e9, e11]
  have e22 : runOnline.sl.r_22 c i a0 h0 a1 h1 a2 h2 a3 h3 a4 h4 a5 h5 a6 h6 x0 x1 x2 x3 x4 lo kd hc2 hw2 = highAcc x0 x1 x2 x3 x4 (singleSums x0 x1 x2 x3 x4 (startWord i lo).toNat (2 * (i 2).val - (startWord i lo).toNat)) (2 * (i 2).val) := by
    unfold runOnline.sl.r_22 runOnline.sl.r_15 runOnline.sl.r_16 runOnline.sl.r_17 runOnline.sl.r_18 runOnline.sl.r_19 runOnline.sl.r_20 highAcc
    rw [e4, e8, e10, e11, e12]
  unfold leftOnline runOnline
  dsimp only
  refine (stores_high _ _ _ _ r l).trans ?_
  unfold runOnline.sl.r_29 runOnline.sl.r_30 runOnline.sl.r_24 runOnline.sl.r_25 runOnline.sl.r_26 runOnline.sl.r_27 runOnline.sl.r_28
  rw [e4, e17, e21, e22, e23, load_keys a2 h2 x2 _ _ _ (off13_eq i), load_keys a3 h3 x3 _ _ _ (off13_eq i), load_row a5 h5 x5 _ _ _ (off14_eq i)]
  unfold onlineHigh highEnd
  rfl

end Online

end Cert.KernelIdeal.Fox

end

end
-- ==== Proof.Value.Softmax.lean ====
module

public import Idealize.ShloMosaic.Lib.Pointwise
public import Mathlib.Algebra.BigOperators.Intervals

@[expose] public section

/-!
# Softmax in base 2 over extended reals

A query sees the keys of a finite set of naturals; key `j` has the logit `L j` (a real number, or `⊥` for a masked
key: never `⊤`) and the value `V j`, any extended real. The attention is the quotient of the sums of `2^(L j) · V j`
and of `2^(L j)`. Subtracting one real from every logit multiplies both sums by the same positive real, so the quotient
stays: this is all that is used of a running maximum.
-/

noncomputable section

namespace Fox

open Idealize.ShloMosaic

/-! ## The power of two -/

theorem exp2_bot : Ideal.exp2 ⊥ = 0 := rfl

theorem exp2_coe (r : ℝ) : Ideal.exp2 (r : EReal) = ((Real.rpow 2 r : ℝ) : EReal) := rfl

/-- An extended real below `⊤` is a real or `⊥`. -/
theorem real_or_bot {x : EReal} (h : x ≠ ⊤) : x = ⊥ ∨ ∃ r : ℝ, x = r := by
  induction x using EReal.rec with
  | bot => exact .inl rfl
  | coe r => exact .inr ⟨r, rfl⟩
  | top => exact absurd rfl h

/-- The power of two of a logit is a real that is at least zero. -/
theorem exp2_real {x : EReal} (h : x ≠ ⊤) : ∃ r : ℝ, 0 ≤ r ∧ Ideal.exp2 x = r := by
  rcases real_or_bot h with rfl | ⟨r, rfl⟩
  · exact ⟨0, le_rfl, by simp [exp2_bot]⟩
  · exact ⟨Real.rpow 2 r, (Real.rpow_pos_of_pos two_pos r).le, rfl⟩

/-- The power of two of a real is a positive real. -/
theorem exp2_pos (r : ℝ) : 0 < Real.rpow 2 r := Real.rpow_pos_of_pos two_pos r

theorem sub_ne_top {x : EReal} (h : x ≠ ⊤) (μ : ℝ) : x - (μ : EReal) ≠ ⊤ := by
  rcases real_or_bot h with rfl | ⟨r, rfl⟩
  · rw [EReal.bot_sub]; exact bot_ne_top
  · rw [← EReal.coe_sub]; exact EReal.coe_ne_top _

/-- Changing the real that is subtracted multiplies the power by one positive real. -/
theorem exp2_shift {x : EReal} (h : x ≠ ⊤) (μ ν : ℝ) :
    Ideal.exp2 (x - (ν : EReal)) = Ideal.exp2 ((μ : EReal) - (ν : EReal)) * Ideal.exp2 (x - (μ : EReal)) := by
  rcases real_or_bot h with rfl | ⟨r, rfl⟩
  · rw [EReal.bot_sub, EReal.bot_sub, exp2_bot, mul_zero]
  · rw [← EReal.coe_sub, ← EReal.coe_sub, ← EReal.coe_sub, exp2_coe, exp2_coe, exp2_coe, ← EReal.coe_mul]
    congr 1
    show (2 : ℝ) ^ (r - ν) = 2 ^ (μ - ν) * 2 ^ (r - μ)
    rw [← Real.rpow_add two_pos]
    congr 1
    ring

/-! ## Real factors of sums of extended reals -/

/-- A real factor that is at least zero goes into a finite sum. -/
theorem mul_sum_of_nonneg {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

/-- … on the right. -/
theorem sum_mul_of_nonneg {ι : Type*} (s : Finset ι) {c : ℝ} (hc : 0 ≤ c) (f : ι → EReal) :
    (∑ i ∈ s, f i) * (c : EReal) = ∑ i ∈ s, f i * (c : EReal) := by
  rw [mul_comm, mul_sum_of_nonneg s hc]
  exact Finset.sum_congr rfl fun i _ => mul_comm _ _

/-- One positive real in the numerator and in the denominator leaves the quotient. -/
theorem div_scale {c : ℝ} (hc : 0 < c) (x y : EReal) (hy : y ≠ 0) :
    Ideal.div ((c : EReal) * x) ((c : EReal) * y) = Ideal.div x y := by
  have h0 : (c : EReal) ≠ 0 := by exact_mod_cast hc.ne'
  have h1 : (c : EReal) * y ≠ 0 := mul_ne_zero h0 hy
  have h2 : (c : EReal) * (c : EReal)⁻¹ = 1 := by
    rw [← EReal.coe_inv, ← EReal.coe_mul, mul_inv_cancel₀ hc.ne', EReal.coe_one]
  unfold Ideal.div
  rw [if_neg h1, if_neg hy, EReal.mul_inv, mul_mul_mul_comm, h2, one_mul]

/-! ## The weighted sums -/

/-- The sum of the values, each weighted with the power of two of its logit less `μ`. -/
def wsum (L V : ℕ → EReal) (s : Finset ℕ) (μ : ℝ) : EReal := ∑ j ∈ s, Ideal.exp2 (L j - (μ : EReal)) * V j

/-- The sum of the weights. -/
abbrev wone (L : ℕ → EReal) (s : Finset ℕ) (μ : ℝ) : EReal := wsum L (fun _ => 1) s μ

theorem wsum_shift (L V : ℕ → EReal) (s : Finset ℕ) (hL : ∀ j ∈ s, L j ≠ ⊤) (μ ν : ℝ) :
    wsum L V s ν = Ideal.exp2 ((μ : EReal) - (ν : EReal)) * wsum L V s μ := by
  unfold wsum
  rw [← EReal.coe_sub, exp2_coe, mul_sum_of_nonneg s (exp2_pos _).le]
  refine Finset.sum_congr rfl fun j hj => ?_
  rw [exp2_shift (hL j hj) μ ν, ← EReal.coe_sub, exp2_coe, mul_assoc]

/-- The sum of the weights is a positive real if some key has a real logit. -/
theorem wone_real (L : ℕ → EReal) (s : Finset ℕ) (hL : ∀ j ∈ s, L j ≠ ⊤) (hs : ∃ j ∈ s, L j ≠ ⊥) (μ : ℝ) :
    ∃ d : ℝ, 0 < d ∧ wone L s μ = d := by
  classical
  have key : ∀ j : ℕ, ∃ r : ℝ, j ∈ s → 0 ≤ r ∧ Ideal.exp2 (L j - (μ : EReal)) = r := by
    intro j
    by_cases hj : j ∈ s
    · obtain ⟨r, h0, h1⟩ := exp2_real (sub_ne_top (hL j hj) μ)
      exact ⟨r, fun _ => ⟨h0, h1⟩⟩
    · exact ⟨0, fun h => absurd h hj⟩
  choose r hr using key
  have hsum : wone L s μ = ((∑ j ∈ s, r j : ℝ) : EReal) := by
    unfold wone wsum
    rw [show ((∑ j ∈ s, r j : ℝ) : EReal) = ∑ j ∈ s, (r j : EReal) from map_sum (⟨⟨Real.toEReal, EReal.coe_zero⟩, EReal.coe_add⟩ : ℝ →+ EReal) r s]
    exact Finset.sum_congr rfl fun j hj => by rw [mul_one, (hr j hj).2]
  refine ⟨∑ j ∈ s, r j, ?_, hsum⟩
  obtain ⟨j, hj, hb⟩ := hs
  refine lt_of_lt_of_le ?_ (Finset.single_le_sum (fun i hi => (hr i hi).1) hj)
  rcases real_or_bot (hL j hj) with h | ⟨x, h⟩
  · exact absurd h hb
  · have e := (hr j hj).2
    rw [h, ← EReal.coe_sub, exp2_coe] at e
    have : Real.rpow 2 (x - μ) = r j := by exact_mod_cast e
    rw [← this]
    exact exp2_pos _

/-- The attention of one query: the weighted sum of the values over the sum of the weights. -/
def att (L V : ℕ → EReal) (s : Finset ℕ) : EReal := Ideal.div (wsum L V s 0) (wone L s 0)

/-- Any real may be subtracted from the logits. -/
theorem att_of (L V : ℕ → EReal) (s : Finset ℕ) (hL : ∀ j ∈ s, L j ≠ ⊤) (hs : ∃ j ∈ s, L j ≠ ⊥) (μ : ℝ) :
    Ideal.div (wsum L V s μ) (wone L s μ) = att L V s := by
  obtain ⟨d, hd, e⟩ := wone_real L s hL hs 0
  rw [wsum_shift L V s hL 0 μ, wone, wsum_shift L (fun _ => 1) s hL 0 μ, ← EReal.coe_sub, exp2_coe]
  exact div_scale (exp2_pos _) _ _ (by
    show wone L s 0 ≠ 0
    rw [e]; exact_mod_cast hd.ne')

/-- … without a subtraction. -/
theorem att_eq (L V : ℕ → EReal) (s : Finset ℕ) :
    Ideal.div (∑ j ∈ s, Ideal.exp2 (L j) * V j) (∑ j ∈ s, Ideal.exp2 (L j)) = att L V s := by
  unfold att wone wsum
  simp only [EReal.coe_zero, sub_zero, mul_one]

/-- A row's constant in the logits does not matter. -/
theorem att_add (L L' V : ℕ → EReal) (s : Finset ℕ) (C : ℝ) (hL : ∀ j ∈ s, L j ≠ ⊤) (hs : ∃ j ∈ s, L j ≠ ⊥)
    (h : ∀ j ∈ s, L' j = L j + (C : EReal)) : att L' V s = att L V s := by
  have e : ∀ W : ℕ → EReal, wsum L' W s 0 = wsum L W s (-C) := fun W => by
    unfold wsum
    refine Finset.sum_congr rfl fun j hj => ?_
    rw [h j hj, EReal.coe_zero, sub_zero, EReal.coe_neg, sub_eq_add_neg, neg_neg]
  rw [← att_of L V s hL hs (-C)]
  unfold att
  rw [e V, wone, e]

/-- The sums see the logits and values of their own keys only. -/
theorem att_congr (L L' V V' : ℕ → EReal) (s : Finset ℕ) (hL : ∀ j ∈ s, L j = L' j) (hV : ∀ j ∈ s, V j = V' j) :
    att L V s = att L' V' s := by
  have e : ∀ W W' : ℕ → EReal, (∀ j ∈ s, W j = W' j) → wsum L W s 0 = wsum L' W' s 0 := fun W W' hW => by
    unfold wsum
    exact Finset.sum_congr rfl fun j hj => by rw [hL j hj, hW j hj]
  unfold att
  rw [e V V' hV, wone, e _ _ fun _ _ => rfl]

/-- Masked keys weigh nothing: they may be left out. -/
theorem att_subset (L V : ℕ → EReal) {s t : Finset ℕ} (hst : s ⊆ t) (hb : ∀ j ∈ t, j ∉ s → L j = ⊥) :
    att L V t = att L V s := by
  have e : ∀ W : ℕ → EReal, wsum L W s 0 = wsum L W t 0 := fun W => by
    unfold wsum
    refine Finset.sum_subset hst fun j hj hn => ?_
    rw [hb j hj hn, EReal.bot_sub, exp2_bot, zero_mul]
  unfold att
  rw [e V, wone, wone, e]

end Fox

end

end
-- ==== Proof.Value.Online.lean ====
module

public import proofs.«01_k».proof.Proof.Value.Softmax

@[expose] public section

/-!
# The running softmax

The keys come in blocks of 512. A query carries a running maximum `m`, the sum of the weights (kept as 128 partial sums)
and the weighted sum of the values, all relative to `m`; a block raises the maximum, rescales what is carried and adds
its own 512 terms. After the blocks from `a` to `n` the sums are `Fox.wsum` over those keys for some real `μ`. That `μ`
is the maximum is never needed: only that it is a real number.
-/

noncomputable section

namespace Fox

open Idealize.ShloMosaic

/-- The maximum of 512 logits, taken as four groups of 128. -/
def top512 (s : Fin 512 → EReal) : EReal :=
  Finset.univ.fold max ⊥ fun t : Fin 128 =>
    max (max (max (s ⟨t.val, by omega⟩) (s ⟨128 + t.val, by omega⟩)) (s ⟨256 + t.val, by omega⟩)) (s ⟨384 + t.val, by omega⟩)

/-- The maximum after a block. -/
def newTop (m : EReal) (s : Fin 512 → EReal) : EReal := max m (top512 s)

/-- One of the 128 partial sums of the weights after a block. -/
def newLane (m : EReal) (s : Fin 512 → EReal) (l : EReal) (t : Fin 128) : EReal :=
  Ideal.exp2 (m - newTop m s) * l
    + (((Ideal.exp2 (s ⟨t.val, by omega⟩ - newTop m s) + Ideal.exp2 (s ⟨128 + t.val, by omega⟩ - newTop m s))
        + Ideal.exp2 (s ⟨256 + t.val, by omega⟩ - newTop m s)) + Ideal.exp2 (s ⟨384 + t.val, by omega⟩ - newTop m s))

/-- A weighted sum after a block whose values are `v`. -/
def newAcc (m : EReal) (s : Fin 512 → EReal) (acc : EReal) (v : Fin 512 → EReal) : EReal :=
  Ideal.exp2 (m - newTop m s) * acc + ∑ j : Fin 512, Ideal.exp2 (s j - newTop m s) * v j

/-! ## The maximum is a real -/

theorem fold_max_ne_top {ι : Type*} (s : Finset ι) (f : ι → EReal) (h : ∀ i ∈ s, f i ≠ ⊤) : s.fold max ⊥ f ≠ ⊤ := by
  have := (Finset.fold_max_lt (s := s) (f := f) (b := (⊥ : EReal)) ⊤).2 ⟨bot_lt_top, fun i hi => lt_top_iff_ne_top.2 (h i hi)⟩
  exact this.ne

theorem le_fold_max {ι : Type*} (s : Finset ι) (f : ι → EReal) (i : ι) (hi : i ∈ s) : f i ≤ s.fold max ⊥ f :=
  (Finset.le_fold_max (s := s) (f := f) (b := (⊥ : EReal)) (f i)).2 (.inr ⟨i, hi, le_rfl⟩)

theorem max_ne_top {x y : EReal} (hx : x ≠ ⊤) (hy : y ≠ ⊤) : max x y ≠ ⊤ :=
  (max_lt (lt_top_iff_ne_top.2 hx) (lt_top_iff_ne_top.2 hy)).ne

theorem top512_ne_top (s : Fin 512 → EReal) (h : ∀ i, s i ≠ ⊤) : top512 s ≠ ⊤ :=
  fold_max_ne_top _ _ fun _ _ => max_ne_top (max_ne_top (max_ne_top (h _) (h _)) (h _)) (h _)

theorem le_top512 (s : Fin 512 → EReal) : s 0 ≤ top512 s :=
  le_trans (le_trans (le_trans (le_max_left _ _) (le_max_left _ _)) (le_max_left _ _))
    (le_fold_max Finset.univ (fun t : Fin 128 =>
      max (max (max (s ⟨t.val, by omega⟩) (s ⟨128 + t.val, by omega⟩)) (s ⟨256 + t.val, by omega⟩)) (s ⟨384 + t.val, by omega⟩))
      0 (Finset.mem_univ _))

/-- After a block with a real first logit the maximum is a real. -/
theorem newTop_real (m : EReal) (hm : m ≠ ⊤) (s : Fin 512 → EReal) (h : ∀ i, s i ≠ ⊤) (h0 : s 0 ≠ ⊥) :
    ∃ μ : ℝ, newTop m s = μ := by
  rcases real_or_bot (max_ne_top hm (top512_ne_top s h)) with hb | hr
  · have : s 0 ≤ newTop m s := le_trans (le_top512 s) (le_max_right _ _)
    unfold newTop at this
    rw [hb] at this
    exact absurd (le_bot_iff.1 this) h0
  · exact hr

/-! ## The invariant -/

/-- What is carried after the keys from `a` up to `n`: the maximum, the sum of the weights and, per lane, the weighted
sum of the values. -/
def Carried (L : ℕ → EReal) (V : Fin 128 → ℕ → EReal) (a n : ℕ) (m l : EReal) (acc : Fin 128 → EReal) : Prop :=
  ∃ μ : ℝ, (m = (μ : EReal) ∨ (m = ⊥ ∧ n = a)) ∧ l = wone L (Finset.Ico a n) μ
    ∧ ∀ d, acc d = wsum L (V d) (Finset.Ico a n) μ

/-- Before the first block. -/
theorem carried_start (L : ℕ → EReal) (V : Fin 128 → ℕ → EReal) (a : ℕ) : Carried L V a a ⊥ 0 fun _ => 0 :=
  ⟨0, .inr ⟨rfl, rfl⟩, by simp [wsum], fun d => by simp [wsum]⟩

/-- A sum over 512 consecutive keys, block-local. -/
theorem sum_block (f : ℕ → EReal) (n : ℕ) : ∑ j ∈ Finset.Ico n (n + 512), f j = ∑ i : Fin 512, f (n + i.val) := by
  rw [Finset.sum_Ico_eq_sum_range, Nat.add_sub_cancel_left, Finset.sum_range]

/-- The four groups of 128 are the 512. -/
theorem sum_groups (p : Fin 512 → EReal) :
    ∑ t : Fin 128, (((p ⟨t.val, by omega⟩ + p ⟨128 + t.val, by omega⟩) + p ⟨256 + t.val, by omega⟩) + p ⟨384 + t.val, by omega⟩)
      = ∑ j : Fin 512, p j := by
  have h1 := Fin.sum_univ_add (a := 128) (b := 384) (f := fun j : Fin (128 + 384) => p j)
  have h2 := Fin.sum_univ_add (a := 128) (b := 256) (f := fun j : Fin (128 + 256) => p ⟨128 + j.val, by omega⟩)
  have h3 := Fin.sum_univ_add (a := 128) (b := 128) (f := fun j : Fin (128 + 128) => p ⟨256 + j.val, by omega⟩)
  have e : ∑ j : Fin 512, p j = ∑ j : Fin (128 + 384), p j := rfl
  rw [e, h1, show (∑ i : Fin 384, p (Fin.natAdd 128 i)) = ∑ j : Fin (128 + 256), p ⟨128 + j.val, by omega⟩ from rfl, h2,
    show (∑ i : Fin 256, p ⟨128 + (Fin.natAdd 128 i : Fin (128 + 256)).val, by have := i.isLt; simp; omega⟩)
      = ∑ j : Fin (128 + 128), p ⟨256 + j.val, by omega⟩ from
        Finset.sum_congr rfl fun i _ => congrArg p (Fin.ext (by simp; omega)), h3]
  simp only [Finset.sum_add_distrib, add_assoc]
  refine congrArg₂ _ rfl (congrArg₂ _ rfl (congrArg₂ _ rfl ?_))
  exact Finset.sum_congr rfl fun i _ => congrArg p (Fin.ext (by simp; omega))

/-- The carried sums after one more block. `W` may be any value, `1` gives the sum of the weights. -/
theorem wsum_step (L W : ℕ → EReal) {a n : ℕ} (han : a ≤ n) (m : EReal) (μ : ℝ)
    (hm : m = (μ : EReal) ∨ (m = ⊥ ∧ n = a)) (hL : ∀ j ∈ Finset.Ico a n, L j ≠ ⊤) (ν : ℝ) :
    Ideal.exp2 (m - (ν : EReal)) * wsum L W (Finset.Ico a n) μ
        + ∑ i : Fin 512, Ideal.exp2 (L (n + i.val) - (ν : EReal)) * W (n + i.val)
      = wsum L W (Finset.Ico a (n + 512)) ν := by
  have split : wsum L W (Finset.Ico a (n + 512)) ν = wsum L W (Finset.Ico a n) ν
      + ∑ i : Fin 512, Ideal.exp2 (L (n + i.val) - (ν : EReal)) * W (n + i.val) := by
    unfold wsum
    rw [← Finset.sum_Ico_consecutive _ han (Nat.le_add_right n 512)]
    exact congrArg _ (sum_block (fun j => Ideal.exp2 (L j - (ν : EReal)) * W j) n)
  rw [split]
  refine congrArg (· + _) ?_
  rcases hm with rfl | ⟨rfl, rfl⟩
  · exact (wsum_shift L W _ hL μ ν).symm
  · simp [wsum]

/-- One block. `l` and `l'` are the 128 partial sums of the weights before and after it. -/
theorem carried_step {L : ℕ → EReal} {V : Fin 128 → ℕ → EReal} {a n : ℕ} (han : a ≤ n) {m : EReal} {l : Fin 128 → EReal}
    {acc : Fin 128 → EReal} (h : Carried L V a n m (∑ t, l t) acc) (hL : ∀ j, L j ≠ ⊤) (hn : L n ≠ ⊥)
    (s : Fin 512 → EReal) (hs : ∀ i : Fin 512, s i = L (n + i.val)) :
    Carried L V a (n + 512) (newTop m s) (∑ t, newLane m s (l t) t)
      fun d => newAcc m s (acc d) fun i => V d (n + i.val) := by
  obtain ⟨μ, hm, hl, hacc⟩ := h
  have hmt : m ≠ ⊤ := by
    rcases hm with rfl | ⟨rfl, _⟩
    · exact EReal.coe_ne_top _
    · exact bot_ne_top
  obtain ⟨ν, hν⟩ := newTop_real m hmt s (fun i => by rw [hs]; exact hL _) (by rw [hs]; exact hn)
  refine ⟨ν, .inl hν, ?_, fun d => ?_⟩
  · have hα : ∃ r : ℝ, 0 ≤ r ∧ Ideal.exp2 (m - newTop m s) = r := by
      rw [hν]; exact exp2_real (sub_ne_top hmt ν)
    obtain ⟨r, hr, er⟩ := hα
    unfold newLane
    rw [Finset.sum_add_distrib, er, ← mul_sum_of_nonneg _ hr, ← er, hl, hν,
      sum_groups fun j => Ideal.exp2 (s j - (ν : EReal)), wone, wone, ← wsum_step L (fun _ => 1) han m μ hm (fun j _ => hL j) ν]
    refine congrArg _ (Finset.sum_congr rfl fun i _ => ?_)
    rw [hs, mul_one]
  · show newAcc m s (acc d) (fun i => V d (n + i.val)) = _
    unfold newAcc
    rw [hacc, hν, ← wsum_step L (V d) han m μ hm (fun j _ => hL j) ν]
    exact congrArg _ (Finset.sum_congr rfl fun i _ => by rw [hs])

/-- The quotient of what is carried at the end is the attention. -/
theorem carried_att {L : ℕ → EReal} {V : Fin 128 → ℕ → EReal} {a n : ℕ} {m l : EReal} {acc : Fin 128 → EReal}
    (h : Carried L V a n m l acc) (hL : ∀ j, L j ≠ ⊤) (hs : ∃ j ∈ Finset.Ico a n, L j ≠ ⊥) (d : Fin 128) :
    Ideal.div (acc d) l = att L (V d) (Finset.Ico a n) := by
  obtain ⟨μ, _, hl, hacc⟩ := h
  rw [hacc, hl]
  exact att_of L (V d) _ (fun j _ => hL j) hs μ

end Fox

end

end
-- ==== Proof.Value.Spec.lean ====
/- Forgetting attention in closed form, over plain matrices. -/
module

public import proofs.«01_k».proof.Proof.Value.Softmax

@[expose] public section

noncomputable section

open Idealize.ShloMosaic

namespace Fox

/-- One lane of a row after the RMS norm over its 128 lanes and the head's weights. -/
def rms (o w : Fin 128 → EReal) (d : Fin 128) : EReal :=
  o d * Ideal.rsqrt (Ideal.div (∑ e : Fin 128, o e * o e) (Ideal.ofBits .f32 0x43000000#32) + Ideal.ofBits .f32 0x358637BD#32) * w d

/-- The logits up to a position; `⊥` after it. -/
def seen (P : ℕ) (L : ℕ → EReal) (j : ℕ) : EReal := if j ≤ P then L j else ⊥

/-- The logits between two positions; `⊥` elsewhere. -/
def between (a P : ℕ) (L : ℕ → EReal) (j : ℕ) : EReal := if a ≤ j ∧ j ≤ P then L j else ⊥

/-- A softmax over an interval is one over the whole sequence, masked. -/
theorem att_between (L V : ℕ → EReal) (a P N : ℕ) (h1 : P < N) (h2 : N ≤ 16384) :
    att (seen P L) V (Finset.Ico a N) = att (between a P L) V (Finset.range 16384) := by
  rw [att_subset (between a P L) V (s := Finset.Ico a N) (t := Finset.range 16384)]
  · refine att_congr _ _ _ _ _ (fun j hj => ?_) (fun _ _ => rfl)
    unfold seen between
    exact if_congr ⟨fun h => ⟨(Finset.mem_Ico.1 hj).1, h⟩, fun h => h.2⟩ rfl rfl
  · intro j hj
    have := (Finset.mem_Ico.1 hj).2
    exact Finset.mem_range.2 (by omega)
  · intro j _ hn
    unfold between
    rw [if_neg fun h => hn (Finset.mem_Ico.2 ⟨h.1, by omega⟩)]

/-- Row `p` of sequence `b`, lane `d` of head `h` in the group of columns from `off` on. -/
def row (b : Fin 2) (p : ℕ) : Fin 32768 := ⟨16384 * b.val + p % 16384, by have := b.isLt; omega⟩
def zcol (off : Fin 3) (h : Fin 8) (d : Fin 128) : Fin 5120 := ⟨1024 * off.val + 128 * h.val + d.val, by have := h.isLt; have := off.isLt; omega⟩
def xcol (h : Fin 8) (d : Fin 128) : Fin 1024 := ⟨128 * h.val + d.val, by have := h.isLt; omega⟩

/-- The logit of query `p` and key `j` of one sequence and head. -/
def slogit (z : Fin 32768 → Fin 5120 → EReal) (qx kx : Fin 32768 → Fin 1024 → EReal) (b : Fin 2) (h : Fin 8) (p j : ℕ) : EReal :=
  (∑ d : Fin 128, z (row b p) (zcol 0 h d) * z (row b j) (zcol 1 h d)) + ∑ d : Fin 128, qx (row b p) (xcol h d) * kx (row b j) (xcol h d)

def svalue (z : Fin 32768 → Fin 5120 → EReal) (b : Fin 2) (h : Fin 8) (d : Fin 128) (j : ℕ) : EReal := z (row b j) (zcol 2 h d)

/-- The word of a table for a sequence, a head and a block of 1024 queries. -/
def word (b : Fin 2) (h : Fin 8) (qi : ℕ) : Fin 256 := ⟨128 * b.val + 16 * h.val + qi % 16, by have := b.isLt; have := h.isLt; omega⟩

/-- The first key a block of queries looks at: the table's, rounded down to pairs where the sum without a maximum is
    taken, and never after the block of queries itself. -/
def start (lo fast : Fin 256 → BitVec 32) (b : Fin 2) (h : Fin 8) (qi : ℕ) : ℕ :=
  512 * min (if fast (word b h qi) = 1#32 then 2 * ((lo (word b h qi)).toNat / 2) else (lo (word b h qi)).toNat) (2 * qi)

/-- One element of the attention's output. -/
def spec (lo fast : Fin 256 → BitVec 32) (z : Fin 32768 → Fin 5120 → EReal) (qx kx : Fin 32768 → Fin 1024 → EReal) (nw : Fin 8 → Fin 128 → EReal)
    (b : Fin 2) (h : Fin 8) (p : ℕ) (d : Fin 128) : EReal :=
  rms (fun e => att (between (start lo fast b h (p / 1024)) p (slogit z qx kx b h p)) (svalue z b h e) (Finset.range 16384)) (nw h) d

end Fox

end

end
-- ==== Proof.Value.Payloads.lean ====
/- The body's vector operations, read at one element over extended reals. -/
module

public import proofs.«01_k».proof.Proof.Value.Tiles
public import proofs.«01_k».proof.Proof.Value.Online
public import proofs.«01_k».proof.Proof.Value.Spec
public import Idealize.ShloMosaic.Lib.WordCmp

@[expose] public section

set_option maxRecDepth 16384

noncomputable section

namespace Cert.KernelIdeal.Fox

open Cert.KernelIdeal.Gen
open Idealize.ShloMosaic Idealize.ShloMosaic.TcCoe Idealize.ShloMosaic.Tactic
open _root_.Fox

/-- A block of 512 rows of 128 lanes, and of 512 logits per row. -/
local notation "Tb" => FVec Ideal S512x128 FTy.bf16
local notation "Tf" => FVec Ideal S512x128 FTy.f32

theorem neg_inf : Ideal.ofBits .f32 0xFF800000#32 = ⊥ := by simp [Ideal.ofBits, Ideal.ieee]

/-- The logit of query `r` and key `j`, both counted within their blocks: product plus product of the extra lanes. -/
def score (q qx k kx : Tb) (r j : Fin 512) : EReal :=
  (∑ d : Fin 128, q (ix2 r d) * k (ix2 j d)) + ∑ d : Fin 128, qx (ix2 r d) * kx (ix2 j d)

/-- … masked where the key comes after the query. -/
def mscore (q qx k kx : Tb) (r j : Fin 512) : EReal := if j.val ≤ r.val then score q qx k kx r j else ⊥

/-- The extra lanes of the queries without the three of the stabiliser. -/
def cut (qx : Tb) : Tb := fun j => if (j 1).val < 6 ∨ 9 ≤ (j 1).val then qx j else (0 : EReal)

/-- The values with a block of ones beside them. -/
def ext (v : Tb) (j : Fin 512) (t : Fin 256) : EReal := if h : t.val < 128 then v (ix2 j ⟨t.val, h⟩) else 1

/-! ## The tests on positions -/

theorem select_le (a b : ℕ) (ha : a < 512) (hb : b < 512) (x y : EReal) :
    Scalar.select (α := EReal) (IntOp.cmpi .sge (BitVec.ofNat 32 a) (BitVec.ofNat 32 b)) x y = if b ≤ a then x else y := by
  rw [WordCmp.cmpi_sge_ofNat (w := 32) (by omega) (by omega)]
  by_cases h : b ≤ a
  · rw [if_pos h, decide_eq_true h]; rfl
  · rw [if_neg h, decide_eq_false h]; rfl

theorem select_lane (a : ℕ) (ha : a < 128) (x y : EReal) :
    Scalar.select (α := EReal) (IntOp.ori (IntOp.cmpi .slt (BitVec.ofNat 32 a) 6#32) (IntOp.cmpi .sge (BitVec.ofNat 32 a) 9#32)) x y
      = if a < 6 ∨ 9 ≤ a then x else y := by
  rw [show (6#32) = BitVec.ofNat 32 6 from rfl, show (9#32) = BitVec.ofNat 32 9 from rfl,
    WordCmp.cmpi_slt_ofNat (w := 32) (by omega) (by omega), WordCmp.cmpi_sge_ofNat (w := 32) (by omega) (by omega)]
  by_cases h : a < 6 <;> by_cases h' : 9 ≤ a
  · omega
  · rw [if_pos (.inl h), decide_eq_true h, decide_eq_false h']; rfl
  · rw [if_pos (.inr h'), decide_eq_false h, decide_eq_true h']; rfl
  · rw [if_neg (by omega), decide_eq_false h, decide_eq_false h']; rfl

/-- Clearing lanes of the queries clears the products. -/
theorem cut_sum (qx kx : Tb) (r j : Fin 512) :
    (∑ x : Fin 128, Scalar.select (α := EReal) (IntOp.ori (IntOp.cmpi .slt (BitVec.ofNat 32 x.val) 6#32) (IntOp.cmpi .sge (BitVec.ofNat 32 x.val) 9#32))
        (qx (ix2 r x) * kx (ix2 j x)) 0)
      = ∑ d : Fin 128, cut qx (ix2 r d) * kx (ix2 j d) := by
  refine Finset.sum_congr rfl fun x _ => ?_
  rw [select_lane x.val x.isLt]
  show _ = (if x.val < 6 ∨ 9 ≤ x.val then qx (ix2 r x) else (0 : EReal)) * kx (ix2 j x)
  split
  · rfl
  · rw [zero_mul]

/-! ## The loop without a maximum -/

theorem pay2_at (q qx k kx : Tb) (r j : Fin 512) :
    k0_pay2 (F := Ideal) (k0_pay8 q qx) k kx (ix2 r j) = Ideal.exp2 (score q qx k kx r j) := by
  pointwise [k0_pay2, k0_pay8]
  rfl
theorem pay3_at (q qx k kx : Tb) (r j : Fin 512) :
    k0_pay3 (F := Ideal) (k0_pay9 q qx) k kx (ix2 r j) = Ideal.exp2 (score q qx k kx r j) := by
  pointwise [k0_pay3, k0_pay9]
  rfl
theorem pay4_at (q qx k kx : Tb) (r j : Fin 512) :
    k0_pay4 (F := Ideal) (k0_pay8 q qx) k kx (ix2 r j) = Ideal.exp2 (score q qx k kx r j) := by
  pointwise [k0_pay4, k0_pay8]
  rfl

theorem pay14_at (a : FVec Ideal S512x256 .f32) (p p' : FVec Ideal S512x512 .bf16) (v v' : Tb) (r : Fin 512) (t : Fin 256) :
    k0_pay14 a p p' v v' (ix2 r t)
      = ((a (ix2 r t) + ∑ j : Fin 512, p (ix2 r j) * ext v j t) + ∑ j : Fin 512, p' (ix2 r j) * ext v' j t : EReal) := by
  pointwise [k0_pay14, k0_pay12, k0_pay13, k0_pay10]
  rfl

theorem pay15_at (q qx : Tb) (a : FVec Ideal S512x256 .f32) (p : FVec Ideal S512x512 .bf16) (k kx v v' : Tb) (r : Fin 512) (t : Fin 256) :
    k0_pay15 q qx a p k kx v v' (ix2 r t)
      = ((a (ix2 r t) + ∑ j : Fin 512, p (ix2 r j) * ext v j t) + ∑ j : Fin 512, Ideal.exp2 (score q qx k kx r j) * ext v' j t : EReal) := by
  pointwise [k0_pay15, k0_pay12, k0_pay13, k0_pay10, k0_pay9]
  rfl

theorem pay21_at (q qx k kx : Tb) (r j : Fin 512) :
    k0_pay21 (F := Ideal) qPos kPos (k0_pay9 q qx) k kx (ix2 r j) = Ideal.exp2 (mscore q qx k kx r j) := by
  pointwise [k0_pay21, k0_pay9]
  rw [select_le _ _ r.isLt j.isLt, neg_inf]
  rfl

theorem pay23_at (q qx : Tb) (a : FVec Ideal S512x256 .f32) (k kx v : Tb) (r : Fin 512) (t : Fin 256) :
    k0_pay23 qPos kPos (k0_pay8 q qx) k0_pay10 a k kx v (ix2 r t)
      = (a (ix2 r t) + ∑ j : Fin 512, Ideal.exp2 (mscore q qx k kx r j) * ext v j t : EReal) := by
  pointwise [k0_pay23, k0_pay22, k0_pay20, k0_pay8, k0_pay10]
  simp only [select_le _ _ r.isLt (Fin.isLt _), neg_inf]
  rfl

theorem pay24_at (q qx : Tb) (a : FVec Ideal S512x256 .f32) (k kx v : Tb) (r : Fin 512) (t : Fin 256) :
    k0_pay24 (k0_pay9 q qx) k0_pay10 a k kx v (ix2 r t)
      = (a (ix2 r t) + ∑ j : Fin 512, Ideal.exp2 (score q qx k kx r j) * ext v j t : EReal) := by
  pointwise [k0_pay24, k0_pay22, k0_pay20, k0_pay9, k0_pay10]
  rfl

/-! ## The norm -/

theorem pay25_at (a : FVec Ideal S512x256 .f32) (w : FVec Ideal S1x128 .f32) (r : Fin 512) (d : Fin 128) :
    k0_pay25 a w (ix2 r d)
      = rms (fun e => Ideal.div (a (ix2 r ⟨e.val, by omega⟩)) (a (ix2 r ⟨128 + e.val, by omega⟩))) (fun e => w (ix2 0 e)) d := by
  pointwise [k0_pay25]
  rfl

theorem pay26_at (p : FVec Ideal S512x512 .bf16) (a : FVec Ideal S512x256 .f32) (v : Tb) (w : FVec Ideal S1x128 .f32) (r : Fin 512) (d : Fin 128) :
    k0_pay26 k0_pay10 p a v w (ix2 r d)
      = rms (fun e => Ideal.div (a (ix2 r ⟨e.val, by omega⟩) + ∑ j : Fin 512, p (ix2 r j) * ext v j ⟨e.val, by omega⟩ : EReal)
          (a (ix2 r ⟨128 + e.val, by omega⟩) + ∑ j : Fin 512, p (ix2 r j) * ext v j ⟨128 + e.val, by omega⟩ : EReal)) (fun e => w (ix2 0 e)) d := by
  pointwise [k0_pay26, k0_pay10]
  unfold rms ext
  simp only [dif_pos (Fin.isLt _), show ∀ n : ℕ, ¬ 128 + n < 128 from fun n => by omega, dif_neg, not_false_eq_true, mul_one]

theorem pay129_at (l a : Tf) (w : FVec Ideal S1x128 .f32) (r : Fin 512) (d : Fin 128) :
    k0_pay129 l a w (ix2 r d) = rms (fun e => Ideal.div (a (ix2 r e)) (∑ t : Fin 128, (l (ix2 r t) : EReal))) (fun e => w (ix2 0 e)) d := by
  pointwise [k0_pay129]
  rfl

/-! ## The loop with a running maximum: logits -/

theorem pay28_at (q qx k kx : Tb) (r j : Fin 512) :
    k0_pay28 (F := Ideal) (k0_pay70 q qx) k kx (ix2 r j) = score q (cut qx) k kx r j := by
  pointwise [k0_pay28, k0_pay27, k0_pay70, k0_pay69]
  exact congrArg₂ (· + ·) rfl (cut_sum qx kx r j)
theorem pay29_at (q qx k kx : Tb) (r j : Fin 512) :
    k0_pay29 (F := Ideal) (k0_pay71 q qx) k kx (ix2 r j) = score q (cut qx) k kx r j := by
  pointwise [k0_pay29, k0_pay27, k0_pay71, k0_pay69]
  exact congrArg₂ (· + ·) rfl (cut_sum qx kx r j)
theorem pay92_at (q qx k kx : Tb) (r j : Fin 512) :
    k0_pay92 (F := Ideal) qPos kPos (k0_pay70 q qx) (k0_pay91 k kx) (ix2 r j) = mscore q (cut qx) k kx r j := by
  pointwise [k0_pay92, k0_pay91, k0_pay70, k0_pay69]
  refine (select_le _ _ r.isLt j.isLt _ _).trans ?_
  rw [neg_inf]
  unfold mscore
  refine if_congr Iff.rfl (congrArg₂ (· + ·) rfl (cut_sum qx kx r j)) rfl
theorem pay105_at (q qx k kx : Tb) (r j : Fin 512) :
    k0_pay105 (F := Ideal) (k0_pay71 q qx) (k0_pay91 k kx) (ix2 r j) = score q (cut qx) k kx r j := by
  pointwise [k0_pay105, k0_pay91, k0_pay71, k0_pay69]
  exact congrArg₂ (· + ·) rfl (cut_sum qx kx r j)
theorem pay118_at (q qx k kx : Tb) (r j : Fin 512) :
    k0_pay118 (F := Ideal) qPos kPos (k0_pay71 q qx) k kx (ix2 r j) = mscore q (cut qx) k kx r j := by
  pointwise [k0_pay118, k0_pay71, k0_pay69]
  refine (select_le _ _ r.isLt j.isLt _ _).trans ?_
  rw [neg_inf]
  unfold mscore
  refine if_congr Iff.rfl (congrArg₂ (· + ·) rfl (cut_sum qx kx r j)) rfl

theorem pay30_at (q qx k kx : Tb) (r : Fin 512) (t : Fin 128) :
    k0_pay30 (F := Ideal) (k0_pay70 q qx) k kx (ix2 r t) = score q (cut qx) k kx r ⟨t.val, by omega⟩ := by
  pointwise [k0_pay30]
  exact pay28_at q qx k kx r ⟨t.val, by omega⟩
theorem pay31_at (q qx k kx : Tb) (r : Fin 512) (t : Fin 128) :
    k0_pay31 (F := Ideal) (k0_pay70 q qx) k kx (ix2 r t) = score q (cut qx) k kx r ⟨128 + t.val, by omega⟩ := by
  pointwise [k0_pay31]
  exact pay28_at q qx k kx r ⟨128 + t.val, by omega⟩
theorem pay32_at (q qx k kx : Tb) (r : Fin 512) (t : Fin 128) :
    k0_pay32 (F := Ideal) (k0_pay70 q qx) k kx (ix2 r t) = score q (cut qx) k kx r ⟨256 + t.val, by omega⟩ := by
  pointwise [k0_pay32]
  exact pay28_at q qx k kx r ⟨256 + t.val, by omega⟩
theorem pay33_at (q qx k kx : Tb) (r : Fin 512) (t : Fin 128) :
    k0_pay33 (F := Ideal) (k0_pay70 q qx) k kx (ix2 r t) = score q (cut qx) k kx r ⟨384 + t.val, by omega⟩ := by
  pointwise [k0_pay33]
  exact pay28_at q qx k kx r ⟨384 + t.val, by omega⟩
theorem pay43_at (q qx k kx : Tb) (r : Fin 512) (t : Fin 128) :
    k0_pay43 (F := Ideal) (k0_pay71 q qx) k kx (ix2 r t) = score q (cut qx) k kx r ⟨t.val, by omega⟩ := by
  pointwise [k0_pay43]
  exact pay29_at q qx k kx r ⟨t.val, by omega⟩
theorem pay44_at (q qx k kx : Tb) (r : Fin 512) (t : Fin 128) :
    k0_pay44 (F := Ideal) (k0_pay71 q qx) k kx (ix2 r t) = score q (cut qx) k kx r ⟨128 + t.val, by omega⟩ := by
  pointwise [k0_pay44]
  exact pay29_at q qx k kx r ⟨128 + t.val, by omega⟩
theorem pay45_at (q qx k kx : Tb) (r : Fin 512) (t : Fin 128) :
    k0_pay45 (F := Ideal) (k0_pay71 q qx) k kx (ix2 r t) = score q (cut qx) k kx r ⟨256 + t.val, by omega⟩ := by
  pointwise [k0_pay45]
  exact pay29_at q qx k kx r ⟨256 + t.val, by omega⟩
theorem pay46_at (q qx k kx : Tb) (r : Fin 512) (t : Fin 128) :
    k0_pay46 (F := Ideal) (k0_pay71 q qx) k kx (ix2 r t) = score q (cut qx) k kx r ⟨384 + t.val, by omega⟩ := by
  pointwise [k0_pay46]
  exact pay29_at q qx k kx r ⟨384 + t.val, by omega⟩
theorem pay93_at (q qx k kx : Tb) (r : Fin 512) (t : Fin 128) :
    k0_pay93 (F := Ideal) qPos kPos (k0_pay70 q qx) (k0_pay91 k kx) (ix2 r t) = mscore q (cut qx) k kx r ⟨t.val, by omega⟩ := by
  pointwise [k0_pay93]
  exact pay92_at q qx k kx r ⟨t.val, by omega⟩
theorem pay94_at (q qx k kx : Tb) (r : Fin 512) (t : Fin 128) :
    k0_pay94 (F := Ideal) qPos kPos (k0_pay70 q qx) (k0_pay91 k kx) (ix2 r t) = mscore q (cut qx) k kx r ⟨128 + t.val, by omega⟩ := by
  pointwise [k0_pay94]
  exact pay92_at q qx k kx r ⟨128 + t.val, by omega⟩
theorem pay95_at (q qx k kx : Tb) (r : Fin 512) (t : Fin 128) :
    k0_pay95 (F := Ideal) qPos kPos (k0_pay70 q qx) (k0_pay91 k kx) (ix2 r t) = mscore q (cut qx) k kx r ⟨256 + t.val, by omega⟩ := by
  pointwise [k0_pay95]
  exact pay92_at q qx k kx r ⟨256 + t.val, by omega⟩
theorem pay96_at (q qx k kx : Tb) (r : Fin 512) (t : Fin 128) :
    k0_pay96 (F := Ideal) qPos kPos (k0_pay70 q qx) (k0_pay91 k kx) (ix2 r t) = mscore q (cut qx) k kx r ⟨384 + t.val, by omega⟩ := by
  pointwise [k0_pay96]
  exact pay92_at q qx k kx r ⟨384 + t.val, by omega⟩
theorem pay106_at (q qx k kx : Tb) (r : Fin 512) (t : Fin 128) :
    k0_pay106 (F := Ideal) (k0_pay71 q qx) (k0_pay91 k kx) (ix2 r t) = score q (cut qx) k kx r ⟨t.val, by omega⟩ := by
  pointwise [k0_pay106]
  exact pay105_at q qx k kx r ⟨t.val, by omega⟩
theorem pay107_at (q qx k kx : Tb) (r : Fin 512) (t : Fin 128) :
    k0_pay107 (F := Ideal) (k0_pay71 q qx) (k0_pay91 k kx) (ix2 r t) = score q (cut qx) k kx r ⟨128 + t.val, by omega⟩ := by
  pointwise [k0_pay107]
  exact pay105_at q qx k kx r ⟨128 + t.val, by omega⟩
theorem pay108_at (q qx k kx : Tb) (r : Fin 512) (t : Fin 128) :
    k0_pay108 (F := Ideal) (k0_pay71 q qx) (k0_pay91 k kx) (ix2 r t) = score q (cut qx) k kx r ⟨256 + t.val, by omega⟩ := by
  pointwise [k0_pay108]
  exact pay105_at q qx k kx r ⟨256 + t.val, by omega⟩
theorem pay109_at (q qx k kx : Tb) (r : Fin 512) (t : Fin 128) :
    k0_pay109 (F := Ideal) (k0_pay71 q qx) (k0_pay91 k kx) (ix2 r t) = score q (cut qx) k kx r ⟨384 + t.val, by omega⟩ := by
  pointwise [k0_pay109]
  exact pay105_at q qx k kx r ⟨384 + t.val, by omega⟩
theorem pay119_at (q qx k kx : Tb) (r : Fin 512) (t : Fin 128) :
    k0_pay119 (F := Ideal) qPos kPos (k0_pay71 q qx) k kx (ix2 r t) = mscore q (cut qx) k kx r ⟨t.val, by omega⟩ := by
  pointwise [k0_pay119]
  exact pay118_at q qx k kx r ⟨t.val, by omega⟩
theorem pay120_at (q qx k kx : Tb) (r : Fin 512) (t : Fin 128) :
    k0_pay120 (F := Ideal) qPos kPos (k0_pay71 q qx) k kx (ix2 r t) = mscore q (cut qx) k kx r ⟨128 + t.val, by omega⟩ := by
  pointwise [k0_pay120]
  exact pay118_at q qx k kx r ⟨128 + t.val, by omega⟩
theorem pay121_at (q qx k kx : Tb) (r : Fin 512) (t : Fin 128) :
    k0_pay121 (F := Ideal) qPos kPos (k0_pay71 q qx) k kx (ix2 r t) = mscore q (cut qx) k kx r ⟨256 + t.val, by omega⟩ := by
  pointwise [k0_pay121]
  exact pay118_at q qx k kx r ⟨256 + t.val, by omega⟩
theorem pay122_at (q qx k kx : Tb) (r : Fin 512) (t : Fin 128) :
    k0_pay122 (F := Ideal) qPos kPos (k0_pay71 q qx) k kx (ix2 r t) = mscore q (cut qx) k kx r ⟨384 + t.val, by omega⟩ := by
  pointwise [k0_pay122]
  exact pay118_at q qx k kx r ⟨384 + t.val, by omega⟩

/-! ## The loop with a running maximum: its steps -/

/-- Four pieces of 128 lanes side by side are the row they were taken from. -/
theorem pieces (f : Fin 512 → EReal) (x : Fin 512) :
    (if h : x.val < 128 then f ⟨x.val, by omega⟩ else if h1 : x.val - 128 < 128 then f ⟨128 + (x.val - 128), by omega⟩
      else if h2 : x.val - 128 - 128 < 128 then f ⟨256 + (x.val - 128 - 128), by omega⟩ else f ⟨384 + (x.val - 128 - 128 - 128), by omega⟩) = f x := by
  split_ifs
  · rfl
  all_goals exact congrArg f (Fin.ext (by dsimp only; omega))

theorem top34 (q qx k kx : Tb) (m : Tf) (r : Fin 512) (t : Fin 128) :
    k0_pay34 (F := Ideal) (k0_pay70 q qx) m k kx (ix2 r t) = newTop (m (ix2 r t)) (score q (cut qx) k kx r) := by
  pointwise [k0_pay34]
  simp only [pay30_at, pay31_at, pay32_at, pay33_at, neg_inf]
  rfl

theorem top47 (q qx k kx : Tb) (m : Tf) (r : Fin 512) (t : Fin 128) :
    k0_pay47 (F := Ideal) (k0_pay71 q qx) m k kx (ix2 r t) = newTop (m (ix2 r t)) (score q (cut qx) k kx r) := by
  pointwise [k0_pay47]
  simp only [pay43_at, pay44_at, pay45_at, pay46_at, neg_inf]
  rfl

theorem top97 (q qx k kx : Tb) (m : Tf) (r : Fin 512) (t : Fin 128) :
    k0_pay97 (F := Ideal) qPos kPos (k0_pay70 q qx) m (k0_pay91 k kx) (ix2 r t) = newTop (m (ix2 r t)) (mscore q (cut qx) k kx r) := by
  pointwise [k0_pay97]
  simp only [pay93_at, pay94_at, pay95_at, pay96_at, neg_inf]
  rfl

theorem top110 (q qx k kx : Tb) (m : Tf) (r : Fin 512) (t : Fin 128) :
    k0_pay110 (F := Ideal) (k0_pay71 q qx) m (k0_pay91 k kx) (ix2 r t) = newTop (m (ix2 r t)) (score q (cut qx) k kx r) := by
  pointwise [k0_pay110]
  simp only [pay106_at, pay107_at, pay108_at, pay109_at, neg_inf]
  rfl

theorem top123 (q qx k kx : Tb) (m : Tf) (r : Fin 512) (t : Fin 128) :
    k0_pay123 (F := Ideal) qPos kPos (k0_pay71 q qx) m k kx (ix2 r t) = newTop (m (ix2 r t)) (mscore q (cut qx) k kx r) := by
  pointwise [k0_pay123]
  simp only [pay119_at, pay120_at, pay121_at, pay122_at, neg_inf]
  rfl

theorem lane40 (q qx k kx : Tb) (m l : Tf) (r : Fin 512) (t : Fin 128) :
    k0_pay40 (F := Ideal) (k0_pay70 q qx) m l k kx (ix2 r t) = newLane (m (ix2 r t)) (score q (cut qx) k kx r) (l (ix2 r t)) t := by
  pointwise [k0_pay40, k0_pay35, k0_pay36, k0_pay37, k0_pay38, k0_pay39]
  simp only [pay30_at, pay31_at, pay32_at, pay33_at, top34]
  rfl

theorem acc81 (q qx k kx v : Tb) (m a : Tf) (r : Fin 512) (d : Fin 128) (μ : EReal) (hm : ∀ t, m (ix2 r t) = μ) :
    k0_pay81 (F := Ideal) v (k0_pay41 (k0_pay70 q qx) m a k kx) (k0_pay42 (k0_pay70 q qx) m k kx) (ix2 r d) = newAcc μ (score q (cut qx) k kx r) (a (ix2 r d)) (fun j => v (ix2 j d)) := by
  pointwise [k0_pay81, k0_pay41, k0_pay42, k0_pay35, k0_pay36, k0_pay37, k0_pay38, k0_pay39]
  simp only [pay30_at, pay31_at, pay32_at, pay33_at, top34, hm]
  refine congrArg₂ (· + ·) rfl (Finset.sum_congr rfl fun x _ => congrArg (· * _) ?_)
  exact pieces (fun j => Ideal.exp2 (score q (cut qx) k kx r j - newTop μ (score q (cut qx) k kx r))) x

theorem lane80 (q qx k kx : Tb) (m l : Tf) (r : Fin 512) (t : Fin 128) :
    k0_pay80 (F := Ideal) m l (k0_pay43 (k0_pay71 q qx) k kx) (k0_pay44 (k0_pay71 q qx) k kx) (k0_pay45 (k0_pay71 q qx) k kx) (k0_pay46 (k0_pay71 q qx) k kx) (k0_pay47 (k0_pay71 q qx) m k kx) (ix2 r t) = newLane (m (ix2 r t)) (score q (cut qx) k kx r) (l (ix2 r t)) t := by
  pointwise [k0_pay80, k0_pay75, k0_pay76, k0_pay77, k0_pay78, k0_pay79]
  simp only [pay43_at, pay44_at, pay45_at, pay46_at, top47]
  rfl

theorem acc82 (q qx k kx v : Tb) (m a : Tf) (r : Fin 512) (d : Fin 128) (μ : EReal) (hm : ∀ t, m (ix2 r t) = μ) :
    k0_pay82 (F := Ideal) m a v (k0_pay43 (k0_pay71 q qx) k kx) (k0_pay44 (k0_pay71 q qx) k kx) (k0_pay45 (k0_pay71 q qx) k kx) (k0_pay46 (k0_pay71 q qx) k kx) (k0_pay47 (k0_pay71 q qx) m k kx) (ix2 r d) = newAcc μ (score q (cut qx) k kx r) (a (ix2 r d)) (fun j => v (ix2 j d)) := by
  pointwise [k0_pay82, k0_pay75, k0_pay76, k0_pay77, k0_pay78, k0_pay79]
  simp only [pay43_at, pay44_at, pay45_at, pay46_at, top47, hm]
  refine congrArg₂ (· + ·) rfl (Finset.sum_congr rfl fun x _ => congrArg (· * _) ?_)
  exact pieces (fun j => Ideal.exp2 (score q (cut qx) k kx r j - newTop μ (score q (cut qx) k kx r))) x

theorem lane103 (q qx k kx : Tb) (m l : Tf) (r : Fin 512) (t : Fin 128) :
    k0_pay103 (F := Ideal) qPos kPos (k0_pay70 q qx) m l (k0_pay91 k kx) (ix2 r t) = newLane (m (ix2 r t)) (mscore q (cut qx) k kx r) (l (ix2 r t)) t := by
  pointwise [k0_pay103, k0_pay98, k0_pay99, k0_pay100, k0_pay101, k0_pay102]
  simp only [pay93_at, pay94_at, pay95_at, pay96_at, top97]
  rfl

theorem acc104 (q qx k kx v : Tb) (m a : Tf) (r : Fin 512) (d : Fin 128) (μ : EReal) (hm : ∀ t, m (ix2 r t) = μ) :
    k0_pay104 (F := Ideal) qPos kPos (k0_pay70 q qx) m a (k0_pay91 k kx) v (ix2 r d) = newAcc μ (mscore q (cut qx) k kx r) (a (ix2 r d)) (fun j => v (ix2 j d)) := by
  pointwise [k0_pay104, k0_pay98, k0_pay99, k0_pay100, k0_pay101, k0_pay102]
  simp only [pay93_at, pay94_at, pay95_at, pay96_at, top97, hm]
  refine congrArg₂ (· + ·) rfl (Finset.sum_congr rfl fun x _ => congrArg (· * _) ?_)
  exact pieces (fun j => Ideal.exp2 (mscore q (cut qx) k kx r j - newTop μ (mscore q (cut qx) k kx r))) x

theorem lane116 (q qx k kx : Tb) (m l : Tf) (r : Fin 512) (t : Fin 128) :
    k0_pay116 (F := Ideal) l (k0_pay108 (k0_pay71 q qx) (k0_pay91 k kx)) (k0_pay109 (k0_pay71 q qx) (k0_pay91 k kx)) (k0_pay110 (k0_pay71 q qx) m (k0_pay91 k kx)) (k0_pay111 (k0_pay71 q qx) m (k0_pay91 k kx)) (k0_pay112 (k0_pay71 q qx) m (k0_pay91 k kx)) (k0_pay113 (k0_pay71 q qx) m (k0_pay91 k kx)) (ix2 r t) = newLane (m (ix2 r t)) (score q (cut qx) k kx r) (l (ix2 r t)) t := by
  pointwise [k0_pay116, k0_pay111, k0_pay112, k0_pay113, k0_pay114, k0_pay115]
  simp only [pay106_at, pay107_at, pay108_at, pay109_at, top110]
  rfl

theorem acc117 (q qx k kx v : Tb) (m a : Tf) (r : Fin 512) (d : Fin 128) (μ : EReal) (hm : ∀ t, m (ix2 r t) = μ) :
    k0_pay117 (F := Ideal) a v (k0_pay108 (k0_pay71 q qx) (k0_pay91 k kx)) (k0_pay109 (k0_pay71 q qx) (k0_pay91 k kx)) (k0_pay110 (k0_pay71 q qx) m (k0_pay91 k kx)) (k0_pay111 (k0_pay71 q qx) m (k0_pay91 k kx)) (k0_pay112 (k0_pay71 q qx) m (k0_pay91 k kx)) (k0_pay113 (k0_pay71 q qx) m (k0_pay91 k kx)) (ix2 r d) = newAcc μ (score q (cut qx) k kx r) (a (ix2 r d)) (fun j => v (ix2 j d)) := by
  pointwise [k0_pay117, k0_pay111, k0_pay112, k0_pay113, k0_pay114, k0_pay115]
  simp only [pay106_at, pay107_at, pay108_at, pay109_at, top110, hm]
  refine congrArg₂ (· + ·) rfl (Finset.sum_congr rfl fun x _ => congrArg (· * _) ?_)
  exact pieces (fun j => Ideal.exp2 (score q (cut qx) k kx r j - newTop μ (score q (cut qx) k kx r))) x

/-- The last block of the second half, with the norm. -/
theorem pay130_at (q qx k kx v : Tb) (m l a : Tf) (w : FVec Ideal S1x128 .f32) (r : Fin 512) (d : Fin 128) (μ : EReal) (hm : ∀ t, m (ix2 r t) = μ) :
    k0_pay1 (F := Ideal) (k0_pay130 l a v (k0_pay124 qPos kPos (k0_pay71 q qx) m k kx) (k0_pay125 qPos kPos (k0_pay71 q qx) m k kx) (k0_pay126 qPos kPos (k0_pay71 q qx) m k kx) (k0_pay127 qPos kPos (k0_pay71 q qx) m k kx) (k0_pay128 qPos kPos (k0_pay71 q qx) m k kx)) w (ix2 r d)
      = rms (fun e => Ideal.div (newAcc μ (mscore q (cut qx) k kx r) (a (ix2 r e)) fun j => v (ix2 j e))
          (∑ t : Fin 128, newLane μ (mscore q (cut qx) k kx r) (l (ix2 r t)) t)) (fun e => w (ix2 0 e)) d := by
  have key : ∀ e : Fin 128, (∑ x : Fin 512, (if h : x.val < 128 then Ideal.exp2 (mscore q (cut qx) k kx r ⟨x.val, by omega⟩ - newTop μ (mscore q (cut qx) k kx r))
      else if h1 : x.val - 128 < 128 then Ideal.exp2 (mscore q (cut qx) k kx r ⟨128 + (x.val - 128), by omega⟩ - newTop μ (mscore q (cut qx) k kx r))
      else if h2 : x.val - 128 - 128 < 128 then Ideal.exp2 (mscore q (cut qx) k kx r ⟨256 + (x.val - 128 - 128), by omega⟩ - newTop μ (mscore q (cut qx) k kx r))
      else Ideal.exp2 (mscore q (cut qx) k kx r ⟨384 + (x.val - 128 - 128 - 128), by omega⟩ - newTop μ (mscore q (cut qx) k kx r))) * (v (ix2 x e) : EReal))
      = ∑ j : Fin 512, Ideal.exp2 (mscore q (cut qx) k kx r j - newTop μ (mscore q (cut qx) k kx r)) * v (ix2 j e) := fun e =>
    Finset.sum_congr rfl fun x _ => congrArg (· * _)
      (pieces (fun j => Ideal.exp2 (mscore q (cut qx) k kx r j - newTop μ (mscore q (cut qx) k kx r))) x)
  pointwise [k0_pay1, k0_pay130, k0_pay124, k0_pay125, k0_pay126, k0_pay127, k0_pay128]
  simp only [pay119_at, pay120_at, pay121_at, pay122_at, top123, hm]
  unfold rms newAcc newLane
  simp only [← key]
  rfl

end Cert.KernelIdeal.Fox

end

end
-- ==== Proof.Value.Rows.lean ====
/- One row of the kernel's output in closed form: a softmax over an interval of keys, then the norm. -/
module

public import proofs.«01_k».proof.Proof.Value.Payloads

@[expose] public section

set_option maxRecDepth 16384

noncomputable section

namespace Cert.KernelIdeal.Fox

open Cert.KernelIdeal.Gen
open Idealize.ShloMosaic Idealize.ShloMosaic.TcCoe Idealize.ShloMosaic.Tactic
open _root_.Fox

variable (x0 x1 : Vec Ideal S1024x128 .bf16) (x2 x3 x4 : Vec Ideal S16384x128 .bf16) (x5 : Vec Ideal S8x128 .f32)

/-! ## Logits and values by the key's position -/

/-- The logit of row `r` of half `u` and the key at position `j` (counted modulo the sequence's length). -/
def logit (u : Fin 2) (r : Fin 512) (j : ℕ) : EReal :=
  (∑ d : Fin 128, x0 (ix2 ⟨512 * u.val + r.val, by have := u.isLt; omega⟩ d) * x2 (ix2 ⟨j % 16384, Nat.mod_lt _ (by decide)⟩ d))
    + ∑ d : Fin 128, x1 (ix2 ⟨512 * u.val + r.val, by have := u.isLt; omega⟩ d) * x3 (ix2 ⟨j % 16384, Nat.mod_lt _ (by decide)⟩ d)

/-- The value at position `j`. -/
def val (d : Fin 128) (j : ℕ) : EReal := x4 (ix2 ⟨j % 16384, Nat.mod_lt _ (by decide)⟩ d)

/-- The values and, in the second 128 lanes, ones. -/
def extv (t : Fin 256) (j : ℕ) : EReal := if h : t.val < 128 then val x4 ⟨t.val, h⟩ j else 1

/-- Where the row stands in its sequence. -/
def pos (qi : ℕ) (u : Fin 2) (r : Fin 512) : ℕ := 1024 * qi + 512 * u.val + r.val

/-- What every row is: the softmax over the keys from `a` on, and the norm. -/
def rowOut (qi a : ℕ) (u : Fin 2) (h : Fin 8) (r : Fin 512) (d : Fin 128) : EReal :=
  rms (fun e => att (seen (pos qi u r) (logit x0 x1 x2 x3 u r)) (val x4 e) (Finset.Ico a (1024 * qi + 512 * (u.val + 1))))
    (fun e => x5 (ix2 h e)) d

/-- The extra lanes of the queries without the stabiliser's. -/
def cutR (x : Vec Ideal S1024x128 .bf16) : Vec Ideal S1024x128 .bf16 := fun j => if (j 1).val < 6 ∨ 9 ≤ (j 1).val then x j else (0 : EReal)

theorem score_eq (u : Fin 2) (b : ℕ) (r j : Fin 512) :
    score (half x0 u) (half x1 u) (keys x2 b) (keys x3 b) r j = logit x0 x1 x2 x3 u r (512 * b + j.val) := rfl

theorem score_cut (u : Fin 2) (b : ℕ) (r j : Fin 512) :
    score (half x0 u) (cut (half x1 u)) (keys x2 b) (keys x3 b) r j = logit x0 (cutR x1) x2 x3 u r (512 * b + j.val) := rfl

/-- A block before the row's own is seen whole. -/
theorem seen_before (L : ℕ → EReal) (qi b : ℕ) (u : Fin 2) (hb : b < 2 * qi + u.val) (r j : Fin 512) :
    L (512 * b + j.val) = seen (pos qi u r) L (512 * b + j.val) := by
  unfold seen pos
  rw [if_pos (by omega)]

/-- The row's own block is masked by the positions within it. -/
theorem seen_own (L : ℕ → EReal) (qi : ℕ) (u : Fin 2) (r j : Fin 512) (b : ℕ) (hb : b = 2 * qi + u.val) :
    (if j.val ≤ r.val then L (512 * b + j.val) else ⊥) = seen (pos qi u r) L (512 * b + j.val) := by
  unfold seen pos
  exact if_congr (by omega) rfl rfl

theorem mscore_eq (qi b : ℕ) (u : Fin 2) (hb : b = 2 * qi + u.val) (r j : Fin 512) :
    mscore (half x0 u) (half x1 u) (keys x2 b) (keys x3 b) r j = seen (pos qi u r) (logit x0 x1 x2 x3 u r) (512 * b + j.val) :=
  seen_own (logit x0 x1 x2 x3 u r) qi u r j b hb

theorem mscore_cut (qi b : ℕ) (u : Fin 2) (hb : b = 2 * qi + u.val) (r j : Fin 512) :
    mscore (half x0 u) (cut (half x1 u)) (keys x2 b) (keys x3 b) r j = seen (pos qi u r) (logit x0 (cutR x1) x2 x3 u r) (512 * b + j.val) :=
  seen_own (logit x0 (cutR x1) x2 x3 u r) qi u r j b hb

/-! ## Without a maximum -/

theorem ext_eq (b : ℕ) (j : Fin 512) (t : Fin 256) : ext (keys x4 b) j t = extv x4 t (512 * b + j.val) := rfl

theorem pay11_at (r : Fin 512) (t : Fin 256) : k0_pay11 (F := Ideal) (ix2 r t) = (0 : EReal) := by
  pointwise [k0_pay11]

/-- Two sums over blocks of 512 keys extend a sum over an interval. -/
theorem two_blocks (f : ℕ → EReal) (a b : ℕ) (h : a ≤ 1024 * b) :
    ((∑ j ∈ Finset.Ico a (1024 * b), f j) + ∑ j : Fin 512, f (512 * (2 * b) + j.val)) + ∑ j : Fin 512, f (512 * (2 * b + 1) + j.val)
      = ∑ j ∈ Finset.Ico a (1024 * (b + 1)), f j := by
  have h1 := sum_block f (512 * (2 * b))
  have h2 := sum_block f (512 * (2 * b + 1))
  rw [← h1, ← h2, show 1024 * b = 512 * (2 * b) by ring, show 512 * (2 * b + 1) = 512 * (2 * b) + 512 by ring,
    Finset.sum_Ico_consecutive _ (by omega) (by omega), Finset.sum_Ico_consecutive _ (by omega) (by omega),
    show 512 * (2 * b) + 512 + 512 = 1024 * (b + 1) by ring]

theorem pairs_low (b n : ℕ) (r : Fin 512) (t : Fin 256) :
    (pairSums x0 x1 x2 x3 x4 b n).1 (ix2 r t)
      = ∑ j ∈ Finset.Ico (1024 * b) (1024 * (b + n)), Ideal.exp2 (logit x0 x1 x2 x3 0 r j) * extv x4 t j := by
  induction n with
  | zero => rw [Nat.add_zero, Finset.Ico_self, Finset.sum_empty]; exact pay11_at r t
  | succ n ih =>
    rw [← Nat.add_assoc, ← two_blocks _ (1024 * b) (b + n) (by omega), ← ih]
    show k0_pay14 _ _ _ _ _ _ = _
    rw [pay14_at]
    simp only [pay2_at, pay4_at, score_eq, ext_eq]

theorem pairs_high (b n : ℕ) (r : Fin 512) (t : Fin 256) :
    (pairSums x0 x1 x2 x3 x4 b n).2 (ix2 r t)
      = ∑ j ∈ Finset.Ico (1024 * b) (1024 * (b + n)), Ideal.exp2 (logit x0 x1 x2 x3 1 r j) * extv x4 t j := by
  induction n with
  | zero => rw [Nat.add_zero, Finset.Ico_self, Finset.sum_empty]; exact pay11_at r t
  | succ n ih =>
    rw [← Nat.add_assoc, ← two_blocks _ (1024 * b) (b + n) (by omega), ← ih]
    show k0_pay15 _ _ _ _ _ _ _ _ _ = _
    rw [pay15_at]
    simp only [pay3_at, score_eq, ext_eq]

/-- A start after the query block leaves the query block's own keys. -/
theorem pairs_clip (b qi : ℕ) : pairSums x0 x1 x2 x3 x4 b (qi - b) = pairSums x0 x1 x2 x3 x4 (min b qi) (qi - min b qi) := by
  rcases Nat.le_total b qi with h | h
  · rw [Nat.min_eq_left h]
  · rw [Nat.min_eq_right h, Nat.sub_eq_zero_of_le h, Nat.sub_self]; rfl

theorem seen_lt (L : ℕ → EReal) (P j : ℕ) (h : j ≤ P) : L j = seen P L j := by unfold seen; rw [if_pos h]

theorem sum_seen (P a n : ℕ) (hn : n ≤ P + 1) (L f : ℕ → EReal) :
    ∑ j ∈ Finset.Ico a n, Ideal.exp2 (L j) * f j = ∑ j ∈ Finset.Ico a n, Ideal.exp2 (seen P L j) * f j := by
  refine Finset.sum_congr rfl fun j hj => ?_
  rw [← seen_lt L P j (by have := (Finset.mem_Ico.1 hj).2; omega)]

theorem extv_val (e : Fin 128) (h : e.val < 256) (j : ℕ) : extv x4 ⟨e.val, h⟩ j = val x4 e j := dif_pos e.isLt
theorem extv_one (e : Fin 128) (h : 128 + e.val < 256) (j : ℕ) : extv x4 ⟨128 + e.val, h⟩ j = 1 := dif_neg (by dsimp only; omega)

theorem directLow_at (qi b : ℕ) (h : Fin 8) (r : Fin 512) (d : Fin 128) :
    directLow x0 x1 x2 x3 x4 x5 qi b (qi - b) h (ix2 r d) = rowOut x0 x1 x2 x3 x4 x5 qi (1024 * min b qi) 0 h r d := by
  have e : ∀ t : Fin 256, (k0_pay23 qPos kPos (k0_pay8 (half x0 0) (half x1 0)) k0_pay10 (pairSums x0 x1 x2 x3 x4 b (qi - b)).1
      (keys x2 (2 * qi)) (keys x3 (2 * qi)) (keys x4 (2 * qi)) (ix2 r t) : EReal)
      = ∑ j ∈ Finset.Ico (1024 * min b qi) (1024 * qi + 512), Ideal.exp2 (seen (pos qi 0 r) (logit x0 x1 x2 x3 0 r) j) * extv x4 t j := fun t => by
    rw [pay23_at, pairs_clip, pairs_low, Nat.add_sub_cancel' (Nat.min_le_right b qi), sum_seen (pos qi 0 r) _ _ (by unfold pos; omega)]
    simp only [mscore_eq x0 x1 x2 x3 qi (2 * qi) 0 rfl, ext_eq]
    rw [← Finset.sum_Ico_consecutive _ (show 1024 * min b qi ≤ 1024 * qi by have := Nat.min_le_right b qi; omega) (show 1024 * qi ≤ 1024 * qi + 512 by omega),
      sum_block, show 512 * (2 * qi) = 1024 * qi by ring]
  unfold directLow rowOut
  rw [pay25_at]
  simp only [e, extv_val, extv_one, mul_one]
  refine congrArg (fun o => rms o _ d) (funext fun e => ?_)
  exact att_eq _ _ _

theorem directHigh_at (qi b : ℕ) (h : Fin 8) (r : Fin 512) (d : Fin 128) :
    directHigh x0 x1 x2 x3 x4 x5 qi b (qi - b) h (ix2 r d) = rowOut x0 x1 x2 x3 x4 x5 qi (1024 * min b qi) 1 h r d := by
  have e : ∀ t : Fin 256, (k0_pay24 (k0_pay9 (half x0 1) (half x1 1)) k0_pay10 (pairSums x0 x1 x2 x3 x4 b (qi - b)).2
        (keys x2 (2 * qi)) (keys x3 (2 * qi)) (keys x4 (2 * qi)) (ix2 r t)
      + ∑ j : Fin 512, k0_pay21 qPos kPos (k0_pay9 (half x0 1) (half x1 1)) (keys x2 (2 * qi + 1)) (keys x3 (2 * qi + 1)) (ix2 r j)
          * ext (keys x4 (2 * qi + 1)) j t : EReal)
      = ∑ j ∈ Finset.Ico (1024 * min b qi) (1024 * qi + 512 * (1 + 1)), Ideal.exp2 (seen (pos qi 1 r) (logit x0 x1 x2 x3 1 r) j) * extv x4 t j := fun t => by
    rw [pay24_at, pairs_clip, pairs_high, Nat.add_sub_cancel' (Nat.min_le_right b qi),
      sum_seen (pos qi 1 r) _ _ (by unfold pos; omega)]
    simp only [pay21_at, mscore_eq x0 x1 x2 x3 qi (2 * qi + 1) 1 rfl, score_eq,
      seen_before (logit x0 x1 x2 x3 1 r) qi (2 * qi) 1 (by show _ < 2 * qi + 1; omega) r, ext_eq]
    exact two_blocks (fun j => Ideal.exp2 (seen (pos qi 1 r) (logit x0 x1 x2 x3 1 r) j) * extv x4 t j) _ qi
      (by have := Nat.min_le_right b qi; omega)
  unfold directHigh rowOut
  rw [pay26_at]
  simp only [e, extv_val, extv_one, mul_one]
  refine congrArg (fun o => rms o _ d) (funext fun e => ?_)
  exact att_eq _ _ _

/-! ## Finite logits -/

/-- An extended real that is a real. -/
def Real' (x : EReal) : Prop := ∃ r : ℝ, x = r

theorem real_zero : Real' 0 := ⟨0, rfl⟩
theorem real_add {x y : EReal} : Real' x → Real' y → Real' (x + y) := fun ⟨a, ha⟩ ⟨b, hb⟩ => ⟨a + b, by rw [ha, hb, EReal.coe_add]⟩
theorem real_mul {x y : EReal} : Real' x → Real' y → Real' (x * y) := fun ⟨a, ha⟩ ⟨b, hb⟩ => ⟨a * b, by rw [ha, hb, EReal.coe_mul]⟩
theorem real_sum {ι : Type*} (s : Finset ι) (f : ι → EReal) (h : ∀ i, Real' (f i)) : Real' (∑ i ∈ s, f i) := by
  classical
  induction s using Finset.induction_on with
  | empty => exact real_zero
  | insert a s ha ih => rw [Finset.sum_insert ha]; exact real_add (h a) ih

theorem logit_real (h0 : ∀ i, Real' (x0 i)) (h1 : ∀ i, Real' (x1 i)) (h2 : ∀ i, Real' (x2 i)) (h3 : ∀ i, Real' (x3 i))
    (u : Fin 2) (r : Fin 512) (j : ℕ) : Real' (logit x0 x1 x2 x3 u r j) :=
  real_add (real_sum _ _ fun d => real_mul (h0 _) (h2 _)) (real_sum _ _ fun d => real_mul (h1 _) (h3 _))

theorem cutR_real (h1 : ∀ i, Real' (x1 i)) (i) : Real' (cutR x1 i) := by
  unfold cutR
  split
  · exact h1 i
  · exact real_zero

theorem seen_ne_top (P : ℕ) (L : ℕ → EReal) (hL : ∀ j, Real' (L j)) (j : ℕ) : seen P L j ≠ ⊤ := by
  unfold seen
  split
  · obtain ⟨r, e⟩ := hL j; rw [e]; exact EReal.coe_ne_top r
  · exact bot_ne_top

theorem seen_ne_bot (P : ℕ) (L : ℕ → EReal) (hL : ∀ j, Real' (L j)) (j : ℕ) (h : j ≤ P) : seen P L j ≠ ⊥ := by
  rw [← seen_lt L P j h]
  obtain ⟨r, e⟩ := hL j; rw [e]; exact EReal.coe_ne_bot r

/-- With ones in the keys' lanes 6, 7 and 8, clearing those lanes of the queries takes one real from all of a row's logits. -/
theorem logit_cut (h1 : ∀ i, Real' (x1 i)) (ones : ∀ (k : Fin 16384) (d : Fin 128), 6 ≤ d.val → d.val < 9 → x3 (ix2 k d) = (1 : EReal))
    (u : Fin 2) (r : Fin 512) : ∃ C : ℝ, ∀ j, logit x0 x1 x2 x3 u r j = logit x0 (cutR x1) x2 x3 u r j + (C : EReal) := by
  obtain ⟨C, e⟩ : Real' (∑ d : Fin 128, if d.val < 6 ∨ 9 ≤ d.val then (0 : EReal)
      else x1 (ix2 ⟨512 * u.val + r.val, by have := u.isLt; omega⟩ d)) := real_sum _ _ fun d => by
    split
    · exact real_zero
    · exact h1 _
  refine ⟨C, fun j => ?_⟩
  rw [← e]
  unfold logit
  rw [add_assoc]
  refine congrArg₂ (· + ·) rfl ?_
  rw [← Finset.sum_add_distrib]
  refine Finset.sum_congr rfl fun d _ => ?_
  show _ = (if d.val < 6 ∨ 9 ≤ d.val then x1 _ else (0 : EReal)) * x3 _ + _
  by_cases h : d.val < 6 ∨ 9 ≤ d.val
  · rw [if_pos h, if_pos h, add_zero]
  · rw [if_neg h, if_neg h, zero_mul, zero_add, ones _ d (by omega) (by omega), mul_one]

end Cert.KernelIdeal.Fox

end

end
-- ==== Proof.Value.RowsOnline.lean ====
/- The rows of a grid point that carries a running maximum: the same closed form. -/
module

public import proofs.«01_k».proof.Proof.Value.Rows

@[expose] public section

set_option maxRecDepth 16384

noncomputable section

namespace Cert.KernelIdeal.Fox

open Cert.KernelIdeal.Gen
open Idealize.ShloMosaic Idealize.ShloMosaic.TcCoe Idealize.ShloMosaic.Tactic
open _root_.Fox

/-- What a row carries after the keys `[a, n)`: one maximum in all lanes, partial sums and weighted sums. -/
def Row (L : ℕ → EReal) (V : Fin 128 → ℕ → EReal) (a n : ℕ) (m l acc : Fin 128 → EReal) : Prop :=
  ∃ μ : EReal, (∀ t, m t = μ) ∧ Carried L V a n μ (∑ t, l t) acc

theorem row_start (L : ℕ → EReal) (V : Fin 128 → ℕ → EReal) (a : ℕ) (m l acc : Fin 128 → EReal) (hm : ∀ t, m t = ⊥)
    (hl : ∀ t, l t = 0) (ha : ∀ d, acc d = 0) : Row L V a a m l acc := by
  refine ⟨⊥, hm, ?_⟩
  rw [show (∑ t, l t) = 0 from Finset.sum_eq_zero fun t _ => hl t, show acc = fun _ => 0 from funext ha]
  exact carried_start L V a

theorem row_step {L : ℕ → EReal} {V : Fin 128 → ℕ → EReal} {a n n' : ℕ} {m l acc m' l' acc' : Fin 128 → EReal} (h : Row L V a n m l acc)
    (s : Fin 512 → EReal) (v : Fin 128 → Fin 512 → EReal) (hn' : n' = n + 512) (han : a ≤ n) (hL : ∀ j, L j ≠ ⊤) (hn : L n ≠ ⊥)
    (hs : ∀ i : Fin 512, s i = L (n + i.val)) (hv : ∀ d (i : Fin 512), v d i = V d (n + i.val))
    (hm' : ∀ t, m' t = newTop (m t) s) (hl' : ∀ t, l' t = newLane (m t) s (l t) t)
    (ha' : ∀ μ, (∀ t, m t = μ) → ∀ d, acc' d = newAcc μ s (acc d) (v d)) : Row L V a n' m' l' acc' := by
  obtain ⟨μ, hm, hc⟩ := h
  refine ⟨newTop μ s, fun t => by rw [hm', hm], ?_⟩
  have := carried_step han hc hL hn s hs
  rw [show (∑ t, l' t) = ∑ t, newLane μ s (l t) t from Finset.sum_congr rfl fun t _ => by rw [hl', hm], hn',
    show acc' = fun d => newAcc μ s (acc d) fun i => V d (n + i.val) from funext fun d => by
      rw [ha' μ hm d, show v d = fun i : Fin 512 => V d (n + i.val) from funext (hv d)]]
  exact this

theorem row_att {L : ℕ → EReal} {V : Fin 128 → ℕ → EReal} {a n : ℕ} {m l acc : Fin 128 → EReal} (h : Row L V a n m l acc)
    (hL : ∀ j, L j ≠ ⊤) (hs : ∃ j ∈ Finset.Ico a n, L j ≠ ⊥) (d : Fin 128) :
    Ideal.div (acc d) (∑ t, l t) = att L (V d) (Finset.Ico a n) := by
  obtain ⟨μ, _, hc⟩ := h
  exact carried_att hc hL hs d

theorem pay72_at (r : Fin 512) (t : Fin 128) : k0_pay72 (F := Ideal) (ix2 r t) = (⊥ : EReal) := by
  pointwise [k0_pay72]
  exact neg_inf
theorem pay73_at (r : Fin 512) (t : Fin 128) : k0_pay73 (F := Ideal) (ix2 r t) = (0 : EReal) := by
  pointwise [k0_pay73]
theorem pay74_at (r : Fin 512) (t : Fin 128) : k0_pay74 (F := Ideal) (ix2 r t) = (0 : EReal) := by
  pointwise [k0_pay74]

variable (x0 x1 : Vec Ideal S1024x128 .bf16) (x2 x3 x4 : Vec Ideal S16384x128 .bf16) (x5 : Vec Ideal S8x128 .f32)

/-- The logits the loop works with: without the stabiliser's lanes, masked after the row. -/
abbrev cutL (qi : ℕ) (u : Fin 2) (r : Fin 512) : ℕ → EReal := seen (pos qi u r) (logit x0 (cutR x1) x2 x3 u r)

section
variable (h0 : ∀ i, Real' (x0 i)) (h1 : ∀ i, Real' (x1 i)) (h2 : ∀ i, Real' (x2 i)) (h3 : ∀ i, Real' (x3 i))
include h0 h1 h2 h3

theorem cutL_ne_top (qi : ℕ) (u : Fin 2) (r : Fin 512) (j : ℕ) : cutL x0 x1 x2 x3 qi u r j ≠ ⊤ :=
  seen_ne_top _ _ (logit_real x0 (cutR x1) x2 x3 h0 (cutR_real x1 h1) h2 h3 u r) j
theorem cutL_ne_bot (qi : ℕ) (u : Fin 2) (r : Fin 512) (j : ℕ) (h : j ≤ pos qi u r) : cutL x0 x1 x2 x3 qi u r j ≠ ⊥ :=
  seen_ne_bot _ _ (logit_real x0 (cutR x1) x2 x3 h0 (cutR_real x1 h1) h2 h3 u r) j h

theorem singles_low (qi b n : ℕ) (hb : b + n ≤ 2 * qi) (r : Fin 512) :
    Row (cutL x0 x1 x2 x3 qi 0 r) (val x4) (512 * b) (512 * (b + n)) (fun t => (singleSums x0 x1 x2 x3 x4 b n).1 (ix2 r t))
      (fun t => (singleSums x0 x1 x2 x3 x4 b n).2.1 (ix2 r t)) (fun d => (singleSums x0 x1 x2 x3 x4 b n).2.2.1 (ix2 r d)) := by
  induction n with
  | zero => exact row_start _ _ _ _ _ _ (pay72_at r) (pay73_at r) (pay74_at r)
  | succ n ih =>
    refine row_step (ih (by omega)) (score (half x0 0) (cut (half x1 0)) (keys x2 (b + n)) (keys x3 (b + n)) r)
      (fun d i => keys x4 (b + n) (ix2 i d)) (by ring) (by omega) (cutL_ne_top x0 x1 x2 x3 h0 h1 h2 h3 qi 0 r)
      (cutL_ne_bot x0 x1 x2 x3 h0 h1 h2 h3 qi 0 r _ (by unfold pos; omega))
      (fun i => (score_cut x0 x1 x2 x3 0 (b + n) r i).trans (seen_before _ qi (b + n) 0 (by show _ < 2 * qi + 0; omega) r i)) (fun d i => rfl) (fun t => top34 _ _ _ _ _ r t)
      (fun t => lane40 _ _ _ _ _ _ r t) (fun μ hm d => acc81 _ _ _ _ _ _ _ r d μ hm)

theorem singles_high (qi b n : ℕ) (hb : b + n ≤ 2 * qi) (r : Fin 512) :
    Row (cutL x0 x1 x2 x3 qi 1 r) (val x4) (512 * b) (512 * (b + n)) (fun t => (singleSums x0 x1 x2 x3 x4 b n).2.2.2.1 (ix2 r t))
      (fun t => (singleSums x0 x1 x2 x3 x4 b n).2.2.2.2.1 (ix2 r t)) (fun d => (singleSums x0 x1 x2 x3 x4 b n).2.2.2.2.2 (ix2 r d)) := by
  induction n with
  | zero => exact row_start _ _ _ _ _ _ (pay72_at r) (pay73_at r) (pay74_at r)
  | succ n ih =>
    refine row_step (ih (by omega)) (score (half x0 1) (cut (half x1 1)) (keys x2 (b + n)) (keys x3 (b + n)) r)
      (fun d i => keys x4 (b + n) (ix2 i d)) (by ring) (by omega) (cutL_ne_top x0 x1 x2 x3 h0 h1 h2 h3 qi 1 r)
      (cutL_ne_bot x0 x1 x2 x3 h0 h1 h2 h3 qi 1 r _ (by unfold pos; omega))
      (fun i => (score_cut x0 x1 x2 x3 1 (b + n) r i).trans (seen_before _ qi (b + n) 1 (by show _ < 2 * qi + 1; omega) r i)) (fun d i => rfl) (fun t => top47 _ _ _ _ _ r t)
      (fun t => lane80 _ _ _ _ _ _ r t) (fun μ hm d => acc82 _ _ _ _ _ _ _ r d μ hm)

omit h0 h1 h2 h3 in
/-- A start after the query block leaves the query block's own keys. -/
theorem singles_clip (b N : ℕ) : singleSums x0 x1 x2 x3 x4 b (N - b) = singleSums x0 x1 x2 x3 x4 (min b N) (N - min b N) := by
  rcases Nat.le_total b N with h | h
  · rw [Nat.min_eq_left h]
  · rw [Nat.min_eq_right h, Nat.sub_eq_zero_of_le h, Nat.sub_self]; rfl

/-- After the loop, the row's keys end where the query block begins. -/
theorem loop_low (qi b : ℕ) (r : Fin 512) :
    Row (cutL x0 x1 x2 x3 qi 0 r) (val x4) (512 * min b (2 * qi)) (1024 * qi) (fun t => (singleSums x0 x1 x2 x3 x4 b (2 * qi - b)).1 (ix2 r t))
      (fun t => (singleSums x0 x1 x2 x3 x4 b (2 * qi - b)).2.1 (ix2 r t)) (fun d => (singleSums x0 x1 x2 x3 x4 b (2 * qi - b)).2.2.1 (ix2 r d)) := by
  have hb := Nat.min_le_right b (2 * qi)
  have h := singles_low x0 x1 x2 x3 x4 h0 h1 h2 h3 qi (min b (2 * qi)) (2 * qi - min b (2 * qi)) (by omega) r
  rw [← singles_clip, Nat.add_sub_cancel' hb, show 512 * (2 * qi) = 1024 * qi by ring] at h
  exact h

theorem loop_high (qi b : ℕ) (r : Fin 512) :
    Row (cutL x0 x1 x2 x3 qi 1 r) (val x4) (512 * min b (2 * qi)) (1024 * qi) (fun t => (singleSums x0 x1 x2 x3 x4 b (2 * qi - b)).2.2.2.1 (ix2 r t))
      (fun t => (singleSums x0 x1 x2 x3 x4 b (2 * qi - b)).2.2.2.2.1 (ix2 r t)) (fun d => (singleSums x0 x1 x2 x3 x4 b (2 * qi - b)).2.2.2.2.2 (ix2 r d)) := by
  have hb := Nat.min_le_right b (2 * qi)
  have h := singles_high x0 x1 x2 x3 x4 h0 h1 h2 h3 qi (min b (2 * qi)) (2 * qi - min b (2 * qi)) (by omega) r
  rw [← singles_clip, Nat.add_sub_cancel' hb, show 512 * (2 * qi) = 1024 * qi by ring] at h
  exact h

theorem own_low (qi b : ℕ) (r : Fin 512) :
    Row (cutL x0 x1 x2 x3 qi 0 r) (val x4) (512 * min b (2 * qi)) (1024 * qi + 512)
      (fun t => k0_pay97 qPos kPos (lowQ x0 x1) (singleSums x0 x1 x2 x3 x4 b (2 * qi - b)).1 (ownKeys x2 x3 (2 * qi)) (ix2 r t))
      (fun t => k0_pay103 qPos kPos (lowQ x0 x1) (singleSums x0 x1 x2 x3 x4 b (2 * qi - b)).1 (singleSums x0 x1 x2 x3 x4 b (2 * qi - b)).2.1
        (ownKeys x2 x3 (2 * qi)) (ix2 r t))
      (fun d => k0_pay104 qPos kPos (lowQ x0 x1) (singleSums x0 x1 x2 x3 x4 b (2 * qi - b)).1 (singleSums x0 x1 x2 x3 x4 b (2 * qi - b)).2.2.1
        (ownKeys x2 x3 (2 * qi)) (keys x4 (2 * qi)) (ix2 r d)) := by
  have hb := Nat.min_le_right b (2 * qi)
  have e : 1024 * qi = 512 * (2 * qi) := by ring
  refine row_step (loop_low x0 x1 x2 x3 x4 h0 h1 h2 h3 qi b r)
    (mscore (half x0 0) (cut (half x1 0)) (keys x2 (2 * qi)) (keys x3 (2 * qi)) r)
    (fun d i => keys x4 (2 * qi) (ix2 i d)) rfl (by omega) (cutL_ne_top x0 x1 x2 x3 h0 h1 h2 h3 qi 0 r)
    (cutL_ne_bot x0 x1 x2 x3 h0 h1 h2 h3 qi 0 r _ (by unfold pos; omega))
    (fun i => by rw [e]; exact mscore_cut x0 x1 x2 x3 qi (2 * qi) 0 rfl r i) (fun d i => by rw [e]; rfl) (fun t => top97 _ _ _ _ _ r t)
    (fun t => lane103 _ _ _ _ _ _ r t) (fun μ hm d => acc104 _ _ _ _ _ _ _ r d μ hm)

theorem own_high (qi b : ℕ) (r : Fin 512) :
    Row (cutL x0 x1 x2 x3 qi 1 r) (val x4) (512 * min b (2 * qi)) (1024 * qi + 512)
      (fun t => highTop x0 x1 x2 x3 (singleSums x0 x1 x2 x3 x4 b (2 * qi - b)) (2 * qi) (ix2 r t))
      (fun t => highLane x0 x1 x2 x3 (singleSums x0 x1 x2 x3 x4 b (2 * qi - b)) (2 * qi) (ix2 r t))
      (fun d => highAcc x0 x1 x2 x3 x4 (singleSums x0 x1 x2 x3 x4 b (2 * qi - b)) (2 * qi) (ix2 r d)) := by
  have hb := Nat.min_le_right b (2 * qi)
  have e : 1024 * qi = 512 * (2 * qi) := by ring
  refine row_step (loop_high x0 x1 x2 x3 x4 h0 h1 h2 h3 qi b r)
    (score (half x0 1) (cut (half x1 1)) (keys x2 (2 * qi)) (keys x3 (2 * qi)) r)
    (fun d i => keys x4 (2 * qi) (ix2 i d)) rfl (by omega) (cutL_ne_top x0 x1 x2 x3 h0 h1 h2 h3 qi 1 r)
    (cutL_ne_bot x0 x1 x2 x3 h0 h1 h2 h3 qi 1 r _ (by unfold pos; omega))
    (fun i => by
      rw [e]
      exact (score_cut x0 x1 x2 x3 1 (2 * qi) r i).trans (seen_before _ qi (2 * qi) 1 (by show _ < 2 * qi + 1; omega) r i))
    (fun d i => by rw [e]; rfl) (fun t => top110 _ _ _ _ _ r t)
    (fun t => lane116 _ _ _ _ _ _ r t) (fun μ hm d => acc117 _ _ _ _ _ _ _ r d μ hm)

/-- The softmax does not see the stabiliser. -/
theorem att_cut (ones : ∀ (k : Fin 16384) (d : Fin 128), 6 ≤ d.val → d.val < 9 → x3 (ix2 k d) = (1 : EReal))
    (qi a : ℕ) (u : Fin 2) (r : Fin 512) (V : ℕ → EReal) (n : ℕ) (ha : a ≤ 1024 * qi) (hn : 1024 * qi < n) :
    att (cutL x0 x1 x2 x3 qi u r) V (Finset.Ico a n) = att (seen (pos qi u r) (logit x0 x1 x2 x3 u r)) V (Finset.Ico a n) := by
  obtain ⟨C, hC⟩ := logit_cut x0 x1 x2 x3 h1 ones u r
  refine (att_add _ _ V _ C (fun j _ => cutL_ne_top x0 x1 x2 x3 h0 h1 h2 h3 qi u r j)
    ⟨1024 * qi, Finset.mem_Ico.2 ⟨ha, hn⟩, cutL_ne_bot x0 x1 x2 x3 h0 h1 h2 h3 qi u r _ (by unfold pos; omega)⟩ fun j _ => ?_).symm
  show seen _ _ j = seen _ _ j + _
  unfold seen
  split
  · exact hC j
  · rw [EReal.bot_add]

theorem onlineLow_at (ones : ∀ (k : Fin 16384) (d : Fin 128), 6 ≤ d.val → d.val < 9 → x3 (ix2 k d) = (1 : EReal))
    (qi b : ℕ) (h : Fin 8) (r : Fin 512) (d : Fin 128) :
    onlineLow x0 x1 x2 x3 x4 x5 qi b (2 * qi - b) h (ix2 r d) = rowOut x0 x1 x2 x3 x4 x5 qi (512 * min b (2 * qi)) 0 h r d := by
  have hb := Nat.min_le_right b (2 * qi)
  unfold onlineLow rowOut
  rw [pay129_at]
  refine congrArg (fun o => rms o _ d) (funext fun e => ?_)
  rw [row_att (own_low x0 x1 x2 x3 x4 h0 h1 h2 h3 qi b r) (cutL_ne_top x0 x1 x2 x3 h0 h1 h2 h3 qi 0 r)
    ⟨1024 * qi, Finset.mem_Ico.2 ⟨by omega, by omega⟩, cutL_ne_bot x0 x1 x2 x3 h0 h1 h2 h3 qi 0 r _ (by unfold pos; omega)⟩ e]
  exact att_cut x0 x1 x2 x3 h0 h1 h2 h3 ones qi _ 0 r _ _ (by omega) (by omega)

theorem onlineHigh_at (ones : ∀ (k : Fin 16384) (d : Fin 128), 6 ≤ d.val → d.val < 9 → x3 (ix2 k d) = (1 : EReal))
    (qi b : ℕ) (h : Fin 8) (r : Fin 512) (d : Fin 128) :
    onlineHigh x0 x1 x2 x3 x4 x5 qi b (2 * qi - b) h (ix2 r d) = rowOut x0 x1 x2 x3 x4 x5 qi (512 * min b (2 * qi)) 1 h r d := by
  have hb := Nat.min_le_right b (2 * qi)
  have hk : 1024 * qi + 512 = 512 * (2 * qi + 1) := by ring
  obtain ⟨μ, hm, hc⟩ := own_high x0 x1 x2 x3 x4 h0 h1 h2 h3 qi b r
  have hc' := carried_step (by omega) hc (cutL_ne_top x0 x1 x2 x3 h0 h1 h2 h3 qi 1 r)
    (cutL_ne_bot x0 x1 x2 x3 h0 h1 h2 h3 qi 1 r _ (by show _ ≤ 1024 * qi + 512 * 1 + r.val; omega))
    (mscore (half x0 1) (cut (half x1 1)) (keys x2 (2 * qi + 1)) (keys x3 (2 * qi + 1)) r)
    (fun i => by rw [hk]; exact mscore_cut x0 x1 x2 x3 qi (2 * qi + 1) 1 rfl r i)
  unfold onlineHigh highEnd rowOut
  rw [pay130_at _ _ _ _ _ _ _ _ _ r d μ hm]
  refine congrArg (fun o => rms o _ d) (funext fun e => ?_)
  have := carried_att hc' (cutL_ne_top x0 x1 x2 x3 h0 h1 h2 h3 qi 1 r)
    ⟨1024 * qi, Finset.mem_Ico.2 ⟨by omega, by omega⟩, cutL_ne_bot x0 x1 x2 x3 h0 h1 h2 h3 qi 1 r _ (by unfold pos; omega)⟩ e
  refine Eq.trans ?_ (this.trans ?_)
  · rw [hk]; rfl
  · exact att_cut x0 x1 x2 x3 h0 h1 h2 h3 ones qi _ 1 r _ _ (by omega) (by omega)
end

end Cert.KernelIdeal.Fox

end

end
-- ==== Proof.Value.Blocks.lean ====
/- The blocks the grid points read, as parts of the arguments. -/
module

public import proofs.«01_k».proof.Proof.IdealRun.Frame
public import proofs.«01_k».proof.Proof.IdealRun.Words
public import Idealize.ShloMosaic.Lib.Pipeline.ValueKit.Geometry
public import Idealize.ShloMosaic.Lib.Pointwise

@[expose] public section

set_option maxRecDepth 16384

noncomputable section

namespace Cert.KernelIdeal.Fox

open Cert.KernelIdeal.Gen
open Idealize.ShloMosaic Idealize.ShloMosaic.TcCoe Idealize.ShloMosaic.Tactic

variable {F : FTy → Type} [FloatOps F] (m : (ℓ : Loc nD τ sig) → Buf (Elt F) ℓ)

abbrev bOf (t : Fin grid0.N) : Fin 2 := grid0.coords t 0
abbrev hOf (t : Fin grid0.N) : Fin 8 := grid0.coords t 1
abbrev qOf (t : Fin grid0.N) : Fin 16 := grid0.coords t 2

/-! ## Where each window's block begins -/

theorem idx_0 : ∀ t : Fin grid0.N, cc0_transform_0 (grid0.coords t) = ![(bOf t).val * 16 + (qOf t).val, (hOf t).val] := by decide +kernel
theorem idx_1 : ∀ t : Fin grid0.N, cc0_transform_1 (grid0.coords t) = ![(bOf t).val * 16 + (qOf t).val, (hOf t).val] := by decide +kernel
theorem idx_2 : ∀ t : Fin grid0.N, cc0_transform_2 (grid0.coords t) = ![(bOf t).val, (hOf t).val + 8] := by decide +kernel
theorem idx_3 : ∀ t : Fin grid0.N, cc0_transform_3 (grid0.coords t) = ![(bOf t).val, (hOf t).val] := by decide +kernel
theorem idx_4 : ∀ t : Fin grid0.N, cc0_transform_4 (grid0.coords t) = ![(bOf t).val, (hOf t).val + 16] := by decide +kernel
theorem idx_6 : ∀ t : Fin grid0.N, cc0_transform_6 (grid0.coords t) = ![(bOf t).val * 16 + (qOf t).val, (hOf t).val] := by decide +kernel
theorem idx_5 : ∀ t : Fin grid0.N, cc0_transform_5 (grid0.coords t) = ![0, 0] := by decide +kernel

/-! ## The blocks at coordinates -/

theorem block_0 (c : Dev nD) (t : Fin (pipe m).N) (r : Fin 1024) (d : Fin 128) :
    (block m c 0 t : Vec F S1024x128 .bf16) (ix2 r d) = (m ((c : Thread nD τ).loc main_arg2) : Vec F S32768x5120 .bf16)
      (ix2 ⟨((bOf t).val * 16 + (qOf t).val) * 1024 + r.val, by have := (bOf t).isLt; have := (qOf t).isLt; omega⟩ ⟨((hOf t).val) * 128 + d.val, by have := (hOf t).isLt; omega⟩) := by
  refine congrArg (m ((c : Thread nD τ).loc main_arg2)) (funext fun k => Fin.ext ?_)
  fin_cases k
  · show cc0_transform_0 (grid0.coords t) 0 * 1024 + 1 * r.val = ((bOf t).val * 16 + (qOf t).val) * 1024 + r.val
    rw [idx_0, one_mul]; rfl
  · show cc0_transform_0 (grid0.coords t) 1 * 128 + 1 * d.val = ((hOf t).val) * 128 + d.val
    rw [idx_0, one_mul]; rfl

theorem block_1 (c : Dev nD) (t : Fin (pipe m).N) (r : Fin 1024) (d : Fin 128) :
    (block m c 1 t : Vec F S1024x128 .bf16) (ix2 r d) = (m ((c : Thread nD τ).loc main_arg3) : Vec F S32768x1024 .bf16)
      (ix2 ⟨((bOf t).val * 16 + (qOf t).val) * 1024 + r.val, by have := (bOf t).isLt; have := (qOf t).isLt; omega⟩ ⟨((hOf t).val) * 128 + d.val, by have := (hOf t).isLt; omega⟩) := by
  refine congrArg (m ((c : Thread nD τ).loc main_arg3)) (funext fun k => Fin.ext ?_)
  fin_cases k
  · show cc0_transform_1 (grid0.coords t) 0 * 1024 + 1 * r.val = ((bOf t).val * 16 + (qOf t).val) * 1024 + r.val
    rw [idx_1, one_mul]; rfl
  · show cc0_transform_1 (grid0.coords t) 1 * 128 + 1 * d.val = ((hOf t).val) * 128 + d.val
    rw [idx_1, one_mul]; rfl

theorem block_2 (c : Dev nD) (t : Fin (pipe m).N) (r : Fin 16384) (d : Fin 128) :
    (block m c 2 t : Vec F S16384x128 .bf16) (ix2 r d) = (m ((c : Thread nD τ).loc main_arg2) : Vec F S32768x5120 .bf16)
      (ix2 ⟨((bOf t).val) * 16384 + r.val, by have := (bOf t).isLt; have := (qOf t).isLt; omega⟩ ⟨((hOf t).val + 8) * 128 + d.val, by have := (hOf t).isLt; omega⟩) := by
  refine congrArg (m ((c : Thread nD τ).loc main_arg2)) (funext fun k => Fin.ext ?_)
  fin_cases k
  · show cc0_transform_2 (grid0.coords t) 0 * 16384 + 1 * r.val = ((bOf t).val) * 16384 + r.val
    rw [idx_2, one_mul]; rfl
  · show cc0_transform_2 (grid0.coords t) 1 * 128 + 1 * d.val = ((hOf t).val + 8) * 128 + d.val
    rw [idx_2, one_mul]; rfl

theorem block_3 (c : Dev nD) (t : Fin (pipe m).N) (r : Fin 16384) (d : Fin 128) :
    (block m c 3 t : Vec F S16384x128 .bf16) (ix2 r d) = (m ((c : Thread nD τ).loc main_arg4) : Vec F S32768x1024 .bf16)
      (ix2 ⟨((bOf t).val) * 16384 + r.val, by have := (bOf t).isLt; have := (qOf t).isLt; omega⟩ ⟨((hOf t).val) * 128 + d.val, by have := (hOf t).isLt; omega⟩) := by
  refine congrArg (m ((c : Thread nD τ).loc main_arg4)) (funext fun k => Fin.ext ?_)
  fin_cases k
  · show cc0_transform_3 (grid0.coords t) 0 * 16384 + 1 * r.val = ((bOf t).val) * 16384 + r.val
    rw [idx_3, one_mul]; rfl
  · show cc0_transform_3 (grid0.coords t) 1 * 128 + 1 * d.val = ((hOf t).val) * 128 + d.val
    rw [idx_3, one_mul]; rfl

theorem block_4 (c : Dev nD) (t : Fin (pipe m).N) (r : Fin 16384) (d : Fin 128) :
    (block m c 4 t : Vec F S16384x128 .bf16) (ix2 r d) = (m ((c : Thread nD τ).loc main_arg2) : Vec F S32768x5120 .bf16)
      (ix2 ⟨((bOf t).val) * 16384 + r.val, by have := (bOf t).isLt; have := (qOf t).isLt; omega⟩ ⟨((hOf t).val + 16) * 128 + d.val, by have := (hOf t).isLt; omega⟩) := by
  refine congrArg (m ((c : Thread nD τ).loc main_arg2)) (funext fun k => Fin.ext ?_)
  fin_cases k
  · show cc0_transform_4 (grid0.coords t) 0 * 16384 + 1 * r.val = ((bOf t).val) * 16384 + r.val
    rw [idx_4, one_mul]; rfl
  · show cc0_transform_4 (grid0.coords t) 1 * 128 + 1 * d.val = ((hOf t).val + 16) * 128 + d.val
    rw [idx_4, one_mul]; rfl

theorem block_5 (c : Dev nD) (t : Fin (pipe m).N) (h : Fin 8) (d : Fin 128) :
    (block m c 5 t : Vec F S8x128 .f32) (ix2 h d) = (m ((c : Thread nD τ).loc main_arg5) : Vec F S8x128 .f32) (ix2 h d) := by
  refine congrArg (m ((c : Thread nD τ).loc main_arg5)) (funext fun k => Fin.ext ?_)
  fin_cases k
  · show cc0_transform_5 (grid0.coords t) 0 * 8 + 1 * h.val = h.val
    rw [idx_5, one_mul]; exact Nat.zero_add _
  · show cc0_transform_5 (grid0.coords t) 1 * 128 + 1 * d.val = d.val
    rw [idx_5, one_mul]; exact Nat.zero_add _

/-- An element of the output's block is an element of the output's array. -/
theorem place_6 (t : Fin (pipe m).N) (r : Fin 1024) (d : Fin 128) :
    ((((pipe m).win 6).blk t).view.emb (ix2 r d) : S32768x1024.Idx)
      = ix2 ⟨((bOf t).val * 16 + (qOf t).val) * 1024 + r.val, by have := (bOf t).isLt; have := (qOf t).isLt; omega⟩
          ⟨(hOf t).val * 128 + d.val, by have := (hOf t).isLt; omega⟩ := by
  refine funext fun k => Fin.ext ?_
  fin_cases k
  · show cc0_transform_6 (grid0.coords t) 0 * 1024 + 1 * r.val = ((bOf t).val * 16 + (qOf t).val) * 1024 + r.val
    rw [idx_6, one_mul]; rfl
  · show cc0_transform_6 (grid0.coords t) 1 * 128 + 1 * d.val = (hOf t).val * 128 + d.val
    rw [idx_6, one_mul]; rfl

/-- The tables' word of a grid point. -/
theorem word_index (t : Fin grid0.N) : wordIdx (grid0.coords t) = ix1 (⟨128 * (bOf t).val + 16 * (hOf t).val + (qOf t).val, by
    have := (bOf t).isLt; have := (hOf t).isLt; have := (qOf t).isLt; omega⟩ : Fin 256) := by
  refine funext fun k => Fin.ext ?_
  obtain rfl : k = 0 := Subsingleton.elim _ _
  exact (by decide +kernel : ∀ t : Fin grid0.N, (wordIdx (grid0.coords t) 0).val = 128 * (bOf t).val + 16 * (hOf t).val + (qOf t).val) t

/-- Every block of the output is some point's. -/
def pointOf (p : Fin 32) (h : Fin 8) : Fin grid0.N := ⟨(p.val / 16 * 8 + h.val) * 16 + p.val % 16, by
  show _ < 256
  have := p.isLt
  have := h.isLt
  omega⟩
theorem onto_6 : ∀ (p : Fin 32) (h : Fin 8), cc0_transform_6 (grid0.coords (pointOf p h)) = ![p.val, h.val] := by decide +kernel

theorem nblk_0 : ((pipe m).win 6).nblk (0 : Fin 2) = 32 := by
  unfold Pipeline.Window.nblk
  show (32768 + (1024 - 1)) / 1024 = 32
  rfl
theorem nblk_1 : ((pipe m).win 6).nblk (1 : Fin 2) = 8 := by
  unfold Pipeline.Window.nblk
  show (1024 + (128 - 1)) / 128 = 8
  rfl

theorem covers_6 : ((pipe m).win 6).Covers := by
  refine ⟨fun a => ?_, fun β => ?_⟩
  · fin_cases a
    · show 0 < 1024
      decide
    · show 0 < 128
      decide
  · obtain ⟨t, ht⟩ : ∃ t : Fin grid0.N, cc0_transform_6 (grid0.coords t) = ![(β (0 : Fin 2)).val, (β (1 : Fin 2)).val] := ⟨_, onto_6 ⟨(β (0 : Fin 2)).val, lt_of_lt_of_eq (β (0 : Fin 2)).isLt (nblk_0 m)⟩ ⟨(β (1 : Fin 2)).val, lt_of_lt_of_eq (β (1 : Fin 2)).isLt (nblk_1 m)⟩⟩
    refine ⟨t, flush_out _ t, fun a => ?_⟩
    fin_cases a
    · exact ⟨congrFun ht 0, .inl rfl⟩
    · exact ⟨congrFun ht 1, .inl rfl⟩

/-- The output array is what the blocks make of it. -/
theorem output_of (hW : Words m) (c : Dev nD) (G : S32768x1024.Idx → Elt F .bf16)
    (h : ∀ (t : Fin (pipe m).N) (r : Fin 1024) (d : Fin 128), (outAt m hW c t : Vec F S1024x128 .bf16) (ix2 r d)
      = G (ix2 ⟨((bOf t).val * 16 + (qOf t).val) * 1024 + r.val, by have := (bOf t).isLt; have := (qOf t).isLt; omega⟩
          ⟨(hOf t).val * 128 + d.val, by have := (hOf t).isLt; omega⟩)) :
    (dats m hW 0 c).arrAt 6 (pipe m).N = G := by
  refine (dats m hW 0 c).arrAt_eq_of_covers 6 _ (covers_6 m) fun t hf y => ?_
  blk_simp
  rw [after_6]
  have key : ∀ y : S1024x128.Idx, (outAt m hW c t : Vec F S1024x128 .bf16) y = G ((((pipe m).win 6).blk t).view.emb y) := fun y => by
    obtain ⟨r, d, rfl⟩ : ∃ (r : Fin 1024) (d : Fin 128), y = ix2 r d := ⟨y 0, y 1, funext fun k => by fin_cases k <;> rfl⟩
    exact (h t r d).trans (congrArg G (place_6 m t r d).symm)
  exact key y

end Cert.KernelIdeal.Fox
end
end
-- ==== Proof.Value.Output.lean ====
/- The kernel's output array: every element is the attention's closed form over the arguments. -/
module

public import proofs.«01_k».proof.Proof.Value.RowsOnline
public import proofs.«01_k».proof.Proof.Value.Blocks

@[expose] public section

set_option maxRecDepth 16384

noncomputable section

namespace Cert.KernelIdeal.Fox

open Cert.KernelIdeal.Gen
open Idealize.ShloMosaic Idealize.ShloMosaic.TcCoe Idealize.ShloMosaic.Tactic
open _root_.Fox

variable (m : (ℓ : Loc nD τ sig) → Buf (Elt Ideal) ℓ) (c : Dev nD)

/-! ## The arguments as matrices -/

def argLo (w : Fin 256) : BitVec 32 := (m ((c : Thread nD τ).loc main_arg0) : IVec S256 32) (ix1 w)
def argFast (w : Fin 256) : BitVec 32 := (m ((c : Thread nD τ).loc main_arg1) : IVec S256 32) (ix1 w)
def argZ (i : Fin 32768) (j : Fin 5120) : EReal := (m ((c : Thread nD τ).loc main_arg2) : FVec Ideal S32768x5120 .bf16) (ix2 i j)
def argQx (i : Fin 32768) (j : Fin 1024) : EReal := (m ((c : Thread nD τ).loc main_arg3) : FVec Ideal S32768x1024 .bf16) (ix2 i j)
def argKx (i : Fin 32768) (j : Fin 1024) : EReal := (m ((c : Thread nD τ).loc main_arg4) : FVec Ideal S32768x1024 .bf16) (ix2 i j)
def argNw (h : Fin 8) (d : Fin 128) : EReal := (m ((c : Thread nD τ).loc main_arg5) : FVec Ideal S8x128 .f32) (ix2 h d)

/-- What the claim assumes of the arguments, besides the tables' range: finite queries, keys and extra lanes, and ones in
    the three lanes of the keys that carry the stabiliser. -/
structure Logits : Prop where
  z : ∀ (i : Fin 32768) (j : Fin 5120), j.val < 2048 → Real' (argZ m c i j)
  qx : ∀ i j, Real' (argQx m c i j)
  kx : ∀ i j, Real' (argKx m c i j)
  ones : ∀ (i : Fin 32768) (h : Fin 8) (d : Fin 128), 6 ≤ d.val → d.val < 9 → argKx m c i (xcol h d) = 1

/-- The closed form on these arguments. -/
def specAt (b : Fin 2) (h : Fin 8) (p : ℕ) (d : Fin 128) : EReal :=
  spec (argLo m c) (argFast m c) (argZ m c) (argQx m c) (argKx m c) (argNw m c) b h p d

/-! ## A grid point's words and blocks -/

theorem start_word (t : Fin grid0.N) : startWord (c := c) (grid0.coords t) (tables m 0) = argLo m c (word (bOf t) (hOf t) (qOf t).val) := by
  refine (congrFun (tables_eq m c 0) (wordIdx (grid0.coords t))).symm.trans ?_
  show (m ((c : Thread nD τ).loc main_arg0) : IVec S256 32) (wordIdx (grid0.coords t)) = _
  rw [word_index]
  refine congrArg (fun w : Fin 256 => (m ((c : Thread nD τ).loc main_arg0) : IVec S256 32) (ix1 w)) (Fin.ext ?_)
  have := (qOf t).isLt
  show _ = 128 * (bOf t).val + 16 * (hOf t).val + (qOf t).val % 16
  rw [Nat.mod_eq_of_lt this]

theorem kind_word (t : Fin grid0.N) : kindWord (c := c) (grid0.coords t) (tables m 1) = argFast m c (word (bOf t) (hOf t) (qOf t).val) := by
  refine (congrFun (tables_eq m c 1) (wordIdx (grid0.coords t))).symm.trans ?_
  show (m ((c : Thread nD τ).loc main_arg1) : IVec S256 32) (wordIdx (grid0.coords t)) = _
  rw [word_index]
  refine congrArg (fun w : Fin 256 => (m ((c : Thread nD τ).loc main_arg1) : IVec S256 32) (ix1 w)) (Fin.ext ?_)
  have := (qOf t).isLt
  show _ = 128 * (bOf t).val + 16 * (hOf t).val + (qOf t).val % 16
  rw [Nat.mod_eq_of_lt this]

variable (t : Fin (pipe m).N)

abbrev q0 : Vec Ideal S1024x128 .bf16 := block m c 0 t
abbrev q1 : Vec Ideal S1024x128 .bf16 := block m c 1 t
abbrev k2 : Vec Ideal S16384x128 .bf16 := block m c 2 t
abbrev k3 : Vec Ideal S16384x128 .bf16 := block m c 3 t
abbrev v4 : Vec Ideal S16384x128 .bf16 := block m c 4 t
abbrev w5 : Vec Ideal S8x128 .f32 := block m c 5 t

theorem q0_eq (p : ℕ) (r : Fin 1024) (hp : p = 1024 * (qOf t).val + r.val) (d : Fin 128) :
    q0 m c t (ix2 r d) = argZ m c (row (bOf t) p) (zcol 0 (hOf t) d) := by
  refine (block_0 m c t r d).trans (congrArg₂ (argZ m c) (Fin.ext ?_) (Fin.ext ?_))
  · show _ = 16384 * (bOf t).val + p % 16384
    have := (qOf t).isLt
    dsimp only
    omega
  · show (hOf t).val * 128 + d.val = 1024 * 0 + 128 * (hOf t).val + d.val
    omega

theorem q1_eq (p : ℕ) (r : Fin 1024) (hp : p = 1024 * (qOf t).val + r.val) (d : Fin 128) :
    q1 m c t (ix2 r d) = argQx m c (row (bOf t) p) (xcol (hOf t) d) := by
  refine (block_1 m c t r d).trans (congrArg₂ (argQx m c) (Fin.ext ?_) (Fin.ext ?_))
  · show _ = 16384 * (bOf t).val + p % 16384
    have := (qOf t).isLt
    dsimp only
    omega
  · show (hOf t).val * 128 + d.val = 128 * (hOf t).val + d.val
    omega

theorem k2_eq (j : ℕ) (d : Fin 128) :
    k2 m c t (ix2 ⟨j % 16384, Nat.mod_lt _ (by decide)⟩ d) = argZ m c (row (bOf t) j) (zcol 1 (hOf t) d) := by
  refine (block_2 m c t _ d).trans (congrArg₂ (argZ m c) (Fin.ext ?_) (Fin.ext ?_))
  · show (bOf t).val * 16384 + j % 16384 = 16384 * (bOf t).val + j % 16384
    omega
  · show ((hOf t).val + 8) * 128 + d.val = 1024 * 1 + 128 * (hOf t).val + d.val
    omega

theorem k3_eq (j : ℕ) (d : Fin 128) :
    k3 m c t (ix2 ⟨j % 16384, Nat.mod_lt _ (by decide)⟩ d) = argKx m c (row (bOf t) j) (xcol (hOf t) d) := by
  refine (block_3 m c t _ d).trans (congrArg₂ (argKx m c) (Fin.ext ?_) (Fin.ext ?_))
  · show (bOf t).val * 16384 + j % 16384 = 16384 * (bOf t).val + j % 16384
    omega
  · show (hOf t).val * 128 + d.val = 128 * (hOf t).val + d.val
    omega

theorem v4_eq (j : ℕ) (d : Fin 128) :
    v4 m c t (ix2 ⟨j % 16384, Nat.mod_lt _ (by decide)⟩ d) = argZ m c (row (bOf t) j) (zcol 2 (hOf t) d) := by
  refine (block_4 m c t _ d).trans (congrArg₂ (argZ m c) (Fin.ext ?_) (Fin.ext ?_))
  · show (bOf t).val * 16384 + j % 16384 = 16384 * (bOf t).val + j % 16384
    omega
  · show ((hOf t).val + 16) * 128 + d.val = 1024 * 2 + 128 * (hOf t).val + d.val
    omega

theorem logit_eq (u : Fin 2) (r : Fin 512) (j : ℕ) :
    logit (q0 m c t) (q1 m c t) (k2 m c t) (k3 m c t) u r j
      = slogit (argZ m c) (argQx m c) (argKx m c) (bOf t) (hOf t) (pos (qOf t).val u r) j := by
  have := u.isLt
  refine congrArg₂ (· + ·) (Finset.sum_congr rfl fun d _ => congrArg₂ (· * ·) ?_ ?_) (Finset.sum_congr rfl fun d _ => congrArg₂ (· * ·) ?_ ?_)
  · exact q0_eq m c t _ ⟨512 * u.val + r.val, by omega⟩ (by unfold pos; dsimp only; omega) d
  · exact k2_eq m c t j d
  · exact q1_eq m c t _ ⟨512 * u.val + r.val, by omega⟩ (by unfold pos; dsimp only; omega) d
  · exact k3_eq m c t j d

/-- A row in closed form over its blocks is the closed form over the arguments. -/
theorem row_spec (u : Fin 2) (r : Fin 512) (d : Fin 128) (a : ℕ) (ha : a = start (argLo m c) (argFast m c) (bOf t) (hOf t) (qOf t).val) :
    rowOut (q0 m c t) (q1 m c t) (k2 m c t) (k3 m c t) (v4 m c t) (w5 m c t) (qOf t).val a u (hOf t) r d
      = specAt m c (bOf t) (hOf t) (pos (qOf t).val u r) d := by
  have hu := u.isLt
  have hq := (qOf t).isLt
  have hp : pos (qOf t).val u r / 1024 = (qOf t).val := by unfold pos; omega
  unfold rowOut specAt spec
  rw [hp, ← ha, show (fun e => w5 m c t (ix2 (hOf t) e)) = argNw m c (hOf t) from funext fun e => block_5 m c t (hOf t) e]
  refine congrArg (fun o => rms o _ d) (funext fun e => ?_)
  rw [show logit (q0 m c t) (q1 m c t) (k2 m c t) (k3 m c t) u r = slogit (argZ m c) (argQx m c) (argKx m c) (bOf t) (hOf t) (pos (qOf t).val u r)
      from funext (logit_eq m c t u r),
    show val (v4 m c t) e = svalue (argZ m c) (bOf t) (hOf t) e from funext fun j => v4_eq m c t j e]
  exact att_between _ _ _ _ _ (by unfold pos; omega) (by omega)

/-! ## What every point leaves -/

theorem coords_real (h : Logits m c) : (∀ i, Real' (q0 m c t i)) ∧ (∀ i, Real' (q1 m c t i)) ∧ (∀ i, Real' (k2 m c t i)) ∧ (∀ i, Real' (k3 m c t i))
    ∧ ∀ (k : Fin 16384) (d : Fin 128), 6 ≤ d.val → d.val < 9 → k3 m c t (ix2 k d) = (1 : EReal) := by
  have hh := (hOf t).isLt
  have e1 : ∀ i : S1024x128.Idx, ∃ (r : Fin 1024) (d : Fin 128), i = ix2 r d := fun i => ⟨i 0, i 1, funext fun k => by fin_cases k <;> rfl⟩
  have e2 : ∀ i : S16384x128.Idx, ∃ (j : ℕ) (d : Fin 128), i = ix2 ⟨j % 16384, Nat.mod_lt _ (by decide)⟩ d := fun i =>
    ⟨(i 0).val, i 1, funext fun k => by
      fin_cases k
      · exact Fin.ext (Nat.mod_eq_of_lt (i 0).isLt).symm
      · rfl⟩
  refine ⟨fun i => ?_, fun i => ?_, fun i => ?_, fun i => ?_, fun k d h1 h2 => ?_⟩
  · obtain ⟨r, d, rfl⟩ := e1 i
    rw [q0_eq m c t _ r rfl]
    exact h.z _ _ (by show 1024 * 0 + 128 * (hOf t).val + d.val < 2048; omega)
  · obtain ⟨r, d, rfl⟩ := e1 i
    rw [q1_eq m c t _ r rfl]; exact h.qx _ _
  · obtain ⟨j, d, rfl⟩ := e2 i
    rw [k2_eq]
    exact h.z _ _ (by show 1024 * 1 + 128 * (hOf t).val + d.val < 2048; omega)
  · obtain ⟨j, d, rfl⟩ := e2 i
    rw [k3_eq]; exact h.kx _ _
  · rw [show (ix2 k d : S16384x128.Idx) = ix2 ⟨k.val % 16384, Nat.mod_lt _ (by decide)⟩ d from
      congrArg (fun k : Fin 16384 => (ix2 k d : S16384x128.Idx)) (Fin.ext (Nat.mod_eq_of_lt k.isLt).symm)]
    exact (k3_eq m c t _ d).trans (h.ones _ _ _ h1 h2)

/-- Row by row, the point's block. -/
theorem point_row (hW : Words m) (hP : Plan (tables m 0) (tables m 1)) (h : Logits m c) (r : Fin 512) (d : Fin 128) :
    (outAt m hW c t : Vec Ideal S1024x128 .bf16) (ix2 ⟨r.val, by omega⟩ d) = specAt m c (bOf t) (hOf t) (pos (qOf t).val 0 r) d
    ∧ (outAt m hW c t : Vec Ideal S1024x128 .bf16) (ix2 ⟨512 + r.val, by omega⟩ d) = specAt m c (bOf t) (hOf t) (pos (qOf t).val 1 r) d := by
  obtain ⟨h0, h1, h2, h3, ones⟩ := coords_real m c t h
  have hs := (hP (wordIdx (grid0.coords t))).1
  have hk := kind_word m c t
  have hl := start_word m c t
  by_cases hc : k0_cond1 (kindWord (c := c) (grid0.coords t) (tables m 1)) = 1#1
  · have hone : argFast m c (word (bOf t) (hOf t) (qOf t).val) = 1#32 := by rw [← hk]; exact (cond1_iff _).1 hc
    have ha : 1024 * min ((startWord (c := c) (grid0.coords t) (tables m 0)).toNat / 2) (qOf t).val
        = start (argLo m c) (argFast m c) (bOf t) (hOf t) (qOf t).val := by
      unfold start
      rw [if_pos hone, ← hl]
      omega
    rw [outAt_direct m hW c t hc]
    refine ⟨?_, ?_⟩
    · refine (leftDirect_low (q0 m c t) (q1 m c t) (k2 m c t) (k3 m c t) (v4 m c t) (w5 m c t) c (grid0.coords t) _ _ _ _ _ _ _ _ _ _ _ _ _ _ _ _ hc _ _ _ hs r d).trans ?_
      exact (directLow_at _ _ _ _ _ _ (qOf t).val _ (hOf t) r d).trans (row_spec m c t 0 r d _ ha)
    · refine (leftDirect_high (q0 m c t) (q1 m c t) (k2 m c t) (k3 m c t) (v4 m c t) (w5 m c t) c (grid0.coords t) _ _ _ _ _ _ _ _ _ _ _ _ _ _ _ _ hc _ _ _ hs r d).trans ?_
      exact (directHigh_at _ _ _ _ _ _ (qOf t).val _ (hOf t) r d).trans (row_spec m c t 1 r d _ ha)
  · have hone : argFast m c (word (bOf t) (hOf t) (qOf t).val) ≠ 1#32 := fun e => hc ((cond1_iff _).2 (by rw [hk]; exact e))
    have ha : 512 * min (startWord (c := c) (grid0.coords t) (tables m 0)).toNat (2 * (qOf t).val)
        = start (argLo m c) (argFast m c) (bOf t) (hOf t) (qOf t).val := by
      unfold start
      rw [if_neg hone, ← hl]
    rw [outAt_online m hW c t hc]
    refine ⟨?_, ?_⟩
    · refine (leftOnline_low (q0 m c t) (q1 m c t) (k2 m c t) (k3 m c t) (v4 m c t) (w5 m c t) c (grid0.coords t) _ _ _ _ _ _ _ _ _ _ _ _ _ _ _ _ hc _ _ _ hs r d).trans ?_
      exact (onlineLow_at _ _ _ _ _ _ h0 h1 h2 h3 ones (qOf t).val _ (hOf t) r d).trans (row_spec m c t 0 r d _ ha)
    · refine (leftOnline_high (q0 m c t) (q1 m c t) (k2 m c t) (k3 m c t) (v4 m c t) (w5 m c t) c (grid0.coords t) _ _ _ _ _ _ _ _ _ _ _ _ _ _ _ _ hc _ _ _ hs r d).trans ?_
      exact (onlineHigh_at _ _ _ _ _ _ h0 h1 h2 h3 ones (qOf t).val _ (hOf t) r d).trans (row_spec m c t 1 r d _ ha)

/-- The output array in closed form. -/
def outSpec (i : S32768x1024.Idx) : EReal :=
  specAt m c ⟨(i 0).val / 16384, by have : (i 0).val < 32768 := (i 0).isLt; omega⟩ ⟨(i 1).val / 128, by have : (i 1).val < 1024 := (i 1).isLt; omega⟩
    ((i 0).val % 16384) ⟨(i 1).val % 128, Nat.mod_lt _ (by decide)⟩

theorem output (hW : Words m) (hP : Plan (tables m 0) (tables m 1)) (h : Logits m c) :
    (dats m hW 0 c).arrAt 6 (pipe m).N = outSpec m c := by
  refine output_of m hW c (outSpec m c) fun t r d => ?_
  have hb := (bOf t).isLt
  have hh := (hOf t).isLt
  have hq := (qOf t).isLt
  have e : ∀ p : ℕ, p = 1024 * (qOf t).val + r.val → specAt m c (bOf t) (hOf t) p d
      = outSpec m c (ix2 ⟨((bOf t).val * 16 + (qOf t).val) * 1024 + r.val, by omega⟩ ⟨(hOf t).val * 128 + d.val, by omega⟩) := fun p hp => by
    unfold outSpec
    have e1 : bOf t = ⟨(((bOf t).val * 16 + (qOf t).val) * 1024 + r.val) / 16384, by omega⟩ := Fin.ext (by dsimp only; omega)
    have e2 : hOf t = ⟨((hOf t).val * 128 + d.val) / 128, by omega⟩ := Fin.ext (by dsimp only; omega)
    have e3 : p = (((bOf t).val * 16 + (qOf t).val) * 1024 + r.val) % 16384 := by omega
    have e4 : d = ⟨((hOf t).val * 128 + d.val) % 128, Nat.mod_lt _ (by decide)⟩ := Fin.ext (by dsimp only; omega)
    show specAt m c (bOf t) (hOf t) p d = specAt m c ⟨(((bOf t).val * 16 + (qOf t).val) * 1024 + r.val) / 16384, _⟩ ⟨((hOf t).val * 128 + d.val) / 128, _⟩
      ((((bOf t).val * 16 + (qOf t).val) * 1024 + r.val) % 16384) ⟨((hOf t).val * 128 + d.val) % 128, _⟩
    rw [← e1, ← e2, ← e3, ← e4]
  by_cases hr : r.val < 512
  · exact ((point_row m c t hW hP h ⟨r.val, hr⟩ d).1).trans (e _ (by unfold pos; show 1024 * (qOf t).val + 512 * 0 + r.val = _; omega))
  · have := (point_row m c t hW hP h ⟨r.val - 512, by omega⟩ d).2
    rw [show (⟨512 + (r.val - 512), by omega⟩ : Fin 1024) = r from Fin.ext (by dsimp only; omega)] at this
    exact this.trans (e _ (by unfold pos; show 1024 * (qOf t).val + 512 * 1 + (r.val - 512) = _; omega))

end Cert.KernelIdeal.Fox

end

end
-- ==== Proof.Value.Assumed.lean ====
/- The value claim's assumption, read back: the tables' range, finite queries, keys and extra lanes, and ones in three lanes. -/
module

public import proofs.«01_k».proof.Pre_logits_ok
public import proofs.«01_k».proof.Proof.Value.Output
public import Idealize.ShloMosaic.Lib.ReduceAll
public import Idealize.ShloMosaic.Lib.Pointwise
public import Idealize.ShloMosaic.Lib.WordCmp

@[expose] public section

set_option maxRecDepth 16384

noncomputable section

namespace Cert.KernelIdeal.Fox

open Idealize.ShloMosaic Idealize.ShloMosaic.TcCoe Idealize.ShloMosaic.Tactic
open _root_.Fox

instance : Subsingleton (Cert.Pre_logits_ok.S_).Idx := inferInstanceAs (Subsingleton ((a : Fin 0) → _))

/-- An extended real whose magnitude is below `⊤` is a real. -/
theorem real_of_abs (x : EReal) (h : max x (-x) < Ideal.ofBits .f32 0x7F800000#32) : Real' x := by
  have e : Ideal.ofBits .f32 0x7F800000#32 = ⊤ := by simp [Ideal.ofBits, Ideal.ieee]
  rw [e, max_lt_iff] at h
  induction x using EReal.rec with
  | bot => exact absurd h.2 (by rw [EReal.neg_bot]; exact lt_irrefl _)
  | coe r => exact ⟨r, rfl⟩
  | top => exact absurd h.1 (lt_irrefl _)

section
open Cert.Pre_logits_ok Cert.Pre_logits_ok.Facts
variable [Cert.Pre_logits_ok.Facts]
variable (a0 a1 : IVec S256 32) (a2 : FVec Ideal S32768x5120 .bf16) (a3 a4 : FVec Ideal S32768x1024 .bf16) (a5 : FVec Ideal S8x128 .f32)

def smallZ : IVec S32768x2048 1 :=
  cmpf .olt (Host.absf (extf .f32 (extractStridedSlice S32768x2048 ![0, 0] a2 slices_S32768x5120_S32768x2048_0_0) bitsLt_bf16_f32))
    (broadcastInDim S32768x2048 ![] bcast_S_S32768x2048 (constant (F := Ideal) S_ .f32 0x7F800000#32))

def smallX (x : FVec Ideal S32768x1024 .bf16) : IVec S32768x1024 1 :=
  cmpf .olt (Host.absf (extf .f32 x bitsLt_bf16_f32)) (broadcastInDim S32768x1024 ![] bcast_S_S32768x1024 (constant (F := Ideal) S_ .f32 0x7F800000#32))

def onesX (x : FVec Ideal S32768x1024 .bf16) : IVec S32768x8x3 1 :=
  cmpf .oeq (extractStridedSlice S32768x8x3 ![0, 0, 6] (shapeCast S32768x8x128 (extf .f32 x bitsLt_bf16_f32) shapeCasts_S32768x1024_S32768x8x128) slices_S32768x8x128_S32768x8x3_0_0_6)
    (broadcastInDim S32768x8x3 ![] bcast_S_S32768x8x3 (constant (F := Ideal) S_ .f32 0x3F800000#32))

def planBits : IVec S256 1 :=
  andi (cmpi .sge a0 (broadcastInDim S256 ![] bcast_S_S256 (constantI S_ 32 0#32)))
    (ori (cmpi .eq a1 (broadcastInDim S256 ![] bcast_S_S256 (constantI S_ 32 0#32))) (cmpi .eq a1 (broadcastInDim S256 ![] bcast_S_S256 (constantI S_ 32 1#32))))

/-- The assumption is five tests over whole arrays. -/
theorem fn_eq : Cert.Pre_logits_ok.fn (F := Ideal) a0 a1 a2 a3 a4 a5
    = andi (andi (andi (andi (Host.reduce IntOp.andi (planBits a0 a1) (constantI S_ 1 1#1) reducesTo_S256_S_d0 h_S_)
      (Host.reduce IntOp.andi (smallZ a2) (constantI S_ 1 1#1) reducesTo_S32768x2048_S_d0_1 h_S_))
      (Host.reduce IntOp.andi (smallX a3) (constantI S_ 1 1#1) reducesTo_S32768x1024_S_d0_1 h_S_))
      (Host.reduce IntOp.andi (smallX a4) (constantI S_ 1 1#1) reducesTo_S32768x1024_S_d0_1 h_S_))
      (Host.reduce IntOp.andi (onesX a4) (constantI S_ 1 1#1) reducesTo_S32768x8x3_S_d0_1_2 h_S_) := rfl

theorem smallZ_at (i : Fin 32768) (j : Fin 2048) (h : smallZ a2 (ix2 i j) = 1#1) : Real' (a2 (ix2 i ⟨j.val, by omega⟩)) := by
  have e : smallZ a2 (ix2 i j) = BitVec.ofBool (decide ((FloatOps.absf (a2 (ix2 i ⟨j.val, by omega⟩)) : EReal) < Ideal.ofBits .f32 0x7F800000#32)) := by
    pointwise [smallZ]
    rfl
  rw [e, WordCmp.ofBool_decide_eq_one_iff] at h
  exact real_of_abs _ h

theorem smallX_at (x : FVec Ideal S32768x1024 .bf16) (i : Fin 32768) (j : Fin 1024) (h : smallX x (ix2 i j) = 1#1) : Real' (x (ix2 i j)) := by
  have e : smallX x (ix2 i j) = BitVec.ofBool (decide ((FloatOps.absf (x (ix2 i j)) : EReal) < Ideal.ofBits .f32 0x7F800000#32)) := by
    pointwise [smallX]
    rfl
  rw [e, WordCmp.ofBool_decide_eq_one_iff] at h
  exact real_of_abs _ h

theorem onesX_at (x : FVec Ideal S32768x1024 .bf16) (i : Fin 32768) (h : Fin 8) (d : Fin 3) (hd : onesX x (ix3 i h d) = 1#1) :
    (x (ix2 i ⟨h.val * 128 + (6 + d.val), by omega⟩) : EReal) = 1 := by
  have e : onesX x (ix3 i h d) = BitVec.ofBool (decide ((x (ix2 i ⟨h.val * 128 + (6 + d.val), by omega⟩) : EReal) = 1)) := by
    pointwise [onesX]
  rw [e, WordCmp.ofBool_decide_eq_one_iff] at hd
  exact hd

/-- The assumption read back. -/
theorem assumed (h : Cert.Pre_logits_ok.fn (F := Ideal) a0 a1 a2 a3 a4 a5 = fun _ => 1#1) :
    Plan a0 a1 ∧ (∀ (i : Fin 32768) (j : Fin 2048), Real' (a2 (ix2 i ⟨j.val, by omega⟩))) ∧ (∀ (i : Fin 32768) (j : Fin 1024), Real' (a3 (ix2 i j)))
      ∧ (∀ (i : Fin 32768) (j : Fin 1024), Real' (a4 (ix2 i j)))
      ∧ ∀ (i : Fin 32768) (h : Fin 8) (d : Fin 3), (a4 (ix2 i ⟨h.val * 128 + (6 + d.val), by omega⟩) : EReal) = 1 := by
  have e := congrFun h (Shape.Idx.first h_S_)
  rw [fn_eq] at e
  obtain ⟨e, e5⟩ := (and_one _ _).1 e
  obtain ⟨e, e4⟩ := (and_one _ _).1 e
  obtain ⟨e, e3⟩ := (and_one _ _).1 e
  obtain ⟨e1, e2⟩ := (and_one _ _).1 e
  exact ⟨plan_of_elem a0 a1 fun j => Host.reduce_andi_all _ _ reducesTo_S256_S_d0 h_S_ _ e1 j,
    fun i j => smallZ_at a2 i j (Host.reduce_andi_all _ _ reducesTo_S32768x2048_S_d0_1 h_S_ _ e2 _),
    fun i j => smallX_at a3 i j (Host.reduce_andi_all _ _ reducesTo_S32768x1024_S_d0_1 h_S_ _ e3 _),
    fun i j => smallX_at a4 i j (Host.reduce_andi_all _ _ reducesTo_S32768x1024_S_d0_1 h_S_ _ e4 _),
    fun i h d => onesX_at a4 i h d (Host.reduce_andi_all _ _ reducesTo_S32768x8x3_S_d0_1_2 h_S_ _ e5 _)⟩

end

/-- … of a memory's arguments. -/
theorem assumed_args (m : (ℓ : Loc nD τ sig) → Buf (Elt Ideal) ℓ) (c : Dev nD) [Cert.Pre_logits_ok.Facts]
    (h : Cert.Pre_logits_ok.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = fun _ => 1#1) :
    Logits m c := by
  obtain ⟨-, h2, h3, h4, h5⟩ := assumed _ _ _ _ _ _ h
  refine ⟨fun i j hj => h2 i ⟨j.val, hj⟩, h3, h4, fun i h d h6 h9 => ?_⟩
  have e := h5 i h ⟨d.val - 6, by omega⟩
  refine Eq.trans (congrArg (argKx m c i) (Fin.ext ?_)) e
  show 128 * h.val + d.val = h.val * 128 + (6 + (d.val - 6))
  omega

end Cert.KernelIdeal.Fox

end

end
-- ==== Proof.Value.Ref.lean ====
/- The reference, stage by stage, at one element. -/
module

public import proofs.«01_k».proof.Proof.Gen.ReferenceIdeal.Run
public import proofs.«01_k».proof.Proof.Value.Online
public import proofs.«01_k».proof.Proof.Value.Payloads
public import proofs.«01_k».proof.Proof.Value.Spec
public import Idealize.ShloMosaic.Lib.StableHlo.Predicate
public import Idealize.ShloMosaic.Lib.Pointwise
public import Idealize.ShloMosaic.Lib.WordCmp

@[expose] public section

set_option maxRecDepth 16384

noncomputable section

namespace Cert.ReferenceIdeal.Fox

open Cert.ReferenceIdeal.Gen
open Idealize.ShloMosaic Idealize.ShloMosaic.TcCoe Idealize.ShloMosaic.Tactic
open _root_.Fox

abbrev Heads := FVec Ideal S2x8x16384x128 .f32
abbrev Pairs := FVec Ideal S2x8x16384x16384 .f32

/-! ## The stages -/

def zHeads (off : Fin 2 → ℕ) (h : S32768x5120.Slices off S32768x1024) (z : FVec Ideal S32768x5120 .bf16) : Heads :=
  transpose S2x8x16384x128 [0, 2, 1, 3] (shapeCast S2x16384x8x128 (extf .f32 (extractStridedSlice S32768x1024 off z h) bitsLt_bf16_f32)
    shapeCasts_S32768x1024_S2x16384x8x128) transposes_S2x16384x8x128_S2x8x16384x128_0_2_1_3

def xHeads (x : FVec Ideal S32768x1024 .bf16) : Heads :=
  transpose S2x8x16384x128 [0, 2, 1, 3] (shapeCast S2x16384x8x128 (extf .f32 x bitsLt_bf16_f32)
    shapeCasts_S32768x1024_S2x16384x8x128) transposes_S2x16384x8x128_S2x8x16384x128_0_2_1_3

def logits (q k qx kx : Heads) : Pairs :=
  addf (Host.dotGeneral dot_S2x8x16384x128_S2x8x16384x128_S2x8x16384x16384_3_3_2_2_01_01 none q k)
    (Host.dotGeneral dot_S2x8x16384x128_S2x8x16384x128_S2x8x16384x16384_3_3_2_2_01_01 none qx kx)

def firstKey (lo fast : IVec S256 32) : IVec S2x8x16384 32 :=
  shapeCast S2x8x16384 (broadcastInDim S2x8x16x1024 ![0, 1, 2, 3] bcast_S2x8x16x1_S2x8x16x1024_0_1_2_3 (broadcastInDim S2x8x16x1 ![0, 1, 2] bcast_S2x8x16_S2x8x16x1_0_1_2
    (muli (minsi (select (cmpi .eq (shapeCast S2x8x16 fast shapeCasts_S256_S2x8x16) (broadcastInDim S2x8x16 ![] bcast_S_S2x8x16 (constantI S_ 32 1#32)))
        (muli (Host.divsi (shapeCast S2x8x16 lo shapeCasts_S256_S2x8x16) (broadcastInDim S2x8x16 ![] bcast_S_S2x8x16 (constantI S_ 32 2#32)))
          (broadcastInDim S2x8x16 ![] bcast_S_S2x8x16 (constantI S_ 32 2#32)))
        (shapeCast S2x8x16 lo shapeCasts_S256_S2x8x16))
      (broadcastInDim S2x8x16 ![0, 1, 2] bcast_S1x1x16_S2x8x16_0_1_2 (broadcastInDim S1x1x16 ![2] bcast_S16_S1x1x16_2
        (muli (broadcastInDim S16 ![] bcast_S_S16 (constantI S_ 32 2#32)) (iotaInDim S16 32 0)))))
      (broadcastInDim S2x8x16 ![] bcast_S_S2x8x16 (constantI S_ 32 512#32))))) shapeCasts_S2x8x16x1024_S2x8x16384

def isSeen (f : IVec S2x8x16384 32) : IVec S2x8x16384x16384 1 :=
  andi (broadcastInDim S2x8x16384x16384 ![0, 1, 2, 3] bcast_S1x1x16384x16384_S2x8x16384x16384_0_1_2_3 (broadcastInDim S1x1x16384x16384 ![2, 3] bcast_S16384x16384_S1x1x16384x16384_2_3
      (cmpi .sge (broadcastInDim S16384x16384 ![0, 1] bcast_S16384x1_S16384x16384_0_1 (broadcastInDim S16384x1 ![0] bcast_S16384_S16384x1_0 (iotaInDim S16384 32 0)))
        (broadcastInDim S16384x16384 ![0, 1] bcast_S1x16384_S16384x16384_0_1 (broadcastInDim S1x16384 ![1] bcast_S16384_S1x16384_1 (iotaInDim S16384 32 0))))))
    (cmpi .sge (broadcastInDim S2x8x16384x16384 ![0, 1, 2, 3] bcast_S1x1x1x16384_S2x8x16384x16384_0_1_2_3 (broadcastInDim S1x1x1x16384 ![2, 3] bcast_S1x16384_S1x1x1x16384_2_3
        (broadcastInDim S1x16384 ![1] bcast_S16384_S1x16384_1 (iotaInDim S16384 32 0))))
      (broadcastInDim S2x8x16384x16384 ![0, 1, 2, 3] bcast_S2x8x16384x1_S2x8x16384x16384_0_1_2_3 (broadcastInDim S2x8x16384x1 ![0, 1, 2] bcast_S2x8x16384_S2x8x16384x1_0_1_2 f)))

def masked (b : IVec S2x8x16384x16384 1) (s : Pairs) : Pairs :=
  select b s (broadcastInDim S2x8x16384x16384 ![] bcast_S_S2x8x16384x16384 (id (constant (F := Ideal) S_ .f32 0xFF800000#32)))

def weights (s : Pairs) : Pairs :=
  Host.powf (broadcastInDim S2x8x16384x16384 ![] bcast_S_S2x8x16384x16384 (constant (F := Ideal) S_ .f32 0x40000000#32))
    (subf s (broadcastInDim S2x8x16384x16384 ![0, 1, 2, 3] bcast_S2x8x16384x1_S2x8x16384x16384_0_1_2_3 (broadcastInDim S2x8x16384x1 ![0, 1, 2] bcast_S2x8x16384_S2x8x16384x1_0_1_2
      (Host.reduce FloatOps.maximumf s (constant (F := Ideal) S_ .f32 0xFF800000#32) reducesTo_S2x8x16384x16384_S2x8x16384_d3 h_S_))))

def normalised (p : Pairs) : Pairs :=
  Host.divf p (broadcastInDim S2x8x16384x16384 ![0, 1, 2, 3] bcast_S2x8x16384x1_S2x8x16384x16384_0_1_2_3 (broadcastInDim S2x8x16384x1 ![0, 1, 2] bcast_S2x8x16384_S2x8x16384x1_0_1_2
    (Host.reduceAdd p (constant (F := Ideal) S_ .f32 0x00000000#32) reducesTo_S2x8x16384x16384_S2x8x16384_d3 h_S_)))

def averaged (p : Pairs) (v : Heads) : FVec Ideal S2x16384x8x128 .f32 :=
  transpose S2x16384x8x128 [0, 2, 1, 3] (Host.dotGeneral dot_S2x8x16384x16384_S2x8x16384x128_S2x8x16384x128_3_2_2_3_01_01 none p v) transposes_S2x8x16384x128_S2x16384x8x128_0_2_1_3

def normed (o : FVec Ideal S2x16384x8x128 .f32) (w : FVec Ideal S8x128 .f32) : FVec Ideal S32768x1024 .bf16 :=
  truncf .bf16 (shapeCast S32768x1024 (mulf (mulf o (broadcastInDim S2x16384x8x128 ![0, 1, 2, 3] bcast_S2x16384x8x1_S2x16384x8x128_0_1_2_3
      (Host.rsqrt (addf (Host.divf (broadcastInDim S2x16384x8x1 ![0, 1, 2] bcast_S2x16384x8_S2x16384x8x1_0_1_2
          (Host.reduceAdd (mulf o o) (constant (F := Ideal) S_ .f32 0x00000000#32) reducesTo_S2x16384x8x128_S2x16384x8_d3 h_S_))
          (broadcastInDim S2x16384x8x1 ![] bcast_S_S2x16384x8x1 (constant (F := Ideal) S_ .f32 0x43000000#32)))
        (broadcastInDim S2x16384x8x1 ![] bcast_S_S2x16384x8x1 (constant (F := Ideal) S_ .f32 0x358637BD#32))))))
    (broadcastInDim S2x16384x8x128 ![0, 1, 2, 3] bcast_S1x1x8x128_S2x16384x8x128_0_1_2_3 (broadcastInDim S1x1x8x128 ![2, 3] bcast_S8x128_S1x1x8x128_2_3 w)))
    shapeCasts_S2x16384x8x128_S32768x1024) bitsLt_bf16_f32

/-- The reference is these stages. -/
theorem stages (m : (ℓ : Loc nD τ sig) → Buf (Elt Ideal) ℓ) (c : Dev nD) :
    Cert.ReferenceIdeal.Value.res_main_v83 m c
      = normed (averaged (normalised (weights (masked (isSeen (firstKey (m ((c.tc : Thread nD τ).loc main_arg0)) (m ((c.tc : Thread nD τ).loc main_arg1))))
          (logits (zHeads ![0, 0] slices_S32768x5120_S32768x1024_0_0 (m ((c.tc : Thread nD τ).loc main_arg2)))
            (zHeads ![0, 1024] slices_S32768x5120_S32768x1024_0_1024 (m ((c.tc : Thread nD τ).loc main_arg2)))
            (xHeads (m ((c.tc : Thread nD τ).loc main_arg3))) (xHeads (m ((c.tc : Thread nD τ).loc main_arg4)))))))
          (zHeads ![0, 2048] slices_S32768x5120_S32768x1024_0_2048 (m ((c.tc : Thread nD τ).loc main_arg2)))) (m ((c.tc : Thread nD τ).loc main_arg5)) := by
  unfold Cert.ReferenceIdeal.Value.res_main_v83
  rfl

/-! ## At one element -/

theorem xHeads_at (x : FVec Ideal S32768x1024 .bf16) (b : Fin 2) (h : Fin 8) (p : Fin 16384) (d : Fin 128) :
    xHeads x (ix4 b h p d) = x (ix2 ⟨b.val * 16384 + p.val, by omega⟩ ⟨h.val * 128 + d.val, by omega⟩) := by
  pointwise [xHeads]

theorem zHeads0_at (z : FVec Ideal S32768x5120 .bf16) (b : Fin 2) (h : Fin 8) (p : Fin 16384) (d : Fin 128) :
    zHeads ![0, 0] slices_S32768x5120_S32768x1024_0_0 z (ix4 b h p d)
      = z (ix2 ⟨b.val * 16384 + p.val, by omega⟩ ⟨h.val * 128 + d.val, by omega⟩) := by
  pointwise [zHeads]

theorem zHeads1_at (z : FVec Ideal S32768x5120 .bf16) (b : Fin 2) (h : Fin 8) (p : Fin 16384) (d : Fin 128) :
    zHeads ![0, 1024] slices_S32768x5120_S32768x1024_0_1024 z (ix4 b h p d)
      = z (ix2 ⟨b.val * 16384 + p.val, by omega⟩ ⟨1024 + (h.val * 128 + d.val), by omega⟩) := by
  pointwise [zHeads]

theorem zHeads2_at (z : FVec Ideal S32768x5120 .bf16) (b : Fin 2) (h : Fin 8) (p : Fin 16384) (d : Fin 128) :
    zHeads ![0, 2048] slices_S32768x5120_S32768x1024_0_2048 z (ix4 b h p d)
      = z (ix2 ⟨b.val * 16384 + p.val, by omega⟩ ⟨2048 + (h.val * 128 + d.val), by omega⟩) := by
  pointwise [zHeads]

theorem logits_at (q k qx kx : Heads) (b : Fin 2) (h : Fin 8) (p j : Fin 16384) :
    logits q k qx kx (ix4 b h p j) = (∑ d : Fin 128, q (ix4 b h p d) * k (ix4 b h j d) : EReal) + ∑ d : Fin 128, qx (ix4 b h p d) * kx (ix4 b h j d) := by
  pointwise [logits]

/-- The first key of a query in words. -/
def firstWord (l f : BitVec 32) (qi : ℕ) : BitVec 32 :=
  IntOp.muli (IntOp.minsi (Scalar.select (IntOp.cmpi CmpIPredicate.eq f 1#32) (IntOp.muli (IntOp.divsi ArithUnit.host l 2#32) 2#32) l)
    (IntOp.muli (2#32) (BitVec.ofNat 32 qi))) 512#32

theorem firstKey_at (lo fast : IVec S256 32) (b : Fin 2) (h : Fin 8) (p : Fin 16384) :
    firstKey lo fast (ix3 b h p) = firstWord (lo (ix1 ⟨b.val * 128 + h.val * 16 + p.val / 1024, by omega⟩))
      (fast (ix1 ⟨b.val * 128 + h.val * 16 + p.val / 1024, by omega⟩)) (p.val / 1024) := by
  pointwise [firstKey]
  rfl

theorem isSeen_at (f : IVec S2x8x16384 32) (b : Fin 2) (h : Fin 8) (p j : Fin 16384) :
    isSeen f (ix4 b h p j) = IntOp.andi (IntOp.cmpi CmpIPredicate.sge (BitVec.ofNat 32 p.val) (BitVec.ofNat 32 j.val))
      (IntOp.cmpi CmpIPredicate.sge (BitVec.ofNat 32 j.val) (f (ix3 b h p))) := by
  pointwise [isSeen]

theorem masked_at (f : IVec S2x8x16384x16384 1) (s : Pairs) (b : Fin 2) (h : Fin 8) (p j : Fin 16384) :
    masked f s (ix4 b h p j) = (Scalar.select (f (ix4 b h p j)) (s (ix4 b h p j)) (Ideal.ofBits .f32 0xFF800000#32) : EReal) := by
  pointwise [masked]
  rfl

/-- The greatest of a row. -/
def top (s : Pairs) (b : Fin 2) (h : Fin 8) (p : Fin 16384) : EReal :=
  Finset.fold max (Ideal.ofBits .f32 0xFF800000#32) (fun j : Fin 16384 => s (ix4 b h p j)) Finset.univ

theorem weights_at (s : Pairs) (b : Fin 2) (h : Fin 8) (p j : Fin 16384) :
    weights s (ix4 b h p j) = Ideal.pow (Ideal.ofBits .f32 0x40000000#32) ((s (ix4 b h p j) : EReal) - top s b h p) := by
  pointwise [weights]
  rfl

theorem normalised_at (s : Pairs) (b : Fin 2) (h : Fin 8) (p j : Fin 16384) :
    normalised s (ix4 b h p j) = Ideal.div (s (ix4 b h p j)) (∑ x : Fin 16384, (s (ix4 b h p x) : EReal)) := by
  pointwise [normalised]

theorem averaged_at (s : Pairs) (v : Heads) (b : Fin 2) (h : Fin 8) (p : Fin 16384) (d : Fin 128) :
    averaged s v (ix4 b p h d) = (∑ x : Fin 16384, s (ix4 b h p x) * v (ix4 b h x d) : EReal) := by
  pointwise [averaged]

theorem normed_at (o : FVec Ideal S2x16384x8x128 .f32) (w : FVec Ideal S8x128 .f32) (i : Fin 32768) (j : Fin 1024) :
    normed o w (ix2 i j) = rms (fun e => o (ix4 ⟨i.val / 16384, by omega⟩ ⟨i.val % 16384, by omega⟩ ⟨j.val / 128, by omega⟩ e))
      (fun e => w (ix2 ⟨j.val / 128, by omega⟩ e)) ⟨j.val % 128, by omega⟩ := by
  pointwise [normed]
  rfl

/-! ## The first key in numbers -/

theorem firstWord_eq (l f : BitVec 32) (hl : l.toNat < 2 ^ 31) (qi : ℕ) (hq : qi < 16) :
    firstWord l f qi = BitVec.ofNat 32 (512 * min (if f = 1#32 then 2 * (l.toNat / 2) else l.toNat) (2 * qi)) := by
  have hsel : Scalar.select (IntOp.cmpi CmpIPredicate.eq f 1#32) (IntOp.muli (IntOp.divsi ArithUnit.host l 2#32) 2#32) l
      = BitVec.ofNat 32 (if f = 1#32 then 2 * (l.toNat / 2) else l.toNat) := by
    rw [WordCmp.cmpi_eq_eq, WordCmp.select_ofBool]
    by_cases hf : f = 1#32
    · rw [if_pos hf, decide_eq_true hf, if_pos rfl]
      apply BitVec.eq_of_toNat_eq
      show (IntOp.divsi ArithUnit.host l 2#32 * 2#32).toNat = _
      rw [BitVec.toNat_mul, StableHlo.Predicate.divsi_two .host l hl, BitVec.toNat_ofNat, BitVec.toNat_ofNat]
      omega
    · rw [if_neg hf, decide_eq_false hf, if_neg (by decide)]
      apply BitVec.eq_of_toNat_eq
      rw [BitVec.toNat_ofNat]
      omega
  have hb : (if f = 1#32 then 2 * (l.toNat / 2) else l.toNat) < 2 ^ 31 := by split <;> omega
  unfold firstWord
  rw [hsel]
  generalize (if f = 1#32 then 2 * (l.toNat / 2) else l.toNat) = a at hb ⊢
  rw [show (2#32 : BitVec 32) = BitVec.ofNat 32 2 from rfl, WordCmp.muli_ofNat]
  have hmin : IntOp.minsi (BitVec.ofNat 32 a) (BitVec.ofNat 32 (2 * qi)) = BitVec.ofNat 32 (min a (2 * qi)) := by
    unfold IntOp.minsi
    have e : (BitVec.ofNat 32 a).slt (BitVec.ofNat 32 (2 * qi)) = true ↔ a < 2 * qi :=
      (StableHlo.Predicate.ofBool_eq_one_iff _).symm.trans (StableHlo.Predicate.slt_ofNat_iff a (2 * qi) hb (by omega))
    by_cases h : a < 2 * qi
    · rw [if_pos (e.2 h), Nat.min_eq_left h.le]
    · rw [if_neg fun k => h (e.1 k), Nat.min_eq_right (by omega)]
  rw [hmin, show (512#32 : BitVec 32) = BitVec.ofNat 32 512 from rfl, WordCmp.muli_ofNat, Nat.mul_comm]

/-! ## A softmax taken with division before the sum -/

theorem pow_two (x : EReal) : Ideal.pow (Ideal.ofBits .f32 0x40000000#32) x = Ideal.exp2 x := by
  have e : Ideal.ofBits .f32 0x40000000#32 = ((2 : ℝ) : EReal) := by
    simp [Ideal.ofBits, Ideal.ieee, -EReal.coe_mul]; norm_num
  rw [e]
  induction x using EReal.rec with
  | bot => show (if (2 : ℝ) < 0 then (⊥ : EReal) else if (1 : ℝ) < 2 then 0 else if (2 : ℝ) = 1 then 1 else ⊤) = 0
           rw [if_neg (by norm_num), if_pos (by norm_num)]
  | coe r => rfl
  | top => show (if (2 : ℝ) < 0 then (⊥ : EReal) else if (1 : ℝ) < 2 then ⊤ else if (2 : ℝ) = 1 then 1 else 0) = ⊤
           rw [if_neg (by norm_num), if_pos (by norm_num)]

/-- Weights divided by their sum before the values are added up give the same average. -/
theorem average_eq (L V : ℕ → EReal) (N : ℕ) (M : EReal) (hM : M = Finset.fold max ⊥ (fun j : Fin N => L j.val) Finset.univ)
    (hL : ∀ j, L j ≠ ⊤) (hs : ∃ j ∈ Finset.range N, L j ≠ ⊥) :
    (∑ x : Fin N, Ideal.div (Ideal.exp2 (L x.val - M)) (∑ y : Fin N, Ideal.exp2 (L y.val - M)) * V x.val) = att L V (Finset.range N) := by
  obtain ⟨μ, hμ⟩ : ∃ μ : ℝ, M = μ := by
    rcases real_or_bot (x := M) (by rw [hM]; exact fold_max_ne_top _ _ fun i _ => hL _) with h | h
    · obtain ⟨j, hj, hb⟩ := hs
      have := le_fold_max Finset.univ (fun j : Fin N => L j.val) ⟨j, Finset.mem_range.1 hj⟩ (Finset.mem_univ _)
      rw [← hM, h] at this
      exact absurd (le_bot_iff.1 this) hb
    · exact h
  rw [hμ]
  obtain ⟨d, hd, e⟩ := wone_real L (Finset.range N) (fun j _ => hL j) hs μ
  have hsum : (∑ y : Fin N, Ideal.exp2 (L y.val - (μ : EReal))) = (d : EReal) := by
    rw [← e, wone, wsum, Finset.sum_range]
    exact Finset.sum_congr rfl fun j _ => (mul_one _).symm
  have hdiv : ∀ x : EReal, Ideal.div x (d : EReal) = ((d⁻¹ : ℝ) : EReal) * x := fun x => by
    unfold Ideal.div
    rw [if_neg (by exact_mod_cast hd.ne'), EReal.coe_inv, mul_comm]
  rw [hsum, ← att_of L V _ (fun j _ => hL j) hs μ, e, hdiv, wsum, mul_sum_of_nonneg _ (inv_nonneg.2 hd.le), Finset.sum_range]
  exact Finset.sum_congr rfl fun j _ => by rw [hdiv, mul_assoc]

/-! ## A row of the reference -/

section
variable (lo fast : IVec S256 32) (z : FVec Ideal S32768x5120 .bf16) (qx kx : FVec Ideal S32768x1024 .bf16) (w : FVec Ideal S8x128 .f32)

def refLogits : Pairs :=
  masked (isSeen (firstKey lo fast)) (logits (zHeads ![0, 0] slices_S32768x5120_S32768x1024_0_0 z)
    (zHeads ![0, 1024] slices_S32768x5120_S32768x1024_0_1024 z) (xHeads qx) (xHeads kx))

abbrev mLo : Fin 256 → BitVec 32 := fun i => lo (ix1 i)
abbrev mZ : Fin 32768 → Fin 5120 → EReal := fun i j => z (ix2 i j)
abbrev mX : Fin 32768 → Fin 1024 → EReal := fun i j => qx (ix2 i j)
abbrev mW : Fin 8 → Fin 128 → EReal := fun i j => w (ix2 i j)

/-- The masked logits of a row are the closed form's. -/
theorem refLogits_at (hlo : ∀ i, (lo i).toNat < 2 ^ 31) (b : Fin 2) (h : Fin 8) (p j : Fin 16384) :
    refLogits lo fast z qx kx (ix4 b h p j)
      = between (start (mLo lo) (mLo fast) b h (p.val / 1024)) p.val (slogit (mZ z) (mX qx) (mX kx) b h p.val) j.val := by
  have hp := p.isLt
  have hj := j.isLt
  have hb := b.isLt
  have hh := h.isLt
  have ew : (⟨b.val * 128 + h.val * 16 + p.val / 1024, by omega⟩ : Fin 256) = word b h (p.val / 1024) :=
    Fin.ext (by show _ = 128 * b.val + 16 * h.val + p.val / 1024 % 16; dsimp only; omega)
  have er : ∀ j : Fin 16384, (⟨b.val * 16384 + j.val, by have := j.isLt; omega⟩ : Fin 32768) = row b j.val := fun j =>
    Fin.ext (by have := j.isLt; show _ = 16384 * b.val + j.val % 16384; dsimp only; omega)
  have hs : (logits (zHeads ![0, 0] slices_S32768x5120_S32768x1024_0_0 z) (zHeads ![0, 1024] slices_S32768x5120_S32768x1024_0_1024 z)
      (xHeads qx) (xHeads kx) (ix4 b h p j) : EReal) = slogit (mZ z) (mX qx) (mX kx) b h p.val j.val := by
    refine (logits_at _ _ _ _ b h p j).trans ?_
    unfold slogit
    refine congrArg₂ (· + ·) (Finset.sum_congr rfl fun d _ => congrArg₂ (· * ·) ?_ ?_) (Finset.sum_congr rfl fun d _ => congrArg₂ (· * ·) ?_ ?_)
    · rw [zHeads0_at]
      exact congrArg₂ (mZ z) (er p) (Fin.ext (by show _ = 1024 * 0 + 128 * h.val + d.val; dsimp only; omega))
    · rw [zHeads1_at]
      exact congrArg₂ (mZ z) (er j) (Fin.ext (by show _ = 1024 * 1 + 128 * h.val + d.val; dsimp only; omega))
    · rw [xHeads_at]
      exact congrArg₂ (mX qx) (er p) (Fin.ext (by show _ = 128 * h.val + d.val; dsimp only; omega))
    · rw [xHeads_at]
      exact congrArg₂ (mX kx) (er j) (Fin.ext (by show _ = 128 * h.val + d.val; dsimp only; omega))
  have hf : firstKey lo fast (ix3 b h p) = BitVec.ofNat 32 (start (mLo lo) (mLo fast) b h (p.val / 1024)) := by
    rw [firstKey_at, ew]
    exact firstWord_eq _ _ (hlo _) _ (by omega)
  have hst : start (mLo lo) (mLo fast) b h (p.val / 1024) ≤ 512 * (2 * (p.val / 1024)) := by
    unfold start
    exact Nat.mul_le_mul_left _ (Nat.min_le_right _ _)
  unfold refLogits
  refine (masked_at _ _ b h p j).trans ?_
  rw [hs, isSeen_at, hf, Cert.KernelIdeal.Fox.neg_inf, WordCmp.cmpi_sge_ofNat (by omega) (by omega), WordCmp.cmpi_sge_ofNat (by omega) (by omega),
    WordCmp.andi_ofBool, WordCmp.select_ofBool]
  unfold between
  refine if_congr ?_ rfl rfl
  rw [Bool.and_eq_true, decide_eq_true_eq, decide_eq_true_eq]
  exact And.comm

/-- An element of the reference's result. -/
theorem ref_at (hlo : ∀ i, (lo i).toNat < 2 ^ 31) (hL : ∀ b h p j, ∃ r : ℝ, slogit (mZ z) (mX qx) (mX kx) b h p j = r)
    (i : Fin 32768) (j : Fin 1024) :
    normed (averaged (normalised (weights (refLogits lo fast z qx kx))) (zHeads ![0, 2048] slices_S32768x5120_S32768x1024_0_2048 z)) w (ix2 i j)
      = spec (mLo lo) (mLo fast) (mZ z) (mX qx) (mX kx) (mW w) ⟨i.val / 16384, by omega⟩ ⟨j.val / 128, by omega⟩ (i.val % 16384) ⟨j.val % 128, by omega⟩ := by
  refine (normed_at _ _ i j).trans ?_
  unfold spec
  generalize hb : (⟨i.val / 16384, by omega⟩ : Fin 2) = b
  generalize hh : (⟨j.val / 128, by omega⟩ : Fin 8) = h
  generalize hp : (⟨i.val % 16384, by omega⟩ : Fin 16384) = p
  have hp' : i.val % 16384 = p.val := congrArg Fin.val hp
  rw [hp']
  have hpl := p.isLt
  have hhl := h.isLt
  have hbl := b.isLt
  refine congrArg (fun o => rms o _ _) (funext fun e => ?_)
  refine (averaged_at _ _ b h p e).trans ?_
  set L := between (start (mLo lo) (mLo fast) b h (p.val / 1024)) p.val (slogit (mZ z) (mX qx) (mX kx) b h p.val) with hLdef
  have hrow : ∀ x : Fin 16384, (refLogits lo fast z qx kx (ix4 b h p x) : EReal) = L x.val := fun x => refLogits_at lo fast z qx kx hlo b h p x
  have hM : top (refLogits lo fast z qx kx) b h p = Finset.fold max ⊥ (fun j : Fin 16384 => L j.val) Finset.univ := by
    unfold top
    rw [Cert.KernelIdeal.Fox.neg_inf]
    exact congrArg (fun f : Fin 16384 → EReal => Finset.fold max ⊥ f Finset.univ) (funext hrow)
  have hw : ∀ x : Fin 16384, (weights (refLogits lo fast z qx kx) (ix4 b h p x) : EReal) = Ideal.exp2 (L x.val - top (refLogits lo fast z qx kx) b h p) := fun x =>
    (weights_at _ b h p x).trans ((pow_two _).trans (congrArg (fun y => Ideal.exp2 (y - _)) (hrow x)))
  have hv : ∀ x : Fin 16384, (zHeads ![0, 2048] slices_S32768x5120_S32768x1024_0_2048 z (ix4 b h x e) : EReal) = svalue (mZ z) b h e x.val := fun x => by
    have := x.isLt
    refine (zHeads2_at z b h x e).trans (congrArg₂ (mZ z) (Fin.ext ?_) (Fin.ext ?_))
    · show _ = 16384 * b.val + x.val % 16384
      dsimp only; omega
    · show _ = 1024 * 2 + 128 * h.val + e.val
      dsimp only; omega
  refine Eq.trans (Finset.sum_congr rfl fun x _ => congrArg₂ (· * ·) ((normalised_at _ b h p x).trans
    (congrArg₂ Ideal.div (hw x) (Finset.sum_congr rfl fun y _ => hw y))) (hv x)) ?_
  refine average_eq L _ 16384 _ hM (fun j => ?_) ⟨p.val, Finset.mem_range.2 p.isLt, ?_⟩
  · rw [hLdef]
    unfold between
    split
    · obtain ⟨r, hr⟩ := hL b h p.val j
      rw [hr]; exact EReal.coe_ne_top r
    · exact bot_ne_top
  · have hst : start (mLo lo) (mLo fast) b h (p.val / 1024) ≤ 512 * (2 * (p.val / 1024)) := by
      unfold start
      exact Nat.mul_le_mul_left _ (Nat.min_le_right _ _)
    rw [hLdef]
    unfold between
    rw [if_pos ⟨by omega, le_rfl⟩]
    obtain ⟨r, hr⟩ := hL b h p.val p.val
    rw [hr]; exact EReal.coe_ne_bot r

end

end Cert.ReferenceIdeal.Fox

end

end
-- ==== Proof.Value.Meet.lean ====
/- The kernel's output and the reference's result are the same array. -/
module

public import proofs.«01_k».proof.Proof.Value.Assumed
public import proofs.«01_k».proof.Proof.Value.Ref

@[expose] public section

set_option maxRecDepth 16384

noncomputable section

namespace Cert.KernelIdeal.Fox

open Idealize.ShloMosaic Idealize.ShloMosaic.TcCoe
open Idealize.SL Idealize.SL.Sem
open _root_.Fox

variable (m : (ℓ : Loc nD τ sig) → Buf (Elt Ideal) ℓ) (c : Dev nD)

/-- With finite queries, keys and extra lanes every logit is a real. -/
theorem slogit_real (h : Logits m c) (b : Fin 2) (hd : Fin 8) (p j : ℕ) : Real' (slogit (argZ m c) (argQx m c) (argKx m c) b hd p j) := by
  have := hd.isLt
  refine real_add (real_sum _ _ fun d => real_mul (h.z _ _ ?_) (h.z _ _ ?_)) (real_sum _ _ fun d => real_mul (h.qx _ _) (h.kx _ _))
  · show 1024 * 0 + 128 * hd.val + d.val < 2048
    omega
  · show 1024 * 1 + 128 * hd.val + d.val < 2048
    omega

/-- The reference's result over the same arguments is the closed form. -/
theorem reference_value (h : Logits m c) (hlo : ∀ i : S256.Idx, ((m ((c.tc : Thread nD τ).loc main_arg0) : IVec S256 32) i).toNat < 2 ^ 31)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.Value.res_main_v83 m' c = outSpec m c := by
  refine (Cert.ReferenceIdeal.Fox.stages m' c).trans ?_
  rw [h0, h1, h2, h3, h4, h5]
  refine funext fun y => ?_
  obtain ⟨i, j, rfl⟩ : ∃ (i : Fin 32768) (j : Fin 1024), y = ix2 i j := ⟨y 0, y 1, funext fun k => by fin_cases k <;> rfl⟩
  exact Cert.ReferenceIdeal.Fox.ref_at _ _ _ _ _ _ hlo (fun b hd p j => slogit_real m c h b hd p j) i j

/-- The kernel's run, with its output in closed form. -/
theorem kernel_value (ρ : Dev nD → PrngReg) (hW : Words m) (hP : Plan (tables m 0) (tables m 1)) (h : ∀ c, Logits m c) :
    θ_run (defs (F := Ideal)) (onTc (τ := τ) (main (F := Ideal))) ⟨m, fun _ => 0, ρ⟩ (fun r => ∀ c : Dev nD,
      r.2.mem ((c.tc : Thread nD τ).loc main_v0) = outSpec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨((hr.1 c).1 6).trans (output m c hW hP (h c)), unchanged_of m (dats m hW) (dats_A m hW) r hr.1 c⟩) (launch m ρ hW)

end Cert.KernelIdeal.Fox

end

end
-- ==== Proof.InIdealRun.Runs.lean ====
/- The four ways the body runs at a point, each with what it loads and what it leaves. -/
module

public import proofs.«01_k».proof.Proof.Gen.InProjIdeal.Frame
public import proofs.«01_k».proof.Proof.Gen.InProjIdeal.Skeleton
public import Idealize.ShloMosaic.Lib.Pipeline.ValueKit
public import Idealize.ShloMosaic.Lib.Claim

@[expose] public section

set_option maxRecDepth 16384

noncomputable section

namespace Cert.InProjIdeal.In

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one store over a whole block leaves is what was stored. -/
theorem read_store {S : Shape} {e : EltTy} (a : Memref sig .tc .vmem S e) {off : Fin S.rank → Nat} (hz : ∀ k, off k = 0)
    (inb : ∀ k, off k + S.size k ≤ S.size k) (f : a.view.ty.Contents (Elt F)) (w : S.Idx → Elt F e) :
    a.view.read (Elt F) (a.view.writes (Elt F) f [⟨Rect.unit off S.size inb, w⟩]) = w := by
  obtain rfl : off = fun _ => 0 := funext hz
  refine (View.read_writes_eq_canon _ _ _ fun y => ⟨_, List.mem_singleton.2 rfl, ?_⟩).trans
    (View.canon_cons_unit_zero rfl inb w [])
  exact View.mem_set_unit_zero rfl inb y

/-- A load of a whole block reads the block. -/
theorem read_load {S : Shape} {e : EltTy} (a : Memref sig .tc .vmem S e) {off : Fin S.rank → Nat} (hz : ∀ k, off k = 0)
    (inb : ∀ k, off k + S.size k ≤ S.size k) (f : a.view.ty.Contents (Elt F)) :
    View.readAt (Elt F) a.view (Rect.unit off S.size inb).toLoadRect f = a.view.read (Elt F) f :=
  View.ld_unit_lit inb (a.view.read (Elt F) f) hz

set_option maxHeartbeats 1000000 in
/-- The first point of a block of rows: it normalises the rows, keeps them for the later points, and leaves the gates, the queries and the queries' bound. -/
theorem runFirst (c : Dev nD) (E : Set ℕ) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S2048x128 .bf16) (h5 : a5.IsWhole) (a6 : Memref sig .tc .vmem S1024x128 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x128 .f32) (h9 : a9.IsWhole) (a10 : Memref sig .tc .vmem S1024x128 .f32) (h10 : a10.IsWhole) (a11 : Memref sig .tc .vmem S1024x128 .f32) (h11 : a11.IsWhole) (a12 : Memref sig .tc .vmem S1024x2048 .bf16) (h12 : a12.IsWhole)
    (x2 : Vec F S1024x2048 .f32) (x3 : Vec F S1x2048 .f32) (x4 : Vec F S2048x1024 .bf16) (x5 : Vec F S2048x128 .bf16) (x6 : Vec F S1024x128 .bf16)
    (hc1 : k0_cond1 i = 1#1) (hc2 : k0_cond2 i = 1#1) (hc3 : k0_cond3 i = 1#1) (hc4 : ¬k0_cond4 i = 1#1) (hc5 : ¬k0_cond5 i = 1#1) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a9 fullShare d) ∗ (∃ d, owns (c : Thread nD τ) a10 fullShare d) ∗ (∃ d, owns (c : Thread nD τ) a12 fullShare d)
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (k0_pay5 i (k0_pay2 x2 x3) x4) ∗ owns (c : Thread nD τ) a9 fullShare (k0_pay3 x2 x3 x5) ∗ owns (c : Thread nD τ) a10 fullShare (k0_pay6 i (k0_pay2 x2 x3) x4 x6) ∗ owns (c : Thread nD τ) a12 fullShare (k0_pay2 x2 x3)) -∗ K ⟨⟩))
      ⊢ wp frame (wpE (defs₀ (F := F)) Variants.none c none) E (cc0_inproj i a2 h2 a3 h3 a4 h4 a5 h5 a6 h6 a7 h7 a8 h8 a9 h9 a10 h10 a11 h11 a12 h12) K := by
  simp only [cc0_inproj_eq_skeleton]; unfold cc0_inproj_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d9, %f9, -, H9⟩, ⟨%d10, %f10, -, H10⟩, ⟨%d12, %f12, -, H12⟩, Hk⟩
  subst hf2 hf3 hf4 hf5 hf6
  sl_exec (disch := first | sl_exact hc1 | sl_exact hc2 | sl_exact hc3 | sl_exact hc4 | sl_exact hc5)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    unfold runFirst.sl.v3 runFirst.sl.H12_1
    refine (read_store _ (by decide) _ _ _).trans ?_
    rw [View.readCov_unit_lit _ _ _ (by decide), read_load a2 (by decide) _ f2, read_load a3 (by decide) _ f3, read_load a4 (by decide) _ f4]
  isplitl [H9]
  · iexists _; isplitr
    swap; · iexact H9
    ipureintro
    refine (read_store _ (by decide) _ _ _).trans ?_
    rw [read_load a2 (by decide) _ f2, read_load a3 (by decide) _ f3, read_load a5 (by decide) _ f5]
  isplitl [H10]
  · iexists _; isplitr
    swap; · iexact H10
    ipureintro
    unfold runFirst.sl.v3 runFirst.sl.H12_1
    refine (read_store _ (by decide) _ _ _).trans ?_
    rw [View.readCov_unit_lit _ _ _ (by decide), read_load a2 (by decide) _ f2, read_load a3 (by decide) _ f3, read_load a4 (by decide) _ f4, read_load a6 (by decide) _ f6]
  iexists _; isplitr
  swap; · iexact H12
  ipureintro
  unfold runFirst.sl.H12_1
  refine (read_store _ (by decide) _ _ _).trans ?_
  rw [read_load a2 (by decide) _ f2, read_load a3 (by decide) _ f3]

set_option maxHeartbeats 1000000 in
/-- The second: the keys and their bound, from the rows kept. -/
theorem runSecond (c : Dev nD) (E : Set ℕ) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S2048x128 .bf16) (h5 : a5.IsWhole) (a6 : Memref sig .tc .vmem S1024x128 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x128 .f32) (h9 : a9.IsWhole) (a10 : Memref sig .tc .vmem S1024x128 .f32) (h10 : a10.IsWhole) (a11 : Memref sig .tc .vmem S1024x128 .f32) (h11 : a11.IsWhole) (a12 : Memref sig .tc .vmem S1024x2048 .bf16) (h12 : a12.IsWhole)
    (x12 : Vec F S1024x2048 .bf16) (x4 : Vec F S2048x1024 .bf16) (x6 : Vec F S1024x128 .bf16)
    (hc1 : ¬k0_cond1 i = 1#1) (hc2 : k0_cond2 i = 1#1) (hc3 : ¬k0_cond3 i = 1#1) (hc4 : k0_cond4 i = 1#1) (hc5 : ¬k0_cond5 i = 1#1) (K : PUnit → sProp 𝕄) :
    iprop(owns (c : Thread nD τ) a12 fullShare x12 ∗ owns (c : Thread nD τ) a4 fullShare x4 ∗ owns (c : Thread nD τ) a6 fullShare x6 ∗ (∃ d, owns (c : Thread nD τ) a7 fullShare d) ∗ (∃ d, owns (c : Thread nD τ) a11 fullShare d)
        ∗ (iprop(owns (c : Thread nD τ) a12 fullShare x12 ∗ owns (c : Thread nD τ) a4 fullShare x4 ∗ owns (c : Thread nD τ) a6 fullShare x6 ∗ owns (c : Thread nD τ) a7 fullShare (k0_pay5 i x12 x4) ∗ owns (c : Thread nD τ) a11 fullShare (k0_pay7 i x12 x4 x6)) -∗ K ⟨⟩))
      ⊢ wp frame (wpE (defs₀ (F := F)) Variants.none c none) E (cc0_inproj i a2 h2 a3 h3 a4 h4 a5 h5 a6 h6 a7 h7 a8 h8 a9 h9 a10 h10 a11 h11 a12 h12) K := by
  simp only [cc0_inproj_eq_skeleton]; unfold cc0_inproj_skel
  unfold owns
  iintro ⟨⟨%f12, %hf12, H12⟩, ⟨%f4, %hf4, H4⟩, ⟨%f6, %hf6, H6⟩, ⟨%d7, %f7, -, H7⟩, ⟨%d11, %f11, -, H11⟩, Hk⟩
  subst hf12 hf4 hf6
  sl_exec (disch := first | sl_exact hc1 | sl_exact hc2 | sl_exact hc3 | sl_exact hc4 | sl_exact hc5)
  sl_step
  iapply Hk
  isplitl [H12]
  · iexists f12; isplitr; · ipureintro; rfl
    iexact H12
  isplitl [H4]
  · iexists f4; isplitr; · ipureintro; rfl
    iexact H4
  isplitl [H6]
  · iexists f6; isplitr; · ipureintro; rfl
    iexact H6
  isplitl [H7]
  · iexists _; isplitr
    swap; · iexact H7
    ipureintro
    refine (read_store _ (by decide) _ _ _).trans ?_
    rw [read_load a12 (by decide) _ f12, read_load a4 (by decide) _ f4]
  iexists _; isplitr
  swap; · iexact H11
  ipureintro
  refine (read_store _ (by decide) _ _ _).trans ?_
  rw [read_load a12 (by decide) _ f12, read_load a4 (by decide) _ f4, read_load a6 (by decide) _ f6]

set_option maxHeartbeats 1000000 in
/-- The third to the fifth: one more block of columns each. -/
theorem runMiddle (c : Dev nD) (E : Set ℕ) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S2048x128 .bf16) (h5 : a5.IsWhole) (a6 : Memref sig .tc .vmem S1024x128 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x128 .f32) (h9 : a9.IsWhole) (a10 : Memref sig .tc .vmem S1024x128 .f32) (h10 : a10.IsWhole) (a11 : Memref sig .tc .vmem S1024x128 .f32) (h11 : a11.IsWhole) (a12 : Memref sig .tc .vmem S1024x2048 .bf16) (h12 : a12.IsWhole)
    (x12 : Vec F S1024x2048 .bf16) (x4 : Vec F S2048x1024 .bf16)
    (hc1 : ¬k0_cond1 i = 1#1) (hc2 : k0_cond2 i = 1#1) (hc3 : ¬k0_cond3 i = 1#1) (hc4 : ¬k0_cond4 i = 1#1) (hc5 : ¬k0_cond5 i = 1#1) (K : PUnit → sProp 𝕄) :
    iprop(owns (c : Thread nD τ) a12 fullShare x12 ∗ owns (c : Thread nD τ) a4 fullShare x4 ∗ (∃ d, owns (c : Thread nD τ) a7 fullShare d)
        ∗ (iprop(owns (c : Thread nD τ) a12 fullShare x12 ∗ owns (c : Thread nD τ) a4 fullShare x4 ∗ owns (c : Thread nD τ) a7 fullShare (k0_pay5 i x12 x4)) -∗ K ⟨⟩))
      ⊢ wp frame (wpE (defs₀ (F := F)) Variants.none c none) E (cc0_inproj i a2 h2 a3 h3 a4 h4 a5 h5 a6 h6 a7 h7 a8 h8 a9 h9 a10 h10 a11 h11 a12 h12) K := by
  simp only [cc0_inproj_eq_skeleton]; unfold cc0_inproj_skel
  unfold owns
  iintro ⟨⟨%f12, %hf12, H12⟩, ⟨%f4, %hf4, H4⟩, ⟨%d7, %f7, -, H7⟩, Hk⟩
  subst hf12 hf4
  sl_exec (disch := first | sl_exact hc1 | sl_exact hc2 | sl_exact hc3 | sl_exact hc4 | sl_exact hc5)
  sl_step
  iapply Hk
  isplitl [H12]
  · iexists f12; isplitr; · ipureintro; rfl
    iexact H12
  isplitl [H4]
  · iexists f4; isplitr; · ipureintro; rfl
    iexact H4
  iexists _; isplitr
  swap; · iexact H7
  ipureintro
  refine (read_store _ (by decide) _ _ _).trans ?_
  rw [read_load a12 (by decide) _ f12, read_load a4 (by decide) _ f4]

set_option maxHeartbeats 1000000 in
/-- The last: the one block of columns that is not rounded. -/
theorem runLast (c : Dev nD) (E : Set ℕ) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S2048x128 .bf16) (h5 : a5.IsWhole) (a6 : Memref sig .tc .vmem S1024x128 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x128 .f32) (h9 : a9.IsWhole) (a10 : Memref sig .tc .vmem S1024x128 .f32) (h10 : a10.IsWhole) (a11 : Memref sig .tc .vmem S1024x128 .f32) (h11 : a11.IsWhole) (a12 : Memref sig .tc .vmem S1024x2048 .bf16) (h12 : a12.IsWhole)
    (x12 : Vec F S1024x2048 .bf16) (x4 : Vec F S2048x1024 .bf16)
    (hc1 : ¬k0_cond1 i = 1#1) (hc2 : ¬k0_cond2 i = 1#1) (hc5 : k0_cond5 i = 1#1) (K : PUnit → sProp 𝕄) :
    iprop(owns (c : Thread nD τ) a12 fullShare x12 ∗ owns (c : Thread nD τ) a4 fullShare x4 ∗ (∃ d, owns (c : Thread nD τ) a8 fullShare d)
        ∗ (iprop(owns (c : Thread nD τ) a12 fullShare x12 ∗ owns (c : Thread nD τ) a4 fullShare x4 ∗ owns (c : Thread nD τ) a8 fullShare (k0_pay4 x12 x4)) -∗ K ⟨⟩))
      ⊢ wp frame (wpE (defs₀ (F := F)) Variants.none c none) E (cc0_inproj i a2 h2 a3 h3 a4 h4 a5 h5 a6 h6 a7 h7 a8 h8 a9 h9 a10 h10 a11 h11 a12 h12) K := by
  simp only [cc0_inproj_eq_skeleton]; unfold cc0_inproj_skel
  unfold owns
  iintro ⟨⟨%f12, %hf12, H12⟩, ⟨%f4, %hf4, H4⟩, ⟨%d8, %f8, -, H8⟩, Hk⟩
  subst hf12 hf4
  sl_exec (disch := first | sl_exact hc1 | sl_exact hc2 | sl_exact hc5)
  sl_step
  iapply Hk
  isplitl [H12]
  · iexists f12; isplitr; · ipureintro; rfl
    iexact H12
  isplitl [H4]
  · iexists f4; isplitr; · ipureintro; rfl
    iexact H4
  iexists _; isplitr
  swap; · iexact H8
  ipureintro
  refine (read_store _ (by decide) _ _ _).trans ?_
  rw [read_load a12 (by decide) _ f12, read_load a4 (by decide) _ f4]

end Cert.InProjIdeal.In

end
-- ==== Proof.InIdealRun.Frame.lean ====
/- The frame of the input projection: point 6 i + j takes the i-th block of rows and the j-th block of columns. The
   first of six points keeps the normalised rows in a scratch buffer for the other five, and every result is written
   by some of the six and left alone by the others. -/
module

public import proofs.«01_k».proof.Proof.InIdealRun.Runs
public import Idealize.ShloMosaic.Lib.Pipeline.TableIdle
public import Idealize.ShloMosaic.Lib.Claim

@[expose] public section

set_option maxRecDepth 16384

noncomputable section

namespace Cert.InProjIdeal.In

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- Which test is met at which point, -/
theorem tests : ∀ t : Fin cfg0.N, (k0_cond1 (cfg0.grid.coords t) = 1#1 ↔ t.val % 6 = 0) ∧ (k0_cond2 (cfg0.grid.coords t) = 1#1 ↔ t.val % 6 ≠ 5)
    ∧ (k0_cond3 (cfg0.grid.coords t) = 1#1 ↔ t.val % 6 = 0) ∧ (k0_cond4 (cfg0.grid.coords t) = 1#1 ↔ t.val % 6 = 1) ∧ (k0_cond5 (cfg0.grid.coords t) = 1#1 ↔ t.val % 6 = 5) :=
  (by decide +kernel : ∀ t : Fin grid0.N, (k0_cond1 (grid0.coords t) = 1#1 ↔ t.val % 6 = 0) ∧ (k0_cond2 (grid0.coords t) = 1#1 ↔ t.val % 6 ≠ 5)
    ∧ (k0_cond3 (grid0.coords t) = 1#1 ↔ t.val % 6 = 0) ∧ (k0_cond4 (grid0.coords t) = 1#1 ↔ t.val % 6 = 1) ∧ (k0_cond5 (grid0.coords t) = 1#1 ↔ t.val % 6 = 5))

/-- which results a point leaves alone, -/
theorem idle_5 : ∀ t : Fin cfg0.N, cfg0.idle 5 (cfg0.grid.coords t) = decide (t.val % 6 = 5) :=
  (by decide +kernel : ∀ t : Fin grid0.N, idle0 5 (grid0.coords t) = decide (t.val % 6 = 5))
theorem idle_6 : ∀ t : Fin cfg0.N, cfg0.idle 6 (cfg0.grid.coords t) = decide (t.val % 6 ≠ 5) :=
  (by decide +kernel : ∀ t : Fin grid0.N, idle0 6 (grid0.coords t) = decide (t.val % 6 ≠ 5))
theorem idle_7 : ∀ t : Fin cfg0.N, cfg0.idle 7 (cfg0.grid.coords t) = decide (t.val % 6 ≠ 0) :=
  (by decide +kernel : ∀ t : Fin grid0.N, idle0 7 (grid0.coords t) = decide (t.val % 6 ≠ 0))
theorem idle_8 : ∀ t : Fin cfg0.N, cfg0.idle 8 (cfg0.grid.coords t) = decide (t.val % 6 ≠ 0) :=
  (by decide +kernel : ∀ t : Fin grid0.N, idle0 8 (grid0.coords t) = decide (t.val % 6 ≠ 0))
theorem idle_9 : ∀ t : Fin cfg0.N, cfg0.idle 9 (cfg0.grid.coords t) = decide (t.val % 6 ≠ 1) :=
  (by decide +kernel : ∀ t : Fin grid0.N, idle0 9 (grid0.coords t) = decide (t.val % 6 ≠ 1))

/-- and which points write a result's block back. -/
theorem flush_5 : ∀ t : Fin cfg0.N, (cfg0.win 5).flush t = decide (t.val % 6 ≠ 4) := fun t =>
  (Pipeline.Window.flush_eq_flushF win0_5 t).trans ((by decide +kernel : ∀ t : Fin grid0.N, win0_5.flushF t = decide (t.val % 6 ≠ 4)) t)
theorem flush_6 (t : Fin cfg0.N) : (cfg0.win 6).flush t = decide (t.val % 6 = 5) := by
  rw [Bool.eq_iff_iff, flush0_6, decide_eq_true_iff]
theorem flush_7 (t : Fin cfg0.N) : (cfg0.win 7).flush t = decide (t.val % 6 = 5) := by
  rw [Bool.eq_iff_iff, flush0_7, decide_eq_true_iff]
theorem flush_8 (t : Fin cfg0.N) : (cfg0.win 8).flush t = decide (t.val % 6 = 5) := by
  rw [Bool.eq_iff_iff, flush0_8, decide_eq_true_iff]
theorem flush_9 (t : Fin cfg0.N) : (cfg0.win 9).flush t = decide (t.val % 6 = 5) := by
  rw [Bool.eq_iff_iff, flush0_9, decide_eq_true_iff]

/-- A result's staging buffer holds nothing of the block in hand exactly at these points. -/
theorem fresh_5 (n : ℕ) (h : n ≤ cfg0.N) : cfg0.fresh 5 n = decide (n % 6 ≠ 5) :=
  cfg0.fresh_tab 5 (fun n => decide (n % 6 ≠ 5)) rfl (fun t => by
    rw [flush_5, idle_5, Bool.eq_iff_iff]
    simp only [Bool.or_eq_true, Bool.and_eq_true, decide_eq_true_iff]
    omega) n h
theorem fresh_7 (n : ℕ) (h : n ≤ cfg0.N) : cfg0.fresh 7 n = decide (n % 6 = 0) :=
  cfg0.fresh_tab 7 (fun n => decide (n % 6 = 0)) rfl (fun t => by
    rw [flush_7, idle_7, Bool.eq_iff_iff]
    simp only [Bool.or_eq_true, Bool.and_eq_true, decide_eq_true_iff]
    omega) n h
theorem fresh_8 (n : ℕ) (h : n ≤ cfg0.N) : cfg0.fresh 8 n = decide (n % 6 = 0) :=
  cfg0.fresh_tab 8 (fun n => decide (n % 6 = 0)) rfl (fun t => by
    rw [flush_8, idle_8, Bool.eq_iff_iff]
    simp only [Bool.or_eq_true, Bool.and_eq_true, decide_eq_true_iff]
    omega) n h
theorem fresh_9 (n : ℕ) (h : n ≤ cfg0.N) : cfg0.fresh 9 n = decide (n % 6 ≤ 1) :=
  cfg0.fresh_tab 9 (fun n => decide (n % 6 ≤ 1)) rfl (fun t => by
    rw [flush_9, idle_9, Bool.eq_iff_iff]
    simp only [Bool.or_eq_true, Bool.and_eq_true, decide_eq_true_iff]
    omega) n h

/-- The point of a number. -/
def pt (n : ℕ) : Fin cfg0.N := ⟨n % 192, lt_of_lt_of_eq (Nat.mod_lt _ (by decide)) N_0.symm⟩

theorem pt_val (t : Fin cfg0.N) : pt t.val = t := Fin.ext (Nat.mod_eq_of_lt (lt_of_lt_of_eq t.isLt N_0))

theorem pt_of (t : Fin cfg0.N) (n : ℕ) (h : n = t.val) : pt n = t := h ▸ pt_val t

/-! ## What a point leaves -/

/-- The rows of `t`'s block, normalised. -/
def rowsAt (c : Dev nD) (t : Fin cfg0.N) : Vec F S1024x2048 .bf16 := k0_pay2 (iblk m c 0 t) (iblk m c 1 t)
/-- Their gates. -/
def gatesAt (c : Dev nD) (t : Fin cfg0.N) : Vec F S1024x128 .f32 := k0_pay3 (iblk m c 0 t) (iblk m c 1 t) (iblk m c 3 t)
/-- `t`'s block of columns of the rows `h`, rounded, -/
def colsAt (c : Dev nD) (t : Fin cfg0.N) (h : Vec F S1024x2048 .bf16) : Vec F S1024x1024 .bf16 := k0_pay5 (cfg0.grid.coords t) h (iblk m c 2 t)
/-- not rounded, -/
def lastAt (c : Dev nD) (t : Fin cfg0.N) (h : Vec F S1024x2048 .bf16) : Vec F S1024x1024 .f32 := k0_pay4 h (iblk m c 2 t)
/-- and the bounds of a block of queries and of a block of keys. -/
def queryBoundAt (c : Dev nD) (t : Fin cfg0.N) (h : Vec F S1024x2048 .bf16) : Vec F S1024x128 .f32 := k0_pay6 (cfg0.grid.coords t) h (iblk m c 2 t) (iblk m c 4 t)
def keyBoundAt (c : Dev nD) (t : Fin cfg0.N) (h : Vec F S1024x2048 .bf16) : Vec F S1024x128 .f32 := k0_pay7 (cfg0.grid.coords t) h (iblk m c 2 t) (iblk m c 4 t)

/-- The rows kept at point `n`: those of the first of its six points. -/
def kept (c : Dev nD) (n : ℕ) : Vec F S1024x2048 .bf16 := rowsAt m c (pt (n - n % 6))

theorem kept_first (c : Dev nD) (t : Fin cfg0.N) (h : t.val % 6 = 0) : kept m c t.val = rowsAt m c t := by
  unfold kept; rw [pt_of t _ (by omega)]
theorem kept_next (c : Dev nD) (n : ℕ) (h : n % 6 ≠ 5) : kept m c (n + 1) = kept m c n := by
  unfold kept; rw [show n + 1 - (n + 1) % 6 = n - n % 6 by omega]

/-- The scratch buffer. -/
abbrev scr : Memref sig .tc .vmem S1024x2048 .bf16 := Memref.whole cc0_scratch0

theorem phi_eq (c : Dev nD) : (Pipeline.ΦA spec0 c : sProp 𝕄) = iprop((∃ d, owns (c : Thread nD τ) scr fullShare d) ∗ (∃ r, prngReg c r)) := by
  unfold Pipeline.ΦA; rw [scopedRest0_eq]; simp only [owns_whole]; try rfl

/-- Before point `n`: the scratch buffer at anything if `n` opens a block of rows, else at the rows kept. -/
def inv (c : Dev nD) (n : ℕ) : sProp 𝕄 :=
  if n % 6 = 0 then Pipeline.ΦA spec0 c else iprop(owns (c : Thread nD τ) scr fullShare (kept m c n) ∗ (∃ r, prngReg c r))

theorem inv_open (c : Dev nD) (n : ℕ) (h : n % 6 = 0) : inv m c n = iprop((∃ d, owns (c : Thread nD τ) scr fullShare d) ∗ (∃ r, prngReg c r)) :=
  (if_pos h).trans (phi_eq c)
theorem inv_kept (c : Dev nD) (n : ℕ) (h : n % 6 ≠ 0) : inv m c n = iprop(owns (c : Thread nD τ) scr fullShare (kept m c n) ∗ (∃ r, prngReg c r)) :=
  if_neg h

/-- What the pipeline's proof is about. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => colsAt m c (pt (t.val - t.val % 6 / 5)) (kept m c t.val)
    | ⟨6, _⟩ => lastAt m c t (kept m c t.val)
    | ⟨7, _⟩ => gatesAt m c (pt (t.val - t.val % 6))
    | ⟨8, _⟩ => queryBoundAt m c (pt (t.val - t.val % 6)) (kept m c t.val)
    | ⟨9, _⟩ => keyBoundAt m c (pt (t.val - t.val % 6 + 1)) (kept m c t.val)
  Φ t := inv m c t.val
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = iblk m c 4 t := by dsimp only [dats]; try rfl
theorem after_5 (c : Dev nD) (t : Fin cfg0.N) : (dats m 0 c).after 5 t = colsAt m c (pt (t.val - t.val % 6 / 5)) (kept m c t.val) := by dsimp only [dats]; try rfl
theorem after_6 (c : Dev nD) (t : Fin cfg0.N) : (dats m 0 c).after 6 t = lastAt m c t (kept m c t.val) := by dsimp only [dats]; try rfl
theorem after_7 (c : Dev nD) (t : Fin cfg0.N) : (dats m 0 c).after 7 t = gatesAt m c (pt (t.val - t.val % 6)) := by dsimp only [dats]; try rfl
theorem after_8 (c : Dev nD) (t : Fin cfg0.N) : (dats m 0 c).after 8 t = queryBoundAt m c (pt (t.val - t.val % 6)) (kept m c t.val) := by dsimp only [dats]; try rfl
theorem after_9 (c : Dev nD) (t : Fin cfg0.N) : (dats m 0 c).after 9 t = keyBoundAt m c (pt (t.val - t.val % 6 + 1)) (kept m c t.val) := by dsimp only [dats]; try rfl
theorem held_0 (c : Dev nD) (t : Fin cfg0.N) (d) : (dats m 0 c).before 0 t d = iblk m c 0 t := before0_0_of m (dats m 0 c) (dats_A m c 0) (after_0 m c) t d
theorem held_1 (c : Dev nD) (t : Fin cfg0.N) (d) : (dats m 0 c).before 1 t d = iblk m c 1 t := before0_1_of m (dats m 0 c) (dats_A m c 1) (after_1 m c) t d
theorem held_2 (c : Dev nD) (t : Fin cfg0.N) (d) : (dats m 0 c).before 2 t d = iblk m c 2 t := before0_2_of m (dats m 0 c) (dats_A m c 2) (after_2 m c) t d
theorem held_3 (c : Dev nD) (t : Fin cfg0.N) (d) : (dats m 0 c).before 3 t d = iblk m c 3 t := before0_3_of m (dats m 0 c) (dats_A m c 3) (after_3 m c) t d
theorem held_4 (c : Dev nD) (t : Fin cfg0.N) (d) : (dats m 0 c).before 4 t d = iblk m c 4 t := before0_4_of m (dats m 0 c) (dats_A m c 4) (after_4 m c) t d

/-! ## A result left alone at a point that writes its block back holds it already -/

theorem carry_5 (c : Dev nD) (t : Fin cfg0.N) (h0 : t.val ≠ 0) (hi : cfg0.idle 5 (cfg0.grid.coords t) = true) (hf : cfg0.fresh 5 t.val = false) :
    (dats m 0 c).after 5 t = (dats m 0 c).after 5 ⟨t.val - 1, by omega⟩ := by
  rw [idle_5, decide_eq_true_iff] at hi
  rw [fresh_5 _ t.isLt.le, decide_eq_false_iff_not] at hf
  have e : kept m c t.val = kept m c (t.val - 1) := by
    rw [← kept_next m c (t.val - 1) (by omega), Nat.sub_add_cancel (by omega)]
  rw [after_5, after_5]
  rw [e]
  rw [show t.val - t.val % 6 / 5 = t.val - 1 - (t.val - 1) % 6 / 5 by omega]
theorem held_5 (c : Dev nD) (t : Fin cfg0.N) (h : t.val % 6 = 5) (d) : (dats m 0 c).before 5 t d = (dats m 0 c).after 5 t := by
  have hf : cfg0.fresh 5 t.val = false := by rw [fresh_5 _ t.isLt.le, decide_eq_false_iff_not]; omega
  rw [(dats m 0 c).before_out_traj 5 rfl (fun _ _ => rfl) (carry_5 m c) t.val t rfl d, if_neg (by rw [hf]; exact Bool.false_ne_true),
    carry_5 m c t (by omega) (by rw [idle_5, decide_eq_true_iff]; omega) hf]
theorem carry_7 (c : Dev nD) (t : Fin cfg0.N) (h0 : t.val ≠ 0) (hi : cfg0.idle 7 (cfg0.grid.coords t) = true) (hf : cfg0.fresh 7 t.val = false) :
    (dats m 0 c).after 7 t = (dats m 0 c).after 7 ⟨t.val - 1, by omega⟩ := by
  rw [idle_7, decide_eq_true_iff] at hi
  rw [fresh_7 _ t.isLt.le, decide_eq_false_iff_not] at hf
  have e : kept m c t.val = kept m c (t.val - 1) := by
    rw [← kept_next m c (t.val - 1) (by omega), Nat.sub_add_cancel (by omega)]
  rw [after_7, after_7]
  rw [show t.val - t.val % 6 = t.val - 1 - (t.val - 1) % 6 by omega]
theorem held_7 (c : Dev nD) (t : Fin cfg0.N) (h : t.val % 6 = 5) (d) : (dats m 0 c).before 7 t d = (dats m 0 c).after 7 t := by
  have hf : cfg0.fresh 7 t.val = false := by rw [fresh_7 _ t.isLt.le, decide_eq_false_iff_not]; omega
  rw [(dats m 0 c).before_out_traj 7 rfl (fun _ _ => rfl) (carry_7 m c) t.val t rfl d, if_neg (by rw [hf]; exact Bool.false_ne_true),
    carry_7 m c t (by omega) (by rw [idle_7, decide_eq_true_iff]; omega) hf]
theorem carry_8 (c : Dev nD) (t : Fin cfg0.N) (h0 : t.val ≠ 0) (hi : cfg0.idle 8 (cfg0.grid.coords t) = true) (hf : cfg0.fresh 8 t.val = false) :
    (dats m 0 c).after 8 t = (dats m 0 c).after 8 ⟨t.val - 1, by omega⟩ := by
  rw [idle_8, decide_eq_true_iff] at hi
  rw [fresh_8 _ t.isLt.le, decide_eq_false_iff_not] at hf
  have e : kept m c t.val = kept m c (t.val - 1) := by
    rw [← kept_next m c (t.val - 1) (by omega), Nat.sub_add_cancel (by omega)]
  rw [after_8, after_8]
  rw [e]
  rw [show t.val - t.val % 6 = t.val - 1 - (t.val - 1) % 6 by omega]
theorem held_8 (c : Dev nD) (t : Fin cfg0.N) (h : t.val % 6 = 5) (d) : (dats m 0 c).before 8 t d = (dats m 0 c).after 8 t := by
  have hf : cfg0.fresh 8 t.val = false := by rw [fresh_8 _ t.isLt.le, decide_eq_false_iff_not]; omega
  rw [(dats m 0 c).before_out_traj 8 rfl (fun _ _ => rfl) (carry_8 m c) t.val t rfl d, if_neg (by rw [hf]; exact Bool.false_ne_true),
    carry_8 m c t (by omega) (by rw [idle_8, decide_eq_true_iff]; omega) hf]
theorem carry_9 (c : Dev nD) (t : Fin cfg0.N) (h0 : t.val ≠ 0) (hi : cfg0.idle 9 (cfg0.grid.coords t) = true) (hf : cfg0.fresh 9 t.val = false) :
    (dats m 0 c).after 9 t = (dats m 0 c).after 9 ⟨t.val - 1, by omega⟩ := by
  rw [idle_9, decide_eq_true_iff] at hi
  rw [fresh_9 _ t.isLt.le, decide_eq_false_iff_not] at hf
  have e : kept m c t.val = kept m c (t.val - 1) := by
    rw [← kept_next m c (t.val - 1) (by omega), Nat.sub_add_cancel (by omega)]
  rw [after_9, after_9]
  rw [e]
  rw [show t.val - t.val % 6 = t.val - 1 - (t.val - 1) % 6 by omega]
theorem held_9 (c : Dev nD) (t : Fin cfg0.N) (h : t.val % 6 = 5) (d) : (dats m 0 c).before 9 t d = (dats m 0 c).after 9 t := by
  have hf : cfg0.fresh 9 t.val = false := by rw [fresh_9 _ t.isLt.le, decide_eq_false_iff_not]; omega
  rw [(dats m 0 c).before_out_traj 9 rfl (fun _ _ => rfl) (carry_9 m c) t.val t rfl d, if_neg (by rw [hf]; exact Bool.false_ne_true),
    carry_9 m c t (by omega) (by rw [idle_9, decide_eq_true_iff]; omega) hf]

theorem leaves_live (c : Dev nD) (w : Fin cfg0.W) (t : Fin cfg0.N) (hi : cfg0.idle w (cfg0.grid.coords t) = false) :
    ((dats m 0 c).leavesExact w t : sProp 𝕄) = owns (c : Thread nD τ) ((cfg0.win w).stage (cfg0.slots t w)) fullShare ((dats m 0 c).after w t) := by
  unfold Dat.leavesExact; rw [hi]
theorem leaves_back (c : Dev nD) (w : Fin cfg0.W) (t : Fin cfg0.N) (hi : cfg0.idle w (cfg0.grid.coords t) = true) (hf : (cfg0.win w).flush t = true) :
    ((dats m 0 c).leavesExact w t : sProp 𝕄) = owns (c : Thread nD τ) ((cfg0.win w).stage (cfg0.slots t w)) fullShare ((dats m 0 c).after w t) := by
  unfold Dat.leavesExact; rw [hi, hf]

/-! ## The body at a point -/

/-- What the body is handed at point `t`, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The first of six points. -/
theorem first (c : Dev nD) (t : Fin cfg0.N) (h : t.val % 6 = 0) :
    handed m c t ⊢ wp frame (wpE (defs₀ (F := F)) Variants.none c none) Set.univ (bodyAt0 t) (fun _ => returned m c t) := by
  obtain ⟨q1, q2, q3, q4, q5⟩ := tests t
  unfold handed returned bodyAt0
  simp only [held_0, held_1, held_2, held_3, held_4]
  rw [show (dats m 0 c).Φ t.castSucc = inv m c t.val from rfl, show (dats m 0 c).Φ t.succ = inv m c (t.val + 1) from rfl,
    show (dats m 0 c).owesAt () t.succ = (dats m 0 c).owesAt () t.castSucc from rfl, after_0, after_1, after_2, after_3, after_4]
  rw [leaves_live m c 5 t (by rw [idle_5, decide_eq_false_iff_not]; omega), after_5]
  rw [(dats m 0 c).leavesExact_idle 6 t (by rw [idle_6, decide_eq_true_iff]; omega) (by rw [flush_6, decide_eq_false_iff_not]; omega)]
  rw [leaves_live m c 7 t (by rw [idle_7, decide_eq_false_iff_not]; omega), after_7]
  rw [leaves_live m c 8 t (by rw [idle_8, decide_eq_false_iff_not]; omega), after_8]
  rw [(dats m 0 c).leavesExact_idle 9 t (by rw [idle_9, decide_eq_true_iff]; omega) (by rw [flush_9, decide_eq_false_iff_not]; omega)]
  rw [inv_open m c _ h, inv_kept m c _ (by omega), kept_next m c _ (by omega), kept_first m c t h]
  rw [pt_of t (t.val - t.val % 6 / 5) (by omega), pt_of t (t.val - t.val % 6) (by omega)]
  iintro ⟨⟨⟨%dS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runFirst c Set.univ (cfg0.grid.coords t) _ _ _ _ _ _ _ _ _ _ _ _ _ _ _ _ _ _ _ _ _ _ (iblk m c 0 t) (iblk m c 1 t) (iblk m c 2 t) (iblk m c 3 t) (iblk m c 4 t) (q1.2 (by omega)) (q2.2 (by omega)) (q3.2 (by omega)) (fun e => absurd (q4.1 e) (by omega)) (fun e => absurd (q5.1 e) (by omega)) _)
  isplitl [H0]; · iexact H0
  isplitl [H1]; · iexact H1
  isplitl [H2]; · iexact H2
  isplitl [H3]; · iexact H3
  isplitl [H4]; · iexact H4
  isplitl [H5]; · iexists _; iexact H5
  isplitl [H7]; · iexists _; iexact H7
  isplitl [H8]; · iexists _; iexact H8
  isplitl [HS]; · iexists _; iexact HS
  iintro ⟨H0, H1, H2, H3, H4, H5, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  iexists _; iexact H9

set_option maxHeartbeats 1600000 in
/-- The second. -/
theorem second (c : Dev nD) (t : Fin cfg0.N) (h : t.val % 6 = 1) :
    handed m c t ⊢ wp frame (wpE (defs₀ (F := F)) Variants.none c none) Set.univ (bodyAt0 t) (fun _ => returned m c t) := by
  obtain ⟨q1, q2, q3, q4, q5⟩ := tests t
  unfold handed returned bodyAt0
  simp only [held_0, held_1, held_2, held_3, held_4]
  rw [show (dats m 0 c).Φ t.castSucc = inv m c t.val from rfl, show (dats m 0 c).Φ t.succ = inv m c (t.val + 1) from rfl,
    show (dats m 0 c).owesAt () t.succ = (dats m 0 c).owesAt () t.castSucc from rfl, after_0, after_1, after_2, after_3, after_4]
  rw [leaves_live m c 5 t (by rw [idle_5, decide_eq_false_iff_not]; omega), after_5]
  rw [(dats m 0 c).leavesExact_idle 6 t (by rw [idle_6, decide_eq_true_iff]; omega) (by rw [flush_6, decide_eq_false_iff_not]; omega)]
  rw [(dats m 0 c).leavesExact_idle 7 t (by rw [idle_7, decide_eq_true_iff]; omega) (by rw [flush_7, decide_eq_false_iff_not]; omega)]
  rw [(dats m 0 c).leavesExact_idle 8 t (by rw [idle_8, decide_eq_true_iff]; omega) (by rw [flush_8, decide_eq_false_iff_not]; omega)]
  rw [leaves_live m c 9 t (by rw [idle_9, decide_eq_false_iff_not]; omega), after_9]
  rw [inv_kept m c t.val (by omega), inv_kept m c (t.val + 1) (by omega), kept_next m c _ (by omega)]
  rw [pt_of t (t.val - t.val % 6 / 5) (by omega), pt_of t (t.val - t.val % 6 + 1) (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runSecond c Set.univ (cfg0.grid.coords t) _ _ _ _ _ _ _ _ _ _ _ _ _ _ _ _ _ _ _ _ _ _ (kept m c t.val) (iblk m c 2 t) (iblk m c 4 t) (fun e => absurd (q1.1 e) (by omega)) (q2.2 (by omega)) (fun e => absurd (q3.1 e) (by omega)) (q4.2 (by omega)) (fun e => absurd (q5.1 e) (by omega)) _)
  isplitl [HS]; · iexact HS
  isplitl [H2]; · iexact H2
  isplitl [H4]; · iexact H4
  isplitl [H5]; · iexists _; iexact H5
  isplitl [H9]; · iexists _; iexact H9
  iintro ⟨HS, H2, H4, H5, H9⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iexact H9

set_option maxHeartbeats 1600000 in
/-- The third to the fifth. -/
theorem middle (c : Dev nD) (t : Fin cfg0.N) (h : t.val % 6 ≠ 0 ∧ t.val % 6 ≠ 1 ∧ t.val % 6 ≠ 5) :
    handed m c t ⊢ wp frame (wpE (defs₀ (F := F)) Variants.none c none) Set.univ (bodyAt0 t) (fun _ => returned m c t) := by
  obtain ⟨q1, q2, q3, q4, q5⟩ := tests t
  unfold handed returned bodyAt0
  simp only [held_0, held_1, held_2, held_3, held_4]
  rw [show (dats m 0 c).Φ t.castSucc = inv m c t.val from rfl, show (dats m 0 c).Φ t.succ = inv m c (t.val + 1) from rfl,
    show (dats m 0 c).owesAt () t.succ = (dats m 0 c).owesAt () t.castSucc from rfl, after_0, after_1, after_2, after_3, after_4]
  rw [leaves_live m c 5 t (by rw [idle_5, decide_eq_false_iff_not]; omega), after_5]
  rw [(dats m 0 c).leavesExact_idle 6 t (by rw [idle_6, decide_eq_true_iff]; omega) (by rw [flush_6, decide_eq_false_iff_not]; omega)]
  rw [(dats m 0 c).leavesExact_idle 7 t (by rw [idle_7, decide_eq_true_iff]; omega) (by rw [flush_7, decide_eq_false_iff_not]; omega)]
  rw [(dats m 0 c).leavesExact_idle 8 t (by rw [idle_8, decide_eq_true_iff]; omega) (by rw [flush_8, decide_eq_false_iff_not]; omega)]
  rw [(dats m 0 c).leavesExact_idle 9 t (by rw [idle_9, decide_eq_true_iff]; omega) (by rw [flush_9, decide_eq_false_iff_not]; omega)]
  rw [inv_kept m c t.val (by omega), inv_kept m c (t.val + 1) (by omega), kept_next m c _ (by omega)]
  rw [pt_of t (t.val - t.val % 6 / 5) (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runMiddle c Set.univ (cfg0.grid.coords t) _ _ _ _ _ _ _ _ _ _ _ _ _ _ _ _ _ _ _ _ _ _ (kept m c t.val) (iblk m c 2 t) (fun e => absurd (q1.1 e) (by omega)) (q2.2 (by omega)) (fun e => absurd (q3.1 e) (by omega)) (fun e => absurd (q4.1 e) (by omega)) (fun e => absurd (q5.1 e) (by omega)) _)
  isplitl [HS]; · iexact HS
  isplitl [H2]; · iexact H2
  isplitl [H5]; · iexists _; iexact H5
  iintro ⟨HS, H2, H5⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iexists _; iexact H9

set_option maxHeartbeats 1600000 in
/-- The last. -/
theorem last (c : Dev nD) (t : Fin cfg0.N) (h : t.val % 6 = 5) :
    handed m c t ⊢ wp frame (wpE (defs₀ (F := F)) Variants.none c none) Set.univ (bodyAt0 t) (fun _ => returned m c t) := by
  obtain ⟨q1, q2, q3, q4, q5⟩ := tests t
  unfold handed returned bodyAt0
  simp only [held_0, held_1, held_2, held_3, held_4]
  rw [show (dats m 0 c).Φ t.castSucc = inv m c t.val from rfl, show (dats m 0 c).Φ t.succ = inv m c (t.val + 1) from rfl,
    show (dats m 0 c).owesAt () t.succ = (dats m 0 c).owesAt () t.castSucc from rfl, after_0, after_1, after_2, after_3, after_4]
  rw [leaves_back m c 5 t (by rw [idle_5, decide_eq_true_iff]; omega) (by rw [flush_5, decide_eq_true_iff]; omega)]
  simp only [held_5 m c t h]
  rw [leaves_live m c 6 t (by rw [idle_6, decide_eq_false_iff_not]; omega), after_6]
  rw [leaves_back m c 7 t (by rw [idle_7, decide_eq_true_iff]; omega) (by rw [flush_7, decide_eq_true_iff]; omega)]
  simp only [held_7 m c t h]
  rw [leaves_back m c 8 t (by rw [idle_8, decide_eq_true_iff]; omega) (by rw [flush_8, decide_eq_true_iff]; omega)]
  simp only [held_8 m c t h]
  rw [leaves_back m c 9 t (by rw [idle_9, decide_eq_true_iff]; omega) (by rw [flush_9, decide_eq_true_iff]; omega)]
  simp only [held_9 m c t h]
  rw [inv_kept m c t.val (by omega), inv_open m c (t.val + 1) (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runLast c Set.univ (cfg0.grid.coords t) _ _ _ _ _ _ _ _ _ _ _ _ _ _ _ _ _ _ _ _ _ _ (kept m c t.val) (iblk m c 2 t) (fun e => absurd (q1.1 e) (by omega)) (fun e => absurd (q2.1 e) (by omega)) (q5.2 (by omega)) _)
  isplitl [HS]; · iexact HS
  isplitl [H2]; · iexact H2
  isplitl [H6]; · iexists _; iexact H6
  iintro ⟨HS, H2, H6⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body runs at every point. -/
theorem body_runs (c : Dev nD) (t : Fin cfg0.N) :
    handed m c t ⊢ wp frame (wpE (defs₀ (F := F)) Variants.none c none) Set.univ (bodyAt0 t) (fun _ => returned m c t) := by
  by_cases h0 : t.val % 6 = 0
  · exact first m c t h0
  by_cases h1 : t.val % 6 = 1
  · exact second m c t h1
  by_cases h5 : t.val % 6 = 5
  · exact last m c t h5
  exact middle m c t ⟨h0, h1, h5⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_runs m c t) rfl .rfl fun _ => .rfl

theorem before_all (c : Dev nD) : Pipeline.ΦA spec0 c ⊢ ((dats (F := F) m 0 c).Φ 0 : sProp 𝕄) := by
  rw [show (dats m 0 c).Φ 0 = inv m c 0 from rfl, inv_open m c 0 rfl, phi_eq]
theorem after_all (c : Dev nD) : ((dats (F := F) m 0 c).Φ (Fin.last cfg0.N) : sProp 𝕄) ⊢ Pipeline.ΦA spec0 c := by
  rw [show (dats m 0 c).Φ (Fin.last cfg0.N) = inv m c cfg0.N from rfl, inv_open m c cfg0.N (by rw [show cfg0.N = 192 from N_0]), phi_eq]

set_option backward.isDefEq.respectTransparency.types false in
set_option maxHeartbeats 800000 in
/-- The launch: every execution ends, in the pipeline's final state and with every counter at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m)
    (hin := before_all m) (hout := after_all m)

/-- The launch, of the final arrays. -/
theorem ends : θ_run defs (onTc (τ := τ) (main (F := F))) (s₀ m ρ) (Pipeline.FramePost cfgs (dats m) 0 (V m)) :=
  (θ_run defs _ _).mono (fun _ h => h.1) (launch m ρ)

/-- The launch, of the arguments: unchanged, and every semaphore back at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans ((dats_A m c 0).trans (V_main_arg0 m c))),
      ((h.1 c).1 1).trans (((dats m 0 c).arrAt_in 1 rfl _).trans ((dats_A m c 1).trans (V_main_arg1 m c))),
      ((h.1 c).1 2).trans (((dats m 0 c).arrAt_in 2 rfl _).trans ((dats_A m c 2).trans (V_main_arg2 m c))),
      ((h.1 c).1 3).trans (((dats m 0 c).arrAt_in 3 rfl _).trans ((dats_A m c 3).trans (V_main_arg3 m c))),
      ((h.1 c).1 4).trans (((dats m 0 c).arrAt_in 4 rfl _).trans ((dats_A m c 4).trans (V_main_arg4 m c)))⟩, h.2⟩) (launch m ρ)

end Cert.InProjIdeal.In

end
-- ==== Proof.InValue.Input.lean ====
/-
The input projection over the extended reals. A block of 1024 rows is normalised once, at the first of its six grid
points, and multiplied by one block of 1024 columns of the weights at each of them. Every block agrees, entry by entry,
with the plain formula over the whole arrays.
-/
module

public import proofs.«01_k».proof.Proof.InIdealRun.Frame
public import proofs.«01_k».proof.Proof.Gen.InProjReferenceIdeal.Run
public import Idealize.ShloMosaic.Lib.Pointwise
public import Idealize.ShloMosaic.Lib.Pipeline.ValueKit
public import Idealize.ShloMosaic.Lib.Claim

@[expose] public section

set_option maxRecDepth 16384

noncomputable section

namespace Cert.InProjIdeal.Value

open Idealize.ShloMosaic Idealize.ShloMosaic.TcCoe Idealize.ShloMosaic.Tactic
open Idealize.ShloMosaic.Pipeline (Dat Cfg Window)
open Cert.InProjIdeal.Gen Cert.InProjIdeal.In

/-! ## The plain formulas -/

/-- The RMS norm of the rows, scaled lane by lane. -/
def hidden (X : FVec Ideal S32768x2048 .f32) (N : FVec Ideal S1x2048 .f32) : FVec Ideal S32768x2048 .bf16 :=
  truncf .bf16 (mulf (mulf X (broadcastInDim S32768x2048 ![0, 1] Cert.InProjReferenceIdeal.Facts₀.bcast_S32768x1_S32768x2048_0_1
      (Host.rsqrt (addf (Host.divf (broadcastInDim Cert.InProjReferenceIdeal.S32768x1 ![0] Cert.InProjReferenceIdeal.Facts₀.bcast_S32768_S32768x1_0
          (Host.reduceAdd (mulf X X) (constant Cert.InProjReferenceIdeal.S_ .f32 0x00000000#32) Cert.InProjReferenceIdeal.Facts₀.reducesTo_S32768x2048_S32768_d1 Cert.InProjReferenceIdeal.Facts₀.h_S_))
        (broadcastInDim Cert.InProjReferenceIdeal.S32768x1 ![] Cert.InProjReferenceIdeal.Facts₀.bcast_S_S32768x1 (constant Cert.InProjReferenceIdeal.S_ .f32 0x45000000#32)))
        (broadcastInDim Cert.InProjReferenceIdeal.S32768x1 ![] Cert.InProjReferenceIdeal.Facts₀.bcast_S_S32768x1 (constant Cert.InProjReferenceIdeal.S_ .f32 0x358637BD#32))))))
      (broadcastInDim S32768x2048 ![0, 1] Cert.InProjReferenceIdeal.Facts₀.bcast_S1x2048_S32768x2048_0_1 N)) bitsLt_bf16_f32

/-- Rows times all the weights. -/
def prod (H : FVec Ideal S32768x2048 .bf16) (W : FVec Ideal S2048x6144 .bf16) : FVec Ideal Cert.InProjReferenceIdeal.S32768x6144 .f32 :=
  Host.dotGeneral (F := Ideal) Cert.InProjReferenceIdeal.dot_S32768x2048_S2048x6144_S32768x6144_1_0_0_1_n_n none
    (extf .f32 H bitsLt_bf16_f32) (extf .f32 W bitsLt_bf16_f32)

/-- The first result: the queries scaled, beside the next four blocks of columns. -/
def mainOf (Z : FVec Ideal Cert.InProjReferenceIdeal.S32768x6144 .f32) : FVec Ideal S32768x5120 .bf16 :=
  concatenate S32768x5120 1 [⟨S32768x1024, truncf .bf16 (mulf
      (extractStridedSlice S32768x1024 ![0, 0] Z Cert.InProjReferenceIdeal.Facts₀.slices_S32768x6144_S32768x1024_0_0)
      (broadcastInDim S32768x1024 ![] Cert.InProjReferenceIdeal.Facts₀.bcast_S_S32768x1024 (constant Cert.InProjReferenceIdeal.S_ .f32 0x3E0293EE#32))) bitsLt_bf16_f32⟩,
    ⟨Cert.InProjReferenceIdeal.S32768x4096, truncf .bf16
      (extractStridedSlice Cert.InProjReferenceIdeal.S32768x4096 ![0, 1024] Z Cert.InProjReferenceIdeal.Facts₀.slices_S32768x6144_S32768x4096_0_1024) bitsLt_bf16_f32⟩]
    Cert.InProjReferenceIdeal.Facts₀.concatenates_S32768x1024_S32768x4096_S32768x5120_d1

/-- The second: the last 1024 columns, not rounded. -/
def tailOf (Z : FVec Ideal Cert.InProjReferenceIdeal.S32768x6144 .f32) : FVec Ideal S32768x1024 .f32 :=
  extractStridedSlice S32768x1024 ![0, 5120] Z Cert.InProjReferenceIdeal.Facts₀.slices_S32768x6144_S32768x1024_0_5120

/-- The third: the gates. -/
def gateOf (H : FVec Ideal S32768x2048 .bf16) (G : FVec Ideal S2048x128 .bf16) : FVec Ideal S32768x128 .f32 :=
  Host.dotGeneral (F := Ideal) Cert.InProjReferenceIdeal.dot_S32768x2048_S2048x128_S32768x128_1_0_0_1_n_n none
    (extf .f32 H bitsLt_bf16_f32) (extf .f32 G bitsLt_bf16_f32)

/-- The bound of each head's norm, from 1024 columns. -/
def boundOf (A : FVec Ideal S32768x1024 .bf16) (G : FVec Ideal S1024x128 .bf16) : FVec Ideal S32768x128 .f32 :=
  mulf (Host.sqrt (Host.dotGeneral (F := Ideal) Cert.InProjReferenceIdeal.dot_S32768x1024_S1024x128_S32768x128_1_0_0_1_n_n none
      (extf .f32 (truncf .bf16 (mulf (extf .f32 A bitsLt_bf16_f32) (extf .f32 A bitsLt_bf16_f32)) bitsLt_bf16_f32) bitsLt_bf16_f32) (extf .f32 G bitsLt_bf16_f32)))
    (broadcastInDim S32768x128 ![] Cert.InProjReferenceIdeal.Facts₀.bcast_S_S32768x128 (constant Cert.InProjReferenceIdeal.S_ .f32 0x3F810000#32))

/-- The fourth: the bound of the queries. -/
def queryBound (M : FVec Ideal S32768x5120 .bf16) (G : FVec Ideal S1024x128 .bf16) : FVec Ideal S32768x128 .f32 :=
  boundOf (extractStridedSlice S32768x1024 ![0, 0] M Cert.InProjReferenceIdeal.Facts₀.slices_S32768x5120_S32768x1024_0_0) G

/-- The fifth: the bound of the keys. -/
def keyBound (M : FVec Ideal S32768x5120 .bf16) (G : FVec Ideal S1024x128 .bf16) : FVec Ideal S32768x128 .f32 :=
  boundOf (extractStridedSlice S32768x1024 ![0, 1024] M Cert.InProjReferenceIdeal.Facts₀.slices_S32768x5120_S32768x1024_0_1024) G

/-! ## Where the blocks lie -/

/-- Where each window's block lies at a grid point. -/
theorem idx : ∀ t : Fin cfg0.N, win0_0.index t = ![t.val / 6, 0] ∧ win0_1.index t = ![0, 0] ∧ win0_2.index t = ![0, t.val % 6]
    ∧ win0_3.index t = ![0, 0] ∧ win0_4.index t = ![0, 0] ∧ win0_5.index t = ![t.val / 6, min (t.val % 6) 4]
    ∧ win0_6.index t = ![t.val / 6, t.val % 6 - 5] ∧ win0_7.index t = ![t.val / 6, 0] ∧ win0_8.index t = ![t.val / 6, 0]
    ∧ win0_9.index t = ![t.val / 6, 0] ∧ t.val < 192 :=
  (by decide +kernel : ∀ t : Fin grid0.N, _)

/-- Which points hold the queries' columns. -/
theorem isFirst : ∀ t : Fin cfg0.N, Scalar.cmpi .slt (BitVec.ofNat 32 ((cfg0.grid.coords t) 1).val) 1#32 = if t.val % 6 = 0 then 1#1 else 0#1 :=
  (by decide +kernel : ∀ t : Fin grid0.N, _)

variable (m : (ℓ : Loc nD τ sig) → Buf (Elt Ideal) ℓ) (c : Dev nD)

/-- The normalised rows over the arguments of one device, -/
def rows : FVec Ideal S32768x2048 .bf16 := hidden (m ((c : Thread nD τ).loc main_arg0)) (m ((c : Thread nD τ).loc main_arg1))
/-- and their product with the weights. -/
def cols : FVec Ideal Cert.InProjReferenceIdeal.S32768x6144 .f32 := prod (rows m c) (m ((c : Thread nD τ).loc main_arg2))

/-- A point's rows are the rows of its block. -/
theorem rows_point (t : Fin cfg0.N) (y : S1024x2048.Idx) :
    rowsAt m c t y = rows m c (((cfg0.win 0).blk t).view.emb y) := by
  pointwise [rowsAt, k0_pay2, k0_pay1, rows, hidden]
  blk_point [iblk, V, idx t]

/-- A point's gates are those of its block. -/
theorem gates_point (t : Fin cfg0.N) (y : S1024x128.Idx) :
    gatesAt m c t y = gateOf (rows m c) (m ((c : Thread nD τ).loc main_arg3)) (((cfg0.win 7).blk t).view.emb y) := by
  pointwise [gatesAt, k0_pay3, k0_pay1, gateOf, rows, hidden]
  blk_point [iblk, V, idx t]

/-- The rows of a point's block, taken from the whole. -/
def block (t : Fin cfg0.N) : FVec Ideal S1024x2048 .bf16 := fun y => rows m c (((cfg0.win 0).blk t).view.emb y)

/-- Points of the same block of rows. -/
theorem block_eq (s t : Fin cfg0.N) (h : s.val / 6 = t.val / 6) : block m c s = block m c t := by
  funext y
  refine congrArg (rows m c) ?_
  have e : win0_0.index s = ![t.val / 6, 0] := (idx s).1.trans (by rw [h])
  blk_ext [e, (idx t).1]

/-- The rows kept at a point are those of its block. -/
theorem kept_block (t : Fin cfg0.N) : kept m c t.val = block m c t := by
  have hN : t.val < 192 := (idx t).2.2.2.2.2.2.2.2.2.2
  unfold kept
  rw [show rowsAt m c (pt (t.val - t.val % 6)) = block m c (pt (t.val - t.val % 6)) from funext fun y => rows_point m c _ y]
  exact block_eq m c _ _ (by show (t.val - t.val % 6) % 192 / 6 = _; omega)

/-- The last block of columns. -/
theorem last_point (t : Fin cfg0.N) (h : t.val % 6 = 5) (y : S1024x1024.Idx) :
    lastAt m c t (block m c t) y = tailOf (cols m c) (((cfg0.win 6).blk t).view.emb y) := by
  pointwise [lastAt, k0_pay4, tailOf, cols, prod, block]
  blk_point [iblk, V, idx t, h]

/-- The first result at a query's column -/
theorem main_left (Z : FVec Ideal Cert.InProjReferenceIdeal.S32768x6144 .f32) (j : S32768x5120.Idx) (h : (j 1).val < 1024) :
    mainOf Z j = Z (ix2 (j 0) ⟨(j 1).val, by omega⟩) * Ideal.ofBits .f32 0x3E0293EE#32 := by
  pointwise [mainOf, h]
/-- and at another. -/
theorem main_right (Z : FVec Ideal Cert.InProjReferenceIdeal.S32768x6144 .f32) (j : S32768x5120.Idx) (h : ¬ (j 1).val < 1024) :
    mainOf Z j = Z (ix2 (j 0) ⟨(j 1).val, by have : (j 1).val < 5120 := (j 1).isLt; omega⟩) := by
  pointwise [mainOf, h]
  refine congrArg Z ?_
  idx_ext

/-- The column of an entry of the first result's block. -/
theorem col_val (t : Fin cfg0.N) (y : S1024x1024.Idx) :
    ((((cfg0.win 5).blk t).view.emb y : S32768x5120.Idx) 1).val = min (t.val % 6) 4 * 1024 + (y 1).val := by
  blk_simp [idx t]

/-- The first block of columns, scaled. -/
theorem cols_first (t : Fin cfg0.N) (h : t.val % 6 = 0) (y : S1024x1024.Idx) :
    colsAt m c t (block m c t) y = mainOf (cols m c) (((cfg0.win 5).blk t).view.emb y) := by
  have hy : (y 1).val < 1024 := (y 1).isLt
  refine Eq.trans ?_ (main_left (cols m c) _ (by rw [col_val, h]; omega)).symm
  pointwise [colsAt, k0_pay5, k0_pay4, cols, prod, block, isFirst t, h]
  blk_point [iblk, V, idx t, h]

/-- The next four, unscaled. -/
theorem cols_next (t : Fin cfg0.N) (h : t.val % 6 ≠ 0) (h5 : t.val % 6 ≠ 5) (y : S1024x1024.Idx) :
    colsAt m c t (block m c t) y = mainOf (cols m c) (((cfg0.win 5).blk t).view.emb y) := by
  have hy : (y 1).val < 1024 := (y 1).isLt
  have hm : min (t.val % 6) 4 = t.val % 6 := by omega
  refine Eq.trans ?_ (main_right (cols m c) _ (by rw [col_val]; omega)).symm
  pointwise [colsAt, k0_pay5, k0_pay4, cols, prod, block, isFirst t, h]
  blk_point [iblk, V, idx t, hm]

/-- The bound a point computes from a block of columns. -/
def boundAt (A : FVec Ideal S1024x1024 .bf16) (G : FVec Ideal S1024x128 .bf16) : FVec Ideal S1024x128 .f32 :=
  mulf (sqrt (matmul dot_S1024x1024_S1024x128_S1024x128_1_0_0_1_n_n none
      (truncf .bf16 (mulf (extf .f32 A bitsLt_bf16_f32) (extf .f32 A bitsLt_bf16_f32)) bitsLt_bf16_f32) G (constant S1024x128 .f32 0x00000000#32)))
    (broadcast S1024x128 (Scalar.ofBits .f32 0x3F810000#32))

theorem queryBoundAt_eq (t : Fin cfg0.N) (h : Vec Ideal S1024x2048 .bf16) :
    queryBoundAt m c t h = boundAt (colsAt m c t h) (iblk m c 4 t) := rfl
theorem keyBoundAt_eq (t : Fin cfg0.N) (h : Vec Ideal S1024x2048 .bf16) :
    keyBoundAt m c t h = boundAt (colsAt m c t h) (iblk m c 4 t) := rfl

/-- From the first block of columns it is the queries' bound, -/
theorem query_point (t : Fin cfg0.N) (h : t.val % 6 = 0) (y : S1024x128.Idx) (M : FVec Ideal S32768x5120 .bf16) :
    boundAt (fun x => M (((cfg0.win 5).blk t).view.emb x)) (iblk m c 4 t) y
      = queryBound M (m ((c : Thread nD τ).loc main_arg4)) (((cfg0.win 8).blk t).view.emb y) := by
  pointwise [boundAt, queryBound, boundOf]
  blk_point [iblk, V, idx t, h]

/-- and from the second the keys'. -/
theorem key_point (t : Fin cfg0.N) (h : t.val % 6 = 1) (y : S1024x128.Idx) (M : FVec Ideal S32768x5120 .bf16) :
    boundAt (fun x => M (((cfg0.win 5).blk t).view.emb x)) (iblk m c 4 t) y
      = keyBound M (m ((c : Thread nD τ).loc main_arg4)) (((cfg0.win 9).blk t).view.emb y) := by
  pointwise [boundAt, keyBound, boundOf]
  blk_point [iblk, V, idx t, h]

/-! ## From the point that stores to the point that writes back -/

/-- Two points whose blocks of one array agree. -/
theorem emb_congr (s t : Fin cfg0.N) (h : s.val / 6 = t.val / 6) :
    (min (s.val % 6) 4 = min (t.val % 6) 4 → ∀ y, ((cfg0.win 5).blk s).view.emb y = ((cfg0.win 5).blk t).view.emb y)
    ∧ (∀ y, ((cfg0.win 7).blk s).view.emb y = ((cfg0.win 7).blk t).view.emb y)
    ∧ (∀ y, ((cfg0.win 8).blk s).view.emb y = ((cfg0.win 8).blk t).view.emb y)
    ∧ (∀ y, ((cfg0.win 9).blk s).view.emb y = ((cfg0.win 9).blk t).view.emb y) := by
  refine ⟨fun hc y => ?_, fun y => ?_, fun y => ?_, fun y => ?_⟩
  · blk_ext [idx s, idx t, h, hc]
  · blk_ext [idx s, idx t, h]
  · blk_ext [idx s, idx t, h]
  · blk_ext [idx s, idx t, h]

/-- A number below 192 is its point's. -/
theorem val_pt (n : ℕ) (h : n < 192) : (pt n).val = n := Nat.mod_eq_of_lt h

/-- The block of columns of any point but the last. -/
theorem cols_point (t : Fin cfg0.N) (h5 : t.val % 6 ≠ 5) : colsAt m c t (block m c t) = fun y => mainOf (cols m c) (((cfg0.win 5).blk t).view.emb y) := by
  funext y
  by_cases h : t.val % 6 = 0
  · exact cols_first m c t h y
  · exact cols_next m c t h h5 y

/-! ## The five arrays after the grid -/

/-- The first holds the scaled queries and the next four blocks of columns. -/
theorem final_main : (dats m 0 c).arrAt 5 (cfgs 0).N = mainOf (cols m c) := by
  refine (dats m 0 c).arrAt_eq_of_covers 5 _ (by decide +kernel) fun t _ y => ?_
  have hN : t.val < 192 := (idx t).2.2.2.2.2.2.2.2.2.2
  blk_simp
  rw [after_5, kept_block]
  have hs := val_pt (t.val - t.val % 6 / 5) (by omega)
  have hd : (pt (t.val - t.val % 6 / 5)).val / 6 = t.val / 6 := by rw [hs]; omega
  rw [← block_eq m c (pt (t.val - t.val % 6 / 5)) t hd, cols_point m c _ (by rw [hs]; omega)]
  exact congrArg (mainOf (cols m c)) ((emb_congr _ t hd).1 (by rw [hs]; omega) y)

/-- The second the last block of columns. -/
theorem final_tail : (dats m 0 c).arrAt 6 (cfgs 0).N = tailOf (cols m c) := by
  refine (dats m 0 c).arrAt_eq_of_covers 6 _ (by decide +kernel) fun t hf y => ?_
  have h5 : t.val % 6 = 5 := of_decide_eq_true ((flush_6 t).symm.trans hf)
  blk_simp
  rw [after_6, kept_block]
  exact last_point m c t h5 y

/-- The third the gates. -/
theorem final_gate : (dats m 0 c).arrAt 7 (cfgs 0).N = gateOf (rows m c) (m ((c : Thread nD τ).loc main_arg3)) := by
  refine (dats m 0 c).arrAt_eq_of_covers 7 _ (by decide +kernel) fun t _ y => ?_
  have hN : t.val < 192 := (idx t).2.2.2.2.2.2.2.2.2.2
  blk_simp
  rw [after_7]
  have hs := val_pt (t.val - t.val % 6) (by omega)
  exact (gates_point m c _ y).trans (congrArg (gateOf (rows m c) _) ((emb_congr (pt (t.val - t.val % 6)) t (by rw [hs]; omega)).2.1 y))

/-- The fourth the queries' bound. -/
theorem final_query : (dats m 0 c).arrAt 8 (cfgs 0).N = queryBound (mainOf (cols m c)) (m ((c : Thread nD τ).loc main_arg4)) := by
  refine (dats m 0 c).arrAt_eq_of_covers 8 _ (by decide +kernel) fun t _ y => ?_
  have hN : t.val < 192 := (idx t).2.2.2.2.2.2.2.2.2.2
  blk_simp
  rw [after_8, kept_block]
  have hs := val_pt (t.val - t.val % 6) (by omega)
  have hd : (pt (t.val - t.val % 6)).val / 6 = t.val / 6 := by rw [hs]; omega
  rw [← block_eq m c (pt (t.val - t.val % 6)) t hd, queryBoundAt_eq, cols_point m c _ (by rw [hs]; omega)]
  exact (query_point m c _ (by rw [hs]; omega) y _).trans (congrArg (queryBound _ _) ((emb_congr _ t hd).2.2.1 y))

/-- The fifth the keys'. -/
theorem final_key : (dats m 0 c).arrAt 9 (cfgs 0).N = keyBound (mainOf (cols m c)) (m ((c : Thread nD τ).loc main_arg4)) := by
  refine (dats m 0 c).arrAt_eq_of_covers 9 _ (by decide +kernel) fun t _ y => ?_
  have hN : t.val < 192 := (idx t).2.2.2.2.2.2.2.2.2.2
  blk_simp
  rw [after_9, kept_block]
  have hs := val_pt (t.val - t.val % 6 + 1) (by omega)
  have hd : (pt (t.val - t.val % 6 + 1)).val / 6 = t.val / 6 := by rw [hs]; omega
  rw [← block_eq m c (pt (t.val - t.val % 6 + 1)) t hd, keyBoundAt_eq, cols_point m c _ (by rw [hs]; omega)]
  exact (key_point m c _ (by rw [hs]; omega) y _).trans (congrArg (keyBound _ _) ((emb_congr _ t hd).2.2.2 y))

end Cert.InProjIdeal.Value

end
-- ==== Proof.OutValue.Output.lean ====
/-
The output projection over the extended reals. A grid point holds 512 rows, which its body computes in two halves of
256: the two head groups' products with their weights, added to the residual, and the sum's RMS norm, written
transposed. Each half agrees, entry by entry, with the plain formula over the whole arrays.
-/
module

public import proofs.«01_k».proof.Proof.Gen.OutProjIdeal.Frame
public import proofs.«01_k».proof.Proof.Gen.OutProjReferenceIdeal.Run
public import Idealize.ShloMosaic.Lib.Pointwise
public import Idealize.ShloMosaic.Lib.Pipeline.ValueKit
public import Idealize.ShloMosaic.Lib.Claim

@[expose] public section

set_option maxRecDepth 16384

noncomputable section

namespace Cert.OutProjIdeal.Value

open Idealize.ShloMosaic Idealize.ShloMosaic.TcCoe Idealize.ShloMosaic.Tactic
open Idealize.ShloMosaic.Pipeline (Dat Cfg Window)
open Cert.OutProjIdeal.Gen

/-- The first result, plainly: the residual plus the two products. -/
def total (A B : FVec Ideal S32768x1024 .bf16) (X : FVec Ideal S32768x2048 .f32) (WA WB : FVec Ideal S1024x2048 .bf16) :
    FVec Ideal S32768x2048 .f32 :=
  addf X (addf (Host.dotGeneral (F := Ideal) Cert.OutProjReferenceIdeal.dot_S32768x1024_S1024x2048_S32768x2048_1_0_0_1_n_n none
      (extf .f32 A bitsLt_bf16_f32) (extf .f32 WA bitsLt_bf16_f32))
    (Host.dotGeneral (F := Ideal) Cert.OutProjReferenceIdeal.dot_S32768x1024_S1024x2048_S32768x2048_1_0_0_1_n_n none
      (extf .f32 B bitsLt_bf16_f32) (extf .f32 WB bitsLt_bf16_f32)))

/-- The second result, plainly: the RMS norm of the sum's rows, scaled lane by lane, transposed. -/
def normed (x : FVec Ideal S32768x2048 .f32) (N : FVec Ideal S1x2048 .f32) : FVec Ideal S2048x32768 .bf16 :=
  truncf .bf16 (transpose S2048x32768 [1, 0] (mulf (mulf x (broadcastInDim S32768x2048 ![0, 1] Cert.OutProjReferenceIdeal.Facts₀.bcast_S32768x1_S32768x2048_0_1
      (Host.rsqrt (addf (Host.divf (broadcastInDim Cert.OutProjReferenceIdeal.S32768x1 ![0] Cert.OutProjReferenceIdeal.Facts₀.bcast_S32768_S32768x1_0
          (Host.reduceAdd (mulf x x) (constant Cert.OutProjReferenceIdeal.S_ .f32 0x00000000#32) Cert.OutProjReferenceIdeal.Facts₀.reducesTo_S32768x2048_S32768_d1 Cert.OutProjReferenceIdeal.Facts₀.h_S_))
        (broadcastInDim Cert.OutProjReferenceIdeal.S32768x1 ![] Cert.OutProjReferenceIdeal.Facts₀.bcast_S_S32768x1 (constant Cert.OutProjReferenceIdeal.S_ .f32 0x45000000#32)))
        (broadcastInDim Cert.OutProjReferenceIdeal.S32768x1 ![] Cert.OutProjReferenceIdeal.Facts₀.bcast_S_S32768x1 (constant Cert.OutProjReferenceIdeal.S_ .f32 0x358637BD#32))))))
      (broadcastInDim S32768x2048 ![0, 1] Cert.OutProjReferenceIdeal.Facts₀.bcast_S1x2048_S32768x2048_0_1 N)) Cert.OutProjReferenceIdeal.Facts₀.transposes_S32768x2048_S2048x32768_1_0) bitsLt_bf16_f32

variable (m : (ℓ : Loc nD τ sig) → Buf (Elt Ideal) ℓ) (c : Dev nD)

/-- The first result over the arguments of one device. -/
def sumOf : FVec Ideal S32768x2048 .f32 :=
  total (m ((c : Thread nD τ).loc main_arg0)) (m ((c : Thread nD τ).loc main_arg1)) (m ((c : Thread nD τ).loc main_arg2))
    (m ((c : Thread nD τ).loc main_arg3)) (m ((c : Thread nD τ).loc main_arg4))

/-- Where each window's block lies at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![0, t.val] ∧ t.val < 64 :=
  (by decide +kernel : ∀ t : Fin grid0.N, _)

/-- The block left in the first result's buffer is the sum's rows. -/
theorem point_sum (t : Fin cfg0.N) (y : S512x2048.Idx) :
    out0_6 (iblk m c 0 t) (iblk m c 1 t) (iblk m c 2 t) (iblk m c 3 t) (iblk m c 4 t) (iblk m c 5 t) y
      = sumOf m c (((cfg0.win 6).blk t).view.emb y) := by
  canon_tiles x h
  · pointwise [k0_pay2, k0_pay8, k0_pay4, sumOf, total]
    blk_point [iblk, V, idx t]
  · pointwise [k0_pay5, sumOf, total]
    blk_point [iblk, V, idx t]

/-- The block left in the second result's buffer is the norm of the sum's rows, transposed. -/
theorem point_norm (t : Fin cfg0.N) (y : S2048x512.Idx) :
    out0_7 (iblk m c 0 t) (iblk m c 1 t) (iblk m c 2 t) (iblk m c 3 t) (iblk m c 4 t) (iblk m c 5 t) y
      = normed (sumOf m c) (m ((c : Thread nD τ).loc main_arg5)) (((cfg0.win 7).blk t).view.emb y) := by
  canon_tiles x h
  · pointwise [k0_pay3, k0_pay2, k0_pay8, k0_pay4, sumOf, total, normed]
    blk_point [iblk, V, idx t]
  · pointwise [k0_pay1, k0_pay6, k0_pay7, k0_pay5, sumOf, total, normed]
    blk_point [iblk, V, idx t]

/-- After the grid the first array holds the sum. -/
theorem final_sum : (dats m 0 c).arrAt 6 (cfgs 0).N = sumOf m c := by
  refine (dats m 0 c).arrAt_eq_of_covers 6 _ (by decide +kernel) fun t _ y => ?_
  blk_simp
  rw [after0_6]
  exact point_sum m c t y

/-- And the second its norm. -/
theorem final_norm : (dats m 0 c).arrAt 7 (cfgs 0).N = normed (sumOf m c) (m ((c : Thread nD τ).loc main_arg5)) := by
  refine (dats m 0 c).arrAt_eq_of_covers 7 _ (by decide +kernel) fun t _ y => ?_
  blk_simp
  rw [after0_7]
  exact point_norm m c t y

end Cert.OutProjIdeal.Value

end
-- ==== Proof.ExIdealRun.Step.lean ====
/- What the experts' body computes from the blocks a point is handed, in the operations the body is written with, and
   the tests that choose between its four branches. -/
module

public import proofs.«01_k».proof.Proof.Gen.ExpertsIdeal.Frame
public import proofs.«01_k».proof.Proof.Gen.ExpertsIdeal.Skeleton
public import Idealize.ShloMosaic.Lib.Pipeline.ValueKit
public import Idealize.ShloMosaic.Lib.Claim

@[expose] public section

set_option maxRecDepth 16384

noncomputable section

namespace Cert.ExpertsIdeal.Ex

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches -/

/-- The point that opens a block of tokens. -/
def isOpen (i : grid0.Coords) : BitVec 1 :=
  Scalar.cmpi .ne (Scalar.extui (Scalar.cmpi .eq (BitVec.ofNat 32 (i 1).val) 0#32) : BitVec 32) 0#32
/-- A middle point of odd number. -/
def isOdd (i : grid0.Coords) : BitVec 1 :=
  let k : BitVec 32 := BitVec.ofNat 32 (i 1).val
  let b : BitVec 1 := Scalar.andi (Scalar.cmpi .sgt k 0#32) (Scalar.cmpi .slt k 16#32)
  let w : BitVec 32 := Scalar.select (Scalar.cmpi .eq 2#32 0#32) 1#32 2#32
  let q : BitVec 32 := Scalar.remsi k w
  let p : BitVec 1 := Scalar.andi (Scalar.xori (Scalar.cmpi .slt q 0#32) (Scalar.cmpi .slt w 0#32)) (Scalar.cmpi .ne q 0#32)
  Scalar.cmpi .ne (Scalar.extui (Scalar.andi b (Scalar.cmpi .eq (Scalar.select p (Scalar.addi q w) q) 1#32)) : BitVec 32) 0#32
/-- A middle point of even number. -/
def isEven (i : grid0.Coords) : BitVec 1 :=
  let k : BitVec 32 := BitVec.ofNat 32 (i 1).val
  let b : BitVec 1 := Scalar.andi (Scalar.cmpi .sgt k 0#32) (Scalar.cmpi .slt k 16#32)
  let w : BitVec 32 := Scalar.select (Scalar.cmpi .eq 2#32 0#32) 1#32 2#32
  let q : BitVec 32 := Scalar.remsi k w
  let p : BitVec 1 := Scalar.andi (Scalar.xori (Scalar.cmpi .slt q 0#32) (Scalar.cmpi .slt w 0#32)) (Scalar.cmpi .ne q 0#32)
  Scalar.cmpi .ne (Scalar.extui (Scalar.andi b (Scalar.cmpi .eq (Scalar.select p (Scalar.addi q w) q) 0#32)) : BitVec 32) 0#32

/-! ## What a step computes, as the body writes it -/

/-- A row of the gates' thresholds or weights, rounded and given to all 128 experts of a slab. -/
def spreadRow (x : Vec F S8x8x512 .f32) (h ii : ℕ) (inb : ∀ a, (![h, ii, 0] : Fin 3 → Nat) a + S1x1x512.size a ≤ S8x8x512.size a) : FVec F S128x512 .bf16 :=
  shapeCast S128x512 (broadcastTo S8x16x512 (shapeCast S1x16x512 (shapeCast S1x16x512 (truncf .bf16 (broadcastTo S16x512
    (shapeCast S1x512 (shapeCast S1x512 (View.ld x (Rect.unit (s := S8x8x512) ![h, ii, 0] S1x1x512.size inb)) shapeCasts_S1x1x512_S1x512) shapeCasts_S1x512_S1x512)
    broadcasts_S1x512_S16x512) bitsLt_bf16_f32) shapeCasts_S16x512_S1x16x512) shapeCasts_S1x16x512_S1x16x512) broadcasts_S1x16x512_S8x16x512) shapeCasts_S8x16x512_S128x512

/-- The rows of a head. -/
def headRows (x : Vec F S8x128x512 .bf16) (h : ℕ) (inb : ∀ a, (![h, 0, 0] : Fin 3 → Nat) a + S1x128x512.size a ≤ S8x128x512.size a) : FVec F S128x512 .bf16 :=
  shapeCast S128x512 (View.ld x (Rect.unit (s := S8x128x512) ![h, 0, 0] S1x128x512.size inb)) shapeCasts_S1x128x512_S128x512

/-- The rectangles stay within their blocks. -/
theorem row_in {h ii : ℕ} (hh : h < 8) (hi : ii < 8) : ∀ a, (![h, ii, 0] : Fin 3 → Nat) a + S1x1x512.size a ≤ S8x8x512.size a := fun a =>
  match a with | ⟨0, _⟩ => hh | ⟨1, _⟩ => hi | ⟨2, _⟩ => le_refl 512
theorem head_in {h : ℕ} (hh : h < 8) : ∀ a, (![h, 0, 0] : Fin 3 → Nat) a + S1x128x512.size a ≤ S8x128x512.size a := fun a =>
  match a with | ⟨0, _⟩ => hh | ⟨1, _⟩ => le_refl 128 | ⟨2, _⟩ => le_refl 512
theorem slab_in {ii : ℕ} (hi : ii < 8) : ∀ a, (![128 * ii, 0] : Fin 2 → Nat) a + S128x512.size a ≤ S1024x512.size a := fun a =>
  match a with | ⟨0, _⟩ => (show 128 * ii + 128 ≤ 1024 by omega) | ⟨1, _⟩ => le_refl 512

/-- A head's share of the gates of a slab: its scores times its weight where the threshold is not reached. -/
def headGate (e c : Vec F S8x128x512 .bf16) (n w : Vec F S8x8x512 .f32) {h ii : ℕ} (hh : h < 8) (hi : ii < 8) : FVec F S128x512 .bf16 :=
  select (cmpf .olt (headRows c h (head_in hh)) (spreadRow n h ii (row_in hh hi)))
    (mulf (headRows e h (head_in hh)) (spreadRow w h ii (row_in hh hi))) (broadcast S128x512 (Scalar.ofBits .bf16 0x0000#16))

/-- The gates of a slab: the eight heads' shares. -/
def slabGate (e c : Vec F S8x128x512 .bf16) (n w : Vec F S8x8x512 .f32) {ii : ℕ} (hi : ii < 8) : FVec F S128x512 .bf16 :=
  addf (addf (addf (addf (addf (addf (addf (addf (broadcast S128x512 (Scalar.ofBits .bf16 0x0000#16))
    (headGate e c n w (h := 0) (by decide) hi)) (headGate e c n w (h := 1) (by decide) hi)) (headGate e c n w (h := 2) (by decide) hi))
    (headGate e c n w (h := 3) (by decide) hi)) (headGate e c n w (h := 4) (by decide) hi)) (headGate e c n w (h := 5) (by decide) hi))
    (headGate e c n w (h := 6) (by decide) hi)) (headGate e c n w (h := 7) (by decide) hi)

/-- The activation of a slab's products, times the gates. -/
def slabAct (e c : Vec F S8x128x512 .bf16) (n w : Vec F S8x8x512 .f32) (s : Vec F S128x512 .f32) {ii : ℕ} (hi : ii < 8) : FVec F S128x512 .bf16 :=
  mulf (truncf .bf16 (mulf s (addf (broadcast S128x512 (Scalar.ofBits .f32 0x3F800000#32))
    (erf (mulf s (broadcast S128x512 (Scalar.ofBits .f32 0x3F3504F3#32)))))) bitsLt_bf16_f32) (slabGate e c n w hi)

/-- A slab of the products. -/
def slabOf (s : Vec F S1024x512 .f32) {off : Fin 2 → ℕ} (inb : ∀ a, off a + S128x512.size a ≤ S1024x512.size a) : Vec F S128x512 .f32 :=
  View.ld s (Rect.unit (s := S1024x512) off S128x512.size inb)

/-- The eight slabs of a chunk of experts. -/
def chunkAct (e c : Vec F S8x128x512 .bf16) (n w : Vec F S8x8x512 .f32) (s : Vec F S1024x512 .f32) : FVec F S1024x512 .bf16 :=
  concatenate S1024x512 0 [⟨S128x512, slabAct e c n w (slabOf s (slab_in (ii := 0) (by decide))) (ii := 0) (by decide)⟩, ⟨S128x512, slabAct e c n w (slabOf s (slab_in (ii := 1) (by decide))) (ii := 1) (by decide)⟩, ⟨S128x512, slabAct e c n w (slabOf s (slab_in (ii := 2) (by decide))) (ii := 2) (by decide)⟩, ⟨S128x512, slabAct e c n w (slabOf s (slab_in (ii := 3) (by decide))) (ii := 3) (by decide)⟩, ⟨S128x512, slabAct e c n w (slabOf s (slab_in (ii := 4) (by decide))) (ii := 4) (by decide)⟩, ⟨S128x512, slabAct e c n w (slabOf s (slab_in (ii := 5) (by decide))) (ii := 5) (by decide)⟩, ⟨S128x512, slabAct e c n w (slabOf s (slab_in (ii := 6) (by decide))) (ii := 6) (by decide)⟩, ⟨S128x512, slabAct e c n w (slabOf s (slab_in (ii := 7) (by decide))) (ii := 7) (by decide)⟩]
    concatenates_S128x512_S128x512_S128x512_S128x512_S128x512_S128x512_S128x512_S128x512_S1024x512_d0

/-- The experts' outputs so far, with a chunk's added. -/
def withChunk (v : Vec F S2048x1024 .bf16) (e c : Vec F S8x128x512 .bf16) (n w : Vec F S8x8x512 .f32) (s : Vec F S1024x512 .f32) (y : Vec F S2048x512 .f32) : Vec F S2048x512 .f32 :=
  k0_pay358 (chunkAct e c n w s) y v

/-- The layer's result on a block of tokens. -/
def result (x : Vec F S512x2048 .f32) (g : Vec F S1x2048 .f32) (y : Vec F S2048x512 .f32) : Vec F S512x2048 .f32 :=
  k0_pay2 (k0_pay354 x y) (k0_pay355 x y) g

end Cert.ExpertsIdeal.Ex

end
-- ==== Proof.ExIdealRun.Runs.lean ====
/- The four ways the experts' body runs at a point, each with what it loads and what it leaves. -/
module

public import proofs.«01_k».proof.Proof.ExIdealRun.Step
public import Idealize.ShloMosaic.Lib.Claim

@[expose] public section

set_option maxRecDepth 16384

noncomputable section

namespace Cert.ExpertsIdeal.Ex

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one store over a whole block leaves is what was stored. -/
theorem read_store {S : Shape} {e : EltTy} (a : Memref sig .tc .vmem S e) {off : Fin S.rank → Nat} (hz : ∀ k, off k = 0)
    (inb : ∀ k, off k + S.size k ≤ S.size k) (f : a.view.ty.Contents (Elt F)) (w : S.Idx → Elt F e) :
    a.view.read (Elt F) (a.view.writes (Elt F) f [⟨Rect.unit off S.size inb, w⟩]) = w := by
  obtain rfl : off = fun _ => 0 := funext hz
  refine (View.read_writes_eq_canon _ _ _ fun y => ⟨_, List.mem_singleton.2 rfl, ?_⟩).trans
    (View.canon_cons_unit_zero rfl inb w [])
  exact View.mem_set_unit_zero rfl inb y

/-- A load of a whole block reads the block. -/
theorem read_load {S : Shape} {e : EltTy} (a : Memref sig .tc .vmem S e) {off : Fin S.rank → Nat} (hz : ∀ k, off k = 0)
    (inb : ∀ k, off k + S.size k ≤ S.size k) (f : a.view.ty.Contents (Elt F)) :
    View.readAt (Elt F) a.view (Rect.unit off S.size inb).toLoadRect f = a.view.read (Elt F) f :=
  View.ld_unit_lit inb (a.view.read (Elt F) f) hz

set_option maxHeartbeats 8000000 in
/-- The first point of a block of tokens: it clears the outputs and keeps the products with the first chunk of experts. -/
theorem runOpen (c : Dev nD) (E : Set ℕ) (i : grid0.Coords) (a2 : Memref sig .tc .vmem S1024x2048 .bf16) (h2 : a2.IsWhole) (a3 : Memref sig .tc .vmem S2048x1024 .bf16) (h3 : a3.IsWhole) (a4 : Memref sig .tc .vmem S2048x512 .bf16) (h4 : a4.IsWhole) (a5 : Memref sig .tc .vmem S8x128x512 .bf16) (h5 : a5.IsWhole) (a6 : Memref sig .tc .vmem S8x128x512 .bf16) (h6 : a6.IsWhole) (a7 : Memref sig .tc .vmem S8x8x512 .f32) (h7 : a7.IsWhole) (a8 : Memref sig .tc .vmem S8x8x512 .f32) (h8 : a8.IsWhole) (a9 : Memref sig .tc .vmem S512x2048 .f32) (h9 : a9.IsWhole) (a10 : Memref sig .tc .vmem S1x2048 .f32) (h10 : a10.IsWhole) (a11 : Memref sig .tc .vmem S512x2048 .f32) (h11 : a11.IsWhole) (a12 : Memref sig .tc .vmem S2048x512 .f32) (h12 : a12.IsWhole) (a13 : Memref sig .tc .vmem S1024x512 .f32) (h13 : a13.IsWhole) (a14 : Memref sig .tc .vmem S1024x512 .f32) (h14 : a14.IsWhole)
    (x2 : Vec F S1024x2048 .bf16) (x4 : Vec F S2048x512 .bf16)
    (hc1 : isOpen i = 1#1) (hc2 : ¬isOdd i = 1#1) (hc3 : ¬isEven i = 1#1) (hc4 : ¬k0_cond4 i = 1#1) (K : PUnit → sProp 𝕄) :
    iprop(owns (c : Thread nD τ) a2 fullShare x2 ∗ owns (c : Thread nD τ) a4 fullShare x4 ∗ (∃ d, owns (c : Thread nD τ) a12 fullShare d) ∗ (∃ d, owns (c : Thread nD τ) a13 fullShare d)
        ∗ (iprop(owns (c : Thread nD τ) a2 fullShare x2 ∗ owns (c : Thread nD τ) a4 fullShare x4 ∗ owns (c : Thread nD τ) a12 fullShare (k0_pay356) ∗ owns (c : Thread nD τ) a13 fullShare (k0_pay357 x2 x4)) -∗ K ⟨⟩))
      ⊢ wp frame (wpE (defs₀ (F := F)) Variants.none c none) E (cc0_peer_dense i a2 h2 a3 h3 a4 h4 a5 h5 a6 h6 a7 h7 a8 h8 a9 h9 a10 h10 a11 h11 a12 h12 a13 h13 a14 h14) K := by
  simp only [cc0_peer_dense_eq_skeleton]; unfold cc0_peer_dense_skel
  unfold owns
  iintro ⟨⟨%f2, %hf2, H2⟩, ⟨%f4, %hf4, H4⟩, ⟨%d12, %f12, -, H12⟩, ⟨%d13, %f13, -, H13⟩, Hk⟩
  subst hf2 hf4
  sl_exec_parts (disch := first | sl_exact hc1 | sl_exact hc2 | sl_exact hc3 | sl_exact hc4)
  sl_step
  iapply Hk
  isplitl [H2]
  · iexists f2; isplitr; · ipureintro; rfl
    iexact H2
  isplitl [H4]
  · iexists f4; isplitr; · ipureintro; rfl
    iexact H4
  isplitl [H12]
  · iexists _; isplitr
    swap; · iexact H12
    ipureintro
    exact read_store _ (by decide) _ _ _
  iexists _; isplitr
  swap; · iexact H13
  ipureintro
  refine (read_store _ (by decide) _ _ _).trans ?_
  exact congr (congrArg k0_pay357 (read_load a2 (by decide) _ f2)) (read_load a4 (by decide) _ f4)

set_option maxHeartbeats 8000000 in
/-- A middle point of odd number: the products with the next chunk go to the second buffer, the chunk of the first is activated and added. -/
theorem runOdd (c : Dev nD) (E : Set ℕ) (i : grid0.Coords) (a2 : Memref sig .tc .vmem S1024x2048 .bf16) (h2 : a2.IsWhole) (a3 : Memref sig .tc .vmem S2048x1024 .bf16) (h3 : a3.IsWhole) (a4 : Memref sig .tc .vmem S2048x512 .bf16) (h4 : a4.IsWhole) (a5 : Memref sig .tc .vmem S8x128x512 .bf16) (h5 : a5.IsWhole) (a6 : Memref sig .tc .vmem S8x128x512 .bf16) (h6 : a6.IsWhole) (a7 : Memref sig .tc .vmem S8x8x512 .f32) (h7 : a7.IsWhole) (a8 : Memref sig .tc .vmem S8x8x512 .f32) (h8 : a8.IsWhole) (a9 : Memref sig .tc .vmem S512x2048 .f32) (h9 : a9.IsWhole) (a10 : Memref sig .tc .vmem S1x2048 .f32) (h10 : a10.IsWhole) (a11 : Memref sig .tc .vmem S512x2048 .f32) (h11 : a11.IsWhole) (a12 : Memref sig .tc .vmem S2048x512 .f32) (h12 : a12.IsWhole) (a13 : Memref sig .tc .vmem S1024x512 .f32) (h13 : a13.IsWhole) (a14 : Memref sig .tc .vmem S1024x512 .f32) (h14 : a14.IsWhole)
    (x2 : Vec F S1024x2048 .bf16) (x3 : Vec F S2048x1024 .bf16) (x4 : Vec F S2048x512 .bf16) (x5 : Vec F S8x128x512 .bf16) (x6 : Vec F S8x128x512 .bf16) (x7 : Vec F S8x8x512 .f32) (x8 : Vec F S8x8x512 .f32) (x13 : Vec F S1024x512 .f32) (x12 : Vec F S2048x512 .f32)
    (hc1 : ¬isOpen i = 1#1) (hc2 : isOdd i = 1#1) (hc3 : ¬isEven i = 1#1) (hc4 : ¬k0_cond4 i = 1#1) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a13 fullShare x13 ∗ owns (c : Thread nD τ) a12 fullShare x12 ∗ (∃ d, owns (c : Thread nD τ) a14 fullShare d)
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a13 fullShare x13 ∗ owns (c : Thread nD τ) a12 fullShare (withChunk x3 x5 x6 x7 x8 x13 x12) ∗ owns (c : Thread nD τ) a14 fullShare (k0_pay357 x2 x4)) -∗ K ⟨⟩))
      ⊢ wp frame (wpE (defs₀ (F := F)) Variants.none c none) E (cc0_peer_dense i a2 h2 a3 h3 a4 h4 a5 h5 a6 h6 a7 h7 a8 h8 a9 h9 a10 h10 a11 h11 a12 h12 a13 h13 a14 h14) K := by
  simp only [cc0_peer_dense_eq_skeleton]; unfold cc0_peer_dense_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f13, %hf13, H13⟩, ⟨%f12, %hf12, H12⟩, ⟨%d14, %f14, -, H14⟩, Hk⟩
  subst hf2 hf3 hf4 hf5 hf6 hf7 hf8 hf13 hf12
  sl_exec_parts (disch := first | sl_exact hc1 | sl_exact hc2 | sl_exact hc3 | sl_exact hc4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H13]
  · iexists f13; isplitr; · ipureintro; rfl
    iexact H13
  isplitl [H12]
  · iexists _; isplitr
    swap; · iexact H12
    ipureintro
    refine (read_store _ (by decide) _ _ _).trans ?_
    refine congr (congr (congrArg k0_pay358 ?_) ?_) ?_
    · rfl
    · exact read_load a12 (by decide) _ f12
    · exact read_load a3 (by decide) _ f3
  iexists _; isplitr
  swap; · iexact H14
  ipureintro
  refine (read_store _ (by decide) _ _ _).trans ?_
  exact congr (congrArg k0_pay357 (read_load a2 (by decide) _ f2)) (read_load a4 (by decide) _ f4)

set_option maxHeartbeats 8000000 in
/-- A middle point of even number: the same with the buffers the other way round. -/
theorem runEven (c : Dev nD) (E : Set ℕ) (i : grid0.Coords) (a2 : Memref sig .tc .vmem S1024x2048 .bf16) (h2 : a2.IsWhole) (a3 : Memref sig .tc .vmem S2048x1024 .bf16) (h3 : a3.IsWhole) (a4 : Memref sig .tc .vmem S2048x512 .bf16) (h4 : a4.IsWhole) (a5 : Memref sig .tc .vmem S8x128x512 .bf16) (h5 : a5.IsWhole) (a6 : Memref sig .tc .vmem S8x128x512 .bf16) (h6 : a6.IsWhole) (a7 : Memref sig .tc .vmem S8x8x512 .f32) (h7 : a7.IsWhole) (a8 : Memref sig .tc .vmem S8x8x512 .f32) (h8 : a8.IsWhole) (a9 : Memref sig .tc .vmem S512x2048 .f32) (h9 : a9.IsWhole) (a10 : Memref sig .tc .vmem S1x2048 .f32) (h10 : a10.IsWhole) (a11 : Memref sig .tc .vmem S512x2048 .f32) (h11 : a11.IsWhole) (a12 : Memref sig .tc .vmem S2048x512 .f32) (h12 : a12.IsWhole) (a13 : Memref sig .tc .vmem S1024x512 .f32) (h13 : a13.IsWhole) (a14 : Memref sig .tc .vmem S1024x512 .f32) (h14 : a14.IsWhole)
    (x2 : Vec F S1024x2048 .bf16) (x3 : Vec F S2048x1024 .bf16) (x4 : Vec F S2048x512 .bf16) (x5 : Vec F S8x128x512 .bf16) (x6 : Vec F S8x128x512 .bf16) (x7 : Vec F S8x8x512 .f32) (x8 : Vec F S8x8x512 .f32) (x14 : Vec F S1024x512 .f32) (x12 : Vec F S2048x512 .f32)
    (hc1 : ¬isOpen i = 1#1) (hc2 : ¬isOdd i = 1#1) (hc3 : isEven i = 1#1) (hc4 : ¬k0_cond4 i = 1#1) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a14 fullShare x14 ∗ owns (c : Thread nD τ) a12 fullShare x12 ∗ (∃ d, owns (c : Thread nD τ) a13 fullShare d)
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a14 fullShare x14 ∗ owns (c : Thread nD τ) a12 fullShare (withChunk x3 x5 x6 x7 x8 x14 x12) ∗ owns (c : Thread nD τ) a13 fullShare (k0_pay357 x2 x4)) -∗ K ⟨⟩))
      ⊢ wp frame (wpE (defs₀ (F := F)) Variants.none c none) E (cc0_peer_dense i a2 h2 a3 h3 a4 h4 a5 h5 a6 h6 a7 h7 a8 h8 a9 h9 a10 h10 a11 h11 a12 h12 a13 h13 a14 h14) K := by
  simp only [cc0_peer_dense_eq_skeleton]; unfold cc0_peer_dense_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f14, %hf14, H14⟩, ⟨%f12, %hf12, H12⟩, ⟨%d13, %f13, -, H13⟩, Hk⟩
  subst hf2 hf3 hf4 hf5 hf6 hf7 hf8 hf14 hf12
  sl_exec_parts (disch := first | sl_exact hc1 | sl_exact hc2 | sl_exact hc3 | sl_exact hc4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H14]
  · iexists f14; isplitr; · ipureintro; rfl
    iexact H14
  isplitl [H12]
  · iexists _; isplitr
    swap; · iexact H12
    ipureintro
    refine (read_store _ (by decide) _ _ _).trans ?_
    refine congr (congr (congrArg k0_pay358 ?_) ?_) ?_
    · rfl
    · exact read_load a12 (by decide) _ f12
    · exact read_load a3 (by decide) _ f3
  iexists _; isplitr
  swap; · iexact H13
  ipureintro
  refine (read_store _ (by decide) _ _ _).trans ?_
  exact congr (congrArg k0_pay357 (read_load a2 (by decide) _ f2)) (read_load a4 (by decide) _ f4)

set_option maxHeartbeats 8000000 in
/-- The last point: the last chunk is activated and added, and the result is written. -/
theorem runClose (c : Dev nD) (E : Set ℕ) (i : grid0.Coords) (a2 : Memref sig .tc .vmem S1024x2048 .bf16) (h2 : a2.IsWhole) (a3 : Memref sig .tc .vmem S2048x1024 .bf16) (h3 : a3.IsWhole) (a4 : Memref sig .tc .vmem S2048x512 .bf16) (h4 : a4.IsWhole) (a5 : Memref sig .tc .vmem S8x128x512 .bf16) (h5 : a5.IsWhole) (a6 : Memref sig .tc .vmem S8x128x512 .bf16) (h6 : a6.IsWhole) (a7 : Memref sig .tc .vmem S8x8x512 .f32) (h7 : a7.IsWhole) (a8 : Memref sig .tc .vmem S8x8x512 .f32) (h8 : a8.IsWhole) (a9 : Memref sig .tc .vmem S512x2048 .f32) (h9 : a9.IsWhole) (a10 : Memref sig .tc .vmem S1x2048 .f32) (h10 : a10.IsWhole) (a11 : Memref sig .tc .vmem S512x2048 .f32) (h11 : a11.IsWhole) (a12 : Memref sig .tc .vmem S2048x512 .f32) (h12 : a12.IsWhole) (a13 : Memref sig .tc .vmem S1024x512 .f32) (h13 : a13.IsWhole) (a14 : Memref sig .tc .vmem S1024x512 .f32) (h14 : a14.IsWhole)
    (x3 : Vec F S2048x1024 .bf16) (x5 : Vec F S8x128x512 .bf16) (x6 : Vec F S8x128x512 .bf16) (x7 : Vec F S8x8x512 .f32) (x8 : Vec F S8x8x512 .f32) (x9 : Vec F S512x2048 .f32) (x10 : Vec F S1x2048 .f32) (x14 : Vec F S1024x512 .f32) (x12 : Vec F S2048x512 .f32)
    (hc1 : ¬isOpen i = 1#1) (hc2 : ¬isOdd i = 1#1) (hc3 : ¬isEven i = 1#1) (hc4 : k0_cond4 i = 1#1) (K : PUnit → sProp 𝕄) :
    iprop(owns (c : Thread nD τ) a3 fullShare x3 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a14 fullShare x14 ∗ owns (c : Thread nD τ) a12 fullShare x12 ∗ (∃ d, owns (c : Thread nD τ) a11 fullShare d)
        ∗ (iprop(owns (c : Thread nD τ) a3 fullShare x3 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a14 fullShare x14 ∗ owns (c : Thread nD τ) a12 fullShare (withChunk x3 x5 x6 x7 x8 x14 x12) ∗ owns (c : Thread nD τ) a11 fullShare (result x9 x10 (withChunk x3 x5 x6 x7 x8 x14 x12))) -∗ K ⟨⟩))
      ⊢ wp frame (wpE (defs₀ (F := F)) Variants.none c none) E (cc0_peer_dense i a2 h2 a3 h3 a4 h4 a5 h5 a6 h6 a7 h7 a8 h8 a9 h9 a10 h10 a11 h11 a12 h12 a13 h13 a14 h14) K := by
  simp only [cc0_peer_dense_eq_skeleton]; unfold cc0_peer_dense_skel
  unfold owns
  iintro ⟨⟨%f3, %hf3, H3⟩, ⟨%f5, %hf5, H5⟩, ⟨%f6, %hf6, H6⟩, ⟨%f7, %hf7, H7⟩, ⟨%f8, %hf8, H8⟩, ⟨%f9, %hf9, H9⟩, ⟨%f10, %hf10, H10⟩, ⟨%f14, %hf14, H14⟩, ⟨%f12, %hf12, H12⟩, ⟨%d11, %f11, -, H11⟩, Hk⟩
  subst hf3 hf5 hf6 hf7 hf8 hf9 hf10 hf14 hf12
  sl_exec_parts (disch := first | sl_exact hc1 | sl_exact hc2 | sl_exact hc3 | sl_exact hc4)
  sl_step
  iapply Hk
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H14]
  · iexists f14; isplitr; · ipureintro; rfl
    iexact H14
  isplitl [H12]
  · iexists _; isplitr
    swap; · iexact H12
    ipureintro
    unfold runClose.sl.H12_1
    refine (read_store _ (by decide) _ _ _).trans ?_
    refine Eq.trans (b := k0_pay358 (chunkAct (a5.view.read (Elt F) f5) (a6.view.read (Elt F) f6) (a7.view.read (Elt F) f7) (a8.view.read (Elt F) f8) (a14.view.read (Elt F) f14)) (View.readAt (Elt F) a12.view (Rect.unit (s := S2048x512) ![0, 0] S2048x512.size inb_S2048x512_S2048x512_0_0).toLoadRect f12) (View.readAt (Elt F) a3.view (Rect.unit (s := S2048x1024) ![0, 0] S2048x1024.size inb_S2048x1024_S2048x1024_0_0).toLoadRect f3)) rfl ?_
    exact congr (congrArg (k0_pay358 _) (read_load a12 (by decide) _ f12)) (read_load a3 (by decide) _ f3)
  iexists _; isplitr
  swap; · iexact H11
  ipureintro
  refine (read_store _ (by decide) _ _ _).trans ?_
  unfold runClose.sl.r_118 runClose.sl.r_119 runClose.sl.r_117 runClose.sl.v1857 runClose.sl.H12_1
  rw [View.readCov_unit_lit _ _ _ (by decide), read_load a9 (by decide) _ f9, read_load a10 (by decide) _ f10]
  refine congrArg (result _ _) ?_
  refine Eq.trans (b := k0_pay358 (chunkAct (a5.view.read (Elt F) f5) (a6.view.read (Elt F) f6) (a7.view.read (Elt F) f7) (a8.view.read (Elt F) f8) (a14.view.read (Elt F) f14)) (View.readAt (Elt F) a12.view (Rect.unit (s := S2048x512) ![0, 0] S2048x512.size inb_S2048x512_S2048x512_0_0).toLoadRect f12) (View.readAt (Elt F) a3.view (Rect.unit (s := S2048x1024) ![0, 0] S2048x1024.size inb_S2048x1024_S2048x1024_0_0).toLoadRect f3)) rfl ?_
  exact congr (congrArg (k0_pay358 _) (read_load a12 (by decide) _ f12)) (read_load a3 (by decide) _ f3)

end Cert.ExpertsIdeal.Ex

end
-- ==== Proof.ExIdealRun.Frame.lean ====
/- The frame of the experts: point 17 i + k takes the i-th block of tokens. It computes the products with the k-th chunk
   of experts into one of two buffers, in turn, and activates the chunk before, adding its outputs to those so far; the
   last of the seventeen points writes the result. -/
module

public import proofs.«01_k».proof.Proof.ExIdealRun.Runs
public import Idealize.ShloMosaic.Lib.Pipeline.TableIdle
public import Idealize.ShloMosaic.Lib.Claim

@[expose] public section

set_option maxRecDepth 16384

noncomputable section

namespace Cert.ExpertsIdeal.Ex

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- Which branch is taken at which point, -/
theorem tests : ∀ t : Fin cfg0.N, (isOpen (cfg0.grid.coords t) = 1#1 ↔ t.val % 17 = 0)
    ∧ (isOdd (cfg0.grid.coords t) = 1#1 ↔ t.val % 17 ≠ 0 ∧ t.val % 17 ≠ 16 ∧ t.val % 17 % 2 = 1)
    ∧ (isEven (cfg0.grid.coords t) = 1#1 ↔ t.val % 17 ≠ 0 ∧ t.val % 17 ≠ 16 ∧ t.val % 17 % 2 = 0)
    ∧ (k0_cond4 (cfg0.grid.coords t) = 1#1 ↔ t.val % 17 = 16) :=
  (by decide +kernel : ∀ t : Fin grid0.N, (isOpen (grid0.coords t) = 1#1 ↔ t.val % 17 = 0)
    ∧ (isOdd (grid0.coords t) = 1#1 ↔ t.val % 17 ≠ 0 ∧ t.val % 17 ≠ 16 ∧ t.val % 17 % 2 = 1)
    ∧ (isEven (grid0.coords t) = 1#1 ↔ t.val % 17 ≠ 0 ∧ t.val % 17 ≠ 16 ∧ t.val % 17 % 2 = 0)
    ∧ (k0_cond4 (grid0.coords t) = 1#1 ↔ t.val % 17 = 16))

/-- which points leave the result alone, -/
theorem idle_9 : ∀ t : Fin cfg0.N, cfg0.idle 9 (cfg0.grid.coords t) = decide (t.val % 17 ≠ 16) :=
  (by decide +kernel : ∀ t : Fin grid0.N, idle0 9 (grid0.coords t) = decide (t.val % 17 ≠ 16))

/-- and which points write its block back. -/
theorem flush_9 (t : Fin cfg0.N) : (cfg0.win 9).flush t = decide (t.val % 17 = 16) := by
  rw [Bool.eq_iff_iff, flush0_9, decide_eq_true_iff]

/-- The point of a number. -/
def pt (n : ℕ) : Fin cfg0.N := ⟨n % 1088, lt_of_lt_of_eq (Nat.mod_lt _ (by decide)) N_0.symm⟩

theorem pt_val (t : Fin cfg0.N) : pt t.val = t := Fin.ext (Nat.mod_eq_of_lt (lt_of_lt_of_eq t.isLt N_0))

/-! ## What a point leaves -/

/-- The products with the chunk of experts of a point, -/
def prods (c : Dev nD) (t : Fin cfg0.N) : Vec F S1024x512 .f32 := k0_pay357 (iblk m c 0 t) (iblk m c 2 t)

/-- the outputs `y` with those of the chunk of products `s` added, with the gates in hand at a point, -/
def added (c : Dev nD) (t : Fin cfg0.N) (s : Vec F S1024x512 .f32) (y : Vec F S2048x512 .f32) : Vec F S2048x512 .f32 :=
  withChunk (iblk m c 1 t) (iblk m c 3 t) (iblk m c 4 t) (iblk m c 5 t) (iblk m c 6 t) s y

/-- and the outputs after `k` chunks of the block of tokens that point `b` opens. -/
def outs (c : Dev nD) (b : ℕ) : ℕ → Vec F S2048x512 .f32
  | 0 => k0_pay356
  | k + 1 => added m c (pt (b + (k + 1))) (prods m c (pt (b + k))) (outs c b k)

/-- The outputs before point `n`, which does not open a block. -/
def sofar (c : Dev nD) (n : ℕ) : Vec F S2048x512 .f32 := outs m c (n - n % 17) (n % 17 - 1)

/-- The products before point `n`: those of the point before. -/
def waiting (c : Dev nD) (n : ℕ) : Vec F S1024x512 .f32 := prods m c (pt (n - 1))

theorem waiting_next (c : Dev nD) (t : Fin cfg0.N) : waiting m c (t.val + 1) = prods m c t := by
  unfold waiting; rw [Nat.add_sub_cancel, pt_val]

theorem sofar_first (c : Dev nD) (t : Fin cfg0.N) (h : t.val % 17 = 0) : sofar m c (t.val + 1) = k0_pay356 := by
  unfold sofar; rw [show (t.val + 1) % 17 - 1 = 0 by omega]; rfl

/-- The outputs a point after the first leaves. -/
def leftAt (c : Dev nD) (t : Fin cfg0.N) : Vec F S2048x512 .f32 := added m c t (waiting m c t.val) (sofar m c t.val)

theorem leftAt_eq (c : Dev nD) (t : Fin cfg0.N) (h : t.val % 17 ≠ 0) : leftAt m c t = outs m c (t.val - t.val % 17) (t.val % 17) := by
  obtain ⟨k, hk⟩ : ∃ k, t.val % 17 = k + 1 := ⟨t.val % 17 - 1, by omega⟩
  unfold leftAt waiting sofar
  rw [hk, Nat.add_sub_cancel]
  show _ = added m c (pt (t.val - (k + 1) + (k + 1))) (prods m c (pt (t.val - (k + 1) + k))) _
  rw [show t.val - (k + 1) + (k + 1) = t.val by omega, show t.val - (k + 1) + k = t.val - 1 by omega, pt_val]

theorem sofar_next (c : Dev nD) (t : Fin cfg0.N) (h : t.val % 17 ≠ 0) (h' : t.val % 17 ≠ 16) : sofar m c (t.val + 1) = leftAt m c t := by
  rw [leftAt_eq m c t h]; unfold sofar
  rw [show t.val + 1 - (t.val + 1) % 17 = t.val - t.val % 17 by omega, show (t.val + 1) % 17 - 1 = t.val % 17 by omega]

/-- The result of a block of tokens. -/
def resultAt (c : Dev nD) (t : Fin cfg0.N) : Vec F S512x2048 .f32 := result (iblk m c 7 t) (iblk m c 8 t) (leftAt m c t)

/-- The scratch buffers: the outputs and the two buffers of products. -/
abbrev scrY : Memref sig .tc .vmem S2048x512 .f32 := Memref.whole cc0_scratch0
abbrev scrA : Memref sig .tc .vmem S1024x512 .f32 := Memref.whole cc0_scratch1
abbrev scrB : Memref sig .tc .vmem S1024x512 .f32 := Memref.whole cc0_scratch2

theorem phi_eq (c : Dev nD) : (Pipeline.ΦA spec0 c : sProp 𝕄) = iprop(((∃ d, owns (c : Thread nD τ) scrY fullShare d)
    ∗ (∃ d, owns (c : Thread nD τ) scrA fullShare d) ∗ (∃ d, owns (c : Thread nD τ) scrB fullShare d)) ∗ (∃ r, prngReg c r)) := by
  unfold Pipeline.ΦA; rw [scopedRest0_eq]; simp only [owns_whole]; try rfl

/-- Before point `n`: the scratch buffers at anything if `n` opens a block of tokens; else the outputs so far, and the
    products that wait in the buffer whose turn it is. -/
def inv (c : Dev nD) (n : ℕ) : sProp 𝕄 :=
  if n % 17 = 0 then Pipeline.ΦA spec0 c
  else if n % 17 % 2 = 1 then iprop((owns (c : Thread nD τ) scrY fullShare (sofar m c n)
    ∗ owns (c : Thread nD τ) scrA fullShare (waiting m c n) ∗ (∃ d, owns (c : Thread nD τ) scrB fullShare d)) ∗ (∃ r, prngReg c r))
  else iprop((owns (c : Thread nD τ) scrY fullShare (sofar m c n)
    ∗ (∃ d, owns (c : Thread nD τ) scrA fullShare d) ∗ owns (c : Thread nD τ) scrB fullShare (waiting m c n)) ∗ (∃ r, prngReg c r))

theorem inv_open (c : Dev nD) (n : ℕ) (h : n % 17 = 0) : inv m c n = iprop(((∃ d, owns (c : Thread nD τ) scrY fullShare d)
    ∗ (∃ d, owns (c : Thread nD τ) scrA fullShare d) ∗ (∃ d, owns (c : Thread nD τ) scrB fullShare d)) ∗ (∃ r, prngReg c r)) :=
  (if_pos h).trans (phi_eq c)
theorem inv_odd (c : Dev nD) (n : ℕ) (h : n % 17 ≠ 0) (h' : n % 17 % 2 = 1) : inv m c n = iprop((owns (c : Thread nD τ) scrY fullShare (sofar m c n)
    ∗ owns (c : Thread nD τ) scrA fullShare (waiting m c n) ∗ (∃ d, owns (c : Thread nD τ) scrB fullShare d)) ∗ (∃ r, prngReg c r)) :=
  (if_neg h).trans (if_pos h')
theorem inv_even (c : Dev nD) (n : ℕ) (h : n % 17 ≠ 0) (h' : n % 17 % 2 ≠ 1) : inv m c n = iprop((owns (c : Thread nD τ) scrY fullShare (sofar m c n)
    ∗ (∃ d, owns (c : Thread nD τ) scrA fullShare d) ∗ owns (c : Thread nD τ) scrB fullShare (waiting m c n)) ∗ (∃ r, prngReg c r)) :=
  (if_neg h).trans (if_neg h')

/-- What the pipeline's proof is about. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => resultAt m c t
  Φ t := inv m c t.val
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = iblk m c 4 t := by dsimp only [dats]; try rfl
theorem after_5 (c : Dev nD) (t : Fin cfg0.N) : (dats m 0 c).after 5 t = iblk m c 5 t := by dsimp only [dats]; try rfl
theorem after_6 (c : Dev nD) (t : Fin cfg0.N) : (dats m 0 c).after 6 t = iblk m c 6 t := by dsimp only [dats]; try rfl
theorem after_7 (c : Dev nD) (t : Fin cfg0.N) : (dats m 0 c).after 7 t = iblk m c 7 t := by dsimp only [dats]; try rfl
theorem after_8 (c : Dev nD) (t : Fin cfg0.N) : (dats m 0 c).after 8 t = iblk m c 8 t := by dsimp only [dats]; try rfl
theorem after_9 (c : Dev nD) (t : Fin cfg0.N) : (dats m 0 c).after 9 t = resultAt m c t := by dsimp only [dats]; try rfl
theorem held_0 (c : Dev nD) (t : Fin cfg0.N) (d) : (dats m 0 c).before 0 t d = iblk m c 0 t := before0_0_of m (dats m 0 c) (dats_A m c 0) (after_0 m c) t d
theorem held_1 (c : Dev nD) (t : Fin cfg0.N) (d) : (dats m 0 c).before 1 t d = iblk m c 1 t := before0_1_of m (dats m 0 c) (dats_A m c 1) (after_1 m c) t d
theorem held_2 (c : Dev nD) (t : Fin cfg0.N) (d) : (dats m 0 c).before 2 t d = iblk m c 2 t := before0_2_of m (dats m 0 c) (dats_A m c 2) (after_2 m c) t d
theorem held_3 (c : Dev nD) (t : Fin cfg0.N) (d) : (dats m 0 c).before 3 t d = iblk m c 3 t := before0_3_of m (dats m 0 c) (dats_A m c 3) (after_3 m c) t d
theorem held_4 (c : Dev nD) (t : Fin cfg0.N) (d) : (dats m 0 c).before 4 t d = iblk m c 4 t := before0_4_of m (dats m 0 c) (dats_A m c 4) (after_4 m c) t d
theorem held_5 (c : Dev nD) (t : Fin cfg0.N) (d) : (dats m 0 c).before 5 t d = iblk m c 5 t := before0_5_of m (dats m 0 c) (dats_A m c 5) (after_5 m c) t d
theorem held_6 (c : Dev nD) (t : Fin cfg0.N) (d) : (dats m 0 c).before 6 t d = iblk m c 6 t := before0_6_of m (dats m 0 c) (dats_A m c 6) (after_6 m c) t d
theorem held_7 (c : Dev nD) (t : Fin cfg0.N) (d) : (dats m 0 c).before 7 t d = iblk m c 7 t := before0_7_of m (dats m 0 c) (dats_A m c 7) (after_7 m c) t d
theorem held_8 (c : Dev nD) (t : Fin cfg0.N) (d) : (dats m 0 c).before 8 t d = iblk m c 8 t := before0_8_of m (dats m 0 c) (dats_A m c 8) (after_8 m c) t d

theorem leaves_live (c : Dev nD) (w : Fin cfg0.W) (t : Fin cfg0.N) (hi : cfg0.idle w (cfg0.grid.coords t) = false) :
    ((dats m 0 c).leavesExact w t : sProp 𝕄) = owns (c : Thread nD τ) ((cfg0.win w).stage (cfg0.slots t w)) fullShare ((dats m 0 c).after w t) := by
  unfold Dat.leavesExact; rw [hi]

/-! ## The body at a point -/

/-- What the body is handed at point `t`, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t)

set_option maxHeartbeats 1600000 in
/-- The first of seventeen points. -/
theorem opening (c : Dev nD) (t : Fin cfg0.N) (h : t.val % 17 = 0) :
    handed m c t ⊢ wp frame (wpE (defs₀ (F := F)) Variants.none c none) Set.univ (bodyAt0 t) (fun _ => returned m c t) := by
  obtain ⟨q1, q2, q3, q4⟩ := tests t
  unfold handed returned bodyAt0
  simp only [held_0, held_1, held_2, held_3, held_4, held_5, held_6, held_7, held_8]
  rw [show (dats m 0 c).Φ t.castSucc = inv m c t.val from rfl, show (dats m 0 c).Φ t.succ = inv m c (t.val + 1) from rfl,
    show (dats m 0 c).owesAt () t.succ = (dats m 0 c).owesAt () t.castSucc from rfl, after_0, after_1, after_2, after_3, after_4, after_5, after_6, after_7, after_8]
  rw [(dats m 0 c).leavesExact_idle 9 t (by rw [idle_9, decide_eq_true_iff]; omega) (by rw [flush_9, decide_eq_false_iff_not]; omega)]
  rw [inv_open m c _ h, inv_odd m c _ (by omega) (by omega), sofar_first m c t h, waiting_next m c t]
  iintro ⟨⟨⟨⟨%dY, HY⟩, ⟨%dA, HA⟩, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runOpen c Set.univ (cfg0.grid.coords t) _ _ _ _ _ _ _ _ _ _ _ _ _ _ _ _ _ _ _ _ _ _ _ _ _ _ (iblk m c 0 t) (iblk m c 2 t) (q1.2 (by omega)) (fun e => absurd (q2.1 e) (by omega)) (fun e => absurd (q3.1 e) (by omega)) (fun e => absurd (q4.1 e) (by omega)) _)
  isplitl [H0]; · iexact H0
  isplitl [H2]; · iexact H2
  isplitl [HY]; · iexists _; iexact HY
  isplitl [HA]; · iexists _; iexact HA
  iintro ⟨H0, H2, HY, HA⟩
  isplitl [HY HA HB Hg]
  · isplitl [HY HA HB]
    · isplitl [HY]; · iexact HY
      isplitl [HA]; · iexact HA
      iexists _; iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 1600000 in
/-- A middle point of odd number. -/
theorem oddly (c : Dev nD) (t : Fin cfg0.N) (h : t.val % 17 ≠ 0 ∧ t.val % 17 ≠ 16 ∧ t.val % 17 % 2 = 1) :
    handed m c t ⊢ wp frame (wpE (defs₀ (F := F)) Variants.none c none) Set.univ (bodyAt0 t) (fun _ => returned m c t) := by
  obtain ⟨q1, q2, q3, q4⟩ := tests t
  unfold handed returned bodyAt0
  simp only [held_0, held_1, held_2, held_3, held_4, held_5, held_6, held_7, held_8]
  rw [show (dats m 0 c).Φ t.castSucc = inv m c t.val from rfl, show (dats m 0 c).Φ t.succ = inv m c (t.val + 1) from rfl,
    show (dats m 0 c).owesAt () t.succ = (dats m 0 c).owesAt () t.castSucc from rfl, after_0, after_1, after_2, after_3, after_4, after_5, after_6, after_7, after_8]
  rw [(dats m 0 c).leavesExact_idle 9 t (by rw [idle_9, decide_eq_true_iff]; omega) (by rw [flush_9, decide_eq_false_iff_not]; omega)]
  rw [inv_odd m c t.val (by omega) (by omega), inv_even m c (t.val + 1) (by omega) (by omega), sofar_next m c t (by omega) (by omega), waiting_next m c t]
  iintro ⟨⟨⟨HY, HA, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runOdd c Set.univ (cfg0.grid.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (waiting m c t.val) (sofar m c t.val) (fun e => absurd (q1.1 e) (by omega)) (q2.2 (by omega)) (fun e => absurd (q3.1 e) (by omega)) (fun e => absurd (q4.1 e) (by omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [HY]; · iexact HY
  isplitl [HB]; · iexists _; iexact HB
  iintro ⟨H0, H1, H2, H3, H4, H5, H6, HA, HY, HB⟩
  isplitl [HY HA HB Hg]
  · isplitl [HY HA HB]
    · isplitl [HY]; · iexact HY
      isplitl [HA]; · iexists _; iexact HA
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 1600000 in
/-- A middle point of even number. -/
theorem evenly (c : Dev nD) (t : Fin cfg0.N) (h : t.val % 17 ≠ 0 ∧ t.val % 17 ≠ 16 ∧ t.val % 17 % 2 = 0) :
    handed m c t ⊢ wp frame (wpE (defs₀ (F := F)) Variants.none c none) Set.univ (bodyAt0 t) (fun _ => returned m c t) := by
  obtain ⟨q1, q2, q3, q4⟩ := tests t
  unfold handed returned bodyAt0
  simp only [held_0, held_1, held_2, held_3, held_4, held_5, held_6, held_7, held_8]
  rw [show (dats m 0 c).Φ t.castSucc = inv m c t.val from rfl, show (dats m 0 c).Φ t.succ = inv m c (t.val + 1) from rfl,
    show (dats m 0 c).owesAt () t.succ = (dats m 0 c).owesAt () t.castSucc from rfl, after_0, after_1, after_2, after_3, after_4, after_5, after_6, after_7, after_8]
  rw [(dats m 0 c).leavesExact_idle 9 t (by rw [idle_9, decide_eq_true_iff]; omega) (by rw [flush_9, decide_eq_false_iff_not]; omega)]
  rw [inv_even m c t.val (by omega) (by omega), inv_odd m c (t.val + 1) (by omega) (by omega), sofar_next m c t (by omega) (by omega), waiting_next m c t]
  iintro ⟨⟨⟨HY, ⟨%dA, HA⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runEven c Set.univ (cfg0.grid.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (waiting m c t.val) (sofar m c t.val) (fun e => absurd (q1.1 e) (by omega)) (fun e => absurd (q2.1 e) (by omega)) (q3.2 (by omega)) (fun e => absurd (q4.1 e) (by omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HB]; · iexact HB
  isplitl [HY]; · iexact HY
  isplitl [HA]; · iexists _; iexact HA
  iintro ⟨H0, H1, H2, H3, H4, H5, H6, HB, HY, HA⟩
  isplitl [HY HA HB Hg]
  · isplitl [HY HA HB]
    · isplitl [HY]; · iexact HY
      isplitl [HA]; · iexact HA
      iexists _; iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 1600000 in
/-- The last. -/
theorem close (c : Dev nD) (t : Fin cfg0.N) (h : t.val % 17 = 16) :
    handed m c t ⊢ wp frame (wpE (defs₀ (F := F)) Variants.none c none) Set.univ (bodyAt0 t) (fun _ => returned m c t) := by
  obtain ⟨q1, q2, q3, q4⟩ := tests t
  unfold handed returned bodyAt0
  simp only [held_0, held_1, held_2, held_3, held_4, held_5, held_6, held_7, held_8]
  rw [show (dats m 0 c).Φ t.castSucc = inv m c t.val from rfl, show (dats m 0 c).Φ t.succ = inv m c (t.val + 1) from rfl,
    show (dats m 0 c).owesAt () t.succ = (dats m 0 c).owesAt () t.castSucc from rfl, after_0, after_1, after_2, after_3, after_4, after_5, after_6, after_7, after_8]
  rw [leaves_live m c 9 t (by rw [idle_9, decide_eq_false_iff_not]; omega), after_9]
  rw [inv_even m c t.val (by omega) (by omega), inv_open m c (t.val + 1) (by omega)]
  iintro ⟨⟨⟨HY, ⟨%dA, HA⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runClose c Set.univ (cfg0.grid.coords t) _ _ _ _ _ _ _ _ _ _ _ _ _ _ _ _ _ _ _ _ _ _ _ _ _ _ (iblk m c 1 t) (iblk m c 3 t) (iblk m c 4 t) (iblk m c 5 t) (iblk m c 6 t) (iblk m c 7 t) (iblk m c 8 t) (waiting m c t.val) (sofar m c t.val) (fun e => absurd (q1.1 e) (by omega)) (fun e => absurd (q2.1 e) (by omega)) (fun e => absurd (q3.1 e) (by omega)) (q4.2 (by omega)) _)
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [HB]; · iexact HB
  isplitl [HY]; · iexact HY
  isplitl [H9]; · iexists _; iexact H9
  iintro ⟨H1, H3, H4, H5, H6, H7, H8, HB, HY, H9⟩
  isplitl [HY HA HB Hg]
  · isplitl [HY HA HB]
    · isplitl [HY]; · iexists _; iexact HY
      isplitl [HA]; · iexists _; iexact HA
      iexists _; iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body runs at every point. -/
theorem body_runs (c : Dev nD) (t : Fin cfg0.N) :
    handed m c t ⊢ wp frame (wpE (defs₀ (F := F)) Variants.none c none) Set.univ (bodyAt0 t) (fun _ => returned m c t) := by
  by_cases h0 : t.val % 17 = 0
  · exact opening m c t h0
  by_cases h1 : t.val % 17 = 16
  · exact close m c t h1
  by_cases h2 : t.val % 17 % 2 = 1
  · exact oddly m c t ⟨h0, h1, h2⟩
  exact evenly m c t ⟨h0, h1, by omega⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_runs m c t) rfl .rfl fun _ => .rfl

theorem before_all (c : Dev nD) : Pipeline.ΦA spec0 c ⊢ ((dats (F := F) m 0 c).Φ 0 : sProp 𝕄) := by
  rw [show (dats m 0 c).Φ 0 = inv m c 0 from rfl, inv_open m c 0 rfl, phi_eq]
theorem after_all (c : Dev nD) : ((dats (F := F) m 0 c).Φ (Fin.last cfg0.N) : sProp 𝕄) ⊢ Pipeline.ΦA spec0 c := by
  rw [show (dats m 0 c).Φ (Fin.last cfg0.N) = inv m c cfg0.N from rfl, inv_open m c cfg0.N (by rw [show cfg0.N = 1088 from N_0]), phi_eq]

set_option backward.isDefEq.respectTransparency.types false in
set_option maxHeartbeats 800000 in
/-- The launch: every execution ends, in the pipeline's final state and with every counter at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m)
    (hin := before_all m) (hout := after_all m)

/-- The launch, of the final arrays. -/
theorem ends : θ_run defs (onTc (τ := τ) (main (F := F))) (s₀ m ρ) (Pipeline.FramePost cfgs (dats m) 0 (V m)) :=
  (θ_run defs _ _).mono (fun _ h => h.1) (launch m ρ)

/-- The launch, of the arguments: unchanged, and every semaphore back at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 0).trans (((dats m 0 c).arrAt_in 0 rfl _).trans ((dats_A m c 0).trans (V_main_arg0 m c))),
      ((h.1 c).1 1).trans (((dats m 0 c).arrAt_in 1 rfl _).trans ((dats_A m c 1).trans (V_main_arg1 m c))),
      ((h.1 c).1 2).trans (((dats m 0 c).arrAt_in 2 rfl _).trans ((dats_A m c 2).trans (V_main_arg2 m c))),
      ((h.1 c).1 3).trans (((dats m 0 c).arrAt_in 3 rfl _).trans ((dats_A m c 3).trans (V_main_arg3 m c))),
      ((h.1 c).1 4).trans (((dats m 0 c).arrAt_in 4 rfl _).trans ((dats_A m c 4).trans (V_main_arg4 m c))),
      ((h.1 c).1 5).trans (((dats m 0 c).arrAt_in 5 rfl _).trans ((dats_A m c 5).trans (V_main_arg5 m c))),
      ((h.1 c).1 6).trans (((dats m 0 c).arrAt_in 6 rfl _).trans ((dats_A m c 6).trans (V_main_arg6 m c))),
      ((h.1 c).1 7).trans (((dats m 0 c).arrAt_in 7 rfl _).trans ((dats_A m c 7).trans (V_main_arg7 m c))),
      ((h.1 c).1 8).trans (((dats m 0 c).arrAt_in 8 rfl _).trans ((dats_A m c 8).trans (V_main_arg8 m c)))⟩, h.2⟩) (launch m ρ)

end Cert.ExpertsIdeal.Ex

end
-- ==== Proof.ExValue.Entries.lean ====
/-
The experts, entry by entry: what one point computes from the blocks in hand, and the plain formulas over the whole
arrays, each as a sum or a product of entries.
-/
module

public import proofs.«01_k».proof.Proof.ExIdealRun.Frame
public import proofs.«01_k».proof.Proof.Gen.ExpertsReferenceIdeal.Run
public import Idealize.ShloMosaic.Lib.Pointwise
public import Idealize.ShloMosaic.Lib.Pipeline.ValueKit
public import Idealize.ShloMosaic.Lib.Claim

@[expose] public section

set_option maxRecDepth 16384

noncomputable section

namespace Cert.ExpertsIdeal.Value

open Idealize.ShloMosaic Idealize.ShloMosaic.TcCoe Idealize.ShloMosaic.Tactic
open Idealize.ShloMosaic.Pipeline (Dat Cfg Window)
open Cert.ExpertsIdeal.Gen Cert.ExpertsIdeal.Ex

/-! ## The plain formulas -/

/-- Every expert's product with every token. -/
def products (U : FVec Ideal S16384x2048 .bf16) (H : FVec Ideal S2048x32768 .bf16) : FVec Ideal Cert.ExpertsReferenceIdeal.S16384x32768 .f32 :=
  Host.dotGeneral (F := Ideal) Cert.ExpertsReferenceIdeal.dot_S16384x2048_S2048x32768_S16384x32768_1_0_0_1_n_n none (extf .f32 U bitsLt_bf16_f32) (extf .f32 H bitsLt_bf16_f32)

/-- The gates: expert `128 i + j` gets, of every head whose threshold of row `i` exceeds the score of row `j`, its weight. -/
def gates (E C : FVec Ideal S8x128x32768 .bf16) (N W : FVec Ideal S8x128x32768 .f32) : FVec Ideal Cert.ExpertsReferenceIdeal.S16384x32768 .f32 :=
  shapeCast _ (Host.reduceAdd (select (cmpf .olt (broadcastInDim Cert.ExpertsReferenceIdeal.S8x128x128x32768 ![0, 1, 2, 3] Cert.ExpertsReferenceIdeal.Facts₀.bcast_S8x1x128x32768_S8x128x128x32768_0_1_2_3 (broadcastInDim Cert.ExpertsReferenceIdeal.S8x1x128x32768 ![0, 2, 3] Cert.ExpertsReferenceIdeal.Facts₀.bcast_S8x128x32768_S8x1x128x32768_0_2_3 (extf .f32 C bitsLt_bf16_f32)))
      (broadcastInDim Cert.ExpertsReferenceIdeal.S8x128x128x32768 ![0, 1, 2, 3] Cert.ExpertsReferenceIdeal.Facts₀.bcast_S8x128x1x32768_S8x128x128x32768_0_1_2_3 (broadcastInDim Cert.ExpertsReferenceIdeal.S8x128x1x32768 ![0, 1, 3] Cert.ExpertsReferenceIdeal.Facts₀.bcast_S8x128x32768_S8x128x1x32768_0_1_3 N)))
    (mulf (broadcastInDim Cert.ExpertsReferenceIdeal.S8x128x128x32768 ![0, 1, 2, 3] Cert.ExpertsReferenceIdeal.Facts₀.bcast_S8x1x128x32768_S8x128x128x32768_0_1_2_3 (broadcastInDim Cert.ExpertsReferenceIdeal.S8x1x128x32768 ![0, 2, 3] Cert.ExpertsReferenceIdeal.Facts₀.bcast_S8x128x32768_S8x1x128x32768_0_2_3 (extf .f32 E bitsLt_bf16_f32)))
      (broadcastInDim Cert.ExpertsReferenceIdeal.S8x128x128x32768 ![0, 1, 2, 3] Cert.ExpertsReferenceIdeal.Facts₀.bcast_S8x128x1x32768_S8x128x128x32768_0_1_2_3 (broadcastInDim Cert.ExpertsReferenceIdeal.S8x128x1x32768 ![0, 1, 3] Cert.ExpertsReferenceIdeal.Facts₀.bcast_S8x128x32768_S8x128x1x32768_0_1_3 W)))
    (broadcastInDim Cert.ExpertsReferenceIdeal.S8x128x128x32768 ![] Cert.ExpertsReferenceIdeal.Facts₀.bcast_S_S8x128x128x32768 (id (constant Cert.ExpertsReferenceIdeal.S_ .f32 0x00000000#32)))) (constant Cert.ExpertsReferenceIdeal.S_ .f32 0x00000000#32) Cert.ExpertsReferenceIdeal.Facts₀.reducesTo_S8x128x128x32768_S128x128x32768_d0 Cert.ExpertsReferenceIdeal.Facts₀.h_S_)
    Cert.ExpertsReferenceIdeal.Facts₀.shapeCasts_S128x128x32768_S16384x32768

/-- The activation of the products, times the gates. -/
def activated (P G : FVec Ideal Cert.ExpertsReferenceIdeal.S16384x32768 .f32) : FVec Ideal Cert.ExpertsReferenceIdeal.S16384x32768 .bf16 :=
  truncf .bf16 (mulf (mulf P (addf (broadcastInDim Cert.ExpertsReferenceIdeal.S16384x32768 ![] Cert.ExpertsReferenceIdeal.Facts₀.bcast_S_S16384x32768 (constant Cert.ExpertsReferenceIdeal.S_ .f32 0x3F800000#32))
    (Host.erf (mulf P (broadcastInDim Cert.ExpertsReferenceIdeal.S16384x32768 ![] Cert.ExpertsReferenceIdeal.Facts₀.bcast_S_S16384x32768 (constant Cert.ExpertsReferenceIdeal.S_ .f32 0x3F3504F3#32)))))) G) bitsLt_bf16_f32

/-- The experts' outputs. -/
def outputs (Vt : FVec Ideal S2048x16384 .bf16) (A : FVec Ideal Cert.ExpertsReferenceIdeal.S16384x32768 .bf16) : FVec Ideal S2048x32768 .f32 :=
  Host.dotGeneral (F := Ideal) Cert.ExpertsReferenceIdeal.dot_S2048x16384_S16384x32768_S2048x32768_1_0_0_1_n_n none (extf .f32 Vt bitsLt_bf16_f32) (extf .f32 A bitsLt_bf16_f32)

/-- The residual with the outputs added. -/
def stream (X : FVec Ideal S32768x2048 .f32) (Y : FVec Ideal S2048x32768 .f32) : FVec Ideal S32768x2048 .f32 :=
  addf X (transpose S32768x2048 [1, 0] Y Cert.ExpertsReferenceIdeal.Facts₀.transposes_S2048x32768_S32768x2048_1_0)

/-- The RMS norm of its rows, scaled lane by lane. -/
def normed (x : FVec Ideal S32768x2048 .f32) (N : FVec Ideal S1x2048 .f32) : FVec Ideal S32768x2048 .f32 :=
  mulf (mulf x (broadcastInDim S32768x2048 ![0, 1] Cert.ExpertsReferenceIdeal.Facts₀.bcast_S32768x1_S32768x2048_0_1
      (Host.rsqrt (addf (Host.divf (broadcastInDim Cert.ExpertsReferenceIdeal.S32768x1 ![0] Cert.ExpertsReferenceIdeal.Facts₀.bcast_S32768_S32768x1_0
          (Host.reduceAdd (mulf x x) (constant Cert.ExpertsReferenceIdeal.S_ .f32 0x00000000#32) Cert.ExpertsReferenceIdeal.Facts₀.reducesTo_S32768x2048_S32768_d1 Cert.ExpertsReferenceIdeal.Facts₀.h_S_))
        (broadcastInDim Cert.ExpertsReferenceIdeal.S32768x1 ![] Cert.ExpertsReferenceIdeal.Facts₀.bcast_S_S32768x1 (constant Cert.ExpertsReferenceIdeal.S_ .f32 0x45000000#32)))
        (broadcastInDim Cert.ExpertsReferenceIdeal.S32768x1 ![] Cert.ExpertsReferenceIdeal.Facts₀.bcast_S_S32768x1 (constant Cert.ExpertsReferenceIdeal.S_ .f32 0x358637BD#32))))))
    (broadcastInDim S32768x2048 ![0, 1] Cert.ExpertsReferenceIdeal.Facts₀.bcast_S1x2048_S32768x2048_0_1 N)

/-! ## A slab -/

/-- A row given to all 128 experts of a slab. -/
theorem spread_at (X : FVec Ideal S1x1x512 .f32) (y : S128x512.Idx) :
    shapeCast S128x512 (broadcastTo S8x16x512 (shapeCast S1x16x512 (shapeCast S1x16x512 (truncf .bf16 (broadcastTo S16x512
      (shapeCast S1x512 (shapeCast S1x512 X shapeCasts_S1x1x512_S1x512) shapeCasts_S1x512_S1x512)
      broadcasts_S1x512_S16x512) bitsLt_bf16_f32) shapeCasts_S16x512_S1x16x512) shapeCasts_S1x16x512_S1x16x512) broadcasts_S1x16x512_S8x16x512)
      shapeCasts_S8x16x512_S128x512 y = X (ix3 0 0 (y 1)) := by
  pointwise []

theorem spreadRow_at (n : Vec Ideal S8x8x512 .f32) {h ii : ℕ} (hh : h < 8) (hi : ii < 8) (y : S128x512.Idx) :
    spreadRow n h ii (row_in hh hi) y = n (ix3 ⟨h, hh⟩ ⟨ii, hi⟩ (y 1)) :=
  (spread_at _ y).trans (View.ld_unit_apply_of n _ _ _ _ _ fun a => match a with
    | ⟨0, _⟩ => rfl | ⟨1, _⟩ => rfl | ⟨2, _⟩ => (Nat.zero_add _).symm)

/-- A head's rows. -/
theorem rows_at (X : FVec Ideal S1x128x512 .bf16) (y : S128x512.Idx) :
    shapeCast S128x512 X shapeCasts_S1x128x512_S128x512 y = X (ix3 0 (y 0) (y 1)) := by
  pointwise []

theorem headRows_at (n : Vec Ideal S8x128x512 .bf16) {h : ℕ} (hh : h < 8) (y : S128x512.Idx) :
    headRows n h (head_in hh) y = n (ix3 ⟨h, hh⟩ (y 0) (y 1)) :=
  (rows_at _ y).trans (View.ld_unit_apply_of n _ _ _ _ _ fun a => match a with
    | ⟨0, _⟩ => rfl | ⟨1, _⟩ => (Nat.zero_add _).symm | ⟨2, _⟩ => (Nat.zero_add _).symm)

/-- A head's weight of an expert for a token, by the rows of a block. -/
def part (e cc : Vec Ideal S8x128x512 .bf16) (n w : Vec Ideal S8x8x512 .f32) (ii : Fin 8) (j : Fin 128) (k : Fin 512) (h : Fin 8) : EReal :=
  if cc (ix3 h j k) < n (ix3 h ii k) then e (ix3 h j k) * w (ix3 h ii k) else 0

theorem choose_at (a b p q : FVec Ideal S128x512 .bf16) (y : S128x512.Idx) :
    select (cmpf .olt a b) (mulf p q) (broadcast S128x512 (Scalar.ofBits (F := Ideal) .bf16 0x0000#16)) y = if a y < b y then p y * q y else (0 : EReal) := by
  pointwise []

theorem headGate_at (e cc : Vec Ideal S8x128x512 .bf16) (n w : Vec Ideal S8x8x512 .f32) {h ii : ℕ} (hh : h < 8) (hi : ii < 8) (y : S128x512.Idx) :
    headGate e cc n w hh hi y = part e cc n w ⟨ii, hi⟩ (y 0) (y 1) ⟨h, hh⟩ := by
  unfold headGate
  rw [choose_at, headRows_at, headRows_at, spreadRow_at, spreadRow_at]
  rfl

theorem add8_at (a0 a1 a2 a3 a4 a5 a6 a7 : FVec Ideal S128x512 .bf16) (y : S128x512.Idx) :
    addf (addf (addf (addf (addf (addf (addf (addf (broadcast S128x512 (Scalar.ofBits (F := Ideal) .bf16 0x0000#16)) a0) a1) a2) a3) a4) a5) a6) a7 y
      = a0 y + a1 y + a2 y + a3 y + a4 y + a5 y + a6 y + a7 y := by
  pointwise []

theorem slabGate_at (e cc : Vec Ideal S8x128x512 .bf16) (n w : Vec Ideal S8x8x512 .f32) {ii : ℕ} (hi : ii < 8) (y : S128x512.Idx) :
    slabGate e cc n w hi y = ∑ h : Fin 8, part e cc n w ⟨ii, hi⟩ (y 0) (y 1) h := by
  unfold slabGate
  rw [add8_at, Fin.sum_univ_eight]
  simp only [headGate_at]
  rfl

/-- The activation of a product, times a gate. -/
def actOf (p g : EReal) : EReal := p * (1 + Ideal.erf (p * Ideal.ofBits .f32 0x3F3504F3#32)) * g

theorem act_at (s : FVec Ideal S128x512 .f32) (g : FVec Ideal S128x512 .bf16) (y : S128x512.Idx) :
    mulf (truncf .bf16 (mulf s (addf (broadcast S128x512 (Scalar.ofBits (F := Ideal) .f32 0x3F800000#32))
      (erf (mulf s (broadcast S128x512 (Scalar.ofBits (F := Ideal) .f32 0x3F3504F3#32)))))) bitsLt_bf16_f32) g y = actOf (s y) (g y) := by
  pointwise []
  rfl

/-- The same entry, its slab and row given in two ways. -/
theorem slab_eq (f : Fin 8 → FVec Ideal S128x512 .bf16) (k : Fin 8) (x : Fin 128) (ii : Fin 8) (z : Fin 128) (w : Fin 512) (hk : k.val = ii.val) (hx : x.val = z.val) :
    f k (ix2 x w) = f ii (ix2 z w) := by
  obtain rfl := Fin.ext hk; obtain rfl := Fin.ext hx; rfl

/-- Eight slabs, one after the other. -/
theorem slabs_at (f : Fin 8 → FVec Ideal S128x512 .bf16) (y : S1024x512.Idx) (ii : Fin 8) (h : (y 0).val / 128 = ii.val) :
    concatenate S1024x512 0 [⟨S128x512, f 0⟩, ⟨S128x512, f 1⟩, ⟨S128x512, f 2⟩, ⟨S128x512, f 3⟩, ⟨S128x512, f 4⟩, ⟨S128x512, f 5⟩, ⟨S128x512, f 6⟩, ⟨S128x512, f 7⟩] concatenates_S128x512_S128x512_S128x512_S128x512_S128x512_S128x512_S128x512_S128x512_S1024x512_d0 y
      = f ii (ix2 ⟨(y 0).val % 128, Nat.mod_lt _ (by decide)⟩ (y 1)) := by
  have hy : (y 0).val < 1024 := (y 0).isLt
  pointwise []
  by_cases c0 : (y 0).val < 128
  · rw [dif_pos c0]
    exact slab_eq f 0 _ ii _ _ (show 0 = ii.val by omega) (show (y 0).val = (y 0).val % 128 by omega)
  rw [dif_neg c0]
  by_cases c1 : (y 0).val - 128 < 128
  · rw [dif_pos c1]
    exact slab_eq f 1 _ ii _ _ (show 1 = ii.val by omega) (show (y 0).val - 128 = (y 0).val % 128 by omega)
  rw [dif_neg c1]
  by_cases c2 : (y 0).val - 128 - 128 < 128
  · rw [dif_pos c2]
    exact slab_eq f 2 _ ii _ _ (show 2 = ii.val by omega) (show (y 0).val - 128 - 128 = (y 0).val % 128 by omega)
  rw [dif_neg c2]
  by_cases c3 : (y 0).val - 128 - 128 - 128 < 128
  · rw [dif_pos c3]
    exact slab_eq f 3 _ ii _ _ (show 3 = ii.val by omega) (show (y 0).val - 128 - 128 - 128 = (y 0).val % 128 by omega)
  rw [dif_neg c3]
  by_cases c4 : (y 0).val - 128 - 128 - 128 - 128 < 128
  · rw [dif_pos c4]
    exact slab_eq f 4 _ ii _ _ (show 4 = ii.val by omega) (show (y 0).val - 128 - 128 - 128 - 128 = (y 0).val % 128 by omega)
  rw [dif_neg c4]
  by_cases c5 : (y 0).val - 128 - 128 - 128 - 128 - 128 < 128
  · rw [dif_pos c5]
    exact slab_eq f 5 _ ii _ _ (show 5 = ii.val by omega) (show (y 0).val - 128 - 128 - 128 - 128 - 128 = (y 0).val % 128 by omega)
  rw [dif_neg c5]
  by_cases c6 : (y 0).val - 128 - 128 - 128 - 128 - 128 - 128 < 128
  · rw [dif_pos c6]
    exact slab_eq f 6 _ ii _ _ (show 6 = ii.val by omega) (show (y 0).val - 128 - 128 - 128 - 128 - 128 - 128 = (y 0).val % 128 by omega)
  rw [dif_neg c6]
  exact slab_eq f 7 _ ii _ _ (show 7 = ii.val by omega) (show (y 0).val - 128 - 128 - 128 - 128 - 128 - 128 - 128 = (y 0).val % 128 by omega)

/-- The rows of one slab. -/
theorem slabOf_at (s : Vec Ideal S1024x512 .f32) {ii : ℕ} (hi : ii < 8) (y : S128x512.Idx) (z : S1024x512.Idx) (h0 : (z 0).val = 128 * ii + (y 0).val) (h1 : z 1 = y 1) :
    slabOf s (slab_in hi) y = s z :=
  View.ld_unit_apply_of s _ _ _ _ _ fun a => match a with
    | ⟨0, _⟩ => h0 | ⟨1, _⟩ => (congrArg Fin.val h1).trans (Nat.zero_add _).symm

/-- A chunk of experts, activated. -/
theorem chunkAct_at (e cc : Vec Ideal S8x128x512 .bf16) (n w : Vec Ideal S8x8x512 .f32) (s : Vec Ideal S1024x512 .f32) (y : S1024x512.Idx)
    (a : Fin 8) (b : Fin 128) (ha : (y 0).val / 128 = a.val) (hb : (y 0).val % 128 = b.val) :
    chunkAct e cc n w s y = actOf (s y) (∑ h : Fin 8, part e cc n w a b (y 1) h) := by
  obtain rfl : ⟨(y 0).val % 128, Nat.mod_lt _ (by decide)⟩ = b := Fin.ext hb
  refine (slabs_at (fun q => slabAct e cc n w (slabOf s (slab_in q.isLt)) q.isLt) y a ha).trans ?_
  unfold slabAct
  rw [act_at, slabGate_at, slabOf_at s a.isLt _ y (by show _ = 128 * a.val + (y 0).val % 128; omega) rfl]
  rfl

/-- A chunk's outputs, added. -/
theorem withChunk_at (v : Vec Ideal S2048x1024 .bf16) (e cc : Vec Ideal S8x128x512 .bf16) (n w : Vec Ideal S8x8x512 .f32) (s : Vec Ideal S1024x512 .f32) (z : Vec Ideal S2048x512 .f32) (y : S2048x512.Idx) :
    withChunk v e cc n w s z y = z y + ∑ r : Fin 1024, v (ix2 (y 0) r) * chunkAct e cc n w s (ix2 r (y 1)) := by
  unfold withChunk
  generalize chunkAct e cc n w s = A
  pointwise [k0_pay358]

/-- The gates, entry by entry. -/
theorem gates_at (E C : FVec Ideal S8x128x32768 .bf16) (N W : FVec Ideal S8x128x32768 .f32) (j : Cert.ExpertsReferenceIdeal.S16384x32768.Idx)
    (a b : Fin 128) (ha : (j 0).val / 128 = a.val) (hb : (j 0).val % 128 = b.val) :
    gates E C N W j = ∑ h : Fin 8, if C (ix3 h b (j 1)) < N (ix3 h a (j 1)) then E (ix3 h b (j 1)) * W (ix3 h a (j 1)) else (0 : EReal) := by
  have hj : (j 0).val < 128 * 128 := (j 0).isLt
  obtain rfl : ⟨(j 0).val / 128, Nat.div_lt_of_lt_mul hj⟩ = a := Fin.ext ha
  obtain rfl : ⟨(j 0).val % 128, Nat.mod_lt _ (by decide)⟩ = b := Fin.ext hb
  pointwise [gates]
  simp only [id]
  pointwise []

/-- The activated experts. -/
theorem activated_at (P G : FVec Ideal Cert.ExpertsReferenceIdeal.S16384x32768 .f32) (j : Cert.ExpertsReferenceIdeal.S16384x32768.Idx) :
    activated P G j = actOf (P j) (G j) := by
  pointwise [activated]
  rfl

/-- And their outputs. -/
theorem outputs_at (Vt : FVec Ideal S2048x16384 .bf16) (A : FVec Ideal Cert.ExpertsReferenceIdeal.S16384x32768 .bf16) (j : S2048x32768.Idx) :
    outputs Vt A j = ∑ r : Fin 16384, Vt (ix2 (j 0) r) * A (ix2 r (j 1)) := by
  pointwise [outputs]

end Cert.ExpertsIdeal.Value

end
-- ==== Proof.ExValue.Output.lean ====
/-
The experts' result over the extended reals. Each of the sixteen chunks of experts adds its share of the outputs at its
own grid point; the shares are the sixteen tiles of the one sum over all experts.
-/
module

public import proofs.«01_k».proof.Proof.ExValue.Entries
public import Idealize.ShloMosaic.Lib.Pointwise
public import Idealize.ShloMosaic.Lib.Pipeline.ValueKit
public import Idealize.ShloMosaic.Lib.Claim

@[expose] public section

set_option maxRecDepth 16384

noncomputable section

namespace Cert.ExpertsIdeal.Value

open Idealize.ShloMosaic Idealize.ShloMosaic.TcCoe Idealize.ShloMosaic.Tactic
open Idealize.ShloMosaic.Pipeline (Dat Cfg Window)
open Cert.ExpertsIdeal.Gen Cert.ExpertsIdeal.Ex

/-- Where each window's block lies at a grid point. -/
theorem idx : ∀ t : Fin cfg0.N, win0_0.index t = ![min (t.val % 17) 15, 0] ∧ win0_1.index t = ![0, t.val % 17 - 1] ∧ win0_2.index t = ![0, t.val / 17]
    ∧ win0_3.index t = ![0, 0, t.val / 17] ∧ win0_4.index t = ![0, 0, t.val / 17] ∧ win0_5.index t = ![0, t.val % 17 - 1, t.val / 17]
    ∧ win0_6.index t = ![0, t.val % 17 - 1, t.val / 17] ∧ win0_7.index t = ![t.val / 17, 0] ∧ win0_8.index t = ![0, 0]
    ∧ win0_9.index t = ![t.val / 17, 0] ∧ t.val < 1088 :=
  (by decide +kernel : ∀ t : Fin grid0.N, _)

variable (m : (ℓ : Loc nD τ sig) → Buf (Elt Ideal) ℓ) (c : Dev nD)

/-- The arguments of one device: the activated experts, -/
def acts : FVec Ideal Cert.ExpertsReferenceIdeal.S16384x32768 .bf16 :=
  activated (products (m ((c : Thread nD τ).loc main_arg0)) (m ((c : Thread nD τ).loc main_arg2)))
    (gates (m ((c : Thread nD τ).loc main_arg3)) (m ((c : Thread nD τ).loc main_arg4)) (m ((c : Thread nD τ).loc main_arg5)) (m ((c : Thread nD τ).loc main_arg6)))
/-- and the residual with their outputs. -/
def summed : FVec Ideal S32768x2048 .f32 :=
  stream (m ((c : Thread nD τ).loc main_arg7)) (outputs (m ((c : Thread nD τ).loc main_arg1)) (acts m c))

/-! ## The blocks in hand -/

theorem prods_at (t : Fin cfg0.N) (h : t.val % 17 ≠ 16) (y : S1024x512.Idx) (j : Cert.ExpertsReferenceIdeal.S16384x32768.Idx)
    (h0 : (j 0).val = t.val % 17 * 1024 + (y 0).val) (h1 : (j 1).val = t.val / 17 * 512 + (y 1).val) :
    prods m c t y = products (m ((c : Thread nD τ).loc main_arg0)) (m ((c : Thread nD τ).loc main_arg2)) j := by
  have hm : min (t.val % 17) 15 = t.val % 17 := by omega
  pointwise [prods, k0_pay357, products]
  blk_point [iblk, V, idx t, hm, h0, h1]

theorem table_at (t : Fin cfg0.N) (a : Fin 8) (b : Fin 128) (x : Fin 512) (j : Fin 32768) (h : j.val = t.val / 17 * 512 + x.val) :
    (iblk m c 3 t : Vec Ideal S8x128x512 .bf16) (ix3 a b x) = (m ((c : Thread nD τ).loc main_arg3) : FVec Ideal S8x128x32768 .bf16) (ix3 a b j)
    ∧ (iblk m c 4 t : Vec Ideal S8x128x512 .bf16) (ix3 a b x) = (m ((c : Thread nD τ).loc main_arg4) : FVec Ideal S8x128x32768 .bf16) (ix3 a b j) := by
  constructor
  · blk_point [iblk, V, idx t, h]
  · blk_point [iblk, V, idx t, h]

theorem row_at (t : Fin cfg0.N) (a : Fin 8) (b : Fin 8) (x : Fin 512) (k : Fin 128) (j : Fin 32768) (h : j.val = t.val / 17 * 512 + x.val)
    (hk : k.val = (t.val % 17 - 1) * 8 + b.val) :
    (iblk m c 5 t : Vec Ideal S8x8x512 .f32) (ix3 a b x) = (m ((c : Thread nD τ).loc main_arg5) : FVec Ideal S8x128x32768 .f32) (ix3 a k j)
    ∧ (iblk m c 6 t : Vec Ideal S8x8x512 .f32) (ix3 a b x) = (m ((c : Thread nD τ).loc main_arg6) : FVec Ideal S8x128x32768 .f32) (ix3 a k j) := by
  constructor
  · blk_point [iblk, V, idx t, h, hk]
  · blk_point [iblk, V, idx t, h, hk]

theorem weights_at (t : Fin cfg0.N) (a : Fin 2048) (b : Fin 1024) (j : Fin 16384) (h : j.val = (t.val % 17 - 1) * 1024 + b.val) :
    (iblk m c 1 t : Vec Ideal S2048x1024 .bf16) (ix2 a b) = (m ((c : Thread nD τ).loc main_arg1) : FVec Ideal S2048x16384 .bf16) (ix2 a j) := by
  blk_point [iblk, V, idx t, h]

/-- One head's gate from its score, its threshold, and the two weights. -/
def gateOf (s n e w : EReal) : EReal := if s < n then e * w else 0

/-- A chunk of experts activated at a point is that chunk of the activated experts. -/
theorem chunk_at (s t : Fin cfg0.N) (h : t.val % 17 ≠ 0) (hs : s.val + 1 = t.val) (b : Fin 1024) (x : Fin 512) (j : Fin 16384) (k : Fin 32768)
    (hj : j.val = (t.val % 17 - 1) * 1024 + b.val) (hk : k.val = t.val / 17 * 512 + x.val) :
    chunkAct (iblk m c 3 t) (iblk m c 4 t) (iblk m c 5 t) (iblk m c 6 t) (prods m c s) (ix2 b x) = acts m c (ix2 j k) := by
  have hb := b.isLt
  have hjl := j.isLt
  rw [chunkAct_at _ _ _ _ _ _ ⟨b.val / 128, by omega⟩ ⟨b.val % 128, by omega⟩ rfl rfl]
  unfold acts
  rw [activated_at, gates_at _ _ _ _ _ ⟨j.val / 128, by omega⟩ ⟨j.val % 128, by omega⟩ rfl rfl,
    prods_at m c s (by omega) (ix2 b x) (ix2 j k) (by show j.val = s.val % 17 * 1024 + b.val; rw [hj]; congr 2; omega) (by show k.val = s.val / 17 * 512 + x.val; rw [hk]; congr 2; omega)]
  refine congrArg (actOf _) (Finset.sum_congr rfl fun q _ => ?_)
  have e : (⟨b.val % 128, by omega⟩ : Fin 128) = ⟨j.val % 128, by omega⟩ := Fin.ext (by show b.val % 128 = j.val % 128; omega)
  have hr := row_at m c t q ⟨b.val / 128, by omega⟩ x ⟨j.val / 128, by omega⟩ k hk (by show j.val / 128 = (t.val % 17 - 1) * 8 + b.val / 128; omega)
  have ht := table_at m c t q ⟨b.val % 128, by omega⟩ x k hk
  unfold part
  rw [← e]
  have hg := congr (congr (congr (congrArg gateOf ht.2) hr.1) ht.1) hr.2
  unfold gateOf at hg
  exact hg

/-! ## The chunks' outputs, added one by one -/

/-- What the `q`-th chunk of experts adds at an entry. -/
def share (Vt : FVec Ideal Cert.ExpertsReferenceIdeal.S2048x16384 .bf16) (A : FVec Ideal Cert.ExpertsReferenceIdeal.S16384x32768 .f32)
    (d : Fin 2048) (k : Fin 32768) (q : ℕ) : EReal :=
  ∑ r : Fin 1024, Vt (ix2 d ⟨(q * 1024 + r.val) % 16384, Nat.mod_lt _ (by decide)⟩) * A (ix2 ⟨(q * 1024 + r.val) % 16384, Nat.mod_lt _ (by decide)⟩ k)

/-- The point of a small number. -/
theorem val_pt (n : ℕ) (h : n < 1088) : (pt n).val = n := Nat.mod_eq_of_lt h

/-- The outputs after `n` chunks are the shares of these. -/
theorem outs_at (i : ℕ) (hi : i < 64) (d : Fin 2048) (x : Fin 512) (k : Fin 32768) (hk : k.val = i * 512 + x.val) (n : ℕ) (hn : n ≤ 16) :
    outs m c (17 * i) n (ix2 d x) = ∑ q ∈ Finset.range n, share (m ((c : Thread nD τ).loc main_arg1)) (acts m c) d k q := by
  induction n with
  | zero =>
    rw [Finset.sum_range_zero]
    unfold outs
    pointwise [k0_pay356]
  | succ n ih =>
    rw [Finset.sum_range_succ, ← ih (by omega)]
    show added m c (pt (17 * i + (n + 1))) (prods m c (pt (17 * i + n))) (outs m c (17 * i) n) (ix2 d x) = _
    have ht := val_pt (17 * i + (n + 1)) (by omega)
    have hs := val_pt (17 * i + n) (by omega)
    have hm : (17 * i + (n + 1)) % 17 = n + 1 := by omega
    unfold added
    rw [withChunk_at]
    refine congrArg (outs m c (17 * i) n (ix2 d x) + ·) (Finset.sum_congr rfl fun r _ => ?_)
    have hr := r.isLt
    have hj : (n * 1024 + r.val) % 16384 = ((pt (17 * i + (n + 1))).val % 17 - 1) * 1024 + r.val := by rw [ht, hm, Nat.add_sub_cancel]; omega
    refine congr (congrArg _ (weights_at m c _ d r ⟨(n * 1024 + r.val) % 16384, Nat.mod_lt _ (by decide)⟩ hj)) ?_
    exact chunk_at m c _ _ (by rw [ht, hm]; omega) (by rw [hs, ht]; rfl) r x _ k hj (by rw [ht, hk]; congr 2; omega)

/-- All sixteen are the experts' outputs. -/
theorem outs_all (i : ℕ) (hi : i < 64) (d : Fin 2048) (x : Fin 512) (k : Fin 32768) (hk : k.val = i * 512 + x.val) :
    outs m c (17 * i) 16 (ix2 d x) = outputs (m ((c : Thread nD τ).loc main_arg1)) (acts m c) (ix2 d k) := by
  rw [outs_at m c i hi d x k hk 16 le_rfl, outputs_at, Fin.sum_univ_tiles 16 1024 rfl, Finset.sum_range]
  refine Finset.sum_congr rfl fun q _ => Finset.sum_congr rfl fun r _ => ?_
  have e : (⟨(q.val * 1024 + r.val) % 16384, Nat.mod_lt _ (by decide)⟩ : Fin 16384) = ⟨q.val * 1024 + r.val, by have := q.isLt; have := r.isLt; omega⟩ :=
    Fin.ext (Nat.mod_eq_of_lt (by have := q.isLt; have := r.isLt; omega))
  rw [e]
  rfl

/-! ## The result -/

/-- The residual with a block's outputs. -/
def streamAt (x : FVec Ideal S512x2048 .f32) (y : FVec Ideal S2048x512 .f32) : FVec Ideal S512x2048 .f32 := k0_pay354 x y

theorem result_at (t : Fin cfg0.N) (h : t.val % 17 = 16) (y : S512x2048.Idx) :
    resultAt m c t y = normed (summed m c) (m ((c : Thread nD τ).loc main_arg8)) (((cfg0.win 9).blk t).view.emb y) := by
  have hN : t.val < 1088 := (idx t).2.2.2.2.2.2.2.2.2.2
  have hY : leftAt m c t = fun z => outputs (m ((c : Thread nD τ).loc main_arg1)) (acts m c) (ix2 (z 0) ⟨t.val / 17 * 512 + (z 1).val, by
      have : (z 1).val < 512 := (z 1).isLt; omega⟩) := by
    rw [leftAt_eq m c t (by omega), h, show t.val - 16 = 17 * (t.val / 17) by omega]
    funext z
    exact (congrArg _ (ix2_eta z).symm).trans (outs_all m c (t.val / 17) (by omega) (z 0) (z 1) _ rfl)
  unfold resultAt
  rw [hY]
  unfold summed
  generalize outputs (m ((c : Thread nD τ).loc main_arg1)) (acts m c) = Y
  pointwise [result, k0_pay2, k0_pay354, k0_pay355, normed, stream]
  blk_point [iblk, V, idx t]

/-- The array after the grid holds the norm of the residual with the experts' outputs. -/
theorem final : (dats m 0 c).arrAt 9 (cfgs 0).N = normed (summed m c) (m ((c : Thread nD τ).loc main_arg8)) := by
  refine (dats m 0 c).arrAt_eq_of_covers 9 _ (by decide +kernel) fun t hf y => ?_
  have h : t.val % 17 = 16 := of_decide_eq_true ((flush_9 t).symm.trans hf)
  blk_simp
  rw [after_9]
  exact result_at m c t h y

end Cert.ExpertsIdeal.Value

end
-- ==== Proof.lean ====
/- The proof of the certificate's claim: every program's frame, and the value of the attention, of the two projections, of the experts and of the matrix memory. -/
module

public import proofs.«01_k».proof.Defs
public import proofs.«01_k».proof.Proof.Gen.ReferenceIdeal
public import proofs.«01_k».proof.Proof.Gen.ReferenceIdeal.Run
public import proofs.«01_k».proof.Proof.Gen.Pre_plan_ok
public import proofs.«01_k».proof.Proof.Gen.Pre_logits_ok
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.OutProjReferenceIdeal.Run
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsReferenceIdeal
public import proofs.«01_k».proof.Proof.Gen.ExpertsReferenceIdeal.Run
public import proofs.«01_k».proof.Proof.Gen.Cell
public import proofs.«01_k».proof.Proof.Gen.Cell.Skeleton
public import proofs.«01_k».proof.Proof.Gen.Cell.Launch
public import proofs.«01_k».proof.Proof.Gen.Cell.Points
public import proofs.«01_k».proof.Proof.Gen.Cell.Frame
public import proofs.«01_k».proof.Proof.Gen.CellIdeal
public import proofs.«01_k».proof.Proof.Gen.CellIdeal.Skeleton
public import proofs.«01_k».proof.Proof.Gen.CellIdeal.Launch
public import proofs.«01_k».proof.Proof.Gen.CellIdeal.Points
public import proofs.«01_k».proof.Proof.Gen.CellIdeal.Frame
public import proofs.«01_k».proof.Proof.Gen.CellReferenceIdeal
public import proofs.«01_k».proof.Proof.Gen.CellReferenceIdeal.Run
public import proofs.«01_k».proof.Proof.Gen.CellReferenceIdeal.Step
public import proofs.«01_k».proof.Proof.Gen.CellReferenceIdeal.StepRun
public import proofs.«01_k».proof.Proof.CellValue.Output
public import proofs.«01_k».proof.Proof.IdealRun.Words
public import proofs.«01_k».proof.Proof.BitsRun.Words
public import proofs.«01_k».proof.Proof.Value.Meet
public import proofs.«01_k».proof.Proof.InIdealRun.Frame
public import proofs.«01_k».proof.Proof.InBitsRun.Frame
public import proofs.«01_k».proof.Proof.InValue.Input
public import proofs.«01_k».proof.Proof.OutValue.Output
public import proofs.«01_k».proof.Proof.ExIdealRun.Frame
public import proofs.«01_k».proof.Proof.ExBitsRun.Frame
public import proofs.«01_k».proof.Proof.ExValue.Output
public import Idealize.ShloMosaic.Adequacy
public import Idealize.ShloMosaic.Init

@[expose] public section

noncomputable section

namespace Cert.Proof

open Idealize.ShloMosaic Idealize.SL.Sem

/-- The frame of the program as it runs on the device's own numbers. -/
theorem frame_bits : Cert.quiescent_Kernel (hKernel := Cert.Kernel.Gen.facts) (hPre_plan_ok := Cert.Pre_plan_ok.Gen.facts) := by
  letI := Cert.Pre_plan_ok.Gen.facts
  exact fun m g hp => Cert.Kernel.Fox.quiescent m g (Cert.Kernel.Fox.words_of m (Cert.Kernel.Fox.plan_of_pre _ _ _ _ _ _ (hp 0)))

/-- The frame of the program over the extended reals. -/
theorem frame_ideal : Cert.quiescent_KernelIdeal (hKernelIdeal := Cert.KernelIdeal.Gen.facts) (hPre_plan_ok := Cert.Pre_plan_ok.Gen.facts) := by
  letI := Cert.Pre_plan_ok.Gen.facts
  exact fun m g hp => Cert.KernelIdeal.Fox.quiescent m g (Cert.KernelIdeal.Fox.words_of m (Cert.KernelIdeal.Fox.plan_of_pre _ _ _ _ _ _ (hp 0)))

/-- The frame of the reference: host operations alone, no semaphore. -/
theorem frame_reference : Cert.quiescent_ReferenceIdeal (hReferenceIdeal := Cert.ReferenceIdeal.Gen.facts) :=
  fun m g _ => (θ_run Cert.ReferenceIdeal.defs _ _).mono (fun r h => ⟨fun c => (h c).2, Idealize.ShloMosaic.sem_eq_zero_of_no_sems (by decide) r.2⟩)
    (Cert.ReferenceIdeal.Value.run (F := Ideal) m g)

/-- What the value claim's assumption says of a memory: the tables' range, and the rest. -/
theorem plan_of_logits (m : (ℓ : Loc Cert.KernelIdeal.nD Cert.KernelIdeal.τ Cert.KernelIdeal.sig) → Buf (Elt Ideal) ℓ)
    (hp : Cert.Pre_KernelIdeal_logits_ok (hPre_logits_ok := Cert.Pre_logits_ok.Gen.facts) m) :
    Cert.KernelIdeal.Fox.Plan (Cert.KernelIdeal.Fox.tables m 0) (Cert.KernelIdeal.Fox.tables m 1) := by
  letI := Cert.Pre_logits_ok.Gen.facts
  exact (Cert.KernelIdeal.Fox.assumed _ _ _ _ _ _ (hp 0)).1

/-- The kernel's frame under the value claim's assumption. -/
theorem frame_ideal_logits : Cert.quiescent_KernelIdeal_pre_logits_ok (hKernelIdeal := Cert.KernelIdeal.Gen.facts) (hPre_logits_ok := Cert.Pre_logits_ok.Gen.facts) :=
  fun m g hp => Cert.KernelIdeal.Fox.quiescent m g (Cert.KernelIdeal.Fox.words_of m (plan_of_logits m hp))

/-- The reference's. -/
theorem frame_reference_logits :
    Cert.quiescent_ReferenceIdeal_pre_logits_ok (hReferenceIdeal := Cert.ReferenceIdeal.Gen.facts) (hPre_logits_ok := Cert.Pre_logits_ok.Gen.facts) :=
  fun m g _ => (θ_run Cert.ReferenceIdeal.defs _ _).mono (fun r h => ⟨fun c => (h c).2, Idealize.ShloMosaic.sem_eq_zero_of_no_sems (by decide) r.2⟩)
    (Cert.ReferenceIdeal.Value.run (F := Ideal) m g)

/-- The kernel and the reference compute the same attention. -/
theorem value : Cert.algebraic_KernelIdeal_ReferenceIdeal_pre_logits_ok (hKernelIdeal := Cert.KernelIdeal.Gen.facts)
    (hReferenceIdeal := Cert.ReferenceIdeal.Gen.facts) (hPre_logits_ok := Cert.Pre_logits_ok.Gen.facts) := by
  letI := Cert.Pre_logits_ok.Gen.facts
  intro m g m' g' hp hm
  have hplan := plan_of_logits m hp
  have hlog : ∀ c, Cert.KernelIdeal.Fox.Logits m c := fun c => Cert.KernelIdeal.Fox.assumed_args m c (hp c)
  refine ⟨fun c => Cert.KernelIdeal.Fox.outSpec m c, Cert.KernelIdeal.Fox.kernel_value m g (Cert.KernelIdeal.Fox.words_of m hplan) hplan hlog, ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5⟩ := hm c
  exact Cert.KernelIdeal.Fox.reference_value m c (hlog c) (fun i => ((Cert.KernelIdeal.Fox.assumed _ _ _ _ _ _ (hp c)).1 i).1) m' h0 h1 h2 h3 h4 h5

/-- The input projection's frame, as it runs on the device's own numbers. -/
theorem frame_in_bits : Cert.quiescent_InProj (hInProj := Cert.InProj.Gen.facts) := fun m g _ => Cert.InProj.In.quiescent m g

/-- And over the extended reals. -/
theorem frame_in_ideal : Cert.quiescent_InProjIdeal (hInProjIdeal := Cert.InProjIdeal.Gen.facts) :=
  fun m g _ => Cert.InProjIdeal.In.quiescent m g

/-- The frame of the input projection's reference. -/
theorem frame_in_reference : Cert.quiescent_InProjReferenceIdeal (hInProjReferenceIdeal := Cert.InProjReferenceIdeal.Gen.facts) :=
  fun m g _ => (θ_run Cert.InProjReferenceIdeal.defs _ _).mono
    (fun r h => ⟨fun c => (h c).2.2.2.2.2, Idealize.ShloMosaic.sem_eq_zero_of_no_sems (by decide) r.2⟩)
    (Cert.InProjReferenceIdeal.Value.run (F := Ideal) m g)

/-- The input projection and its reference compute the same five arrays. -/
theorem value_in : Cert.algebraic_InProjIdeal_InProjReferenceIdeal (hInProjIdeal := Cert.InProjIdeal.Gen.facts)
    (hInProjReferenceIdeal := Cert.InProjReferenceIdeal.Gen.facts) := by
  intro m g m' g' _ hm
  refine ⟨fun c => Cert.InProjIdeal.Value.mainOf (Cert.InProjIdeal.Value.cols m c),
    fun c => Cert.InProjIdeal.Value.tailOf (Cert.InProjIdeal.Value.cols m c),
    fun c => Cert.InProjIdeal.Value.gateOf (Cert.InProjIdeal.Value.rows m c) (m ((c.tc : Thread _ _).loc Cert.InProjIdeal.main_arg3)),
    fun c => Cert.InProjIdeal.Value.queryBound (Cert.InProjIdeal.Value.mainOf (Cert.InProjIdeal.Value.cols m c)) (m ((c.tc : Thread _ _).loc Cert.InProjIdeal.main_arg4)),
    fun c => Cert.InProjIdeal.Value.keyBound (Cert.InProjIdeal.Value.mainOf (Cert.InProjIdeal.Value.cols m c)) (m ((c.tc : Thread _ _).loc Cert.InProjIdeal.main_arg4)), ?_, ?_⟩
  · exact (θ_run Cert.InProjIdeal.defs _ _).mono (fun r h c =>
      ⟨((h.1 c).1 5).trans (Cert.InProjIdeal.Value.final_main m c), ((h.1 c).1 6).trans (Cert.InProjIdeal.Value.final_tail m c),
        ((h.1 c).1 7).trans (Cert.InProjIdeal.Value.final_gate m c), ((h.1 c).1 8).trans (Cert.InProjIdeal.Value.final_query m c),
        ((h.1 c).1 9).trans (Cert.InProjIdeal.Value.final_key m c), h.2.1 c⟩)
      (θ_run_and (Cert.InProjIdeal.In.ends m g) (Cert.InProjIdeal.In.quiescent m g))
  · refine (θ_run Cert.InProjReferenceIdeal.defs _ _).mono (fun r h c => ⟨(h c).1.trans ?_, (h c).2.1.trans ?_, (h c).2.2.1.trans ?_,
      (h c).2.2.2.1.trans ?_, (h c).2.2.2.2.1.trans ?_, (h c).2.2.2.2.2⟩)
      (Cert.InProjReferenceIdeal.Value.run (F := Ideal) m' g')
    · obtain ⟨h0, h1, h2, h3, h4⟩ := hm c
      rw [h0, h1, h2]; rfl
    · obtain ⟨h0, h1, h2, h3, h4⟩ := hm c
      rw [h0, h1, h2]; rfl
    · obtain ⟨h0, h1, h2, h3, h4⟩ := hm c
      rw [h0, h1, h3]; rfl
    · obtain ⟨h0, h1, h2, h3, h4⟩ := hm c
      unfold Cert.InProjReferenceIdeal.Value.res_main_v35
      rw [h0, h1, h2, h4]; rfl
    · obtain ⟨h0, h1, h2, h3, h4⟩ := hm c
      unfold Cert.InProjReferenceIdeal.Value.res_main_v45
      rw [h0, h1, h2, h4]; rfl

/-- The output projection's frame, as it runs on the device's own numbers. -/
theorem frame_out_bits : Cert.quiescent_OutProj (hOutProj := Cert.OutProj.Gen.facts) := fun m g _ => Cert.OutProj.Gen.frame m g

/-- And over the extended reals. -/
theorem frame_out_ideal : Cert.quiescent_OutProjIdeal (hOutProjIdeal := Cert.OutProjIdeal.Gen.facts) :=
  fun m g _ => Cert.OutProjIdeal.Gen.frame m g

/-- The frame of the output projection's reference. -/
theorem frame_out_reference : Cert.quiescent_OutProjReferenceIdeal (hOutProjReferenceIdeal := Cert.OutProjReferenceIdeal.Gen.facts) :=
  fun m g _ => (θ_run Cert.OutProjReferenceIdeal.defs _ _).mono
    (fun r h => ⟨fun c => (h c).2.2, Idealize.ShloMosaic.sem_eq_zero_of_no_sems (by decide) r.2⟩)
    (Cert.OutProjReferenceIdeal.Value.run (F := Ideal) m g)

/-- The output projection and its reference compute the same sum and the same norm. -/
theorem value_out : Cert.algebraic_OutProjIdeal_OutProjReferenceIdeal (hOutProjIdeal := Cert.OutProjIdeal.Gen.facts)
    (hOutProjReferenceIdeal := Cert.OutProjReferenceIdeal.Gen.facts) := by
  intro m g m' g' _ hm
  refine ⟨fun c => Cert.OutProjIdeal.Value.sumOf m c,
    fun c => Cert.OutProjIdeal.Value.normed (Cert.OutProjIdeal.Value.sumOf m c) (m ((c.tc : Thread _ _).loc Cert.OutProjIdeal.main_arg5)), ?_, ?_⟩
  · run_from Cert.OutProjIdeal.Gen.run_main m g
    · exact Cert.OutProjIdeal.Value.final_sum m _
    · exact Cert.OutProjIdeal.Value.final_norm m _
  · refine (θ_run Cert.OutProjReferenceIdeal.defs _ _).mono (fun r h c => ⟨(h c).1.trans ?_, (h c).2.1.trans ?_, (h c).2.2⟩)
      (Cert.OutProjReferenceIdeal.Value.run (F := Ideal) m' g')
    · obtain ⟨h0, h1, h2, h3, h4, h5⟩ := hm c
      rw [h0, h1, h2, h3, h4]; rfl
    · obtain ⟨h0, h1, h2, h3, h4, h5⟩ := hm c
      rw [h0, h1, h2, h3, h4, h5]; rfl

/-- The experts' frame, as it runs on the device's own numbers. -/
theorem frame_ex_bits : Cert.quiescent_Experts (hExperts := Cert.Experts.Gen.facts) := fun m g _ => Cert.Experts.Ex.quiescent m g

/-- And over the extended reals. -/
theorem frame_ex_ideal : Cert.quiescent_ExpertsIdeal (hExpertsIdeal := Cert.ExpertsIdeal.Gen.facts) :=
  fun m g _ => Cert.ExpertsIdeal.Ex.quiescent m g

/-- The frame of the experts' reference. -/
theorem frame_ex_reference : Cert.quiescent_ExpertsReferenceIdeal (hExpertsReferenceIdeal := Cert.ExpertsReferenceIdeal.Gen.facts) :=
  fun m g _ => (θ_run Cert.ExpertsReferenceIdeal.defs _ _).mono
    (fun r h => ⟨fun c => (h c).2, Idealize.ShloMosaic.sem_eq_zero_of_no_sems (by decide) r.2⟩)
    (Cert.ExpertsReferenceIdeal.Value.run (F := Ideal) m g)

/-- The experts and their reference compute the same array. -/
theorem value_ex : Cert.algebraic_ExpertsIdeal_ExpertsReferenceIdeal (hExpertsIdeal := Cert.ExpertsIdeal.Gen.facts)
    (hExpertsReferenceIdeal := Cert.ExpertsReferenceIdeal.Gen.facts) := by
  intro m g m' g' _ hm
  refine ⟨fun c => Cert.ExpertsIdeal.Value.normed (Cert.ExpertsIdeal.Value.summed m c) (m ((c.tc : Thread _ _).loc Cert.ExpertsIdeal.main_arg8)), ?_, ?_⟩
  · exact (θ_run Cert.ExpertsIdeal.defs _ _).mono (fun r h c => ⟨((h.1 c).1 9).trans (Cert.ExpertsIdeal.Value.final m c), h.2.1 c⟩)
      (θ_run_and (Cert.ExpertsIdeal.Ex.ends m g) (Cert.ExpertsIdeal.Ex.quiescent m g))
  · refine (θ_run Cert.ExpertsReferenceIdeal.defs _ _).mono (fun r h c => ⟨(h c).1.trans ?_, (h c).2⟩)
      (Cert.ExpertsReferenceIdeal.Value.run (F := Ideal) m' g')
    obtain ⟨h0, h1, h2, h3, h4, h5, h6, h7, h8⟩ := hm c
    unfold Cert.ExpertsReferenceIdeal.Value.res_main_v42
    rw [h0, h1, h2, h3, h4, h5, h6, h7, h8]; rfl

/-- The matrix memory's frame, as it runs on the device's own numbers. -/
theorem frame_cell_bits : Cert.quiescent_Cell (hCell := Cert.Cell.Gen.facts) := fun m g _ => Cert.Cell.Gen.frame m g

/-- And over the extended reals. -/
theorem frame_cell_ideal : Cert.quiescent_CellIdeal (hCellIdeal := Cert.CellIdeal.Gen.facts) :=
  fun m g _ => Cert.CellIdeal.Gen.frame m g

/-- One device's states of the matrix memory's reference, chunk after chunk. -/
def cellStates (m : (ℓ : Loc Cert.CellReferenceIdeal.nD Cert.CellReferenceIdeal.τ Cert.CellReferenceIdeal.sig) → Buf (Elt Ideal) ℓ)
    (c : Dev Cert.CellReferenceIdeal.nD) : ℕ → Cert.CellReferenceIdeal.Step.State Ideal :=
  Cert.CellReferenceIdeal.Value.states (m ((c.tc : Thread _ _).loc Cert.CellReferenceIdeal.main_arg0))
    (m ((c.tc : Thread _ _).loc Cert.CellReferenceIdeal.main_arg1)) (m ((c.tc : Thread _ _).loc Cert.CellReferenceIdeal.main_arg2))
    (m ((c.tc : Thread _ _).loc Cert.CellReferenceIdeal.main_arg3)) (m ((c.tc : Thread _ _).loc Cert.CellReferenceIdeal.main_arg4))
    (m ((c.tc : Thread _ _).loc Cert.CellReferenceIdeal.main_arg5))

/-- The frame of the matrix memory's reference. -/
theorem frame_cell_reference : Cert.quiescent_CellReferenceIdeal (hCellReferenceIdeal := Cert.CellReferenceIdeal.Gen.facts) :=
  fun m g _ => (θ_run Cert.CellReferenceIdeal.defs _ _).mono
    (fun r h => ⟨fun c => (h c).2, Idealize.ShloMosaic.sem_eq_zero_of_no_sems (by decide) r.2⟩)
    (Cert.CellReferenceIdeal.StepRun.run_iter (F := Ideal) m g (cellStates m) (fun _ => rfl) (fun _ _ => rfl))

/-- The matrix memory and its reference compute the same array. -/
theorem value_cell : Cert.algebraic_CellIdeal_CellReferenceIdeal (hCellIdeal := Cert.CellIdeal.Gen.facts)
    (hCellReferenceIdeal := Cert.CellReferenceIdeal.Gen.facts) := by
  intro m g m' g' _ hm
  refine ⟨fun c => Cert.CellIdeal.Value.resultOf (Cert.CellIdeal.Value.source m c), ?_, ?_⟩
  · run_from Cert.CellIdeal.Gen.run_main m g
    exact Cert.CellIdeal.Value.final m _
  · refine (θ_run Cert.CellReferenceIdeal.defs _ _).mono (fun r h c => ⟨(h c).1.trans ?_, (h c).2⟩)
      (Cert.CellReferenceIdeal.StepRun.run_iter (F := Ideal) m' g' (cellStates m') (fun _ => rfl) (fun _ _ => rfl))
    unfold cellStates
    obtain ⟨h0, h1, h2, h3, h4, h5, h6⟩ := hm c
    rw [h0, h1, h2, h3, h4, h5, h6]
    exact Cert.CellIdeal.Value.reference_result _ _ _ _ _ _ _

theorem claim : Cert.Claim :=
  ⟨Cert.Kernel.Gen.facts, Cert.KernelIdeal.Gen.facts, Cert.ReferenceIdeal.Gen.facts, Cert.InProj.Gen.facts, Cert.InProjIdeal.Gen.facts,
    Cert.InProjReferenceIdeal.Gen.facts, Cert.OutProj.Gen.facts, Cert.OutProjIdeal.Gen.facts,
    Cert.OutProjReferenceIdeal.Gen.facts, Cert.Experts.Gen.facts, Cert.ExpertsIdeal.Gen.facts,
    Cert.ExpertsReferenceIdeal.Gen.facts, Cert.Cell.Gen.facts, Cert.CellIdeal.Gen.facts, Cert.CellReferenceIdeal.Gen.facts,
    Cert.Pre_plan_ok.Gen.facts, Cert.Pre_logits_ok.Gen.facts,
    frame_bits, frame_ideal, frame_ideal_logits, frame_reference, frame_reference_logits,
    frame_in_bits, frame_in_ideal, frame_in_reference, frame_out_bits, frame_out_ideal,
    frame_out_reference, frame_ex_bits, frame_ex_ideal, frame_ex_reference,
    frame_cell_bits, frame_cell_ideal, frame_cell_reference,
    trivial, value, trivial, value_in, trivial, value_out, trivial, value_ex, trivial, value_cell⟩

end Cert.Proof

end
